-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_attn_ctx_finite [hPre_attn_ctx_finite : Cert.Pre_attn_ctx_finite.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_attn_ctx_finite.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2)) (m ((c.tc : Thread Cert.AttnCtxIdeal.nD Cert.AttnCtxIdeal.τ).loc Cert.AttnCtxIdeal.main_arg3)) (m ((c.tc : Thread Cert.AttnCtxIdeal.nD Cert.AttnCtxIdeal.τ).loc Cert.AttnCtxIdeal.main_arg4))) = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_attn_ctx_finite [hPre_attn_ctx_finite : Cert.Pre_attn_ctx_finite.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_attn_ctx_finite.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2)) (m ((c.tc : Thread Cert.AttnCtxRefIdeal.nD Cert.AttnCtxRefIdeal.τ).loc Cert.AttnCtxRefIdeal.main_arg3)) (m ((c.tc : Thread Cert.AttnCtxRefIdeal.nD Cert.AttnCtxRefIdeal.τ).loc Cert.AttnCtxRefIdeal.main_arg4))) = (fun _ => 1#1)

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InTail (m : (ℓ : Loc Cert.InTail.nD Cert.InTail.τ Cert.InTail.sig) → Buf (Elt Bits) ℓ) : Prop :=
  True

def Pre_InTailIdeal (m : (ℓ : Loc Cert.InTailIdeal.nD Cert.InTailIdeal.τ Cert.InTailIdeal.sig) → Buf (Elt Ideal) ℓ) : Prop :=
  True

def Pre_InTailRefIdeal (m : (ℓ : Loc Cert.InTailRefIdeal.nD Cert.InTailRefIdeal.τ Cert.InTailRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_ResMod (m : (ℓ : Loc Cert.ResMod.nD Cert.ResMod.τ Cert.ResMod.sig) → Buf (Elt Bits) ℓ) : Prop :=
  True

def Pre_ResModIdeal (m : (ℓ : Loc Cert.ResModIdeal.nD Cert.ResModIdeal.τ Cert.ResModIdeal.sig) → Buf (Elt Ideal) ℓ) : Prop :=
  True

def Pre_ResModRefIdeal (m : (ℓ : Loc Cert.ResModRefIdeal.nD Cert.ResModRefIdeal.τ Cert.ResModRefIdeal.sig) → Buf (Elt Ideal) ℓ) : Prop :=
  True

def Pre_ChDft (m : (ℓ : Loc Cert.ChDft.nD Cert.ChDft.τ Cert.ChDft.sig) → Buf (Elt Bits) ℓ) : Prop :=
  True

def Pre_ChDftIdeal (m : (ℓ : Loc Cert.ChDftIdeal.nD Cert.ChDftIdeal.τ Cert.ChDftIdeal.sig) → Buf (Elt Ideal) ℓ) : Prop :=
  True

def Pre_ChDftRefIdeal (m : (ℓ : Loc Cert.ChDftRefIdeal.nD Cert.ChDftRefIdeal.τ Cert.ChDftRefIdeal.sig) → Buf (Elt Ideal) ℓ) : Prop :=
  True

def Pre_SeqDft (m : (ℓ : Loc Cert.SeqDft.nD Cert.SeqDft.τ Cert.SeqDft.sig) → Buf (Elt Bits) ℓ) : Prop :=
  True

def Pre_SeqDftIdeal (m : (ℓ : Loc Cert.SeqDftIdeal.nD Cert.SeqDftIdeal.τ Cert.SeqDftIdeal.sig) → Buf (Elt Ideal) ℓ) : Prop :=
  True

def Pre_SeqDftRefIdeal (m : (ℓ : Loc Cert.SeqDftRefIdeal.nD Cert.SeqDftRefIdeal.τ Cert.SeqDftRefIdeal.sig) → Buf (Elt Ideal) ℓ) : Prop :=
  True

def Pre_CtxDft (m : (ℓ : Loc Cert.CtxDft.nD Cert.CtxDft.τ Cert.CtxDft.sig) → Buf (Elt Bits) ℓ) : Prop :=
  True

def Pre_CtxDftIdeal (m : (ℓ : Loc Cert.CtxDftIdeal.nD Cert.CtxDftIdeal.τ Cert.CtxDftIdeal.sig) → Buf (Elt Ideal) ℓ) : Prop :=
  True

def Pre_CtxDftRefIdeal (m : (ℓ : Loc Cert.CtxDftRefIdeal.nD Cert.CtxDftRefIdeal.τ Cert.CtxDftRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2)
      ∧ r.2.mem ((c.tc : Thread Cert.AttnCtx.nD Cert.AttnCtx.τ).loc Cert.AttnCtx.main_arg3) = m ((c.tc : Thread Cert.AttnCtx.nD Cert.AttnCtx.τ).loc Cert.AttnCtx.main_arg3)
      ∧ r.2.mem ((c.tc : Thread Cert.AttnCtx.nD Cert.AttnCtx.τ).loc Cert.AttnCtx.main_arg4) = m ((c.tc : Thread Cert.AttnCtx.nD Cert.AttnCtx.τ).loc Cert.AttnCtx.main_arg4))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
      ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ r.2.sem = fun _ => 0)

def quiescent_AttnCtxIdeal_pre_attn_ctx_finite [hAttnCtxIdeal : Cert.AttnCtxIdeal.Facts] [hPre_attn_ctx_finite : Cert.Pre_attn_ctx_finite.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_attn_ctx_finite m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
      ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
      ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2)
      ∧ r.2.mem ((c.tc : Thread Cert.AttnCtxRefIdeal.nD Cert.AttnCtxRefIdeal.τ).loc Cert.AttnCtxRefIdeal.main_arg3) = m ((c.tc : Thread Cert.AttnCtxRefIdeal.nD Cert.AttnCtxRefIdeal.τ).loc Cert.AttnCtxRefIdeal.main_arg3)
      ∧ r.2.mem ((c.tc : Thread Cert.AttnCtxRefIdeal.nD Cert.AttnCtxRefIdeal.τ).loc Cert.AttnCtxRefIdeal.main_arg4) = m ((c.tc : Thread Cert.AttnCtxRefIdeal.nD Cert.AttnCtxRefIdeal.τ).loc Cert.AttnCtxRefIdeal.main_arg4))
      ∧ r.2.sem = fun _ => 0)

def quiescent_AttnCtxRefIdeal_pre_attn_ctx_finite [hAttnCtxRefIdeal : Cert.AttnCtxRefIdeal.Facts] [hPre_attn_ctx_finite : Cert.Pre_attn_ctx_finite.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_attn_ctx_finite m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2)
      ∧ r.2.mem ((c.tc : Thread Cert.AttnCtxRefIdeal.nD Cert.AttnCtxRefIdeal.τ).loc Cert.AttnCtxRefIdeal.main_arg3) = m ((c.tc : Thread Cert.AttnCtxRefIdeal.nD Cert.AttnCtxRefIdeal.τ).loc Cert.AttnCtxRefIdeal.main_arg3)
      ∧ r.2.mem ((c.tc : Thread Cert.AttnCtxRefIdeal.nD Cert.AttnCtxRefIdeal.τ).loc Cert.AttnCtxRefIdeal.main_arg4) = m ((c.tc : Thread Cert.AttnCtxRefIdeal.nD Cert.AttnCtxRefIdeal.τ).loc Cert.AttnCtxRefIdeal.main_arg4))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2)
      ∧ r.2.mem ((c.tc : Thread Cert.Ff1.nD Cert.Ff1.τ).loc Cert.Ff1.main_arg3) = m ((c.tc : Thread Cert.Ff1.nD Cert.Ff1.τ).loc Cert.Ff1.main_arg3)
      ∧ r.2.mem ((c.tc : Thread Cert.Ff1.nD Cert.Ff1.τ).loc Cert.Ff1.main_arg4) = m ((c.tc : Thread Cert.Ff1.nD Cert.Ff1.τ).loc Cert.Ff1.main_arg4)
      ∧ r.2.mem ((c.tc : Thread Cert.Ff1.nD Cert.Ff1.τ).loc Cert.Ff1.main_arg5) = m ((c.tc : Thread Cert.Ff1.nD Cert.Ff1.τ).loc Cert.Ff1.main_arg5)
      ∧ r.2.mem ((c.tc : Thread Cert.Ff1.nD Cert.Ff1.τ).loc Cert.Ff1.main_arg6) = m ((c.tc : Thread Cert.Ff1.nD Cert.Ff1.τ).loc Cert.Ff1.main_arg6))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
      ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
      ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
      ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
      ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2)
      ∧ r.2.mem ((c.tc : Thread Cert.Ff1RefIdeal.nD Cert.Ff1RefIdeal.τ).loc Cert.Ff1RefIdeal.main_arg3) = m ((c.tc : Thread Cert.Ff1RefIdeal.nD Cert.Ff1RefIdeal.τ).loc Cert.Ff1RefIdeal.main_arg3)
      ∧ r.2.mem ((c.tc : Thread Cert.Ff1RefIdeal.nD Cert.Ff1RefIdeal.τ).loc Cert.Ff1RefIdeal.main_arg4) = m ((c.tc : Thread Cert.Ff1RefIdeal.nD Cert.Ff1RefIdeal.τ).loc Cert.Ff1RefIdeal.main_arg4)
      ∧ r.2.mem ((c.tc : Thread Cert.Ff1RefIdeal.nD Cert.Ff1RefIdeal.τ).loc Cert.Ff1RefIdeal.main_arg5) = m ((c.tc : Thread Cert.Ff1RefIdeal.nD Cert.Ff1RefIdeal.τ).loc Cert.Ff1RefIdeal.main_arg5)
      ∧ r.2.mem ((c.tc : Thread Cert.Ff1RefIdeal.nD Cert.Ff1RefIdeal.τ).loc Cert.Ff1RefIdeal.main_arg6) = m ((c.tc : Thread Cert.Ff1RefIdeal.nD Cert.Ff1RefIdeal.τ).loc Cert.Ff1RefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_InTail [hInTail : Cert.InTail.Facts] : Prop :=
  ∀ (m : (ℓ : Loc Cert.InTail.nD Cert.InTail.τ Cert.InTail.sig) → Buf (Elt Bits) ℓ) (g : Dev Cert.InTail.nD → PrngReg), Pre_InTail m →
    θ_run (Cert.InTail.defs (F := Bits)) (onTc (τ := Cert.InTail.τ) (Cert.InTail.main (F := Bits))) ⟨m, fun _ => 0, g⟩ (fun r => (∀ c : Dev Cert.InTail.nD,
      r.2.mem ((c.tc : Thread Cert.InTail.nD Cert.InTail.τ).loc Cert.InTail.main_arg0) = m ((c.tc : Thread Cert.InTail.nD Cert.InTail.τ).loc Cert.InTail.main_arg0)
      ∧ r.2.mem ((c.tc : Thread Cert.InTail.nD Cert.InTail.τ).loc Cert.InTail.main_arg1) = m ((c.tc : Thread Cert.InTail.nD Cert.InTail.τ).loc Cert.InTail.main_arg1)
      ∧ r.2.mem ((c.tc : Thread Cert.InTail.nD Cert.InTail.τ).loc Cert.InTail.main_arg2) = m ((c.tc : Thread Cert.InTail.nD Cert.InTail.τ).loc Cert.InTail.main_arg2))
      ∧ r.2.sem = fun _ => 0)

def quiescent_InTailIdeal [hInTailIdeal : Cert.InTailIdeal.Facts] : Prop :=
  ∀ (m : (ℓ : Loc Cert.InTailIdeal.nD Cert.InTailIdeal.τ Cert.InTailIdeal.sig) → Buf (Elt Ideal) ℓ) (g : Dev Cert.InTailIdeal.nD → PrngReg), Pre_InTailIdeal m →
    θ_run (Cert.InTailIdeal.defs (F := Ideal)) (onTc (τ := Cert.InTailIdeal.τ) (Cert.InTailIdeal.main (F := Ideal))) ⟨m, fun _ => 0, g⟩ (fun r => (∀ c : Dev Cert.InTailIdeal.nD,
      r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
      ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1)
      ∧ r.2.mem ((c.tc : Thread Cert.InTailIdeal.nD Cert.InTailIdeal.τ).loc Cert.InTailIdeal.main_arg2) = m ((c.tc : Thread Cert.InTailIdeal.nD Cert.InTailIdeal.τ).loc Cert.InTailIdeal.main_arg2))
      ∧ r.2.sem = fun _ => 0)

def quiescent_InTailRefIdeal [hInTailRefIdeal : Cert.InTailRefIdeal.Facts] : Prop :=
  ∀ (m : (ℓ : Loc Cert.InTailRefIdeal.nD Cert.InTailRefIdeal.τ Cert.InTailRefIdeal.sig) → Buf (Elt Ideal) ℓ) (g : Dev Cert.InTailRefIdeal.nD → PrngReg), Pre_InTailRefIdeal m →
    θ_run (Cert.InTailRefIdeal.defs (F := Ideal)) (onTc (τ := Cert.InTailRefIdeal.τ) (Cert.InTailRefIdeal.main (F := Ideal))) ⟨m, fun _ => 0, g⟩ (fun r => (∀ c : Dev Cert.InTailRefIdeal.nD,
      r.2.mem ((c.tc : Thread Cert.InTailRefIdeal.nD Cert.InTailRefIdeal.τ).loc Cert.InTailRefIdeal.main_arg0) = m ((c.tc : Thread Cert.InTailRefIdeal.nD Cert.InTailRefIdeal.τ).loc Cert.InTailRefIdeal.main_arg0)
      ∧ r.2.mem ((c.tc : Thread Cert.InTailRefIdeal.nD Cert.InTailRefIdeal.τ).loc Cert.InTailRefIdeal.main_arg1) = m ((c.tc : Thread Cert.InTailRefIdeal.nD Cert.InTailRefIdeal.τ).loc Cert.InTailRefIdeal.main_arg1)
      ∧ r.2.mem ((c.tc : Thread Cert.InTailRefIdeal.nD Cert.InTailRefIdeal.τ).loc Cert.InTailRefIdeal.main_arg2) = m ((c.tc : Thread Cert.InTailRefIdeal.nD Cert.InTailRefIdeal.τ).loc Cert.InTailRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3)
      ∧ r.2.mem ((c.tc : Thread Cert.KvProj.nD Cert.KvProj.τ).loc Cert.KvProj.main_arg4) = m ((c.tc : Thread Cert.KvProj.nD Cert.KvProj.τ).loc Cert.KvProj.main_arg4)
      ∧ r.2.mem ((c.tc : Thread Cert.KvProj.nD Cert.KvProj.τ).loc Cert.KvProj.main_arg5) = m ((c.tc : Thread Cert.KvProj.nD Cert.KvProj.τ).loc Cert.KvProj.main_arg5))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
      ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
      ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3)
      ∧ r.2.mem ((c.tc : Thread Cert.KvProjRefIdeal.nD Cert.KvProjRefIdeal.τ).loc Cert.KvProjRefIdeal.main_arg4) = m ((c.tc : Thread Cert.KvProjRefIdeal.nD Cert.KvProjRefIdeal.τ).loc Cert.KvProjRefIdeal.main_arg4)
      ∧ r.2.mem ((c.tc : Thread Cert.KvProjRefIdeal.nD Cert.KvProjRefIdeal.τ).loc Cert.KvProjRefIdeal.main_arg5) = m ((c.tc : Thread Cert.KvProjRefIdeal.nD Cert.KvProjRefIdeal.τ).loc Cert.KvProjRefIdeal.main_arg5))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3)
      ∧ r.2.mem ((c.tc : Thread Cert.QProjRefIdeal.nD Cert.QProjRefIdeal.τ).loc Cert.QProjRefIdeal.main_arg4) = m ((c.tc : Thread Cert.QProjRefIdeal.nD Cert.QProjRefIdeal.τ).loc Cert.QProjRefIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3)
      ∧ r.2.mem ((c.tc : Thread Cert.Adaln.nD Cert.Adaln.τ).loc Cert.Adaln.main_arg4) = m ((c.tc : Thread Cert.Adaln.nD Cert.Adaln.τ).loc Cert.Adaln.main_arg4))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3)
      ∧ r.2.mem ((c.tc : Thread Cert.AdalnIdeal.nD Cert.AdalnIdeal.τ).loc Cert.AdalnIdeal.main_arg4) = m ((c.tc : Thread Cert.AdalnIdeal.nD Cert.AdalnIdeal.τ).loc Cert.AdalnIdeal.main_arg4))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3)
      ∧ r.2.mem ((c.tc : Thread Cert.AdalnRefIdeal.nD Cert.AdalnRefIdeal.τ).loc Cert.AdalnRefIdeal.main_arg4) = m ((c.tc : Thread Cert.AdalnRefIdeal.nD Cert.AdalnRefIdeal.τ).loc Cert.AdalnRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_ResMod [hResMod : Cert.ResMod.Facts] : Prop :=
  ∀ (m : (ℓ : Loc Cert.ResMod.nD Cert.ResMod.τ Cert.ResMod.sig) → Buf (Elt Bits) ℓ) (g : Dev Cert.ResMod.nD → PrngReg), Pre_ResMod m →
    θ_run (Cert.ResMod.defs (F := Bits)) (onTc (τ := Cert.ResMod.τ) (Cert.ResMod.main (F := Bits))) ⟨m, fun _ => 0, g⟩ (fun r => (∀ c : Dev Cert.ResMod.nD,
      r.2.mem ((c.tc : Thread Cert.ResMod.nD Cert.ResMod.τ).loc Cert.ResMod.main_arg0) = m ((c.tc : Thread Cert.ResMod.nD Cert.ResMod.τ).loc Cert.ResMod.main_arg0)
      ∧ r.2.mem ((c.tc : Thread Cert.ResMod.nD Cert.ResMod.τ).loc Cert.ResMod.main_arg1) = m ((c.tc : Thread Cert.ResMod.nD Cert.ResMod.τ).loc Cert.ResMod.main_arg1)
      ∧ r.2.mem ((c.tc : Thread Cert.ResMod.nD Cert.ResMod.τ).loc Cert.ResMod.main_arg2) = m ((c.tc : Thread Cert.ResMod.nD Cert.ResMod.τ).loc Cert.ResMod.main_arg2)
      ∧ r.2.mem ((c.tc : Thread Cert.ResMod.nD Cert.ResMod.τ).loc Cert.ResMod.main_arg3) = m ((c.tc : Thread Cert.ResMod.nD Cert.ResMod.τ).loc Cert.ResMod.main_arg3)
      ∧ r.2.mem ((c.tc : Thread Cert.ResMod.nD Cert.ResMod.τ).loc Cert.ResMod.main_arg4) = m ((c.tc : Thread Cert.ResMod.nD Cert.ResMod.τ).loc Cert.ResMod.main_arg4))
      ∧ r.2.sem = fun _ => 0)

def quiescent_ResModIdeal [hResModIdeal : Cert.ResModIdeal.Facts] : Prop :=
  ∀ (m : (ℓ : Loc Cert.ResModIdeal.nD Cert.ResModIdeal.τ Cert.ResModIdeal.sig) → Buf (Elt Ideal) ℓ) (g : Dev Cert.ResModIdeal.nD → PrngReg), Pre_ResModIdeal m →
    θ_run (Cert.ResModIdeal.defs (F := Ideal)) (onTc (τ := Cert.ResModIdeal.τ) (Cert.ResModIdeal.main (F := Ideal))) ⟨m, fun _ => 0, g⟩ (fun r => (∀ c : Dev Cert.ResModIdeal.nD,
      r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
      ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
      ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
      ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
      ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4))
      ∧ r.2.sem = fun _ => 0)

def quiescent_ResModRefIdeal [hResModRefIdeal : Cert.ResModRefIdeal.Facts] : Prop :=
  ∀ (m : (ℓ : Loc Cert.ResModRefIdeal.nD Cert.ResModRefIdeal.τ Cert.ResModRefIdeal.sig) → Buf (Elt Ideal) ℓ) (g : Dev Cert.ResModRefIdeal.nD → PrngReg), Pre_ResModRefIdeal m →
    θ_run (Cert.ResModRefIdeal.defs (F := Ideal)) (onTc (τ := Cert.ResModRefIdeal.τ) (Cert.ResModRefIdeal.main (F := Ideal))) ⟨m, fun _ => 0, g⟩ (fun r => (∀ c : Dev Cert.ResModRefIdeal.nD,
      r.2.mem ((c.tc : Thread Cert.ResModRefIdeal.nD Cert.ResModRefIdeal.τ).loc Cert.ResModRefIdeal.main_arg0) = m ((c.tc : Thread Cert.ResModRefIdeal.nD Cert.ResModRefIdeal.τ).loc Cert.ResModRefIdeal.main_arg0)
      ∧ r.2.mem ((c.tc : Thread Cert.ResModRefIdeal.nD Cert.ResModRefIdeal.τ).loc Cert.ResModRefIdeal.main_arg1) = m ((c.tc : Thread Cert.ResModRefIdeal.nD Cert.ResModRefIdeal.τ).loc Cert.ResModRefIdeal.main_arg1)
      ∧ r.2.mem ((c.tc : Thread Cert.ResModRefIdeal.nD Cert.ResModRefIdeal.τ).loc Cert.ResModRefIdeal.main_arg2) = m ((c.tc : Thread Cert.ResModRefIdeal.nD Cert.ResModRefIdeal.τ).loc Cert.ResModRefIdeal.main_arg2)
      ∧ r.2.mem ((c.tc : Thread Cert.ResModRefIdeal.nD Cert.ResModRefIdeal.τ).loc Cert.ResModRefIdeal.main_arg3) = m ((c.tc : Thread Cert.ResModRefIdeal.nD Cert.ResModRefIdeal.τ).loc Cert.ResModRefIdeal.main_arg3)
      ∧ r.2.mem ((c.tc : Thread Cert.ResModRefIdeal.nD Cert.ResModRefIdeal.τ).loc Cert.ResModRefIdeal.main_arg4) = m ((c.tc : Thread Cert.ResModRefIdeal.nD Cert.ResModRefIdeal.τ).loc Cert.ResModRefIdeal.main_arg4))
      ∧ r.2.sem = fun _ => 0)

def quiescent_ChDft [hChDft : Cert.ChDft.Facts] : Prop :=
  ∀ (m : (ℓ : Loc Cert.ChDft.nD Cert.ChDft.τ Cert.ChDft.sig) → Buf (Elt Bits) ℓ) (g : Dev Cert.ChDft.nD → PrngReg), Pre_ChDft m →
    θ_run (Cert.ChDft.defs (F := Bits)) (onTc (τ := Cert.ChDft.τ) (Cert.ChDft.main (F := Bits))) ⟨m, fun _ => 0, g⟩ (fun r => (∀ c : Dev Cert.ChDft.nD,
      r.2.mem ((c.tc : Thread Cert.ChDft.nD Cert.ChDft.τ).loc Cert.ChDft.main_arg0) = m ((c.tc : Thread Cert.ChDft.nD Cert.ChDft.τ).loc Cert.ChDft.main_arg0)
      ∧ r.2.mem ((c.tc : Thread Cert.ChDft.nD Cert.ChDft.τ).loc Cert.ChDft.main_arg1) = m ((c.tc : Thread Cert.ChDft.nD Cert.ChDft.τ).loc Cert.ChDft.main_arg1)
      ∧ r.2.mem ((c.tc : Thread Cert.ChDft.nD Cert.ChDft.τ).loc Cert.ChDft.main_arg2) = m ((c.tc : Thread Cert.ChDft.nD Cert.ChDft.τ).loc Cert.ChDft.main_arg2))
      ∧ r.2.sem = fun _ => 0)

def quiescent_ChDftIdeal [hChDftIdeal : Cert.ChDftIdeal.Facts] : Prop :=
  ∀ (m : (ℓ : Loc Cert.ChDftIdeal.nD Cert.ChDftIdeal.τ Cert.ChDftIdeal.sig) → Buf (Elt Ideal) ℓ) (g : Dev Cert.ChDftIdeal.nD → PrngReg), Pre_ChDftIdeal m →
    θ_run (Cert.ChDftIdeal.defs (F := Ideal)) (onTc (τ := Cert.ChDftIdeal.τ) (Cert.ChDftIdeal.main (F := Ideal))) ⟨m, fun _ => 0, g⟩ (fun r => (∀ c : Dev Cert.ChDftIdeal.nD,
      r.2.mem ((c.tc : Thread Cert.ChDftIdeal.nD Cert.ChDftIdeal.τ).loc Cert.ChDftIdeal.main_arg0) = m ((c.tc : Thread Cert.ChDftIdeal.nD Cert.ChDftIdeal.τ).loc Cert.ChDftIdeal.main_arg0)
      ∧ r.2.mem ((c.tc : Thread Cert.ChDftIdeal.nD Cert.ChDftIdeal.τ).loc Cert.ChDftIdeal.main_arg1) = m ((c.tc : Thread Cert.ChDftIdeal.nD Cert.ChDftIdeal.τ).loc Cert.ChDftIdeal.main_arg1)
      ∧ r.2.mem ((c.tc : Thread Cert.ChDftIdeal.nD Cert.ChDftIdeal.τ).loc Cert.ChDftIdeal.main_arg2) = m ((c.tc : Thread Cert.ChDftIdeal.nD Cert.ChDftIdeal.τ).loc Cert.ChDftIdeal.main_arg2))
      ∧ r.2.sem = fun _ => 0)

def quiescent_ChDftRefIdeal [hChDftRefIdeal : Cert.ChDftRefIdeal.Facts] : Prop :=
  ∀ (m : (ℓ : Loc Cert.ChDftRefIdeal.nD Cert.ChDftRefIdeal.τ Cert.ChDftRefIdeal.sig) → Buf (Elt Ideal) ℓ) (g : Dev Cert.ChDftRefIdeal.nD → PrngReg), Pre_ChDftRefIdeal m →
    θ_run (Cert.ChDftRefIdeal.defs (F := Ideal)) (onTc (τ := Cert.ChDftRefIdeal.τ) (Cert.ChDftRefIdeal.main (F := Ideal))) ⟨m, fun _ => 0, g⟩ (fun r => (∀ c : Dev Cert.ChDftRefIdeal.nD,
      r.2.mem ((c.tc : Thread Cert.ChDftRefIdeal.nD Cert.ChDftRefIdeal.τ).loc Cert.ChDftRefIdeal.main_arg0) = m ((c.tc : Thread Cert.ChDftRefIdeal.nD Cert.ChDftRefIdeal.τ).loc Cert.ChDftRefIdeal.main_arg0)
      ∧ r.2.mem ((c.tc : Thread Cert.ChDftRefIdeal.nD Cert.ChDftRefIdeal.τ).loc Cert.ChDftRefIdeal.main_arg1) = m ((c.tc : Thread Cert.ChDftRefIdeal.nD Cert.ChDftRefIdeal.τ).loc Cert.ChDftRefIdeal.main_arg1)
      ∧ r.2.mem ((c.tc : Thread Cert.ChDftRefIdeal.nD Cert.ChDftRefIdeal.τ).loc Cert.ChDftRefIdeal.main_arg2) = m ((c.tc : Thread Cert.ChDftRefIdeal.nD Cert.ChDftRefIdeal.τ).loc Cert.ChDftRefIdeal.main_arg2))
      ∧ r.2.sem = fun _ => 0)

def quiescent_SeqDft [hSeqDft : Cert.SeqDft.Facts] : Prop :=
  ∀ (m : (ℓ : Loc Cert.SeqDft.nD Cert.SeqDft.τ Cert.SeqDft.sig) → Buf (Elt Bits) ℓ) (g : Dev Cert.SeqDft.nD → PrngReg), Pre_SeqDft m →
    θ_run (Cert.SeqDft.defs (F := Bits)) (onTc (τ := Cert.SeqDft.τ) (Cert.SeqDft.main (F := Bits))) ⟨m, fun _ => 0, g⟩ (fun r => (∀ c : Dev Cert.SeqDft.nD,
      r.2.mem ((c.tc : Thread Cert.SeqDft.nD Cert.SeqDft.τ).loc Cert.SeqDft.main_arg0) = m ((c.tc : Thread Cert.SeqDft.nD Cert.SeqDft.τ).loc Cert.SeqDft.main_arg0)
      ∧ r.2.mem ((c.tc : Thread Cert.SeqDft.nD Cert.SeqDft.τ).loc Cert.SeqDft.main_arg1) = m ((c.tc : Thread Cert.SeqDft.nD Cert.SeqDft.τ).loc Cert.SeqDft.main_arg1)
      ∧ r.2.mem ((c.tc : Thread Cert.SeqDft.nD Cert.SeqDft.τ).loc Cert.SeqDft.main_arg2) = m ((c.tc : Thread Cert.SeqDft.nD Cert.SeqDft.τ).loc Cert.SeqDft.main_arg2))
      ∧ r.2.sem = fun _ => 0)

def quiescent_SeqDftIdeal [hSeqDftIdeal : Cert.SeqDftIdeal.Facts] : Prop :=
  ∀ (m : (ℓ : Loc Cert.SeqDftIdeal.nD Cert.SeqDftIdeal.τ Cert.SeqDftIdeal.sig) → Buf (Elt Ideal) ℓ) (g : Dev Cert.SeqDftIdeal.nD → PrngReg), Pre_SeqDftIdeal m →
    θ_run (Cert.SeqDftIdeal.defs (F := Ideal)) (onTc (τ := Cert.SeqDftIdeal.τ) (Cert.SeqDftIdeal.main (F := Ideal))) ⟨m, fun _ => 0, g⟩ (fun r => (∀ c : Dev Cert.SeqDftIdeal.nD,
      r.2.mem ((c.tc : Thread Cert.SeqDftIdeal.nD Cert.SeqDftIdeal.τ).loc Cert.SeqDftIdeal.main_arg0) = m ((c.tc : Thread Cert.SeqDftIdeal.nD Cert.SeqDftIdeal.τ).loc Cert.SeqDftIdeal.main_arg0)
      ∧ r.2.mem ((c.tc : Thread Cert.SeqDftIdeal.nD Cert.SeqDftIdeal.τ).loc Cert.SeqDftIdeal.main_arg1) = m ((c.tc : Thread Cert.SeqDftIdeal.nD Cert.SeqDftIdeal.τ).loc Cert.SeqDftIdeal.main_arg1)
      ∧ r.2.mem ((c.tc : Thread Cert.SeqDftIdeal.nD Cert.SeqDftIdeal.τ).loc Cert.SeqDftIdeal.main_arg2) = m ((c.tc : Thread Cert.SeqDftIdeal.nD Cert.SeqDftIdeal.τ).loc Cert.SeqDftIdeal.main_arg2))
      ∧ r.2.sem = fun _ => 0)

def quiescent_SeqDftRefIdeal [hSeqDftRefIdeal : Cert.SeqDftRefIdeal.Facts] : Prop :=
  ∀ (m : (ℓ : Loc Cert.SeqDftRefIdeal.nD Cert.SeqDftRefIdeal.τ Cert.SeqDftRefIdeal.sig) → Buf (Elt Ideal) ℓ) (g : Dev Cert.SeqDftRefIdeal.nD → PrngReg), Pre_SeqDftRefIdeal m →
    θ_run (Cert.SeqDftRefIdeal.defs (F := Ideal)) (onTc (τ := Cert.SeqDftRefIdeal.τ) (Cert.SeqDftRefIdeal.main (F := Ideal))) ⟨m, fun _ => 0, g⟩ (fun r => (∀ c : Dev Cert.SeqDftRefIdeal.nD,
      r.2.mem ((c.tc : Thread Cert.SeqDftRefIdeal.nD Cert.SeqDftRefIdeal.τ).loc Cert.SeqDftRefIdeal.main_arg0) = m ((c.tc : Thread Cert.SeqDftRefIdeal.nD Cert.SeqDftRefIdeal.τ).loc Cert.SeqDftRefIdeal.main_arg0)
      ∧ r.2.mem ((c.tc : Thread Cert.SeqDftRefIdeal.nD Cert.SeqDftRefIdeal.τ).loc Cert.SeqDftRefIdeal.main_arg1) = m ((c.tc : Thread Cert.SeqDftRefIdeal.nD Cert.SeqDftRefIdeal.τ).loc Cert.SeqDftRefIdeal.main_arg1)
      ∧ r.2.mem ((c.tc : Thread Cert.SeqDftRefIdeal.nD Cert.SeqDftRefIdeal.τ).loc Cert.SeqDftRefIdeal.main_arg2) = m ((c.tc : Thread Cert.SeqDftRefIdeal.nD Cert.SeqDftRefIdeal.τ).loc Cert.SeqDftRefIdeal.main_arg2))
      ∧ r.2.sem = fun _ => 0)

def quiescent_CtxDft [hCtxDft : Cert.CtxDft.Facts] : Prop :=
  ∀ (m : (ℓ : Loc Cert.CtxDft.nD Cert.CtxDft.τ Cert.CtxDft.sig) → Buf (Elt Bits) ℓ) (g : Dev Cert.CtxDft.nD → PrngReg), Pre_CtxDft m →
    θ_run (Cert.CtxDft.defs (F := Bits)) (onTc (τ := Cert.CtxDft.τ) (Cert.CtxDft.main (F := Bits))) ⟨m, fun _ => 0, g⟩ (fun r => (∀ c : Dev Cert.CtxDft.nD,
      r.2.mem ((c.tc : Thread Cert.CtxDft.nD Cert.CtxDft.τ).loc Cert.CtxDft.main_arg0) = m ((c.tc : Thread Cert.CtxDft.nD Cert.CtxDft.τ).loc Cert.CtxDft.main_arg0)
      ∧ r.2.mem ((c.tc : Thread Cert.CtxDft.nD Cert.CtxDft.τ).loc Cert.CtxDft.main_arg1) = m ((c.tc : Thread Cert.CtxDft.nD Cert.CtxDft.τ).loc Cert.CtxDft.main_arg1)
      ∧ r.2.mem ((c.tc : Thread Cert.CtxDft.nD Cert.CtxDft.τ).loc Cert.CtxDft.main_arg2) = m ((c.tc : Thread Cert.CtxDft.nD Cert.CtxDft.τ).loc Cert.CtxDft.main_arg2))
      ∧ r.2.sem = fun _ => 0)

def quiescent_CtxDftIdeal [hCtxDftIdeal : Cert.CtxDftIdeal.Facts] : Prop :=
  ∀ (m : (ℓ : Loc Cert.CtxDftIdeal.nD Cert.CtxDftIdeal.τ Cert.CtxDftIdeal.sig) → Buf (Elt Ideal) ℓ) (g : Dev Cert.CtxDftIdeal.nD → PrngReg), Pre_CtxDftIdeal m →
    θ_run (Cert.CtxDftIdeal.defs (F := Ideal)) (onTc (τ := Cert.CtxDftIdeal.τ) (Cert.CtxDftIdeal.main (F := Ideal))) ⟨m, fun _ => 0, g⟩ (fun r => (∀ c : Dev Cert.CtxDftIdeal.nD,
      r.2.mem ((c.tc : Thread Cert.CtxDftIdeal.nD Cert.CtxDftIdeal.τ).loc Cert.CtxDftIdeal.main_arg0) = m ((c.tc : Thread Cert.CtxDftIdeal.nD Cert.CtxDftIdeal.τ).loc Cert.CtxDftIdeal.main_arg0)
      ∧ r.2.mem ((c.tc : Thread Cert.CtxDftIdeal.nD Cert.CtxDftIdeal.τ).loc Cert.CtxDftIdeal.main_arg1) = m ((c.tc : Thread Cert.CtxDftIdeal.nD Cert.CtxDftIdeal.τ).loc Cert.CtxDftIdeal.main_arg1)
      ∧ r.2.mem ((c.tc : Thread Cert.CtxDftIdeal.nD Cert.CtxDftIdeal.τ).loc Cert.CtxDftIdeal.main_arg2) = m ((c.tc : Thread Cert.CtxDftIdeal.nD Cert.CtxDftIdeal.τ).loc Cert.CtxDftIdeal.main_arg2))
      ∧ r.2.sem = fun _ => 0)

def quiescent_CtxDftRefIdeal [hCtxDftRefIdeal : Cert.CtxDftRefIdeal.Facts] : Prop :=
  ∀ (m : (ℓ : Loc Cert.CtxDftRefIdeal.nD Cert.CtxDftRefIdeal.τ Cert.CtxDftRefIdeal.sig) → Buf (Elt Ideal) ℓ) (g : Dev Cert.CtxDftRefIdeal.nD → PrngReg), Pre_CtxDftRefIdeal m →
    θ_run (Cert.CtxDftRefIdeal.defs (F := Ideal)) (onTc (τ := Cert.CtxDftRefIdeal.τ) (Cert.CtxDftRefIdeal.main (F := Ideal))) ⟨m, fun _ => 0, g⟩ (fun r => (∀ c : Dev Cert.CtxDftRefIdeal.nD,
      r.2.mem ((c.tc : Thread Cert.CtxDftRefIdeal.nD Cert.CtxDftRefIdeal.τ).loc Cert.CtxDftRefIdeal.main_arg0) = m ((c.tc : Thread Cert.CtxDftRefIdeal.nD Cert.CtxDftRefIdeal.τ).loc Cert.CtxDftRefIdeal.main_arg0)
      ∧ r.2.mem ((c.tc : Thread Cert.CtxDftRefIdeal.nD Cert.CtxDftRefIdeal.τ).loc Cert.CtxDftRefIdeal.main_arg1) = m ((c.tc : Thread Cert.CtxDftRefIdeal.nD Cert.CtxDftRefIdeal.τ).loc Cert.CtxDftRefIdeal.main_arg1)
      ∧ r.2.mem ((c.tc : Thread Cert.CtxDftRefIdeal.nD Cert.CtxDftRefIdeal.τ).loc Cert.CtxDftRefIdeal.main_arg2) = m ((c.tc : Thread Cert.CtxDftRefIdeal.nD Cert.CtxDftRefIdeal.τ).loc Cert.CtxDftRefIdeal.main_arg2))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v30)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v30) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_AttnCtx_AttnCtxIdeal : Prop :=
  True

def algebraic_AttnCtxIdeal_AttnCtxRefIdeal_pre_attn_ctx_finite [hAttnCtxIdeal : Cert.AttnCtxIdeal.Facts] [hAttnCtxRefIdeal : Cert.AttnCtxRefIdeal.Facts] [hPre_attn_ctx_finite : Cert.Pre_attn_ctx_finite.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_attn_ctx_finite m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)
      ∧ m' ((c.tc : Thread Cert.AttnCtxRefIdeal.nD Cert.AttnCtxRefIdeal.τ).loc Cert.AttnCtxRefIdeal.main_arg3) = m ((c.tc : Thread Cert.AttnCtxIdeal.nD Cert.AttnCtxIdeal.τ).loc Cert.AttnCtxIdeal.main_arg3)
      ∧ m' ((c.tc : Thread Cert.AttnCtxRefIdeal.nD Cert.AttnCtxRefIdeal.τ).loc Cert.AttnCtxRefIdeal.main_arg4) = m ((c.tc : Thread Cert.AttnCtxIdeal.nD Cert.AttnCtxIdeal.τ).loc Cert.AttnCtxIdeal.main_arg4)) →
    ∃ (v0 : (c : Dev Cert.AttnCtxIdeal.nD) → Buf (Elt Ideal) ((c.tc : Thread Cert.AttnCtxIdeal.nD Cert.AttnCtxIdeal.τ).loc Cert.AttnCtxIdeal.main_v24)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v24) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2)
          ∧ r.2.mem ((c.tc : Thread Cert.AttnCtxIdeal.nD Cert.AttnCtxIdeal.τ).loc Cert.AttnCtxIdeal.main_arg3) = m ((c.tc : Thread Cert.AttnCtxIdeal.nD Cert.AttnCtxIdeal.τ).loc Cert.AttnCtxIdeal.main_arg3)
          ∧ r.2.mem ((c.tc : Thread Cert.AttnCtxIdeal.nD Cert.AttnCtxIdeal.τ).loc Cert.AttnCtxIdeal.main_arg4) = m ((c.tc : Thread Cert.AttnCtxIdeal.nD Cert.AttnCtxIdeal.τ).loc Cert.AttnCtxIdeal.main_arg4))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v21) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2)
          ∧ r.2.mem ((c.tc : Thread Cert.AttnCtxRefIdeal.nD Cert.AttnCtxRefIdeal.τ).loc Cert.AttnCtxRefIdeal.main_arg3) = m' ((c.tc : Thread Cert.AttnCtxRefIdeal.nD Cert.AttnCtxRefIdeal.τ).loc Cert.AttnCtxRefIdeal.main_arg3)
          ∧ r.2.mem ((c.tc : Thread Cert.AttnCtxRefIdeal.nD Cert.AttnCtxRefIdeal.τ).loc Cert.AttnCtxRefIdeal.main_arg4) = m' ((c.tc : Thread Cert.AttnCtxRefIdeal.nD Cert.AttnCtxRefIdeal.τ).loc Cert.AttnCtxRefIdeal.main_arg4))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0_0)) (v1 : (c : Dev Cert.Ff2Ideal.nD) → Buf (Elt Ideal) ((c.tc : Thread Cert.Ff2Ideal.nD Cert.Ff2Ideal.τ).loc Cert.Ff2Ideal.main_v0_1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0_0) = v0 c
          ∧ r.2.mem ((c.tc : Thread Cert.Ff2Ideal.nD Cert.Ff2Ideal.τ).loc Cert.Ff2Ideal.main_v0_1) = v1 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_v6) = v1 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_v9) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)
      ∧ m' ((c.tc : Thread Cert.Ff1RefIdeal.nD Cert.Ff1RefIdeal.τ).loc Cert.Ff1RefIdeal.main_arg3) = m ((c.tc : Thread Cert.Ff1Ideal.nD Cert.Ff1Ideal.τ).loc Cert.Ff1Ideal.main_arg3)
      ∧ m' ((c.tc : Thread Cert.Ff1RefIdeal.nD Cert.Ff1RefIdeal.τ).loc Cert.Ff1RefIdeal.main_arg4) = m ((c.tc : Thread Cert.Ff1Ideal.nD Cert.Ff1Ideal.τ).loc Cert.Ff1Ideal.main_arg4)
      ∧ m' ((c.tc : Thread Cert.Ff1RefIdeal.nD Cert.Ff1RefIdeal.τ).loc Cert.Ff1RefIdeal.main_arg5) = m ((c.tc : Thread Cert.Ff1Ideal.nD Cert.Ff1Ideal.τ).loc Cert.Ff1Ideal.main_arg5)
      ∧ m' ((c.tc : Thread Cert.Ff1RefIdeal.nD Cert.Ff1RefIdeal.τ).loc Cert.Ff1RefIdeal.main_arg6) = m ((c.tc : Thread Cert.Ff1Ideal.nD Cert.Ff1Ideal.τ).loc Cert.Ff1Ideal.main_arg6)) →
    ∃ (v0 : (c : Dev Cert.Ff1Ideal.nD) → Buf (Elt Ideal) ((c.tc : Thread Cert.Ff1Ideal.nD Cert.Ff1Ideal.τ).loc Cert.Ff1Ideal.main_v2_0)) (v1 : (c : Dev Cert.Ff1Ideal.nD) → Buf (Elt Ideal) ((c.tc : Thread Cert.Ff1Ideal.nD Cert.Ff1Ideal.τ).loc Cert.Ff1Ideal.main_v2_1)) (v2 : (c : Dev Cert.Ff1Ideal.nD) → Buf (Elt Ideal) ((c.tc : Thread Cert.Ff1Ideal.nD Cert.Ff1Ideal.τ).loc Cert.Ff1Ideal.main_v2_2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v2_0) = v0 c
          ∧ r.2.mem ((c.tc : Thread Cert.Ff1Ideal.nD Cert.Ff1Ideal.τ).loc Cert.Ff1Ideal.main_v2_1) = v1 c
          ∧ r.2.mem ((c.tc : Thread Cert.Ff1Ideal.nD Cert.Ff1Ideal.τ).loc Cert.Ff1Ideal.main_v2_2) = v2 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
          ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
          ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
          ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
          ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v26) = v0 c
          ∧ r.2.mem ((c.tc : Thread Cert.Ff1RefIdeal.nD Cert.Ff1RefIdeal.τ).loc Cert.Ff1RefIdeal.main_v70) = v1 c
          ∧ r.2.mem ((c.tc : Thread Cert.Ff1RefIdeal.nD Cert.Ff1RefIdeal.τ).loc Cert.Ff1RefIdeal.main_v73) = v2 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2)
          ∧ r.2.mem ((c.tc : Thread Cert.Ff1RefIdeal.nD Cert.Ff1RefIdeal.τ).loc Cert.Ff1RefIdeal.main_arg3) = m' ((c.tc : Thread Cert.Ff1RefIdeal.nD Cert.Ff1RefIdeal.τ).loc Cert.Ff1RefIdeal.main_arg3)
          ∧ r.2.mem ((c.tc : Thread Cert.Ff1RefIdeal.nD Cert.Ff1RefIdeal.τ).loc Cert.Ff1RefIdeal.main_arg4) = m' ((c.tc : Thread Cert.Ff1RefIdeal.nD Cert.Ff1RefIdeal.τ).loc Cert.Ff1RefIdeal.main_arg4)
          ∧ r.2.mem ((c.tc : Thread Cert.Ff1RefIdeal.nD Cert.Ff1RefIdeal.τ).loc Cert.Ff1RefIdeal.main_arg5) = m' ((c.tc : Thread Cert.Ff1RefIdeal.nD Cert.Ff1RefIdeal.τ).loc Cert.Ff1RefIdeal.main_arg5)
          ∧ r.2.mem ((c.tc : Thread Cert.Ff1RefIdeal.nD Cert.Ff1RefIdeal.τ).loc Cert.Ff1RefIdeal.main_arg6) = m' ((c.tc : Thread Cert.Ff1RefIdeal.nD Cert.Ff1RefIdeal.τ).loc Cert.Ff1RefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_InTail_InTailIdeal : Prop :=
  True

def algebraic_InTailIdeal_InTailRefIdeal [hInTailIdeal : Cert.InTailIdeal.Facts] [hInTailRefIdeal : Cert.InTailRefIdeal.Facts] : Prop :=
  ∀ (m : (ℓ : Loc Cert.InTailIdeal.nD Cert.InTailIdeal.τ Cert.InTailIdeal.sig) → Buf (Elt Ideal) ℓ) (g : Dev Cert.InTailIdeal.nD → PrngReg)
    (m' : (ℓ : Loc Cert.InTailRefIdeal.nD Cert.InTailRefIdeal.τ Cert.InTailRefIdeal.sig) → Buf (Elt Ideal) ℓ) (g' : Dev Cert.InTailRefIdeal.nD → PrngReg), Pre_InTailIdeal m →
    (∀ c : Dev Cert.InTailIdeal.nD,
      m' ((c.tc : Thread Cert.InTailRefIdeal.nD Cert.InTailRefIdeal.τ).loc Cert.InTailRefIdeal.main_arg0) = m ((c.tc : Thread Cert.InTailIdeal.nD Cert.InTailIdeal.τ).loc Cert.InTailIdeal.main_arg0)
      ∧ m' ((c.tc : Thread Cert.InTailRefIdeal.nD Cert.InTailRefIdeal.τ).loc Cert.InTailRefIdeal.main_arg1) = m ((c.tc : Thread Cert.InTailIdeal.nD Cert.InTailIdeal.τ).loc Cert.InTailIdeal.main_arg1)
      ∧ m' ((c.tc : Thread Cert.InTailRefIdeal.nD Cert.InTailRefIdeal.τ).loc Cert.InTailRefIdeal.main_arg2) = m ((c.tc : Thread Cert.InTailIdeal.nD Cert.InTailIdeal.τ).loc Cert.InTailIdeal.main_arg2)) →
    ∃ (v0 : (c : Dev Cert.InTailIdeal.nD) → Buf (Elt Ideal) ((c.tc : Thread Cert.InTailIdeal.nD Cert.InTailIdeal.τ).loc Cert.InTailIdeal.main_v12)),
      θ_run (Cert.InTailIdeal.defs (F := Ideal)) (onTc (τ := Cert.InTailIdeal.τ) (Cert.InTailIdeal.main (F := Ideal))) ⟨m, fun _ => 0, g⟩ (fun r => ∀ c : Dev Cert.InTailIdeal.nD,
          r.2.mem ((c.tc : Thread Cert.InTailIdeal.nD Cert.InTailIdeal.τ).loc Cert.InTailIdeal.main_v12) = v0 c
          ∧ r.2.mem ((c.tc : Thread Cert.InTailIdeal.nD Cert.InTailIdeal.τ).loc Cert.InTailIdeal.main_arg0) = m ((c.tc : Thread Cert.InTailIdeal.nD Cert.InTailIdeal.τ).loc Cert.InTailIdeal.main_arg0)
          ∧ r.2.mem ((c.tc : Thread Cert.InTailIdeal.nD Cert.InTailIdeal.τ).loc Cert.InTailIdeal.main_arg1) = m ((c.tc : Thread Cert.InTailIdeal.nD Cert.InTailIdeal.τ).loc Cert.InTailIdeal.main_arg1)
          ∧ r.2.mem ((c.tc : Thread Cert.InTailIdeal.nD Cert.InTailIdeal.τ).loc Cert.InTailIdeal.main_arg2) = m ((c.tc : Thread Cert.InTailIdeal.nD Cert.InTailIdeal.τ).loc Cert.InTailIdeal.main_arg2))
      ∧ θ_run (Cert.InTailRefIdeal.defs (F := Ideal)) (onTc (τ := Cert.InTailRefIdeal.τ) (Cert.InTailRefIdeal.main (F := Ideal))) ⟨m', fun _ => 0, g'⟩ (fun r => ∀ c : Dev Cert.InTailRefIdeal.nD,
          r.2.mem ((c.tc : Thread Cert.InTailRefIdeal.nD Cert.InTailRefIdeal.τ).loc Cert.InTailRefIdeal.main_v18) = v0 c
          ∧ r.2.mem ((c.tc : Thread Cert.InTailRefIdeal.nD Cert.InTailRefIdeal.τ).loc Cert.InTailRefIdeal.main_arg0) = m' ((c.tc : Thread Cert.InTailRefIdeal.nD Cert.InTailRefIdeal.τ).loc Cert.InTailRefIdeal.main_arg0)
          ∧ r.2.mem ((c.tc : Thread Cert.InTailRefIdeal.nD Cert.InTailRefIdeal.τ).loc Cert.InTailRefIdeal.main_arg1) = m' ((c.tc : Thread Cert.InTailRefIdeal.nD Cert.InTailRefIdeal.τ).loc Cert.InTailRefIdeal.main_arg1)
          ∧ r.2.mem ((c.tc : Thread Cert.InTailRefIdeal.nD Cert.InTailRefIdeal.τ).loc Cert.InTailRefIdeal.main_arg2) = m' ((c.tc : Thread Cert.InTailRefIdeal.nD Cert.InTailRefIdeal.τ).loc Cert.InTailRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)
      ∧ m' ((c.tc : Thread Cert.KvProjRefIdeal.nD Cert.KvProjRefIdeal.τ).loc Cert.KvProjRefIdeal.main_arg4) = m ((c.tc : Thread Cert.KvProjIdeal.nD Cert.KvProjIdeal.τ).loc Cert.KvProjIdeal.main_arg4)
      ∧ m' ((c.tc : Thread Cert.KvProjRefIdeal.nD Cert.KvProjRefIdeal.τ).loc Cert.KvProjRefIdeal.main_arg5) = m ((c.tc : Thread Cert.KvProjIdeal.nD Cert.KvProjIdeal.τ).loc Cert.KvProjIdeal.main_arg5)) →
    ∃ (v0 : (c : Dev Cert.KvProjIdeal.nD) → Buf (Elt Ideal) ((c.tc : Thread Cert.KvProjIdeal.nD Cert.KvProjIdeal.τ).loc Cert.KvProjIdeal.main_v30_0)) (v1 : (c : Dev Cert.KvProjIdeal.nD) → Buf (Elt Ideal) ((c.tc : Thread Cert.KvProjIdeal.nD Cert.KvProjIdeal.τ).loc Cert.KvProjIdeal.main_v30_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v30_0) = v0 c
          ∧ r.2.mem ((c.tc : Thread Cert.KvProjIdeal.nD Cert.KvProjIdeal.τ).loc Cert.KvProjIdeal.main_v30_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
          ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
          ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v63) = v0 c
          ∧ r.2.mem ((c.tc : Thread Cert.KvProjRefIdeal.nD Cert.KvProjRefIdeal.τ).loc Cert.KvProjRefIdeal.main_v64) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3)
          ∧ r.2.mem ((c.tc : Thread Cert.KvProjRefIdeal.nD Cert.KvProjRefIdeal.τ).loc Cert.KvProjRefIdeal.main_arg4) = m' ((c.tc : Thread Cert.KvProjRefIdeal.nD Cert.KvProjRefIdeal.τ).loc Cert.KvProjRefIdeal.main_arg4)
          ∧ r.2.mem ((c.tc : Thread Cert.KvProjRefIdeal.nD Cert.KvProjRefIdeal.τ).loc Cert.KvProjRefIdeal.main_arg5) = m' ((c.tc : Thread Cert.KvProjRefIdeal.nD Cert.KvProjRefIdeal.τ).loc Cert.KvProjRefIdeal.main_arg5))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)
      ∧ m' ((c.tc : Thread Cert.QProjRefIdeal.nD Cert.QProjRefIdeal.τ).loc Cert.QProjRefIdeal.main_arg4) = m ((c.tc : Thread Cert.QProjIdeal.nD Cert.QProjIdeal.τ).loc Cert.QProjIdeal.main_arg4)) →
    ∃ (v0 : (c : Dev Cert.QProjIdeal.nD) → Buf (Elt Ideal) ((c.tc : Thread Cert.QProjIdeal.nD Cert.QProjIdeal.τ).loc Cert.QProjIdeal.main_v28)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v28) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v61) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3)
          ∧ r.2.mem ((c.tc : Thread Cert.QProjRefIdeal.nD Cert.QProjRefIdeal.τ).loc Cert.QProjRefIdeal.main_arg4) = m' ((c.tc : Thread Cert.QProjRefIdeal.nD Cert.QProjRefIdeal.τ).loc Cert.QProjRefIdeal.main_arg4))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)
      ∧ m' ((c.tc : Thread Cert.AdalnRefIdeal.nD Cert.AdalnRefIdeal.τ).loc Cert.AdalnRefIdeal.main_arg4) = m ((c.tc : Thread Cert.AdalnIdeal.nD Cert.AdalnIdeal.τ).loc Cert.AdalnIdeal.main_arg4)) →
    ∃ (v0 : (c : Dev Cert.AdalnIdeal.nD) → Buf (Elt Ideal) ((c.tc : Thread Cert.AdalnIdeal.nD Cert.AdalnIdeal.τ).loc Cert.AdalnIdeal.main_v6)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v6) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3)
          ∧ r.2.mem ((c.tc : Thread Cert.AdalnIdeal.nD Cert.AdalnIdeal.τ).loc Cert.AdalnIdeal.main_arg4) = m ((c.tc : Thread Cert.AdalnIdeal.nD Cert.AdalnIdeal.τ).loc Cert.AdalnIdeal.main_arg4))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v23) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3)
          ∧ r.2.mem ((c.tc : Thread Cert.AdalnRefIdeal.nD Cert.AdalnRefIdeal.τ).loc Cert.AdalnRefIdeal.main_arg4) = m' ((c.tc : Thread Cert.AdalnRefIdeal.nD Cert.AdalnRefIdeal.τ).loc Cert.AdalnRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v37) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v1) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v24) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_ResMod_ResModIdeal : Prop :=
  True

def algebraic_ResModIdeal_ResModRefIdeal [hResModIdeal : Cert.ResModIdeal.Facts] [hResModRefIdeal : Cert.ResModRefIdeal.Facts] : Prop :=
  ∀ (m : (ℓ : Loc Cert.ResModIdeal.nD Cert.ResModIdeal.τ Cert.ResModIdeal.sig) → Buf (Elt Ideal) ℓ) (g : Dev Cert.ResModIdeal.nD → PrngReg)
    (m' : (ℓ : Loc Cert.ResModRefIdeal.nD Cert.ResModRefIdeal.τ Cert.ResModRefIdeal.sig) → Buf (Elt Ideal) ℓ) (g' : Dev Cert.ResModRefIdeal.nD → PrngReg), Pre_ResModIdeal m →
    (∀ c : Dev Cert.ResModIdeal.nD,
      m' ((c.tc : Thread Cert.ResModRefIdeal.nD Cert.ResModRefIdeal.τ).loc Cert.ResModRefIdeal.main_arg0) = m ((c.tc : Thread Cert.ResModIdeal.nD Cert.ResModIdeal.τ).loc Cert.ResModIdeal.main_arg0)
      ∧ m' ((c.tc : Thread Cert.ResModRefIdeal.nD Cert.ResModRefIdeal.τ).loc Cert.ResModRefIdeal.main_arg1) = m ((c.tc : Thread Cert.ResModIdeal.nD Cert.ResModIdeal.τ).loc Cert.ResModIdeal.main_arg1)
      ∧ m' ((c.tc : Thread Cert.ResModRefIdeal.nD Cert.ResModRefIdeal.τ).loc Cert.ResModRefIdeal.main_arg2) = m ((c.tc : Thread Cert.ResModIdeal.nD Cert.ResModIdeal.τ).loc Cert.ResModIdeal.main_arg2)
      ∧ m' ((c.tc : Thread Cert.ResModRefIdeal.nD Cert.ResModRefIdeal.τ).loc Cert.ResModRefIdeal.main_arg3) = m ((c.tc : Thread Cert.ResModIdeal.nD Cert.ResModIdeal.τ).loc Cert.ResModIdeal.main_arg3)
      ∧ m' ((c.tc : Thread Cert.ResModRefIdeal.nD Cert.ResModRefIdeal.τ).loc Cert.ResModRefIdeal.main_arg4) = m ((c.tc : Thread Cert.ResModIdeal.nD Cert.ResModIdeal.τ).loc Cert.ResModIdeal.main_arg4)) →
    ∃ (v0 : (c : Dev Cert.ResModIdeal.nD) → Buf (Elt Ideal) ((c.tc : Thread Cert.ResModIdeal.nD Cert.ResModIdeal.τ).loc Cert.ResModIdeal.main_v2_0)) (v1 : (c : Dev Cert.ResModIdeal.nD) → Buf (Elt Ideal) ((c.tc : Thread Cert.ResModIdeal.nD Cert.ResModIdeal.τ).loc Cert.ResModIdeal.main_v2_1)),
      θ_run (Cert.ResModIdeal.defs (F := Ideal)) (onTc (τ := Cert.ResModIdeal.τ) (Cert.ResModIdeal.main (F := Ideal))) ⟨m, fun _ => 0, g⟩ (fun r => ∀ c : Dev Cert.ResModIdeal.nD,
          r.2.mem ((c.tc : Thread Cert.ResModIdeal.nD Cert.ResModIdeal.τ).loc Cert.ResModIdeal.main_v2_0) = v0 c
          ∧ r.2.mem ((c.tc : Thread Cert.ResModIdeal.nD Cert.ResModIdeal.τ).loc Cert.ResModIdeal.main_v2_1) = v1 c
          ∧ r.2.mem ((c.tc : Thread Cert.ResModIdeal.nD Cert.ResModIdeal.τ).loc Cert.ResModIdeal.main_arg0) = m ((c.tc : Thread Cert.ResModIdeal.nD Cert.ResModIdeal.τ).loc Cert.ResModIdeal.main_arg0)
          ∧ r.2.mem ((c.tc : Thread Cert.ResModIdeal.nD Cert.ResModIdeal.τ).loc Cert.ResModIdeal.main_arg1) = m ((c.tc : Thread Cert.ResModIdeal.nD Cert.ResModIdeal.τ).loc Cert.ResModIdeal.main_arg1)
          ∧ r.2.mem ((c.tc : Thread Cert.ResModIdeal.nD Cert.ResModIdeal.τ).loc Cert.ResModIdeal.main_arg2) = m ((c.tc : Thread Cert.ResModIdeal.nD Cert.ResModIdeal.τ).loc Cert.ResModIdeal.main_arg2)
          ∧ r.2.mem ((c.tc : Thread Cert.ResModIdeal.nD Cert.ResModIdeal.τ).loc Cert.ResModIdeal.main_arg3) = m ((c.tc : Thread Cert.ResModIdeal.nD Cert.ResModIdeal.τ).loc Cert.ResModIdeal.main_arg3)
          ∧ r.2.mem ((c.tc : Thread Cert.ResModIdeal.nD Cert.ResModIdeal.τ).loc Cert.ResModIdeal.main_arg4) = m ((c.tc : Thread Cert.ResModIdeal.nD Cert.ResModIdeal.τ).loc Cert.ResModIdeal.main_arg4))
      ∧ θ_run (Cert.ResModRefIdeal.defs (F := Ideal)) (onTc (τ := Cert.ResModRefIdeal.τ) (Cert.ResModRefIdeal.main (F := Ideal))) ⟨m', fun _ => 0, g'⟩ (fun r => ∀ c : Dev Cert.ResModRefIdeal.nD,
          r.2.mem ((c.tc : Thread Cert.ResModRefIdeal.nD Cert.ResModRefIdeal.τ).loc Cert.ResModRefIdeal.main_v26) = v0 c
          ∧ r.2.mem ((c.tc : Thread Cert.ResModRefIdeal.nD Cert.ResModRefIdeal.τ).loc Cert.ResModRefIdeal.main_v64) = v1 c
          ∧ r.2.mem ((c.tc : Thread Cert.ResModRefIdeal.nD Cert.ResModRefIdeal.τ).loc Cert.ResModRefIdeal.main_arg0) = m' ((c.tc : Thread Cert.ResModRefIdeal.nD Cert.ResModRefIdeal.τ).loc Cert.ResModRefIdeal.main_arg0)
          ∧ r.2.mem ((c.tc : Thread Cert.ResModRefIdeal.nD Cert.ResModRefIdeal.τ).loc Cert.ResModRefIdeal.main_arg1) = m' ((c.tc : Thread Cert.ResModRefIdeal.nD Cert.ResModRefIdeal.τ).loc Cert.ResModRefIdeal.main_arg1)
          ∧ r.2.mem ((c.tc : Thread Cert.ResModRefIdeal.nD Cert.ResModRefIdeal.τ).loc Cert.ResModRefIdeal.main_arg2) = m' ((c.tc : Thread Cert.ResModRefIdeal.nD Cert.ResModRefIdeal.τ).loc Cert.ResModRefIdeal.main_arg2)
          ∧ r.2.mem ((c.tc : Thread Cert.ResModRefIdeal.nD Cert.ResModRefIdeal.τ).loc Cert.ResModRefIdeal.main_arg3) = m' ((c.tc : Thread Cert.ResModRefIdeal.nD Cert.ResModRefIdeal.τ).loc Cert.ResModRefIdeal.main_arg3)
          ∧ r.2.mem ((c.tc : Thread Cert.ResModRefIdeal.nD Cert.ResModRefIdeal.τ).loc Cert.ResModRefIdeal.main_arg4) = m' ((c.tc : Thread Cert.ResModRefIdeal.nD Cert.ResModRefIdeal.τ).loc Cert.ResModRefIdeal.main_arg4))

def preserves_ChDft_ChDftIdeal : Prop :=
  True

def algebraic_ChDftIdeal_ChDftRefIdeal [hChDftIdeal : Cert.ChDftIdeal.Facts] [hChDftRefIdeal : Cert.ChDftRefIdeal.Facts] : Prop :=
  ∀ (m : (ℓ : Loc Cert.ChDftIdeal.nD Cert.ChDftIdeal.τ Cert.ChDftIdeal.sig) → Buf (Elt Ideal) ℓ) (g : Dev Cert.ChDftIdeal.nD → PrngReg)
    (m' : (ℓ : Loc Cert.ChDftRefIdeal.nD Cert.ChDftRefIdeal.τ Cert.ChDftRefIdeal.sig) → Buf (Elt Ideal) ℓ) (g' : Dev Cert.ChDftRefIdeal.nD → PrngReg), Pre_ChDftIdeal m →
    (∀ c : Dev Cert.ChDftIdeal.nD,
      m' ((c.tc : Thread Cert.ChDftRefIdeal.nD Cert.ChDftRefIdeal.τ).loc Cert.ChDftRefIdeal.main_arg0) = m ((c.tc : Thread Cert.ChDftIdeal.nD Cert.ChDftIdeal.τ).loc Cert.ChDftIdeal.main_arg0)
      ∧ m' ((c.tc : Thread Cert.ChDftRefIdeal.nD Cert.ChDftRefIdeal.τ).loc Cert.ChDftRefIdeal.main_arg1) = m ((c.tc : Thread Cert.ChDftIdeal.nD Cert.ChDftIdeal.τ).loc Cert.ChDftIdeal.main_arg1)
      ∧ m' ((c.tc : Thread Cert.ChDftRefIdeal.nD Cert.ChDftRefIdeal.τ).loc Cert.ChDftRefIdeal.main_arg2) = m ((c.tc : Thread Cert.ChDftIdeal.nD Cert.ChDftIdeal.τ).loc Cert.ChDftIdeal.main_arg2)) →
    ∃ (v0 : (c : Dev Cert.ChDftIdeal.nD) → Buf (Elt Ideal) ((c.tc : Thread Cert.ChDftIdeal.nD Cert.ChDftIdeal.τ).loc Cert.ChDftIdeal.main_v6)),
      θ_run (Cert.ChDftIdeal.defs (F := Ideal)) (onTc (τ := Cert.ChDftIdeal.τ) (Cert.ChDftIdeal.main (F := Ideal))) ⟨m, fun _ => 0, g⟩ (fun r => ∀ c : Dev Cert.ChDftIdeal.nD,
          r.2.mem ((c.tc : Thread Cert.ChDftIdeal.nD Cert.ChDftIdeal.τ).loc Cert.ChDftIdeal.main_v6) = v0 c
          ∧ r.2.mem ((c.tc : Thread Cert.ChDftIdeal.nD Cert.ChDftIdeal.τ).loc Cert.ChDftIdeal.main_arg0) = m ((c.tc : Thread Cert.ChDftIdeal.nD Cert.ChDftIdeal.τ).loc Cert.ChDftIdeal.main_arg0)
          ∧ r.2.mem ((c.tc : Thread Cert.ChDftIdeal.nD Cert.ChDftIdeal.τ).loc Cert.ChDftIdeal.main_arg1) = m ((c.tc : Thread Cert.ChDftIdeal.nD Cert.ChDftIdeal.τ).loc Cert.ChDftIdeal.main_arg1)
          ∧ r.2.mem ((c.tc : Thread Cert.ChDftIdeal.nD Cert.ChDftIdeal.τ).loc Cert.ChDftIdeal.main_arg2) = m ((c.tc : Thread Cert.ChDftIdeal.nD Cert.ChDftIdeal.τ).loc Cert.ChDftIdeal.main_arg2))
      ∧ θ_run (Cert.ChDftRefIdeal.defs (F := Ideal)) (onTc (τ := Cert.ChDftRefIdeal.τ) (Cert.ChDftRefIdeal.main (F := Ideal))) ⟨m', fun _ => 0, g'⟩ (fun r => ∀ c : Dev Cert.ChDftRefIdeal.nD,
          r.2.mem ((c.tc : Thread Cert.ChDftRefIdeal.nD Cert.ChDftRefIdeal.τ).loc Cert.ChDftRefIdeal.main_v16) = v0 c
          ∧ r.2.mem ((c.tc : Thread Cert.ChDftRefIdeal.nD Cert.ChDftRefIdeal.τ).loc Cert.ChDftRefIdeal.main_arg0) = m' ((c.tc : Thread Cert.ChDftRefIdeal.nD Cert.ChDftRefIdeal.τ).loc Cert.ChDftRefIdeal.main_arg0)
          ∧ r.2.mem ((c.tc : Thread Cert.ChDftRefIdeal.nD Cert.ChDftRefIdeal.τ).loc Cert.ChDftRefIdeal.main_arg1) = m' ((c.tc : Thread Cert.ChDftRefIdeal.nD Cert.ChDftRefIdeal.τ).loc Cert.ChDftRefIdeal.main_arg1)
          ∧ r.2.mem ((c.tc : Thread Cert.ChDftRefIdeal.nD Cert.ChDftRefIdeal.τ).loc Cert.ChDftRefIdeal.main_arg2) = m' ((c.tc : Thread Cert.ChDftRefIdeal.nD Cert.ChDftRefIdeal.τ).loc Cert.ChDftRefIdeal.main_arg2))

def preserves_SeqDft_SeqDftIdeal : Prop :=
  True

def algebraic_SeqDftIdeal_SeqDftRefIdeal [hSeqDftIdeal : Cert.SeqDftIdeal.Facts] [hSeqDftRefIdeal : Cert.SeqDftRefIdeal.Facts] : Prop :=
  ∀ (m : (ℓ : Loc Cert.SeqDftIdeal.nD Cert.SeqDftIdeal.τ Cert.SeqDftIdeal.sig) → Buf (Elt Ideal) ℓ) (g : Dev Cert.SeqDftIdeal.nD → PrngReg)
    (m' : (ℓ : Loc Cert.SeqDftRefIdeal.nD Cert.SeqDftRefIdeal.τ Cert.SeqDftRefIdeal.sig) → Buf (Elt Ideal) ℓ) (g' : Dev Cert.SeqDftRefIdeal.nD → PrngReg), Pre_SeqDftIdeal m →
    (∀ c : Dev Cert.SeqDftIdeal.nD,
      m' ((c.tc : Thread Cert.SeqDftRefIdeal.nD Cert.SeqDftRefIdeal.τ).loc Cert.SeqDftRefIdeal.main_arg0) = m ((c.tc : Thread Cert.SeqDftIdeal.nD Cert.SeqDftIdeal.τ).loc Cert.SeqDftIdeal.main_arg0)
      ∧ m' ((c.tc : Thread Cert.SeqDftRefIdeal.nD Cert.SeqDftRefIdeal.τ).loc Cert.SeqDftRefIdeal.main_arg1) = m ((c.tc : Thread Cert.SeqDftIdeal.nD Cert.SeqDftIdeal.τ).loc Cert.SeqDftIdeal.main_arg1)
      ∧ m' ((c.tc : Thread Cert.SeqDftRefIdeal.nD Cert.SeqDftRefIdeal.τ).loc Cert.SeqDftRefIdeal.main_arg2) = m ((c.tc : Thread Cert.SeqDftIdeal.nD Cert.SeqDftIdeal.τ).loc Cert.SeqDftIdeal.main_arg2)) →
    ∃ (v0 : (c : Dev Cert.SeqDftIdeal.nD) → Buf (Elt Ideal) ((c.tc : Thread Cert.SeqDftIdeal.nD Cert.SeqDftIdeal.τ).loc Cert.SeqDftIdeal.main_v3)),
      θ_run (Cert.SeqDftIdeal.defs (F := Ideal)) (onTc (τ := Cert.SeqDftIdeal.τ) (Cert.SeqDftIdeal.main (F := Ideal))) ⟨m, fun _ => 0, g⟩ (fun r => ∀ c : Dev Cert.SeqDftIdeal.nD,
          r.2.mem ((c.tc : Thread Cert.SeqDftIdeal.nD Cert.SeqDftIdeal.τ).loc Cert.SeqDftIdeal.main_v3) = v0 c
          ∧ r.2.mem ((c.tc : Thread Cert.SeqDftIdeal.nD Cert.SeqDftIdeal.τ).loc Cert.SeqDftIdeal.main_arg0) = m ((c.tc : Thread Cert.SeqDftIdeal.nD Cert.SeqDftIdeal.τ).loc Cert.SeqDftIdeal.main_arg0)
          ∧ r.2.mem ((c.tc : Thread Cert.SeqDftIdeal.nD Cert.SeqDftIdeal.τ).loc Cert.SeqDftIdeal.main_arg1) = m ((c.tc : Thread Cert.SeqDftIdeal.nD Cert.SeqDftIdeal.τ).loc Cert.SeqDftIdeal.main_arg1)
          ∧ r.2.mem ((c.tc : Thread Cert.SeqDftIdeal.nD Cert.SeqDftIdeal.τ).loc Cert.SeqDftIdeal.main_arg2) = m ((c.tc : Thread Cert.SeqDftIdeal.nD Cert.SeqDftIdeal.τ).loc Cert.SeqDftIdeal.main_arg2))
      ∧ θ_run (Cert.SeqDftRefIdeal.defs (F := Ideal)) (onTc (τ := Cert.SeqDftRefIdeal.τ) (Cert.SeqDftRefIdeal.main (F := Ideal))) ⟨m', fun _ => 0, g'⟩ (fun r => ∀ c : Dev Cert.SeqDftRefIdeal.nD,
          r.2.mem ((c.tc : Thread Cert.SeqDftRefIdeal.nD Cert.SeqDftRefIdeal.τ).loc Cert.SeqDftRefIdeal.main_v18) = v0 c
          ∧ r.2.mem ((c.tc : Thread Cert.SeqDftRefIdeal.nD Cert.SeqDftRefIdeal.τ).loc Cert.SeqDftRefIdeal.main_arg0) = m' ((c.tc : Thread Cert.SeqDftRefIdeal.nD Cert.SeqDftRefIdeal.τ).loc Cert.SeqDftRefIdeal.main_arg0)
          ∧ r.2.mem ((c.tc : Thread Cert.SeqDftRefIdeal.nD Cert.SeqDftRefIdeal.τ).loc Cert.SeqDftRefIdeal.main_arg1) = m' ((c.tc : Thread Cert.SeqDftRefIdeal.nD Cert.SeqDftRefIdeal.τ).loc Cert.SeqDftRefIdeal.main_arg1)
          ∧ r.2.mem ((c.tc : Thread Cert.SeqDftRefIdeal.nD Cert.SeqDftRefIdeal.τ).loc Cert.SeqDftRefIdeal.main_arg2) = m' ((c.tc : Thread Cert.SeqDftRefIdeal.nD Cert.SeqDftRefIdeal.τ).loc Cert.SeqDftRefIdeal.main_arg2))

def preserves_CtxDft_CtxDftIdeal : Prop :=
  True

def algebraic_CtxDftIdeal_CtxDftRefIdeal [hCtxDftIdeal : Cert.CtxDftIdeal.Facts] [hCtxDftRefIdeal : Cert.CtxDftRefIdeal.Facts] : Prop :=
  ∀ (m : (ℓ : Loc Cert.CtxDftIdeal.nD Cert.CtxDftIdeal.τ Cert.CtxDftIdeal.sig) → Buf (Elt Ideal) ℓ) (g : Dev Cert.CtxDftIdeal.nD → PrngReg)
    (m' : (ℓ : Loc Cert.CtxDftRefIdeal.nD Cert.CtxDftRefIdeal.τ Cert.CtxDftRefIdeal.sig) → Buf (Elt Ideal) ℓ) (g' : Dev Cert.CtxDftRefIdeal.nD → PrngReg), Pre_CtxDftIdeal m →
    (∀ c : Dev Cert.CtxDftIdeal.nD,
      m' ((c.tc : Thread Cert.CtxDftRefIdeal.nD Cert.CtxDftRefIdeal.τ).loc Cert.CtxDftRefIdeal.main_arg0) = m ((c.tc : Thread Cert.CtxDftIdeal.nD Cert.CtxDftIdeal.τ).loc Cert.CtxDftIdeal.main_arg0)
      ∧ m' ((c.tc : Thread Cert.CtxDftRefIdeal.nD Cert.CtxDftRefIdeal.τ).loc Cert.CtxDftRefIdeal.main_arg1) = m ((c.tc : Thread Cert.CtxDftIdeal.nD Cert.CtxDftIdeal.τ).loc Cert.CtxDftIdeal.main_arg1)
      ∧ m' ((c.tc : Thread Cert.CtxDftRefIdeal.nD Cert.CtxDftRefIdeal.τ).loc Cert.CtxDftRefIdeal.main_arg2) = m ((c.tc : Thread Cert.CtxDftIdeal.nD Cert.CtxDftIdeal.τ).loc Cert.CtxDftIdeal.main_arg2)) →
    ∃ (v0 : (c : Dev Cert.CtxDftIdeal.nD) → Buf (Elt Ideal) ((c.tc : Thread Cert.CtxDftIdeal.nD Cert.CtxDftIdeal.τ).loc Cert.CtxDftIdeal.main_v3)),
      θ_run (Cert.CtxDftIdeal.defs (F := Ideal)) (onTc (τ := Cert.CtxDftIdeal.τ) (Cert.CtxDftIdeal.main (F := Ideal))) ⟨m, fun _ => 0, g⟩ (fun r => ∀ c : Dev Cert.CtxDftIdeal.nD,
          r.2.mem ((c.tc : Thread Cert.CtxDftIdeal.nD Cert.CtxDftIdeal.τ).loc Cert.CtxDftIdeal.main_v3) = v0 c
          ∧ r.2.mem ((c.tc : Thread Cert.CtxDftIdeal.nD Cert.CtxDftIdeal.τ).loc Cert.CtxDftIdeal.main_arg0) = m ((c.tc : Thread Cert.CtxDftIdeal.nD Cert.CtxDftIdeal.τ).loc Cert.CtxDftIdeal.main_arg0)
          ∧ r.2.mem ((c.tc : Thread Cert.CtxDftIdeal.nD Cert.CtxDftIdeal.τ).loc Cert.CtxDftIdeal.main_arg1) = m ((c.tc : Thread Cert.CtxDftIdeal.nD Cert.CtxDftIdeal.τ).loc Cert.CtxDftIdeal.main_arg1)
          ∧ r.2.mem ((c.tc : Thread Cert.CtxDftIdeal.nD Cert.CtxDftIdeal.τ).loc Cert.CtxDftIdeal.main_arg2) = m ((c.tc : Thread Cert.CtxDftIdeal.nD Cert.CtxDftIdeal.τ).loc Cert.CtxDftIdeal.main_arg2))
      ∧ θ_run (Cert.CtxDftRefIdeal.defs (F := Ideal)) (onTc (τ := Cert.CtxDftRefIdeal.τ) (Cert.CtxDftRefIdeal.main (F := Ideal))) ⟨m', fun _ => 0, g'⟩ (fun r => ∀ c : Dev Cert.CtxDftRefIdeal.nD,
          r.2.mem ((c.tc : Thread Cert.CtxDftRefIdeal.nD Cert.CtxDftRefIdeal.τ).loc Cert.CtxDftRefIdeal.main_v18) = v0 c
          ∧ r.2.mem ((c.tc : Thread Cert.CtxDftRefIdeal.nD Cert.CtxDftRefIdeal.τ).loc Cert.CtxDftRefIdeal.main_arg0) = m' ((c.tc : Thread Cert.CtxDftRefIdeal.nD Cert.CtxDftRefIdeal.τ).loc Cert.CtxDftRefIdeal.main_arg0)
          ∧ r.2.mem ((c.tc : Thread Cert.CtxDftRefIdeal.nD Cert.CtxDftRefIdeal.τ).loc Cert.CtxDftRefIdeal.main_arg1) = m' ((c.tc : Thread Cert.CtxDftRefIdeal.nD Cert.CtxDftRefIdeal.τ).loc Cert.CtxDftRefIdeal.main_arg1)
          ∧ r.2.mem ((c.tc : Thread Cert.CtxDftRefIdeal.nD Cert.CtxDftRefIdeal.τ).loc Cert.CtxDftRefIdeal.main_arg2) = m' ((c.tc : Thread Cert.CtxDftRefIdeal.nD Cert.CtxDftRefIdeal.τ).loc Cert.CtxDftRefIdeal.main_arg2))

def Claim : Prop :=
  ∃ (hAttn : Cert.Attn.Facts) (hAttnIdeal : Cert.AttnIdeal.Facts) (hAttnRefIdeal : Cert.AttnRefIdeal.Facts) (hAttnCtx : Cert.AttnCtx.Facts) (hAttnCtxIdeal : Cert.AttnCtxIdeal.Facts) (hAttnCtxRefIdeal : Cert.AttnCtxRefIdeal.Facts) (hFf2 : Cert.Ff2.Facts) (hFf2Ideal : Cert.Ff2Ideal.Facts) (hFf2RefIdeal : Cert.Ff2RefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hFf1 : Cert.Ff1.Facts) (hFf1Ideal : Cert.Ff1Ideal.Facts) (hFf1RefIdeal : Cert.Ff1RefIdeal.Facts) (hMerge : Cert.Merge.Facts) (hMergeIdeal : Cert.MergeIdeal.Facts) (hMergeRefIdeal : Cert.MergeRefIdeal.Facts) (hInTail : Cert.InTail.Facts) (hInTailIdeal : Cert.InTailIdeal.Facts) (hInTailRefIdeal : Cert.InTailRefIdeal.Facts) (hKvProj : Cert.KvProj.Facts) (hKvProjIdeal : Cert.KvProjIdeal.Facts) (hKvProjRefIdeal : Cert.KvProjRefIdeal.Facts) (hQProj : Cert.QProj.Facts) (hQProjIdeal : Cert.QProjIdeal.Facts) (hQProjRefIdeal : Cert.QProjRefIdeal.Facts) (hAdaln : Cert.Adaln.Facts) (hAdalnIdeal : Cert.AdalnIdeal.Facts) (hAdalnRefIdeal : Cert.AdalnRefIdeal.Facts) (hModulate : Cert.Modulate.Facts) (hModulateIdeal : Cert.ModulateIdeal.Facts) (hModulateRefIdeal : Cert.ModulateRefIdeal.Facts) (hResidual : Cert.Residual.Facts) (hResidualIdeal : Cert.ResidualIdeal.Facts) (hResidualRefIdeal : Cert.ResidualRefIdeal.Facts) (hResMod : Cert.ResMod.Facts) (hResModIdeal : Cert.ResModIdeal.Facts) (hResModRefIdeal : Cert.ResModRefIdeal.Facts) (hChDft : Cert.ChDft.Facts) (hChDftIdeal : Cert.ChDftIdeal.Facts) (hChDftRefIdeal : Cert.ChDftRefIdeal.Facts) (hSeqDft : Cert.SeqDft.Facts) (hSeqDftIdeal : Cert.SeqDftIdeal.Facts) (hSeqDftRefIdeal : Cert.SeqDftRefIdeal.Facts) (hCtxDft : Cert.CtxDft.Facts) (hCtxDftIdeal : Cert.CtxDftIdeal.Facts) (hCtxDftRefIdeal : Cert.CtxDftRefIdeal.Facts) (hPre_attn_finite : Cert.Pre_attn_finite.Facts) (hPre_attn_ctx_finite : Cert.Pre_attn_ctx_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnCtx (hAttnCtx := hAttnCtx)
    ∧ quiescent_AttnCtxIdeal (hAttnCtxIdeal := hAttnCtxIdeal)
    ∧ quiescent_AttnCtxIdeal_pre_attn_ctx_finite (hAttnCtxIdeal := hAttnCtxIdeal) (hPre_attn_ctx_finite := hPre_attn_ctx_finite)
    ∧ quiescent_AttnCtxRefIdeal (hAttnCtxRefIdeal := hAttnCtxRefIdeal)
    ∧ quiescent_AttnCtxRefIdeal_pre_attn_ctx_finite (hAttnCtxRefIdeal := hAttnCtxRefIdeal) (hPre_attn_ctx_finite := hPre_attn_ctx_finite)
    ∧ quiescent_Ff2 (hFf2 := hFf2)
    ∧ quiescent_Ff2Ideal (hFf2Ideal := hFf2Ideal)
    ∧ quiescent_Ff2RefIdeal (hFf2RefIdeal := hFf2RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Merge (hMerge := hMerge)
    ∧ quiescent_MergeIdeal (hMergeIdeal := hMergeIdeal)
    ∧ quiescent_MergeRefIdeal (hMergeRefIdeal := hMergeRefIdeal)
    ∧ quiescent_InTail (hInTail := hInTail)
    ∧ quiescent_InTailIdeal (hInTailIdeal := hInTailIdeal)
    ∧ quiescent_InTailRefIdeal (hInTailRefIdeal := hInTailRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_ResMod (hResMod := hResMod)
    ∧ quiescent_ResModIdeal (hResModIdeal := hResModIdeal)
    ∧ quiescent_ResModRefIdeal (hResModRefIdeal := hResModRefIdeal)
    ∧ quiescent_ChDft (hChDft := hChDft)
    ∧ quiescent_ChDftIdeal (hChDftIdeal := hChDftIdeal)
    ∧ quiescent_ChDftRefIdeal (hChDftRefIdeal := hChDftRefIdeal)
    ∧ quiescent_SeqDft (hSeqDft := hSeqDft)
    ∧ quiescent_SeqDftIdeal (hSeqDftIdeal := hSeqDftIdeal)
    ∧ quiescent_SeqDftRefIdeal (hSeqDftRefIdeal := hSeqDftRefIdeal)
    ∧ quiescent_CtxDft (hCtxDft := hCtxDft)
    ∧ quiescent_CtxDftIdeal (hCtxDftIdeal := hCtxDftIdeal)
    ∧ quiescent_CtxDftRefIdeal (hCtxDftRefIdeal := hCtxDftRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_AttnCtx_AttnCtxIdeal
    ∧ algebraic_AttnCtxIdeal_AttnCtxRefIdeal_pre_attn_ctx_finite (hAttnCtxIdeal := hAttnCtxIdeal) (hAttnCtxRefIdeal := hAttnCtxRefIdeal) (hPre_attn_ctx_finite := hPre_attn_ctx_finite)
    ∧ preserves_Ff2_Ff2Ideal
    ∧ algebraic_Ff2Ideal_Ff2RefIdeal (hFf2Ideal := hFf2Ideal) (hFf2RefIdeal := hFf2RefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Ff1_Ff1Ideal
    ∧ algebraic_Ff1Ideal_Ff1RefIdeal (hFf1Ideal := hFf1Ideal) (hFf1RefIdeal := hFf1RefIdeal)
    ∧ preserves_Merge_MergeIdeal
    ∧ algebraic_MergeIdeal_MergeRefIdeal (hMergeIdeal := hMergeIdeal) (hMergeRefIdeal := hMergeRefIdeal)
    ∧ preserves_InTail_InTailIdeal
    ∧ algebraic_InTailIdeal_InTailRefIdeal (hInTailIdeal := hInTailIdeal) (hInTailRefIdeal := hInTailRefIdeal)
    ∧ preserves_KvProj_KvProjIdeal
    ∧ algebraic_KvProjIdeal_KvProjRefIdeal (hKvProjIdeal := hKvProjIdeal) (hKvProjRefIdeal := hKvProjRefIdeal)
    ∧ preserves_QProj_QProjIdeal
    ∧ algebraic_QProjIdeal_QProjRefIdeal (hQProjIdeal := hQProjIdeal) (hQProjRefIdeal := hQProjRefIdeal)
    ∧ preserves_Adaln_AdalnIdeal
    ∧ algebraic_AdalnIdeal_AdalnRefIdeal (hAdalnIdeal := hAdalnIdeal) (hAdalnRefIdeal := hAdalnRefIdeal)
    ∧ preserves_Modulate_ModulateIdeal
    ∧ algebraic_ModulateIdeal_ModulateRefIdeal (hModulateIdeal := hModulateIdeal) (hModulateRefIdeal := hModulateRefIdeal)
    ∧ preserves_Residual_ResidualIdeal
    ∧ algebraic_ResidualIdeal_ResidualRefIdeal (hResidualIdeal := hResidualIdeal) (hResidualRefIdeal := hResidualRefIdeal)
    ∧ preserves_ResMod_ResModIdeal
    ∧ algebraic_ResModIdeal_ResModRefIdeal (hResModIdeal := hResModIdeal) (hResModRefIdeal := hResModRefIdeal)
    ∧ preserves_ChDft_ChDftIdeal
    ∧ algebraic_ChDftIdeal_ChDftRefIdeal (hChDftIdeal := hChDftIdeal) (hChDftRefIdeal := hChDftRefIdeal)
    ∧ preserves_SeqDft_SeqDftIdeal
    ∧ algebraic_SeqDftIdeal_SeqDftRefIdeal (hSeqDftIdeal := hSeqDftIdeal) (hSeqDftRefIdeal := hSeqDftRefIdeal)
    ∧ preserves_CtxDft_CtxDftIdeal
    ∧ algebraic_CtxDftIdeal_CtxDftRefIdeal (hCtxDftIdeal := hCtxDftIdeal) (hCtxDftRefIdeal := hCtxDftRefIdeal)
-- ==== Pre_attn_ctx_finite.lean ====
abbrev S4x256x16x128 : Shape := ⟨4, ![4, 256, 16, 128]⟩
abbrev S4x256x16x64 : Shape := ⟨4, ![4, 256, 16, 64]⟩
abbrev S4x256x64 : Shape := ⟨3, ![4, 256, 64]⟩
abbrev S_ : Shape := ⟨0, ![]⟩

class Facts : Prop where
  bcast_S_S4x256x16x128 : S_.BroadcastsInDim S4x256x16x128 (![] : Fin 0 → Fin S4x256x16x128.rank)
  reducesTo_S4x256x16x128_S_d0_1_2_3 : S4x256x16x128.ReducesTo [0, 1, 2, 3] S_
  h_S_ : 0 < S_.numel
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_v13 : IVec S_ 1) (main_v16 : IVec S4x256x64 1) : IVec S_ 1 :=
  let main_c_5 : IVec S_ 1 := constantI S_ 1 1#1
  let main_v17 : IVec S_ 1 := (fun x v => Host.reduce IntOp.andi x v reducesTo_S4x256x64_S_d0_1_2 h_S_) main_v16 main_c_5
  let main_v18 : IVec S_ 1 := andi main_v13 main_v17
  main_v18

def fn {F : FTy → Type} [FloatOps F] (main_arg0 : FVec F S4x256x16x128 .f32) (main_arg1 : FVec F S4x256x16x64 .f32) (main_arg2 : FVec F S4x256x16x128 .f32) (main_arg3 : FVec F S4x256x64 .f32) (main_arg4 : FVec F S4x256x16x128 .f32) : IVec S_ 1 :=
  let main_v0 : FVec F S4x256x16x128 .f32 := Host.absf main_arg0
  let main_cst : FVec F S_ .f32 := constant S_ .f32 0x7F800000#32
  let main_v1 : FVec F S4x256x16x128 .f32 := broadcastInDim S4x256x16x128 ![] bcast_S_S4x256x16x128 main_cst
  let main_v2 : IVec S4x256x16x128 1 := cmpf .olt main_v0 main_v1
  let main_c : IVec S_ 1 := constantI S_ 1 1#1
  let main_v3 : IVec S_ 1 := (fun x v => Host.reduce IntOp.andi x v reducesTo_S4x256x16x128_S_d0_1_2_3 h_S_) main_v2 main_c
  let main_v4 : FVec F S4x256x16x64 .f32 := Host.absf main_arg1
  let main_cst_0 : FVec F S_ .f32 := constant S_ .f32 0x7F800000#32
  let main_v5 : FVec F S4x256x16x64 .f32 := broadcastInDim S4x256x16x64 ![] bcast_S_S4x256x16x64 main_cst_0
  let main_v6 : IVec S4x256x16x64 1 := cmpf .olt main_v4 main_v5
  let main_c_1 : IVec S_ 1 := constantI S_ 1 1#1
  let main_v7 : IVec S_ 1 := (fun x v => Host.reduce IntOp.andi x v reducesTo_S4x256x16x64_S_d0_1_2_3 h_S_) main_v6 main_c_1
  let main_v8 : IVec S_ 1 := andi main_v3 main_v7
  let main_v9 : FVec F S4x256x16x128 .f32 := Host.absf main_arg2
  let main_cst_2 : FVec F S_ .f32 := constant S_ .f32 0x7F800000#32
  let main_v10 : FVec F S4x256x16x128 .f32 := broadcastInDim S4x256x16x128 ![] bcast_S_S4x256x16x128 main_cst_2
  let main_v11 : IVec S4x256x16x128 1 := cmpf .olt main_v9 main_v10
  let main_c_3 : IVec S_ 1 := constantI S_ 1 1#1
  let main_v12 : IVec S_ 1 := (fun x v => Host.reduce IntOp.andi x v reducesTo_S4x256x16x128_S_d0_1_2_3 h_S_) main_v11 main_c_3
  let main_v13 : IVec S_ 1 := andi main_v8 main_v12
  let main_v14 : FVec F S4x256x64 .f32 := Host.absf main_arg3
  let main_cst_4 : FVec F S_ .f32 := constant S_ .f32 0x7F800000#32
  let main_v15 : FVec F S4x256x64 .f32 := broadcastInDim S4x256x64 ![] bcast_S_S4x256x64 main_cst_4
  let main_v16 : IVec S4x256x64 1 := cmpf .olt main_v14 main_v15
  fn_part1 (F := F) main_v13 main_v16
-- ==== Pre_attn_finite.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  bcast_S_S4x2048x64 : S_.BroadcastsInDim S4x2048x64 (![] : Fin 0 → Fin S4x2048x64.rank)
  reducesTo_S4x2048x64_S_d0_1_2 : S4x2048x64.ReducesTo [0, 1, 2] S_
  bcast_S_S4x256x16x128 : S_.BroadcastsInDim S4x256x16x128 (![] : Fin 0 → Fin S4x256x16x128.rank)
  reducesTo_S4x256x16x128_S_d0_1_2_3 : S4x256x16x128.ReducesTo [0, 1, 2, 3] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part1 {F : FTy → Type} [FloatOps F] (main_arg5 : FVec F S4x256x16x128 .f32) (main_arg6 : FVec F S4x256x64 .f32) (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  let main_v19 : FVec F S4x256x16x128 .f32 := Host.absf main_arg5
  let main_cst_6 : FVec F S_ .f32 := constant S_ .f32 0x7F800000#32
  let main_v20 : FVec F S4x256x16x128 .f32 := broadcastInDim S4x256x16x128 ![] bcast_S_S4x256x16x128 main_cst_6
  let main_v21 : IVec S4x256x16x128 1 := cmpf .olt main_v19 main_v20
  let main_c_7 : IVec S_ 1 := constantI S_ 1 1#1
  let main_v22 : IVec S_ 1 := (fun x v => Host.reduce IntOp.andi x v reducesTo_S4x256x16x128_S_d0_1_2_3 h_S_) main_v21 main_c_7
  let main_v23 : IVec S_ 1 := andi main_v18 main_v22
  let main_v24 : FVec F S4x256x64 .f32 := Host.absf main_arg6
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  main_v28

def fn {F : FTy → Type} [FloatOps F] (main_arg0 : FVec F S4x2048x16x128 .f32) (main_arg1 : FVec F S4x2048x16x64 .f32) (main_arg2 : FVec F S4x2048x16x128 .f32) (main_arg3 : FVec F S4x2048x64 .f32) (main_arg4 : FVec F S4x2048x16x128 .f32) (main_arg5 : FVec F S4x256x16x128 .f32) (main_arg6 : FVec F S4x256x64 .f32) (main_arg7 : FVec F S4x256x16x128 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_arg5 main_arg6 main_v13 main_v16
-- ==== Attn.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S_ : Shape := ⟨0, ![]⟩
abbrev S4x2048x16x256 : Shape := ⟨4, ![4, 2048, 16, 256]⟩
abbrev S8192x4096 : Shape := ⟨2, ![8192, 4096]⟩
abbrev S4x2048x1x64 : Shape := ⟨4, ![4, 2048, 1, 64]⟩
abbrev S4x256x1x64 : Shape := ⟨4, ![4, 256, 1, 64]⟩
abbrev S4x256x16x64 : Shape := ⟨4, ![4, 256, 16, 64]⟩
abbrev S4x256x16x256 : Shape := ⟨4, ![4, 256, 16, 256]⟩
abbrev S1024x4096 : Shape := ⟨2, ![1024, 4096]⟩
abbrev S9216x4096 : Shape := ⟨2, ![9216, 4096]⟩
abbrev S8192x2048 : Shape := ⟨2, ![8192, 2048]⟩
abbrev S2048x256 : Shape := ⟨2, ![2048, 256]⟩
abbrev S256x256 : Shape := ⟨2, ![256, 256]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 45
  | .vmem => 12
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x16x256, .f32⟩
  | .hbm, ⟨14, _⟩ => ⟨S4x2048x16x256, .f32⟩
  | .hbm, ⟨15, _⟩ => ⟨S4x2048x16x256, .f32⟩
  | .hbm, ⟨16, _⟩ => ⟨S4x2048x16x256, .bf16⟩
  | .hbm, ⟨17, _⟩ => ⟨S8192x4096, .bf16⟩
  | .hbm, ⟨18, _⟩ => ⟨S4x2048x1x64, .f32⟩
  | .hbm, ⟨19, _⟩ => ⟨S4x2048x16x64, .f32⟩
  | .hbm, ⟨20, _⟩ => ⟨S_, .f32⟩
  | .hbm, ⟨21, _⟩ => ⟨S4x2048x16x64, .f32⟩
  | .hbm, ⟨22, _⟩ => ⟨S4x2048x16x256, .f32⟩
  | .hbm, ⟨23, _⟩ => ⟨S4x2048x16x256, .bf16⟩
  | .hbm, ⟨24, _⟩ => ⟨S8192x4096, .bf16⟩
  | .hbm, ⟨25, _⟩ => ⟨S4x256x1x64, .f32⟩
  | .hbm, ⟨26, _⟩ => ⟨S4x256x16x64, .f32⟩
  | .hbm, ⟨27, _⟩ => ⟨S_, .f32⟩
  | .hbm, ⟨28, _⟩ => ⟨S4x256x16x64, .f32⟩
  | .hbm, ⟨29, _⟩ => ⟨S4x256x16x256, .f32⟩
  | .hbm, ⟨30, _⟩ => ⟨S4x256x16x256, .bf16⟩
  | .hbm, ⟨31, _⟩ => ⟨S1024x4096, .bf16⟩
  | .hbm, ⟨32, _⟩ => ⟨S9216x4096, .bf16⟩
  | .hbm, ⟨33, _⟩ => ⟨S_, .f32⟩
  | .hbm, ⟨34, _⟩ => ⟨S4x2048x16x128, .f32⟩
  | .hbm, ⟨35, _⟩ => ⟨S4x2048x16x256, .f32⟩
  | .hbm, ⟨36, _⟩ => ⟨S4x2048x16x256, .bf16⟩
  | .hbm, ⟨37, _⟩ => ⟨S8192x4096, .bf16⟩
  | .hbm, ⟨38, _⟩ => ⟨S_, .f32⟩
  | .hbm, ⟨39, _⟩ => ⟨S4x256x16x128, .f32⟩
  | .hbm, ⟨40, _⟩ => ⟨S4x256x16x256, .f32⟩
  | .hbm, ⟨41, _⟩ => ⟨S4x256x16x256, .bf16⟩
  | .hbm, ⟨42, _⟩ => ⟨S1024x4096, .bf16⟩
  | .hbm, ⟨43, _⟩ => ⟨S9216x4096, .bf16⟩
  | .hbm, ⟨44, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S256x256, .bf16⟩
  | .local _ .vmem, ⟨9, _⟩ => ⟨S256x256, .bf16⟩
  | .local _ .vmem, ⟨10, _⟩ => ⟨S2048x128, .bf16⟩
  | .local _ .vmem, ⟨11, _⟩ => ⟨S2048x128, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S4x2048x16x128 : Shape := ⟨4, ![4, 2048, 16, 128]⟩
abbrev S4x2048x16x64 : Shape := ⟨4, ![4, 2048, 16, 64]⟩
abbrev S4x2048x64 : Shape := ⟨3, ![4, 2048, 64]⟩
abbrev S4x256x16x128 : Shape := ⟨4, ![4, 256, 16, 128]⟩
abbrev S4x256x64 : Shape := ⟨3, ![4, 256, 64]⟩
abbrev S4x2304x16x128 : Shape := ⟨4, ![4, 2304, 16, 128]⟩
abbrev S4x2304x64 : Shape := ⟨3, ![4, 2304, 64]⟩
abbrev S4x16x2048x2304 : Shape := ⟨4, ![4, 16, 2048, 2304]⟩
abbrev S4x2304x2048x16 : Shape := ⟨4, ![4, 2304, 2048, 16]⟩
abbrev S_ : Shape := ⟨0, ![]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x64, .f32⟩
  | .hbm, ⟨2, _⟩ => ⟨S4x2048x16x128, .f32⟩
  | .hbm, ⟨3, _⟩ => ⟨S4x2048x64, .f32⟩
  | .hbm, ⟨4, _⟩ => ⟨S4x2048x16x128, .f32⟩
  | .hbm, ⟨5, _⟩ => ⟨S4x256x16x128, .f32⟩
  | .hbm, ⟨6, _⟩ => ⟨S4x256x64, .f32⟩
  | .hbm, ⟨7, _⟩ => ⟨S4x256x16x128, .f32⟩
  | .hbm, ⟨8, _⟩ => ⟨S4x2304x16x128, .f32⟩
  | .hbm, ⟨9, _⟩ => ⟨S4x2304x64, .f32⟩
  | .hbm, ⟨10, _⟩ => ⟨S4x2304x16x128, .f32⟩
  | .hbm, ⟨11, _⟩ => ⟨S4x16x2048x2304, .f32⟩
  | .hbm, ⟨12, _⟩ => ⟨S4x2304x2048x16, .f32⟩
  | .hbm, ⟨13, _⟩ => ⟨S4x16x2048x2304, .f32⟩
  | .hbm, ⟨14, _⟩ => ⟨S4x16x2048x2304, .f32⟩
  | .hbm, ⟨15, _⟩ => ⟨S_, .f32⟩
  | .hbm, ⟨16, _⟩ => ⟨S_, .f32⟩
  | .hbm, ⟨17, _⟩ => ⟨S4x16x2048x2304, .f32⟩
  | .hbm, ⟨18, _⟩ => ⟨S4x16x2048x2304, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2304, .f32⟩
  | .hbm, ⟨26, _⟩ => ⟨S4x16x2048x2304, .f32⟩
  | .hbm, ⟨27, _⟩ => ⟨S4x16x2048x2304, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2304, .f32⟩
  | .hbm, ⟨32, _⟩ => ⟨S4x16x2048x2304, .f32⟩
  | .hbm, ⟨33, _⟩ => ⟨S4x16x128x2048, .f32⟩
  | .hbm, ⟨34, _⟩ => ⟨S4x2048x16x128, .f32⟩
  | .hbm, ⟨35, _⟩ => ⟨S8192x2048, .f32⟩
  | .hbm, ⟨36, _⟩ => ⟨S8192x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== AttnCtx.lean ====
abbrev S4x256x16x128 : Shape := ⟨4, ![4, 256, 16, 128]⟩
abbrev S4x256x16x64 : Shape := ⟨4, ![4, 256, 16, 64]⟩
abbrev S4x256x64 : Shape := ⟨3, ![4, 256, 64]⟩
abbrev S_ : Shape := ⟨0, ![]⟩
abbrev S4x256x16x256 : Shape := ⟨4, ![4, 256, 16, 256]⟩
abbrev S1024x4096 : Shape := ⟨2, ![1024, 4096]⟩
abbrev S8192x4096 : Shape := ⟨2, ![8192, 4096]⟩
abbrev S9216x4096 : Shape := ⟨2, ![9216, 4096]⟩
abbrev S4x256x1x64 : Shape := ⟨4, ![4, 256, 1, 64]⟩
abbrev S1024x2048 : Shape := ⟨2, ![1024, 2048]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 37
  | .vmem => 8
  | .smem => 0
  | _ => 0

abbrev bufTy : (tb : Table) → Fin (tcTables nBuf tb) → BufTy
  | .hbm, ⟨0, _⟩ => ⟨S4x256x16x128, .f32⟩
  | .hbm, ⟨1, _⟩ => ⟨S4x256x16x64, .f32⟩
  | .hbm, ⟨2, _⟩ => ⟨S4x256x16x128, .f32⟩
  | .hbm, ⟨3, _⟩ => ⟨S4x256x64, .f32⟩
  | .hbm, ⟨4, _⟩ => ⟨S4x256x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x256x16x256, .f32⟩
  | .hbm, ⟨11, _⟩ => ⟨S4x256x16x256, .f32⟩
  | .hbm, ⟨12, _⟩ => ⟨S4x256x16x256, .f32⟩
  | .hbm, ⟨13, _⟩ => ⟨S4x256x16x256, .bf16⟩
  | .hbm, ⟨14, _⟩ => ⟨S1024x4096, .bf16⟩
  | .hbm, ⟨15, _⟩ => ⟨S_, .bf16⟩
  | .hbm, ⟨16, _⟩ => ⟨S8192x4096, .bf16⟩
  | .hbm, ⟨17, _⟩ => ⟨S9216x4096, .bf16⟩
  | .hbm, ⟨18, _⟩ => ⟨S4x256x1x64, .f32⟩
  | .hbm, ⟨19, _⟩ => ⟨S4x256x16x64, .f32⟩
  | .hbm, ⟨20, _⟩ => ⟨S_, .f32⟩
  | .hbm, ⟨21, _⟩ => ⟨S4x256x16x64, .f32⟩
  | .hbm, ⟨22, _⟩ => ⟨S4x256x16x256, .f32⟩
  | .hbm, ⟨23, _⟩ => ⟨S4x256x16x256, .bf16⟩
  | .hbm, ⟨24, _⟩ => ⟨S1024x4096, .bf16⟩
  | .hbm, ⟨25, _⟩ => ⟨S_, .bf16⟩
  | .hbm, ⟨26, _⟩ => ⟨S8192x4096, .bf16⟩
  | .hbm, ⟨27, _⟩ => ⟨S9216x4096, .bf16⟩
  | .hbm, ⟨28, _⟩ => ⟨S_, .f32⟩
  | .hbm, ⟨29, _⟩ => ⟨S4x256x16x128, .f32⟩
  | .hbm, ⟨30, _⟩ => ⟨S4x256x16x256, .f32⟩
  | .hbm, ⟨31, _⟩ => ⟨S4x256x16x256, .bf16⟩
  | .hbm, ⟨32, _⟩ => ⟨S1024x4096, .bf16⟩
  | .hbm, ⟨33, _⟩ => ⟨S_, .bf16⟩
  | .hbm, ⟨34, _⟩ => ⟨S8192x4096, .bf16⟩
  | .hbm, ⟨35, _⟩ => ⟨S9216x4096, .bf16⟩
  | .hbm, ⟨36, _⟩ => ⟨S1024x2048, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x128, .bf16⟩
  | .local _ .vmem, ⟨7, _⟩ => ⟨S256x128, .bf16⟩
  | _, _ => ⟨S4x256x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnCtxRefIdeal.lean ====
abbrev S4x256x16x128 : Shape := ⟨4, ![4, 256, 16, 128]⟩
abbrev S4x256x16x64 : Shape := ⟨4, ![4, 256, 16, 64]⟩
abbrev S4x256x64 : Shape := ⟨3, ![4, 256, 64]⟩
abbrev S4x16x256x256 : Shape := ⟨4, ![4, 16, 256, 256]⟩
abbrev S4x256x256x16 : Shape := ⟨4, ![4, 256, 256, 16]⟩
abbrev S_ : Shape := ⟨0, ![]⟩
abbrev S4x16x256 : Shape := ⟨3, ![4, 16, 256]⟩
abbrev S4x16x256x1 : Shape := ⟨4, ![4, 16, 256, 1]⟩
abbrev S4x16x128x256 : Shape := ⟨4, ![4, 16, 128, 256]⟩
abbrev S1024x2048 : Shape := ⟨2, ![1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x256x16x128, .f32⟩
  | .hbm, ⟨1, _⟩ => ⟨S4x256x16x64, .f32⟩
  | .hbm, ⟨2, _⟩ => ⟨S4x256x16x128, .f32⟩
  | .hbm, ⟨3, _⟩ => ⟨S4x256x64, .f32⟩
  | .hbm, ⟨4, _⟩ => ⟨S4x256x16x128, .f32⟩
  | .hbm, ⟨5, _⟩ => ⟨S4x16x256x256, .f32⟩
  | .hbm, ⟨6, _⟩ => ⟨S4x256x256x16, .f32⟩
  | .hbm, ⟨7, _⟩ => ⟨S4x16x256x256, .f32⟩
  | .hbm, ⟨8, _⟩ => ⟨S4x16x256x256, .f32⟩
  | .hbm, ⟨9, _⟩ => ⟨S_, .f32⟩
  | .hbm, ⟨10, _⟩ => ⟨S_, .f32⟩
  | .hbm, ⟨11, _⟩ => ⟨S4x16x256x256, .f32⟩
  | .hbm, ⟨12, _⟩ => ⟨S4x16x256x256, .f32⟩
  | .hbm, ⟨13, _⟩ => ⟨S_, .f32⟩
  | .hbm, ⟨14, _⟩ => ⟨S4x16x256, .f32⟩
  | .hbm, ⟨15, _⟩ => ⟨S_, .f32⟩
  | .hbm, ⟨16, _⟩ => ⟨S4x16x256, .f32⟩
  | .hbm, ⟨17, _⟩ => ⟨S4x16x256, .f32⟩
  | .hbm, ⟨18, _⟩ => ⟨S4x16x256x1, .f32⟩
  | .hbm, ⟨19, _⟩ => ⟨S4x16x256x256, .f32⟩
  | .hbm, ⟨20, _⟩ => ⟨S4x16x256x256, .f32⟩
  | .hbm, ⟨21, _⟩ => ⟨S4x16x256x256, .f32⟩
  | .hbm, ⟨22, _⟩ => ⟨S_, .f32⟩
  | .hbm, ⟨23, _⟩ => ⟨S4x16x256, .f32⟩
  | .hbm, ⟨24, _⟩ => ⟨S4x16x256x1, .f32⟩
  | .hbm, ⟨25, _⟩ => ⟨S4x16x256x256, .f32⟩
  | .hbm, ⟨26, _⟩ => ⟨S4x16x256x256, .f32⟩
  | .hbm, ⟨27, _⟩ => ⟨S4x16x128x256, .f32⟩
  | .hbm, ⟨28, _⟩ => ⟨S4x256x16x128, .f32⟩
  | .hbm, ⟨29, _⟩ => ⟨S1024x2048, .f32⟩
  | .hbm, ⟨30, _⟩ => ⟨S1024x2048, .bf16⟩
  | _, _ => ⟨S4x256x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ff2.lean ====
abbrev S9216x16384 : Shape := ⟨2, ![9216, 16384]⟩
abbrev S16384x4096 : Shape := ⟨2, ![16384, 4096]⟩
abbrev S4x4096x16384 : Shape := ⟨3, ![4, 4096, 16384]⟩
abbrev S9216x4096 : Shape := ⟨2, ![9216, 4096]⟩
abbrev S4096x16384 : Shape := ⟨2, ![4096, 16384]⟩
abbrev S1024x4096 : Shape := ⟨2, ![1024, 4096]⟩
abbrev S4096x1024 : Shape := ⟨2, ![4096, 1024]⟩
abbrev S1x32x16384 : Shape := ⟨3, ![1, 32, 16384]⟩
abbrev S1024x1024 : Shape := ⟨2, ![1024, 1024]⟩
abbrev S32x16384 : Shape := ⟨2, ![32, 16384]⟩

abbrev nBuf : Space → Nat
  | .hbm => 5
  | .vmem => 11
  | .smem => 0
  | _ => 0

abbrev bufTy : (tb : Table) → Fin (tcTables nBuf tb) → BufTy
  | .hbm, ⟨0, _⟩ => ⟨S9216x16384, .bf16⟩
  | .hbm, ⟨1, _⟩ => ⟨S16384x4096, .bf16⟩
  | .hbm, ⟨2, _⟩ => ⟨S4x4096x16384, .f32⟩
  | .hbm, ⟨3, _⟩ => ⟨S9216x4096, .bf16⟩
  | .hbm, ⟨4, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x32x16384, .f32⟩
  | .local _ .vmem, ⟨5, _⟩ => ⟨S1x32x16384, .f32⟩
  | .local _ .vmem, ⟨6, _⟩ => ⟨S1024x1024, .bf16⟩
  | .local _ .vmem, ⟨7, _⟩ => ⟨S1024x1024, .bf16⟩
  | .local _ .vmem, ⟨8, _⟩ => ⟨S32x16384, .bf16⟩
  | .local _ .vmem, ⟨9, _⟩ => ⟨S32x16384, .bf16⟩
  | .local _ .vmem, ⟨10, _⟩ => ⟨S1024x1024, .f32⟩
  | _, _ => ⟨S9216x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![9, 4, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c127_i32 : BitVec 32 := 127#32
  let v4 : BitVec 32 := Scalar.minsi v3 c127_i32
  let c1_i32 : BitVec 32 := 1#32
  let c0_i32 : BitVec 32 := 0#32
  let c0_i32_1 : BitVec 32 := 0#32
  ![c1_i32.toNat, v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c127_i32 : BitVec 32 := 127#32
  let v4 : BitVec 32 := Scalar.minsi v3 c127_i32
  let c0_i32 : BitVec 32 := 0#32
  let c0_i32_1 : BitVec 32 := 0#32
  ![v4.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Ff2RefIdeal.lean ====
abbrev S9216x16384 : Shape := ⟨2, ![9216, 16384]⟩
abbrev S16384x4096 : Shape := ⟨2, ![16384, 4096]⟩
abbrev S4x4096x16384 : Shape := ⟨3, ![4, 4096, 16384]⟩
abbrev S9216x4096 : Shape := ⟨2, ![9216, 4096]⟩
abbrev S1x4096x16384 : Shape := ⟨3, ![1, 4096, 16384]⟩
abbrev S4096x16384 : Shape := ⟨2, ![4096, 16384]⟩

abbrev nBuf : Space → Nat
  | .hbm => 10
  | .vmem => 0
  | .smem => 0
  | _ => 0

abbrev bufTy : (tb : Table) → Fin (tcTables nBuf tb) → BufTy
  | .hbm, ⟨0, _⟩ => ⟨S9216x16384, .bf16⟩
  | .hbm, ⟨1, _⟩ => ⟨S16384x4096, .bf16⟩
  | .hbm, ⟨2, _⟩ => ⟨S4x4096x16384, .f32⟩
  | .hbm, ⟨3, _⟩ => ⟨S9216x16384, .f32⟩
  | .hbm, ⟨4, _⟩ => ⟨S16384x4096, .f32⟩
  | .hbm, ⟨5, _⟩ => ⟨S9216x4096, .f32⟩
  | .hbm, ⟨6, _⟩ => ⟨S9216x4096, .bf16⟩
  | .hbm, ⟨7, _⟩ => ⟨S1x4096x16384, .f32⟩
  | .hbm, ⟨8, _⟩ => ⟨S4096x16384, .f32⟩
  | .hbm, ⟨9, _⟩ => ⟨S4096x16384, .bf16⟩
  | _, _ => ⟨S9216x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S9216x4096 : Shape := ⟨2, ![9216, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S9216x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S9216x4096 : Shape := ⟨2, ![9216, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S9216x4096, .f32⟩
  | .hbm, ⟨3, _⟩ => ⟨S4096x4096, .f32⟩
  | .hbm, ⟨4, _⟩ => ⟨S9216x4096, .f32⟩
  | .hbm, ⟨5, _⟩ => ⟨S9216x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S9216x4096 : Shape := ⟨2, ![9216, 4096]⟩
abbrev S4x4096x4672 : Shape := ⟨3, ![4, 4096, 4672]⟩
abbrev S4x4096x4096 : Shape := ⟨3, ![4, 4096, 4096]⟩
abbrev S4096x4096 : Shape := ⟨2, ![4096, 4096]⟩
abbrev S1024x4096 : Shape := ⟨2, ![1024, 4096]⟩
abbrev S1x4096x1024 : Shape := ⟨3, ![1, 4096, 1024]⟩
abbrev S1x128x4096 : Shape := ⟨3, ![1, 128, 4096]⟩
abbrev S1024x1024 : Shape := ⟨2, ![1024, 1024]⟩
abbrev S128x4096 : Shape := ⟨2, ![128, 4096]⟩
abbrev S4096x1024 : Shape := ⟨2, ![4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S4x4096x4672, .bf16⟩
  | .hbm, ⟨2, _⟩ => ⟨S4x4096x4096, .f32⟩
  | .hbm, ⟨3, _⟩ => ⟨S9216x4096, .bf16⟩
  | .hbm, ⟨4, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x128x4096, .f32⟩
  | .local _ .vmem, ⟨5, _⟩ => ⟨S1x128x4096, .f32⟩
  | .local _ .vmem, ⟨6, _⟩ => ⟨S1024x1024, .bf16⟩
  | .local _ .vmem, ⟨7, _⟩ => ⟨S1024x1024, .bf16⟩
  | .local _ .vmem, ⟨8, _⟩ => ⟨S128x4096, .bf16⟩
  | .local _ .vmem, ⟨9, _⟩ => ⟨S128x4096, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  let c0_i32_1 : BitVec 32 := 0#32
  ![c0_i32.toNat, v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.muli v1 c1_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjRefIdeal.lean ====
abbrev S9216x4096 : Shape := ⟨2, ![9216, 4096]⟩
abbrev S4x4096x4672 : Shape := ⟨3, ![4, 4096, 4672]⟩
abbrev S4x4096x4096 : Shape := ⟨3, ![4, 4096, 4096]⟩
abbrev S1x4096x4672 : Shape := ⟨3, ![1, 4096, 4672]⟩
abbrev S4096x4672 : Shape := ⟨2, ![4096, 4672]⟩
abbrev S9216x4672 : Shape := ⟨2, ![9216, 4672]⟩
abbrev S1x4096x4096 : Shape := ⟨3, ![1, 4096, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4x4096x4672, .bf16⟩
  | .hbm, ⟨2, _⟩ => ⟨S4x4096x4096, .f32⟩
  | .hbm, ⟨3, _⟩ => ⟨S9216x4096, .f32⟩
  | .hbm, ⟨4, _⟩ => ⟨S1x4096x4672, .bf16⟩
  | .hbm, ⟨5, _⟩ => ⟨S4096x4672, .bf16⟩
  | .hbm, ⟨6, _⟩ => ⟨S4096x4672, .f32⟩
  | .hbm, ⟨7, _⟩ => ⟨S9216x4672, .f32⟩
  | .hbm, ⟨8, _⟩ => ⟨S9216x4096, .f32⟩
  | .hbm, ⟨9, _⟩ => ⟨S9216x4096, .bf16⟩
  | .hbm, ⟨10, _⟩ => ⟨S1x4096x4096, .f32⟩
  | .hbm, ⟨11, _⟩ => ⟨S4096x4096, .f32⟩
  | .hbm, ⟨12, _⟩ => ⟨S4096x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ff1.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S4096x16384 : Shape := ⟨2, ![4096, 16384]⟩
abbrev S4x16384x4096 : Shape := ⟨3, ![4, 16384, 4096]⟩
abbrev S4x1x4096 : Shape := ⟨3, ![4, 1, 4096]⟩
abbrev S9216x16384 : Shape := ⟨2, ![9216, 16384]⟩
abbrev S16384x4096 : Shape := ⟨2, ![16384, 4096]⟩
abbrev S64x4096 : Shape := ⟨2, ![64, 4096]⟩
abbrev S1x1x4096 : Shape := ⟨3, ![1, 1, 4096]⟩
abbrev S1x1x1x1x4096 : Shape := ⟨5, ![1, 1, 1, 1, 4096]⟩
abbrev S4096x1024 : Shape := ⟨2, ![4096, 1024]⟩
abbrev S1x128x4096 : Shape := ⟨3, ![1, 128, 4096]⟩
abbrev S1024x1024 : Shape := ⟨2, ![1024, 1024]⟩
abbrev S128x4096 : Shape := ⟨2, ![128, 4096]⟩
abbrev S1024x4096 : Shape := ⟨2, ![1024, 4096]⟩
abbrev S1x4096 : Shape := ⟨2, ![1, 4096]⟩
abbrev S64 : Shape := ⟨1, ![64]⟩
abbrev S64x1 : Shape := ⟨2, ![64, 1]⟩

abbrev nBuf : Space → Nat
  | .hbm => 12
  | .vmem => 24
  | .smem => 0
  | _ => 0

abbrev bufTy : (tb : Table) → Fin (tcTables nBuf tb) → BufTy
  | .hbm, ⟨0, _⟩ => ⟨S9216x4096, .f32⟩
  | .hbm, ⟨1, _⟩ => ⟨S9216x4096, .bf16⟩
  | .hbm, ⟨2, _⟩ => ⟨S4x4096, .f32⟩
  | .hbm, ⟨3, _⟩ => ⟨S4x6x8x1x4096, .f32⟩
  | .hbm, ⟨4, _⟩ => ⟨S4x4096, .f32⟩
  | .hbm, ⟨5, _⟩ => ⟨S4096x16384, .bf16⟩
  | .hbm, ⟨6, _⟩ => ⟨S4x16384x4096, .f32⟩
  | .hbm, ⟨7, _⟩ => ⟨S4x1x4096, .f32⟩
  | .hbm, ⟨8, _⟩ => ⟨S4x1x4096, .f32⟩
  | .hbm, ⟨9, _⟩ => ⟨S9216x4096, .f32⟩
  | .hbm, ⟨10, _⟩ => ⟨S9216x16384, .bf16⟩
  | .hbm, ⟨11, _⟩ => ⟨S16384x4096, .bf16⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .vmem, ⟨4, _⟩ => ⟨S1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x4096, .f32⟩
  | .local _ .vmem, ⟨8, _⟩ => ⟨S1x1x1x1x4096, .f32⟩
  | .local _ .vmem, ⟨9, _⟩ => ⟨S1x1x1x1x4096, .f32⟩
  | .local _ .vmem, ⟨10, _⟩ => ⟨S1x1x1x1x4096, .f32⟩
  | .local _ .vmem, ⟨11, _⟩ => ⟨S1x1x1x1x4096, .f32⟩
  | .local _ .vmem, ⟨12, _⟩ => ⟨S4096x1024, .bf16⟩
  | .local _ .vmem, ⟨13, _⟩ => ⟨S4096x1024, .bf16⟩
  | .local _ .vmem, ⟨14, _⟩ => ⟨S1x128x4096, .f32⟩
  | .local _ .vmem, ⟨15, _⟩ => ⟨S1x128x4096, .f32⟩
  | .local _ .vmem, ⟨16, _⟩ => ⟨S64x4096, .f32⟩
  | .local _ .vmem, ⟨17, _⟩ => ⟨S64x4096, .f32⟩
  | .local _ .vmem, ⟨18, _⟩ => ⟨S1024x1024, .bf16⟩
  | .local _ .vmem, ⟨19, _⟩ => ⟨S1024x1024, .bf16⟩
  | .local _ .vmem, ⟨20, _⟩ => ⟨S128x4096, .bf16⟩
  | .local _ .vmem, ⟨21, _⟩ => ⟨S128x4096, .bf16⟩
  | .local _ .vmem, ⟨22, _⟩ => ⟨S1024x4096, .bf16⟩
  | .local _ .vmem, ⟨23, _⟩ => ⟨S1024x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![10, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c64_i32 : BitVec 32 := 64#32
  let v60 : BitVec 32 := Scalar.muli arg1 c64_i32
  v60
def k0_off1 (i : grid0.Coords) : Fin 2 → Nat :=
  let arg1 : BitVec 32 := BitVec.ofNat 32 (i 1).val
  let c64_i32 : BitVec 32 := 64#32
  let v60 : BitVec 32 := Scalar.muli arg1 c64_i32
  let v61 : BitVec 32 := v60
  let v87 : Index := Scalar.indexCast v61
  let c0_54 : Index := 0#32
  ![v87.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c64_i32 : BitVec 32 := 64#32
  let v60 : BitVec 32 := Scalar.muli arg1 c64_i32
  v60
def k0_off2 (i : grid0.Coords) : Fin 2 → Nat :=
  let arg1 : BitVec 32 := BitVec.ofNat 32 (i 1).val
  let c64_i32 : BitVec 32 := 64#32
  let v60 : BitVec 32 := Scalar.muli arg1 c64_i32
  let v61 : BitVec 32 := v60
  let v87 : Index := Scalar.indexCast v61
  let c0_54 : Index := 0#32
  ![v87.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c64_i32 : BitVec 32 := 64#32
  let v60 : BitVec 32 := Scalar.muli arg1 c64_i32
  v60
def k0_off3 (i : grid0.Coords) : Fin 2 → Nat :=
  let arg1 : BitVec 32 := BitVec.ofNat 32 (i 1).val
  let c64_i32 : BitVec 32 := 64#32
  let v60 : BitVec 32 := Scalar.muli arg1 c64_i32
  let v61 : BitVec 32 := v60
  let v87 : Index := Scalar.indexCast v61
  let c0_54 : Index := 0#32
  ![v87.toNat, 0]
def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c16_i32 : BitVec 32 := 16#32
  let v1 : BitVec 32 := Scalar.muli arg0 c16_i32
  let v2 : BitVec 32 := Scalar.addi v1 arg1
  let c143_i32 : BitVec 32 := 143#32
  let v3 : BitVec 32 := Scalar.select v0 v2 c143_i32
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c16_i32 : BitVec 32 := 16#32
  let v1 : BitVec 32 := Scalar.muli arg0 c16_i32
  let v2 : BitVec 32 := Scalar.addi v1 arg1
  let c143_i32 : BitVec 32 := 143#32
  let v3 : BitVec 32 := Scalar.select v0 v2 c143_i32
  let c0_i32 : BitVec 32 := 0#32
  let c0_i32_0 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c8_i32_0 : BitVec 32 := 8#32
  let v1 : BitVec 1 := Scalar.cmpi .slt v0 c8_i32_0
  let c2_i32 : BitVec 32 := 2#32
  let v2 : BitVec 32 := Scalar.divsi v0 c2_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v0 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_5 : BitVec 32 := 0#32
  let c2_i32_6 : BitVec 32 := 2#32
  let c0_i32_7 : BitVec 32 := 0#32
  let c0_i32_8 : BitVec 32 := 0#32
  let c0_i32_9 : BitVec 32 := 0#32
  ![c0_i32_5.toNat, c2_i32_6.toNat, v19.toNat, c0_i32_7.toNat, c0_i32_8.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c8_i32_0 : BitVec 32 := 8#32
  let v1 : BitVec 1 := Scalar.cmpi .slt v0 c8_i32_0
  let c2_i32 : BitVec 32 := 2#32
  let v2 : BitVec 32 := Scalar.divsi v0 c2_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v0 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_5 : BitVec 32 := 0#32
  let c3_i32 : BitVec 32 := 3#32
  let c0_i32_6 : BitVec 32 := 0#32
  let c0_i32_7 : BitVec 32 := 0#32
  let c0_i32_8 : BitVec 32 := 0#32
  ![c0_i32_5.toNat, c3_i32.toNat, v19.toNat, c0_i32_6.toNat, c0_i32_7.toNat]

def cc0_transform_6 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c8_i32_0 : BitVec 32 := 8#32
  let v1 : BitVec 1 := Scalar.cmpi .slt v0 c8_i32_0
  let c2_i32 : BitVec 32 := 2#32
  let v2 : BitVec 32 := Scalar.divsi v0 c2_i32
  let c0_i32 : BitVec 32 := 0#32
  let v3 : BitVec 1 := Scalar.cmpi .sgt v0 c0_i32
  let v4 : BitVec 32 := Scalar.extui v3
  let c0_i32_1 : BitVec 32 := 0#32
  let v5 : BitVec 1 := Scalar.cmpi .slt v0 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v0 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_5 : BitVec 32 := 0#32
  let c4_i32_6 : BitVec 32 := 4#32
  let c0_i32_7 : BitVec 32 := 0#32
  let c0_i32_8 : BitVec 32 := 0#32
  let c0_i32_9 : BitVec 32 := 0#32
  ![c0_i32_5.toNat, c4_i32_6.toNat, v19.toNat, c0_i32_7.toNat, c0_i32_8.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c16_i32 : BitVec 32 := 16#32
  let v1 : BitVec 32 := Scalar.muli arg0 c16_i32
  let v2 : BitVec 32 := Scalar.addi v1 arg1
  let c143_i32 : BitVec 32 := 143#32
  let v3 : BitVec 32 := Scalar.select v0 v2 c143_i32
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Ff1RefIdeal.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S4096x16384 : Shape := ⟨2, ![4096, 16384]⟩
abbrev S4x16384x4096 : Shape := ⟨3, ![4, 16384, 4096]⟩
abbrev S1x1x8x1x4096 : Shape := ⟨5, ![1, 1, 8, 1, 4096]⟩
abbrev S8x4096 : Shape := ⟨2, ![8, 4096]⟩
abbrev S4x1x4096 : Shape := ⟨3, ![4, 1, 4096]⟩
abbrev S4x2048x4096 : Shape := ⟨3, ![4, 2048, 4096]⟩
abbrev S8192x4096 : Shape := ⟨2, ![8192, 4096]⟩
abbrev S1x4096 : Shape := ⟨2, ![1, 4096]⟩
abbrev S1024x4096 : Shape := ⟨2, ![1024, 4096]⟩
abbrev S4096 : Shape := ⟨1, ![4096]⟩
abbrev S_ : Shape := ⟨0, ![]⟩
abbrev S9216 : Shape := ⟨1, ![9216]⟩
abbrev S9216x1 : Shape := ⟨2, ![9216, 1]⟩
abbrev S9216x16384 : Shape := ⟨2, ![9216, 16384]⟩
abbrev S1x16384x4096 : Shape := ⟨3, ![1, 16384, 4096]⟩
abbrev S16384x4096 : Shape := ⟨2, ![16384, 4096]⟩

abbrev nBuf : Space → Nat
  | .hbm => 90
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .bf16⟩
  | .hbm, ⟨2, _⟩ => ⟨S4x4096, .f32⟩
  | .hbm, ⟨3, _⟩ => ⟨S4x6x8x1x4096, .f32⟩
  | .hbm, ⟨4, _⟩ => ⟨S4x4096, .f32⟩
  | .hbm, ⟨5, _⟩ => ⟨S4096x16384, .bf16⟩
  | .hbm, ⟨6, _⟩ => ⟨S4x16384x4096, .f32⟩
  | .hbm, ⟨7, _⟩ => ⟨S1x1x8x1x4096, .f32⟩
  | .hbm, ⟨8, _⟩ => ⟨S8x4096, .f32⟩
  | .hbm, ⟨9, _⟩ => ⟨S4x4096, .f32⟩
  | .hbm, ⟨10, _⟩ => ⟨S4x1x4096, .f32⟩
  | .hbm, ⟨11, _⟩ => ⟨S4x2048x4096, .f32⟩
  | .hbm, ⟨12, _⟩ => ⟨S8192x4096, .f32⟩
  | .hbm, ⟨13, _⟩ => ⟨S1x4096, .f32⟩
  | .hbm, ⟨14, _⟩ => ⟨S1024x4096, .f32⟩
  | .hbm, ⟨15, _⟩ => ⟨S9216x4096, .f32⟩
  | .hbm, ⟨16, _⟩ => ⟨S9216x4096, .f32⟩
  | .hbm, ⟨17, _⟩ => ⟨S1x4096, .f32⟩
  | .hbm, ⟨18, _⟩ => ⟨S4096, .f32⟩
  | .hbm, ⟨19, _⟩ => ⟨S9216x4096, .f32⟩
  | .hbm, ⟨20, _⟩ => ⟨S_, .f32⟩
  | .hbm, ⟨21, _⟩ => ⟨S9216, .f32⟩
  | .hbm, ⟨22, _⟩ => ⟨S9216x1, .f32⟩
  | .hbm, ⟨23, _⟩ => ⟨S_, .f32⟩
  | .hbm, ⟨24, _⟩ => ⟨S9216x1, .f32⟩
  | .hbm, ⟨25, _⟩ => ⟨S9216x1, .f32⟩
  | .hbm, ⟨26, _⟩ => ⟨S_, .f32⟩
  | .hbm, ⟨27, _⟩ => ⟨S9216x1, .f32⟩
  | .hbm, ⟨28, _⟩ => ⟨S9216x1, .f32⟩
  | .hbm, ⟨29, _⟩ => ⟨S9216x1, .f32⟩
  | .hbm, ⟨30, _⟩ => ⟨S9216x4096, .f32⟩
  | .hbm, ⟨31, _⟩ => ⟨S9216x4096, .f32⟩
  | .hbm, ⟨32, _⟩ => ⟨S1x4096, .f32⟩
  | .hbm, ⟨33, _⟩ => ⟨S9216x4096, .f32⟩
  | .hbm, ⟨34, _⟩ => ⟨S9216x4096, .f32⟩
  | .hbm, ⟨35, _⟩ => ⟨S9216x4096, .f32⟩
  | .hbm, ⟨36, _⟩ => ⟨S9216x4096, .f32⟩
  | .hbm, ⟨37, _⟩ => ⟨S1x4096, .f32⟩
  | .hbm, ⟨38, _⟩ => ⟨S4096, .f32⟩
  | .hbm, ⟨39, _⟩ => ⟨S9216x4096, .f32⟩
  | .hbm, ⟨40, _⟩ => ⟨S_, .f32⟩
  | .hbm, ⟨41, _⟩ => ⟨S9216, .f32⟩
  | .hbm, ⟨42, _⟩ => ⟨S9216x1, .f32⟩
  | .hbm, ⟨43, _⟩ => ⟨S_, .f32⟩
  | .hbm, ⟨44, _⟩ => ⟨S9216x1, .f32⟩
  | .hbm, ⟨45, _⟩ => ⟨S9216x1, .f32⟩
  | .hbm, ⟨46, _⟩ => ⟨S_, .f32⟩
  | .hbm, ⟨47, _⟩ => ⟨S9216x1, .f32⟩
  | .hbm, ⟨48, _⟩ => ⟨S9216x1, .f32⟩
  | .hbm, ⟨49, _⟩ => ⟨S9216x1, .f32⟩
  | .hbm, ⟨50, _⟩ => ⟨S9216x4096, .f32⟩
  | .hbm, ⟨51, _⟩ => ⟨S9216x4096, .f32⟩
  | .hbm, ⟨52, _⟩ => ⟨S1x4096, .f32⟩
  | .hbm, ⟨53, _⟩ => ⟨S9216x4096, .f32⟩
  | .hbm, ⟨54, _⟩ => ⟨S9216x4096, .f32⟩
  | .hbm, ⟨55, _⟩ => ⟨S1x1x8x1x4096, .f32⟩
  | .hbm, ⟨56, _⟩ => ⟨S8x4096, .f32⟩
  | .hbm, ⟨57, _⟩ => ⟨S4x4096, .f32⟩
  | .hbm, ⟨58, _⟩ => ⟨S4x1x4096, .f32⟩
  | .hbm, ⟨59, _⟩ => ⟨S4x2048x4096, .f32⟩
  | .hbm, ⟨60, _⟩ => ⟨S8192x4096, .f32⟩
  | .hbm, ⟨61, _⟩ => ⟨S1x4096, .f32⟩
  | .hbm, ⟨62, _⟩ => ⟨S1024x4096, .f32⟩
  | .hbm, ⟨63, _⟩ => ⟨S9216x4096, .f32⟩
  | .hbm, ⟨64, _⟩ => ⟨S_, .f32⟩
  | .hbm, ⟨65, _⟩ => ⟨S9216x4096, .f32⟩
  | .hbm, ⟨66, _⟩ => ⟨S9216x4096, .f32⟩
  | .hbm, ⟨67, _⟩ => ⟨S9216x4096, .f32⟩
  | .hbm, ⟨68, _⟩ => ⟨S1x1x8x1x4096, .f32⟩
  | .hbm, ⟨69, _⟩ => ⟨S8x4096, .f32⟩
  | .hbm, ⟨70, _⟩ => ⟨S4x4096, .f32⟩
  | .hbm, ⟨71, _⟩ => ⟨S4x1x4096, .f32⟩
  | .hbm, ⟨72, _⟩ => ⟨S4x2048x4096, .f32⟩
  | .hbm, ⟨73, _⟩ => ⟨S8192x4096, .f32⟩
  | .hbm, ⟨74, _⟩ => ⟨S1x4096, .f32⟩
  | .hbm, ⟨75, _⟩ => ⟨S1024x4096, .f32⟩
  | .hbm, ⟨76, _⟩ => ⟨S9216x4096, .f32⟩
  | .hbm, ⟨77, _⟩ => ⟨S9216x4096, .f32⟩
  | .hbm, ⟨78, _⟩ => ⟨S9216x4096, .bf16⟩
  | .hbm, ⟨79, _⟩ => ⟨S9216x4096, .f32⟩
  | .hbm, ⟨80, _⟩ => ⟨S4096x16384, .f32⟩
  | .hbm, ⟨81, _⟩ => ⟨S9216x16384, .f32⟩
  | .hbm, ⟨82, _⟩ => ⟨S_, .f32⟩
  | .hbm, ⟨83, _⟩ => ⟨S9216x16384, .f32⟩
  | .hbm, ⟨84, _⟩ => ⟨S9216x16384, .f32⟩
  | .hbm, ⟨85, _⟩ => ⟨S9216x16384, .f32⟩
  | .hbm, ⟨86, _⟩ => ⟨S9216x16384, .bf16⟩
  | .hbm, ⟨87, _⟩ => ⟨S1x16384x4096, .f32⟩
  | .hbm, ⟨88, _⟩ => ⟨S16384x4096, .f32⟩
  | .hbm, ⟨89, _⟩ => ⟨S16384x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_call0_cst : Ref sig .tc := ⟨.hbm, 82, rfl⟩
abbrev main_call0_v0 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩
abbrev S9216x1280 : Shape := ⟨2, ![9216, 1280]⟩
abbrev S4x1024x4096 : Shape := ⟨3, ![4, 1024, 4096]⟩
abbrev S4x2048x4096 : Shape := ⟨3, ![4, 2048, 4096]⟩
abbrev S4x512x12288 : Shape := ⟨3, ![4, 512, 12288]⟩
abbrev S4x12288 : Shape := ⟨2, ![4, 12288]⟩
abbrev S4x1x12288 : Shape := ⟨3, ![4, 1, 12288]⟩
abbrev S9216x4096 : Shape := ⟨2, ![9216, 4096]⟩
abbrev S512x1024 : Shape := ⟨2, ![512, 1024]⟩
abbrev S512x2048 : Shape := ⟨2, ![512, 2048]⟩
abbrev S512x512 : Shape := ⟨2, ![512, 512]⟩
abbrev S1x1024x512 : Shape := ⟨3, ![1, 1024, 512]⟩
abbrev S1x2048x512 : Shape := ⟨3, ![1, 2048, 512]⟩
abbrev S1x512x512 : Shape := ⟨3, ![1, 512, 512]⟩
abbrev S1x1x512 : Shape := ⟨3, ![1, 1, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 14
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1024x1024, .bf16⟩
  | .hbm, ⟨4, _⟩ => ⟨S1024x1024, .bf16⟩
  | .hbm, ⟨5, _⟩ => ⟨S1024x2048, .bf16⟩
  | .hbm, ⟨6, _⟩ => ⟨S9216x1280, .bf16⟩
  | .hbm, ⟨7, _⟩ => ⟨S4x1024x4096, .bf16⟩
  | .hbm, ⟨8, _⟩ => ⟨S4x1024x4096, .bf16⟩
  | .hbm, ⟨9, _⟩ => ⟨S4x2048x4096, .bf16⟩
  | .hbm, ⟨10, _⟩ => ⟨S4x512x12288, .bf16⟩
  | .hbm, ⟨11, _⟩ => ⟨S4x12288, .f32⟩
  | .hbm, ⟨12, _⟩ => ⟨S4x1x12288, .f32⟩
  | .hbm, ⟨13, _⟩ => ⟨S9216x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x512, .bf16⟩
  | .local _ .vmem, ⟨13, _⟩ => ⟨S512x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x2048x512, .bf16⟩
  | .local _ .vmem, ⟨19, _⟩ => ⟨S1x2048x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S512x512, .bf16⟩
  | .local _ .vmem, ⟨33, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let c0_i32 : BitVec 32 := 0#32
  let c0_i32_0 : BitVec 32 := 0#32
  ![c1_i32.toNat, c0_i32.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let c0_i32 : BitVec 32 := 0#32
  let c0_i32_0 : BitVec 32 := 0#32
  ![c1_i32.toNat, c0_i32.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeRefIdeal.lean ====
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩
abbrev S9216x1280 : Shape := ⟨2, ![9216, 1280]⟩
abbrev S4x1024x4096 : Shape := ⟨3, ![4, 1024, 4096]⟩
abbrev S4x2048x4096 : Shape := ⟨3, ![4, 2048, 4096]⟩
abbrev S4x512x12288 : Shape := ⟨3, ![4, 512, 12288]⟩
abbrev S4x12288 : Shape := ⟨2, ![4, 12288]⟩
abbrev S9216x1024 : Shape := ⟨2, ![9216, 1024]⟩
abbrev S1x1024x4096 : Shape := ⟨3, ![1, 1024, 4096]⟩
abbrev S1024x4096 : Shape := ⟨2, ![1024, 4096]⟩
abbrev S9216x4096 : Shape := ⟨2, ![9216, 4096]⟩
abbrev S9216x2048 : Shape := ⟨2, ![9216, 2048]⟩
abbrev S1x2048x4096 : Shape := ⟨3, ![1, 2048, 4096]⟩
abbrev S2048x4096 : Shape := ⟨2, ![2048, 4096]⟩
abbrev S9216x512 : Shape := ⟨2, ![9216, 512]⟩
abbrev S1x512x12288 : Shape := ⟨3, ![1, 512, 12288]⟩
abbrev S512x12288 : Shape := ⟨2, ![512, 12288]⟩
abbrev S9216x12288 : Shape := ⟨2, ![9216, 12288]⟩
abbrev S1x12288 : Shape := ⟨2, ![1, 12288]⟩
abbrev S12288 : Shape := ⟨1, ![12288]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S1024x1024, .bf16⟩
  | .hbm, ⟨4, _⟩ => ⟨S1024x1024, .bf16⟩
  | .hbm, ⟨5, _⟩ => ⟨S1024x2048, .bf16⟩
  | .hbm, ⟨6, _⟩ => ⟨S9216x1280, .bf16⟩
  | .hbm, ⟨7, _⟩ => ⟨S4x1024x4096, .bf16⟩
  | .hbm, ⟨8, _⟩ => ⟨S4x1024x4096, .bf16⟩
  | .hbm, ⟨9, _⟩ => ⟨S4x2048x4096, .bf16⟩
  | .hbm, ⟨10, _⟩ => ⟨S4x512x12288, .bf16⟩
  | .hbm, ⟨11, _⟩ => ⟨S4x12288, .f32⟩
  | .hbm, ⟨12, _⟩ => ⟨S8192x1024, .f32⟩
  | .hbm, ⟨13, _⟩ => ⟨S1024x1024, .f32⟩
  | .hbm, ⟨14, _⟩ => ⟨S9216x1024, .f32⟩
  | .hbm, ⟨15, _⟩ => ⟨S1x1024x4096, .bf16⟩
  | .hbm, ⟨16, _⟩ => ⟨S1024x4096, .bf16⟩
  | .hbm, ⟨17, _⟩ => ⟨S1024x4096, .f32⟩
  | .hbm, ⟨18, _⟩ => ⟨S9216x4096, .f32⟩
  | .hbm, ⟨19, _⟩ => ⟨S8192x1024, .f32⟩
  | .hbm, ⟨20, _⟩ => ⟨S1024x1024, .f32⟩
  | .hbm, ⟨21, _⟩ => ⟨S9216x1024, .f32⟩
  | .hbm, ⟨22, _⟩ => ⟨S1x1024x4096, .bf16⟩
  | .hbm, ⟨23, _⟩ => ⟨S1024x4096, .bf16⟩
  | .hbm, ⟨24, _⟩ => ⟨S1024x4096, .f32⟩
  | .hbm, ⟨25, _⟩ => ⟨S9216x4096, .f32⟩
  | .hbm, ⟨26, _⟩ => ⟨S8192x2048, .f32⟩
  | .hbm, ⟨27, _⟩ => ⟨S1024x2048, .f32⟩
  | .hbm, ⟨28, _⟩ => ⟨S9216x2048, .f32⟩
  | .hbm, ⟨29, _⟩ => ⟨S1x2048x4096, .bf16⟩
  | .hbm, ⟨30, _⟩ => ⟨S2048x4096, .bf16⟩
  | .hbm, ⟨31, _⟩ => ⟨S2048x4096, .f32⟩
  | .hbm, ⟨32, _⟩ => ⟨S9216x4096, .f32⟩
  | .hbm, ⟨33, _⟩ => ⟨S9216x512, .bf16⟩
  | .hbm, ⟨34, _⟩ => ⟨S9216x512, .f32⟩
  | .hbm, ⟨35, _⟩ => ⟨S1x512x12288, .bf16⟩
  | .hbm, ⟨36, _⟩ => ⟨S512x12288, .bf16⟩
  | .hbm, ⟨37, _⟩ => ⟨S512x12288, .f32⟩
  | .hbm, ⟨38, _⟩ => ⟨S9216x12288, .f32⟩
  | .hbm, ⟨39, _⟩ => ⟨S1x12288, .f32⟩
  | .hbm, ⟨40, _⟩ => ⟨S12288, .f32⟩
  | .hbm, ⟨41, _⟩ => ⟨S1x12288, .f32⟩
  | .hbm, ⟨42, _⟩ => ⟨S9216x12288, .f32⟩
  | .hbm, ⟨43, _⟩ => ⟨S9216x12288, .f32⟩
  | .hbm, ⟨44, _⟩ => ⟨S9216x12288, .f32⟩
  | .hbm, ⟨45, _⟩ => ⟨S9216x12288, .f32⟩
  | .hbm, ⟨46, _⟩ => ⟨S_, .f32⟩
  | .hbm, ⟨47, _⟩ => ⟨S9216x12288, .f32⟩
  | .hbm, ⟨48, _⟩ => ⟨S9216x12288, .f32⟩
  | .hbm, ⟨49, _⟩ => ⟨S_, .f32⟩
  | .hbm, ⟨50, _⟩ => ⟨S9216x12288, .f32⟩
  | .hbm, ⟨51, _⟩ => ⟨S9216x12288, .f32⟩
  | .hbm, ⟨52, _⟩ => ⟨S9216x4096, .f32⟩
  | .hbm, ⟨53, _⟩ => ⟨S9216x4096, .f32⟩
  | .hbm, ⟨54, _⟩ => ⟨S9216x4096, .f32⟩
  | .hbm, ⟨55, _⟩ => ⟨S9216x4096, .f32⟩
  | .hbm, ⟨56, _⟩ => ⟨S9216x4096, .f32⟩
  | .hbm, ⟨57, _⟩ => ⟨S9216x4096, .f32⟩
  | .hbm, ⟨58, _⟩ => ⟨S9216x4096, .f32⟩
  | .hbm, ⟨59, _⟩ => ⟨S9216x4096, .f32⟩
  | .hbm, ⟨60, _⟩ => ⟨S9216x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== InTail.lean ====
abbrev S9216x4096 : Shape := ⟨2, ![9216, 4096]⟩
abbrev S4x4096x512 : Shape := ⟨3, ![4, 4096, 512]⟩
abbrev S4x4096x4672 : Shape := ⟨3, ![4, 4096, 4672]⟩
abbrev S64 : Shape := ⟨1, ![64]⟩
abbrev S4x4096x64 : Shape := ⟨3, ![4, 4096, 64]⟩
abbrev S_ : Shape := ⟨0, ![]⟩
abbrev S64x1 : Shape := ⟨2, ![64, 1]⟩
abbrev S4x4096x128 : Shape := ⟨3, ![4, 4096, 128]⟩
abbrev S4x4096x1280 : Shape := ⟨3, ![4, 4096, 1280]⟩
abbrev S9216x1280 : Shape := ⟨2, ![9216, 1280]⟩
abbrev S1024x4096 : Shape := ⟨2, ![1024, 4096]⟩
abbrev S1x4096x1280 : Shape := ⟨3, ![1, 4096, 1280]⟩
abbrev S1024x1280 : Shape := ⟨2, ![1024, 1280]⟩
abbrev S4096x1280 : Shape := ⟨2, ![4096, 1280]⟩

abbrev nBuf : Space → Nat
  | .hbm => 20
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S4x4096x512, .f32⟩
  | .hbm, ⟨2, _⟩ => ⟨S4x4096x4672, .bf16⟩
  | .hbm, ⟨3, _⟩ => ⟨S64, .i32⟩
  | .hbm, ⟨4, _⟩ => ⟨S4x4096x64, .bf16⟩
  | .hbm, ⟨5, _⟩ => ⟨S4x4096x512, .bf16⟩
  | .hbm, ⟨6, _⟩ => ⟨S4x4096x512, .bf16⟩
  | .hbm, ⟨7, _⟩ => ⟨S_, .i32⟩
  | .hbm, ⟨8, _⟩ => ⟨S64, .i32⟩
  | .hbm, ⟨9, _⟩ => ⟨S64, .i1⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64x1, .i32⟩
  | .hbm, ⟨15, _⟩ => ⟨S4x4096x64, .bf16⟩
  | .hbm, ⟨16, _⟩ => ⟨S_, .bf16⟩
  | .hbm, ⟨17, _⟩ => ⟨S4x4096x128, .bf16⟩
  | .hbm, ⟨18, _⟩ => ⟨S4x4096x1280, .bf16⟩
  | .hbm, ⟨19, _⟩ => ⟨S9216x1280, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1280, .bf16⟩
  | .local _ .vmem, ⟨3, _⟩ => ⟨S1024x1280, .bf16⟩
  | .local _ .vmem, ⟨4, _⟩ => ⟨S1024x1280, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTailRefIdeal.lean ====
abbrev S9216x4096 : Shape := ⟨2, ![9216, 4096]⟩
abbrev S4x4096x512 : Shape := ⟨3, ![4, 4096, 512]⟩
abbrev S4x4096x4672 : Shape := ⟨3, ![4, 4096, 4672]⟩
abbrev S1x4096x512 : Shape := ⟨3, ![1, 4096, 512]⟩
abbrev S4096x512 : Shape := ⟨2, ![4096, 512]⟩
abbrev S9216x512 : Shape := ⟨2, ![9216, 512]⟩
abbrev S1x4096x576 : Shape := ⟨3, ![1, 4096, 576]⟩
abbrev S4096x576 : Shape := ⟨2, ![4096, 576]⟩
abbrev S9216x576 : Shape := ⟨2, ![9216, 576]⟩
abbrev S9216x64 : Shape := ⟨2, ![9216, 64]⟩
abbrev S9216x16 : Shape := ⟨2, ![9216, 16]⟩
abbrev S_ : Shape := ⟨0, ![]⟩
abbrev S9216x128 : Shape := ⟨2, ![9216, 128]⟩
abbrev S9216x1280 : Shape := ⟨2, ![9216, 1280]⟩

abbrev nBuf : Space → Nat
  | .hbm => 23
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4x4096x512, .f32⟩
  | .hbm, ⟨2, _⟩ => ⟨S4x4096x4672, .bf16⟩
  | .hbm, ⟨3, _⟩ => ⟨S9216x4096, .f32⟩
  | .hbm, ⟨4, _⟩ => ⟨S1x4096x512, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S9216x512, .f32⟩
  | .hbm, ⟨9, _⟩ => ⟨S1x4096x576, .bf16⟩
  | .hbm, ⟨10, _⟩ => ⟨S4096x576, .bf16⟩
  | .hbm, ⟨11, _⟩ => ⟨S4096x576, .f32⟩
  | .hbm, ⟨12, _⟩ => ⟨S9216x576, .f32⟩
  | .hbm, ⟨13, _⟩ => ⟨S9216x64, .f32⟩
  | .hbm, ⟨14, _⟩ => ⟨S9216x16, .f32⟩
  | .hbm, ⟨15, _⟩ => ⟨S9216x16, .f32⟩
  | .hbm, ⟨16, _⟩ => ⟨S9216x16, .f32⟩
  | .hbm, ⟨17, _⟩ => ⟨S9216x16, .f32⟩
  | .hbm, ⟨18, _⟩ => ⟨S9216x64, .f32⟩
  | .hbm, ⟨19, _⟩ => ⟨S_, .f32⟩
  | .hbm, ⟨20, _⟩ => ⟨S9216x128, .f32⟩
  | .hbm, ⟨21, _⟩ => ⟨S9216x1280, .f32⟩
  | .hbm, ⟨22, _⟩ => ⟨S9216x1280, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== KvProj.lean ====
abbrev S9216x512 : Shape := ⟨2, ![9216, 512]⟩
abbrev S9216x64 : Shape := ⟨2, ![9216, 64]⟩
abbrev S2048x2x16 : Shape := ⟨3, ![2048, 2, 16]⟩
abbrev S4x512 : Shape := ⟨2, ![4, 512]⟩
abbrev S4x512x4096 : Shape := ⟨3, ![4, 512, 4096]⟩
abbrev S9216x16 : Shape := ⟨2, ![9216, 16]⟩
abbrev S_ : Shape := ⟨0, ![]⟩
abbrev S9216x128 : Shape := ⟨2, ![9216, 128]⟩
abbrev S9216x1280 : Shape := ⟨2, ![9216, 1280]⟩
abbrev S4x512x16x256 : Shape := ⟨4, ![4, 512, 16, 256]⟩
abbrev S4x512x16x128 : Shape := ⟨4, ![4, 512, 16, 128]⟩
abbrev S4x512x2048 : Shape := ⟨3, ![4, 512, 2048]⟩
abbrev S4x1x512 : Shape := ⟨3, ![4, 1, 512]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S2048x128 : Shape := ⟨2, ![2048, 128]⟩
abbrev S512x64 : Shape := ⟨2, ![512, 64]⟩
abbrev S512x128 : Shape := ⟨2, ![512, 128]⟩
abbrev S2560x128 : Shape := ⟨2, ![2560, 128]⟩
abbrev S9216x4096 : Shape := ⟨2, ![9216, 4096]⟩
abbrev S512x512 : Shape := ⟨2, ![512, 512]⟩
abbrev S1x1x512 : Shape := ⟨3, ![1, 1, 512]⟩
abbrev S1x512x2048 : Shape := ⟨3, ![1, 512, 2048]⟩
abbrev S512x4096 : Shape := ⟨2, ![512, 4096]⟩
abbrev S1x512 : Shape := ⟨2, ![1, 512]⟩
abbrev S512 : Shape := ⟨1, ![512]⟩
abbrev S512x1 : Shape := ⟨2, ![512, 1]⟩
abbrev S512x2048 : Shape := ⟨2, ![512, 2048]⟩

abbrev nBuf : Space → Nat
  | .hbm => 42
  | .vmem => 13
  | .smem => 0
  | _ => 0

abbrev bufTy : (tb : Table) → Fin (tcTables nBuf tb) → BufTy
  | .hbm, ⟨0, _⟩ => ⟨S9216x512, .bf16⟩
  | .hbm, ⟨1, _⟩ => ⟨S9216x64, .bf16⟩
  | .hbm, ⟨2, _⟩ => ⟨S2048x2x16, .f32⟩
  | .hbm, ⟨3, _⟩ => ⟨S2048x2x16, .f32⟩
  | .hbm, ⟨4, _⟩ => ⟨S4x512, .f32⟩
  | .hbm, ⟨5, _⟩ => ⟨S4x512x4096, .f32⟩
  | .hbm, ⟨6, _⟩ => ⟨S9216x16, .bf16⟩
  | .hbm, ⟨7, _⟩ => ⟨S9216x16, .bf16⟩
  | .hbm, ⟨8, _⟩ => ⟨S9216x16, .bf16⟩
  | .hbm, ⟨9, _⟩ => ⟨S9216x16, .bf16⟩
  | .hbm, ⟨10, _⟩ => ⟨S9216x64, .bf16⟩
  | .hbm, ⟨11, _⟩ => ⟨S_, .bf16⟩
  | .hbm, ⟨12, _⟩ => ⟨S9216x512, .bf16⟩
  | .hbm, ⟨13, _⟩ => ⟨S_, .bf16⟩
  | .hbm, ⟨14, _⟩ => ⟨S9216x128, .bf16⟩
  | .hbm, ⟨15, _⟩ => ⟨S9216x1280, .bf16⟩
  | .hbm, ⟨16, _⟩ => ⟨S4x512x16x256, .f32⟩
  | .hbm, ⟨17, _⟩ => ⟨S4x512x16x128, .f32⟩
  | .hbm, ⟨18, _⟩ => ⟨S4x512x2048, .f32⟩
  | .hbm, ⟨19, _⟩ => ⟨S4x512x16x128, .f32⟩
  | .hbm, ⟨20, _⟩ => ⟨S4x512x2048, .f32⟩
  | .hbm, ⟨21, _⟩ => ⟨S4x512x4096, .f32⟩
  | .hbm, ⟨22, _⟩ => ⟨S4x512x4096, .bf16⟩
  | .hbm, ⟨23, _⟩ => ⟨S4x1x512, .f32⟩
  | .hbm, ⟨24, _⟩ => ⟨S2048x2x1x16, .f32⟩
  | .hbm, ⟨25, _⟩ => ⟨S2048x2x1x16, .f32⟩
  | .hbm, ⟨26, _⟩ => ⟨S2048x2x2x16, .f32⟩
  | .hbm, ⟨27, _⟩ => ⟨S2048x64, .f32⟩
  | .hbm, ⟨28, _⟩ => ⟨S2048x2x16, .f32⟩
  | .hbm, ⟨29, _⟩ => ⟨S2048x2x1x16, .f32⟩
  | .hbm, ⟨30, _⟩ => ⟨S2048x2x1x16, .f32⟩
  | .hbm, ⟨31, _⟩ => ⟨S2048x2x2x16, .f32⟩
  | .hbm, ⟨32, _⟩ => ⟨S2048x64, .f32⟩
  | .hbm, ⟨33, _⟩ => ⟨S2048x128, .f32⟩
  | .hbm, ⟨34, _⟩ => ⟨S_, .f32⟩
  | .hbm, ⟨35, _⟩ => ⟨S512x64, .f32⟩
  | .hbm, ⟨36, _⟩ => ⟨S_, .f32⟩
  | .hbm, ⟨37, _⟩ => ⟨S512x64, .f32⟩
  | .hbm, ⟨38, _⟩ => ⟨S512x128, .f32⟩
  | .hbm, ⟨39, _⟩ => ⟨S2560x128, .f32⟩
  | .hbm, ⟨40, _⟩ => ⟨S9216x4096, .bf16⟩
  | .hbm, ⟨41, _⟩ => ⟨S9216x4096, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S1x1x512, .f32⟩
  | .local _ .vmem, ⟨7, _⟩ => ⟨S1x512x2048, .bf16⟩
  | .local _ .vmem, ⟨8, _⟩ => ⟨S1x512x2048, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvProjRefIdeal.lean ====
abbrev S9216x512 : Shape := ⟨2, ![9216, 512]⟩
abbrev S9216x64 : Shape := ⟨2, ![9216, 64]⟩
abbrev S2048x2x16 : Shape := ⟨3, ![2048, 2, 16]⟩
abbrev S4x512 : Shape := ⟨2, ![4, 512]⟩
abbrev S4x512x4096 : Shape := ⟨3, ![4, 512, 4096]⟩
abbrev S1x512 : Shape := ⟨2, ![1, 512]⟩
abbrev S512 : Shape := ⟨1, ![512]⟩
abbrev S_ : Shape := ⟨0, ![]⟩
abbrev S9216 : Shape := ⟨1, ![9216]⟩
abbrev S9216x1 : Shape := ⟨2, ![9216, 1]⟩
abbrev S1x512x4096 : Shape := ⟨3, ![1, 512, 4096]⟩
abbrev S512x4096 : Shape := ⟨2, ![512, 4096]⟩
abbrev S9216x4096 : Shape := ⟨2, ![9216, 4096]⟩
abbrev S9216x16x256 : Shape := ⟨3, ![9216, 16, 256]⟩
abbrev S9216x16x128 : Shape := ⟨3, ![9216, 16, 128]⟩
abbrev S8192x64 : Shape := ⟨2, ![8192, 64]⟩
abbrev S4x2048x64 : Shape := ⟨3, ![4, 2048, 64]⟩
abbrev S4x2048x2x2x16 : Shape := ⟨5, ![4, 2048, 2, 2, 16]⟩
abbrev S4x2048x2x1x16 : Shape := ⟨5, ![4, 2048, 2, 1, 16]⟩
abbrev S4x2048x2x16 : Shape := ⟨4, ![4, 2048, 2, 16]⟩
abbrev S1x2048x2x16 : Shape := ⟨4, ![1, 2048, 2, 16]⟩
abbrev S1024x64 : Shape := ⟨2, ![1024, 64]⟩
abbrev S9216x1x64 : Shape := ⟨3, ![9216, 1, 64]⟩
abbrev S9216x16x64 : Shape := ⟨3, ![9216, 16, 64]⟩

abbrev nBuf : Space → Nat
  | .hbm => 76
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x64, .bf16⟩
  | .hbm, ⟨2, _⟩ => ⟨S2048x2x16, .f32⟩
  | .hbm, ⟨3, _⟩ => ⟨S2048x2x16, .f32⟩
  | .hbm, ⟨4, _⟩ => ⟨S4x512, .f32⟩
  | .hbm, ⟨5, _⟩ => ⟨S4x512x4096, .f32⟩
  | .hbm, ⟨6, _⟩ => ⟨S9216x512, .f32⟩
  | .hbm, ⟨7, _⟩ => ⟨S1x512, .f32⟩
  | .hbm, ⟨8, _⟩ => ⟨S512, .f32⟩
  | .hbm, ⟨9, _⟩ => ⟨S9216x512, .f32⟩
  | .hbm, ⟨10, _⟩ => ⟨S_, .f32⟩
  | .hbm, ⟨11, _⟩ => ⟨S9216, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x1, .f32⟩
  | .hbm, ⟨20, _⟩ => ⟨S9216x512, .f32⟩
  | .hbm, ⟨21, _⟩ => ⟨S9216x512, .f32⟩
  | .hbm, ⟨22, _⟩ => ⟨S1x512, .f32⟩
  | .hbm, ⟨23, _⟩ => ⟨S9216x512, .f32⟩
  | .hbm, ⟨24, _⟩ => ⟨S9216x512, .f32⟩
  | .hbm, ⟨25, _⟩ => ⟨S9216x512, .bf16⟩
  | .hbm, ⟨26, _⟩ => ⟨S9216x512, .f32⟩
  | .hbm, ⟨27, _⟩ => ⟨S1x512x4096, .f32⟩
  | .hbm, ⟨28, _⟩ => ⟨S512x4096, .f32⟩
  | .hbm, ⟨29, _⟩ => ⟨S512x4096, .bf16⟩
  | .hbm, ⟨30, _⟩ => ⟨S512x4096, .f32⟩
  | .hbm, ⟨31, _⟩ => ⟨S9216x4096, .f32⟩
  | .hbm, ⟨32, _⟩ => ⟨S9216x16x256, .f32⟩
  | .hbm, ⟨33, _⟩ => ⟨S9216x16x128, .f32⟩
  | .hbm, ⟨34, _⟩ => ⟨S9216x16x128, .f32⟩
  | .hbm, ⟨35, _⟩ => ⟨S9216x64, .f32⟩
  | .hbm, ⟨36, _⟩ => ⟨S8192x64, .f32⟩
  | .hbm, ⟨37, _⟩ => ⟨S4x2048x64, .f32⟩
  | .hbm, ⟨38, _⟩ => ⟨S4x2048x2x2x16, .f32⟩
  | .hbm, ⟨39, _⟩ => ⟨S4x2048x2x1x16, .f32⟩
  | .hbm, ⟨40, _⟩ => ⟨S4x2048x2x16, .f32⟩
  | .hbm, ⟨41, _⟩ => ⟨S4x2048x2x1x16, .f32⟩
  | .hbm, ⟨42, _⟩ => ⟨S4x2048x2x16, .f32⟩
  | .hbm, ⟨43, _⟩ => ⟨S1x2048x2x16, .f32⟩
  | .hbm, ⟨44, _⟩ => ⟨S4x2048x2x16, .f32⟩
  | .hbm, ⟨45, _⟩ => ⟨S4x2048x2x16, .f32⟩
  | .hbm, ⟨46, _⟩ => ⟨S1x2048x2x16, .f32⟩
  | .hbm, ⟨47, _⟩ => ⟨S4x2048x2x16, .f32⟩
  | .hbm, ⟨48, _⟩ => ⟨S4x2048x2x16, .f32⟩
  | .hbm, ⟨49, _⟩ => ⟨S4x2048x2x16, .f32⟩
  | .hbm, ⟨50, _⟩ => ⟨S1x2048x2x16, .f32⟩
  | .hbm, ⟨51, _⟩ => ⟨S4x2048x2x16, .f32⟩
  | .hbm, ⟨52, _⟩ => ⟨S4x2048x2x16, .f32⟩
  | .hbm, ⟨53, _⟩ => ⟨S1x2048x2x16, .f32⟩
  | .hbm, ⟨54, _⟩ => ⟨S4x2048x2x16, .f32⟩
  | .hbm, ⟨55, _⟩ => ⟨S4x2048x2x16, .f32⟩
  | .hbm, ⟨56, _⟩ => ⟨S4x2048x2x16, .f32⟩
  | .hbm, ⟨57, _⟩ => ⟨S4x2048x2x1x16, .f32⟩
  | .hbm, ⟨58, _⟩ => ⟨S4x2048x2x1x16, .f32⟩
  | .hbm, ⟨59, _⟩ => ⟨S4x2048x2x2x16, .f32⟩
  | .hbm, ⟨60, _⟩ => ⟨S4x2048x64, .f32⟩
  | .hbm, ⟨61, _⟩ => ⟨S8192x64, .f32⟩
  | .hbm, ⟨62, _⟩ => ⟨S1024x64, .f32⟩
  | .hbm, ⟨63, _⟩ => ⟨S9216x64, .f32⟩
  | .hbm, ⟨64, _⟩ => ⟨S9216x1x64, .f32⟩
  | .hbm, ⟨65, _⟩ => ⟨S9216x16x64, .f32⟩
  | .hbm, ⟨66, _⟩ => ⟨S_, .f32⟩
  | .hbm, ⟨67, _⟩ => ⟨S9216x16x64, .f32⟩
  | .hbm, ⟨68, _⟩ => ⟨S9216x16x256, .f32⟩
  | .hbm, ⟨69, _⟩ => ⟨S9216x4096, .f32⟩
  | .hbm, ⟨70, _⟩ => ⟨S_, .f32⟩
  | .hbm, ⟨71, _⟩ => ⟨S9216x16x128, .f32⟩
  | .hbm, ⟨72, _⟩ => ⟨S9216x16x256, .f32⟩
  | .hbm, ⟨73, _⟩ => ⟨S9216x4096, .f32⟩
  | .hbm, ⟨74, _⟩ => ⟨S9216x4096, .bf16⟩
  | .hbm, ⟨75, _⟩ => ⟨S9216x4096, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_3 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩

abbrev nD : Nat := 1
abbrev τ : Topo := Topo.v7x

variable {F : FTy → Type} [FloatOps F]
-- ==== QProj.lean ====
abbrev S9216x4096 : Shape := ⟨2, ![9216, 4096]⟩
abbrev S2048x2x16 : Shape := ⟨3, ![2048, 2, 16]⟩
abbrev S4x1024 : Shape := ⟨2, ![4, 1024]⟩
abbrev S4x1024x3072 : Shape := ⟨3, ![4, 1024, 3072]⟩
abbrev S64 : Shape := ⟨1, ![64]⟩
abbrev S4x1024x16x192 : Shape := ⟨4, ![4, 1024, 16, 192]⟩
abbrev S4x1024x16x64 : Shape := ⟨4, ![4, 1024, 16, 64]⟩
abbrev S4x1024x16x128 : Shape := ⟨4, ![4, 1024, 16, 128]⟩
abbrev S_ : Shape := ⟨0, ![]⟩
abbrev S64x1 : Shape := ⟨2, ![64, 1]⟩
abbrev S4x1024x16x256 : Shape := ⟨4, ![4, 1024, 16, 256]⟩
abbrev S4x1024x4096 : Shape := ⟨3, ![4, 1024, 4096]⟩
abbrev S4x1x1024 : Shape := ⟨3, ![4, 1, 1024]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S2048x128 : Shape := ⟨2, ![2048, 128]⟩
abbrev S512x64 : Shape := ⟨2, ![512, 64]⟩
abbrev S512x128 : Shape := ⟨2, ![512, 128]⟩
abbrev S2560x128 : Shape := ⟨2, ![2560, 128]⟩
abbrev S512x1024 : Shape := ⟨2, ![512, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 39
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S2048x2x16, .f32⟩
  | .hbm, ⟨2, _⟩ => ⟨S2048x2x16, .f32⟩
  | .hbm, ⟨3, _⟩ => ⟨S4x1024, .f32⟩
  | .hbm, ⟨4, _⟩ => ⟨S4x1024x3072, .f32⟩
  | .hbm, ⟨5, _⟩ => ⟨S64, .i32⟩
  | .hbm, ⟨6, _⟩ => ⟨S4x1024x16x192, .f32⟩
  | .hbm, ⟨7, _⟩ => ⟨S4x1024x16x64, .f32⟩
  | .hbm, ⟨8, _⟩ => ⟨S4x1024x16x128, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S4x1024x16x64, .f32⟩
  | .hbm, ⟨18, _⟩ => ⟨S4x1024x16x256, .f32⟩
  | .hbm, ⟨19, _⟩ => ⟨S4x1024x4096, .f32⟩
  | .hbm, ⟨20, _⟩ => ⟨S4x1024x4096, .bf16⟩
  | .hbm, ⟨21, _⟩ => ⟨S4x1x1024, .f32⟩
  | .hbm, ⟨22, _⟩ => ⟨S2048x2x1x16, .f32⟩
  | .hbm, ⟨23, _⟩ => ⟨S2048x2x1x16, .f32⟩
  | .hbm, ⟨24, _⟩ => ⟨S2048x2x2x16, .f32⟩
  | .hbm, ⟨25, _⟩ => ⟨S2048x64, .f32⟩
  | .hbm, ⟨26, _⟩ => ⟨S2048x2x16, .f32⟩
  | .hbm, ⟨27, _⟩ => ⟨S2048x2x1x16, .f32⟩
  | .hbm, ⟨28, _⟩ => ⟨S2048x2x1x16, .f32⟩
  | .hbm, ⟨29, _⟩ => ⟨S2048x2x2x16, .f32⟩
  | .hbm, ⟨30, _⟩ => ⟨S2048x64, .f32⟩
  | .hbm, ⟨31, _⟩ => ⟨S2048x128, .f32⟩
  | .hbm, ⟨32, _⟩ => ⟨S_, .f32⟩
  | .hbm, ⟨33, _⟩ => ⟨S512x64, .f32⟩
  | .hbm, ⟨34, _⟩ => ⟨S_, .f32⟩
  | .hbm, ⟨35, _⟩ => ⟨S512x64, .f32⟩
  | .hbm, ⟨36, _⟩ => ⟨S512x128, .f32⟩
  | .hbm, ⟨37, _⟩ => ⟨S2560x128, .f32⟩
  | .hbm, ⟨38, _⟩ => ⟨S9216x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024, .f32⟩
  | .local _ .vmem, ⟨3, _⟩ => ⟨S512x128, .f32⟩
  | .local _ .vmem, ⟨4, _⟩ => ⟨S512x128, .f32⟩
  | .local _ .vmem, ⟨5, _⟩ => ⟨S1x1024x1024, .bf16⟩
  | .local _ .vmem, ⟨6, _⟩ => ⟨S1x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QProjRefIdeal.lean ====
abbrev S9216x4096 : Shape := ⟨2, ![9216, 4096]⟩
abbrev S2048x2x16 : Shape := ⟨3, ![2048, 2, 16]⟩
abbrev S4x1024 : Shape := ⟨2, ![4, 1024]⟩
abbrev S4x1024x3072 : Shape := ⟨3, ![4, 1024, 3072]⟩
abbrev S9216x1024 : Shape := ⟨2, ![9216, 1024]⟩
abbrev S1x1024 : Shape := ⟨2, ![1, 1024]⟩
abbrev S1024 : Shape := ⟨1, ![1024]⟩
abbrev S_ : Shape := ⟨0, ![]⟩
abbrev S9216 : Shape := ⟨1, ![9216]⟩
abbrev S9216x1 : Shape := ⟨2, ![9216, 1]⟩
abbrev S1x1024x3072 : Shape := ⟨3, ![1, 1024, 3072]⟩
abbrev S1024x3072 : Shape := ⟨2, ![1024, 3072]⟩
abbrev S9216x3072 : Shape := ⟨2, ![9216, 3072]⟩
abbrev S9216x16x192 : Shape := ⟨3, ![9216, 16, 192]⟩
abbrev S9216x16x128 : Shape := ⟨3, ![9216, 16, 128]⟩
abbrev S9216x16x64 : Shape := ⟨3, ![9216, 16, 64]⟩
abbrev S8192x16x64 : Shape := ⟨3, ![8192, 16, 64]⟩
abbrev S4x2048x16x64 : Shape := ⟨4, ![4, 2048, 16, 64]⟩
abbrev S2048x1x2x16 : Shape := ⟨4, ![2048, 1, 2, 16]⟩
abbrev S4x2048x16x2x2x16 : Shape := ⟨6, ![4, 2048, 16, 2, 2, 16]⟩
abbrev S4x2048x16x2x1x16 : Shape := ⟨6, ![4, 2048, 16, 2, 1, 16]⟩
abbrev S4x2048x16x2x16 : Shape := ⟨5, ![4, 2048, 16, 2, 16]⟩
abbrev S1x2048x1x2x16 : Shape := ⟨5, ![1, 2048, 1, 2, 16]⟩
abbrev S1024x16x64 : Shape := ⟨3, ![1024, 16, 64]⟩
abbrev S9216x16x256 : Shape := ⟨3, ![9216, 16, 256]⟩

abbrev nBuf : Space → Nat
  | .hbm => 71
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S2048x2x16, .f32⟩
  | .hbm, ⟨2, _⟩ => ⟨S2048x2x16, .f32⟩
  | .hbm, ⟨3, _⟩ => ⟨S4x1024, .f32⟩
  | .hbm, ⟨4, _⟩ => ⟨S4x1024x3072, .f32⟩
  | .hbm, ⟨5, _⟩ => ⟨S9216x1024, .bf16⟩
  | .hbm, ⟨6, _⟩ => ⟨S9216x1024, .f32⟩
  | .hbm, ⟨7, _⟩ => ⟨S1x1024, .f32⟩
  | .hbm, ⟨8, _⟩ => ⟨S1024, .f32⟩
  | .hbm, ⟨9, _⟩ => ⟨S9216x1024, .f32⟩
  | .hbm, ⟨10, _⟩ => ⟨S_, .f32⟩
  | .hbm, ⟨11, _⟩ => ⟨S9216, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x1, .f32⟩
  | .hbm, ⟨20, _⟩ => ⟨S9216x1024, .f32⟩
  | .hbm, ⟨21, _⟩ => ⟨S9216x1024, .f32⟩
  | .hbm, ⟨22, _⟩ => ⟨S1x1024, .f32⟩
  | .hbm, ⟨23, _⟩ => ⟨S9216x1024, .f32⟩
  | .hbm, ⟨24, _⟩ => ⟨S9216x1024, .f32⟩
  | .hbm, ⟨25, _⟩ => ⟨S9216x1024, .bf16⟩
  | .hbm, ⟨26, _⟩ => ⟨S9216x1024, .f32⟩
  | .hbm, ⟨27, _⟩ => ⟨S1x1024x3072, .f32⟩
  | .hbm, ⟨28, _⟩ => ⟨S1024x3072, .f32⟩
  | .hbm, ⟨29, _⟩ => ⟨S1024x3072, .bf16⟩
  | .hbm, ⟨30, _⟩ => ⟨S1024x3072, .f32⟩
  | .hbm, ⟨31, _⟩ => ⟨S9216x3072, .f32⟩
  | .hbm, ⟨32, _⟩ => ⟨S9216x16x192, .f32⟩
  | .hbm, ⟨33, _⟩ => ⟨S9216x16x128, .f32⟩
  | .hbm, ⟨34, _⟩ => ⟨S9216x16x64, .f32⟩
  | .hbm, ⟨35, _⟩ => ⟨S8192x16x64, .f32⟩
  | .hbm, ⟨36, _⟩ => ⟨S4x2048x16x64, .f32⟩
  | .hbm, ⟨37, _⟩ => ⟨S2048x1x2x16, .f32⟩
  | .hbm, ⟨38, _⟩ => ⟨S2048x1x2x16, .f32⟩
  | .hbm, ⟨39, _⟩ => ⟨S4x2048x16x2x2x16, .f32⟩
  | .hbm, ⟨40, _⟩ => ⟨S4x2048x16x2x1x16, .f32⟩
  | .hbm, ⟨41, _⟩ => ⟨S4x2048x16x2x16, .f32⟩
  | .hbm, ⟨42, _⟩ => ⟨S4x2048x16x2x1x16, .f32⟩
  | .hbm, ⟨43, _⟩ => ⟨S4x2048x16x2x16, .f32⟩
  | .hbm, ⟨44, _⟩ => ⟨S1x2048x1x2x16, .f32⟩
  | .hbm, ⟨45, _⟩ => ⟨S4x2048x16x2x16, .f32⟩
  | .hbm, ⟨46, _⟩ => ⟨S4x2048x16x2x16, .f32⟩
  | .hbm, ⟨47, _⟩ => ⟨S1x2048x1x2x16, .f32⟩
  | .hbm, ⟨48, _⟩ => ⟨S4x2048x16x2x16, .f32⟩
  | .hbm, ⟨49, _⟩ => ⟨S4x2048x16x2x16, .f32⟩
  | .hbm, ⟨50, _⟩ => ⟨S4x2048x16x2x16, .f32⟩
  | .hbm, ⟨51, _⟩ => ⟨S1x2048x1x2x16, .f32⟩
  | .hbm, ⟨52, _⟩ => ⟨S4x2048x16x2x16, .f32⟩
  | .hbm, ⟨53, _⟩ => ⟨S4x2048x16x2x16, .f32⟩
  | .hbm, ⟨54, _⟩ => ⟨S1x2048x1x2x16, .f32⟩
  | .hbm, ⟨55, _⟩ => ⟨S4x2048x16x2x16, .f32⟩
  | .hbm, ⟨56, _⟩ => ⟨S4x2048x16x2x16, .f32⟩
  | .hbm, ⟨57, _⟩ => ⟨S4x2048x16x2x16, .f32⟩
  | .hbm, ⟨58, _⟩ => ⟨S4x2048x16x2x1x16, .f32⟩
  | .hbm, ⟨59, _⟩ => ⟨S4x2048x16x2x1x16, .f32⟩
  | .hbm, ⟨60, _⟩ => ⟨S4x2048x16x2x2x16, .f32⟩
  | .hbm, ⟨61, _⟩ => ⟨S4x2048x16x64, .f32⟩
  | .hbm, ⟨62, _⟩ => ⟨S8192x16x64, .f32⟩
  | .hbm, ⟨63, _⟩ => ⟨S1024x16x64, .f32⟩
  | .hbm, ⟨64, _⟩ => ⟨S9216x16x64, .f32⟩
  | .hbm, ⟨65, _⟩ => ⟨S9216x16x256, .f32⟩
  | .hbm, ⟨66, _⟩ => ⟨S9216x4096, .f32⟩
  | .hbm, ⟨67, _⟩ => ⟨S_, .f32⟩
  | .hbm, ⟨68, _⟩ => ⟨S9216x4096, .f32⟩
  | .hbm, ⟨69, _⟩ => ⟨S9216x4096, .f32⟩
  | .hbm, ⟨70, _⟩ => ⟨S9216x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_2 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩

abbrev nD : Nat := 1
abbrev τ : Topo := Topo.v7x

variable {F : FTy → Type} [FloatOps F]
-- ==== Adaln.lean ====
abbrev S4x4096 : Shape := ⟨2, ![4, 4096]⟩
abbrev S4096 : Shape := ⟨1, ![4096]⟩
abbrev S4x4096x256 : Shape := ⟨3, ![4, 4096, 256]⟩
abbrev S4x256x24576 : Shape := ⟨3, ![4, 256, 24576]⟩
abbrev S4x24576 : Shape := ⟨2, ![4, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S4x1x24576 : Shape := ⟨3, ![4, 1, 24576]⟩
abbrev S4x8x24576 : Shape := ⟨3, ![4, 8, 24576]⟩
abbrev S1x4096x256 : Shape := ⟨3, ![1, 4096, 256]⟩
abbrev S1x256x4096 : Shape := ⟨3, ![1, 256, 4096]⟩
abbrev S1x1x4096 : Shape := ⟨3, ![1, 1, 4096]⟩
abbrev S1x8x4096 : Shape := ⟨3, ![1, 8, 4096]⟩
abbrev S4096x256 : Shape := ⟨2, ![4096, 256]⟩
abbrev S8x256 : Shape := ⟨2, ![8, 256]⟩
abbrev S256x4096 : Shape := ⟨2, ![256, 4096]⟩

abbrev nBuf : Space → Nat
  | .hbm => 13
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x256, .f32⟩
  | .hbm, ⟨3, _⟩ => ⟨S4x256x24576, .f32⟩
  | .hbm, ⟨4, _⟩ => ⟨S4x24576, .f32⟩
  | .hbm, ⟨5, _⟩ => ⟨S1x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S4x4096x256, .bf16⟩
  | .hbm, ⟨10, _⟩ => ⟨S4x256x24576, .bf16⟩
  | .hbm, ⟨11, _⟩ => ⟨S4x1x24576, .f32⟩
  | .hbm, ⟨12, _⟩ => ⟨S4x8x24576, .f32⟩
  | .local _ .vmem, ⟨0, _⟩ => ⟨S8x4096, .f32⟩
  | .local _ .vmem, ⟨1, _⟩ => ⟨S1x4096x256, .bf16⟩
  | .local _ .vmem, ⟨2, _⟩ => ⟨S1x4096x256, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x1x4096, .f32⟩
  | .local _ .vmem, ⟨6, _⟩ => ⟨S1x1x4096, .f32⟩
  | .local _ .vmem, ⟨7, _⟩ => ⟨S1x8x4096, .f32⟩
  | .local _ .vmem, ⟨8, _⟩ => ⟨S1x8x4096, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AdalnRefIdeal.lean ====
abbrev S4x4096 : Shape := ⟨2, ![4, 4096]⟩
abbrev S4096 : Shape := ⟨1, ![4096]⟩
abbrev S4x4096x256 : Shape := ⟨3, ![4, 4096, 256]⟩
abbrev S4x256x24576 : Shape := ⟨3, ![4, 256, 24576]⟩
abbrev S4x24576 : Shape := ⟨2, ![4, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S4x256x8 : Shape := ⟨3, ![4, 256, 8]⟩
abbrev S4x8x256 : Shape := ⟨3, ![4, 8, 256]⟩
abbrev S4x8x24576 : Shape := ⟨3, ![4, 8, 24576]⟩
abbrev S4x1x24576 : Shape := ⟨3, ![4, 1, 24576]⟩

abbrev nBuf : Space → Nat
  | .hbm => 32
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S4x4096x256, .f32⟩
  | .hbm, ⟨3, _⟩ => ⟨S4x256x24576, .f32⟩
  | .hbm, ⟨4, _⟩ => ⟨S4x24576, .f32⟩
  | .hbm, ⟨5, _⟩ => ⟨S1x4096, .f32⟩
  | .hbm, ⟨6, _⟩ => ⟨S_, .f32⟩
  | .hbm, ⟨7, _⟩ => ⟨S3x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S8x4096, .bf16⟩
  | .hbm, ⟨19, _⟩ => ⟨S8x4096, .f32⟩
  | .hbm, ⟨20, _⟩ => ⟨S4x4096x256, .bf16⟩
  | .hbm, ⟨21, _⟩ => ⟨S4x4096x256, .f32⟩
  | .hbm, ⟨22, _⟩ => ⟨S4x256x8, .f32⟩
  | .hbm, ⟨23, _⟩ => ⟨S4x8x256, .f32⟩
  | .hbm, ⟨24, _⟩ => ⟨S4x8x256, .bf16⟩
  | .hbm, ⟨25, _⟩ => ⟨S4x8x256, .f32⟩
  | .hbm, ⟨26, _⟩ => ⟨S4x256x24576, .bf16⟩
  | .hbm, ⟨27, _⟩ => ⟨S4x256x24576, .f32⟩
  | .hbm, ⟨28, _⟩ => ⟨S4x8x24576, .f32⟩
  | .hbm, ⟨29, _⟩ => ⟨S4x1x24576, .f32⟩
  | .hbm, ⟨30, _⟩ => ⟨S4x8x24576, .f32⟩
  | .hbm, ⟨31, _⟩ => ⟨S4x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Modulate.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S4x1x4096 : Shape := ⟨3, ![4, 1, 4096]⟩
abbrev S256x4096 : Shape := ⟨2, ![256, 4096]⟩
abbrev S1x1x4096 : Shape := ⟨3, ![1, 1, 4096]⟩
abbrev S1x1x1x1x4096 : Shape := ⟨5, ![1, 1, 1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S4x4096, .f32⟩
  | .hbm, ⟨2, _⟩ => ⟨S4x6x8x1x4096, .f32⟩
  | .hbm, ⟨3, _⟩ => ⟨S4x1x4096, .f32⟩
  | .hbm, ⟨4, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S256x4096, .bf16⟩
  | .local _ .vmem, ⟨8, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, c0_i32_5.toNat, v18.toNat, c0_i32_6.toNat, c0_i32_7.toNat]

def cc0_transform_3 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, c1_i32_5.toNat, v18.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModulateRefIdeal.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S1x1x8x1x4096 : Shape := ⟨5, ![1, 1, 8, 1, 4096]⟩
abbrev S8x4096 : Shape := ⟨2, ![8, 4096]⟩
abbrev S4x1x4096 : Shape := ⟨3, ![4, 1, 4096]⟩
abbrev S4x2048x4096 : Shape := ⟨3, ![4, 2048, 4096]⟩
abbrev S8192x4096 : Shape := ⟨2, ![8192, 4096]⟩
abbrev S1x4096 : Shape := ⟨2, ![1, 4096]⟩
abbrev S1024x4096 : Shape := ⟨2, ![1024, 4096]⟩
abbrev S4096 : Shape := ⟨1, ![4096]⟩
abbrev S_ : Shape := ⟨0, ![]⟩
abbrev S9216 : Shape := ⟨1, ![9216]⟩
abbrev S9216x1 : Shape := ⟨2, ![9216, 1]⟩

abbrev nBuf : Space → Nat
  | .hbm => 45
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4x4096, .f32⟩
  | .hbm, ⟨2, _⟩ => ⟨S4x6x8x1x4096, .f32⟩
  | .hbm, ⟨3, _⟩ => ⟨S1x1x8x1x4096, .f32⟩
  | .hbm, ⟨4, _⟩ => ⟨S8x4096, .f32⟩
  | .hbm, ⟨5, _⟩ => ⟨S4x4096, .f32⟩
  | .hbm, ⟨6, _⟩ => ⟨S4x1x4096, .f32⟩
  | .hbm, ⟨7, _⟩ => ⟨S4x2048x4096, .f32⟩
  | .hbm, ⟨8, _⟩ => ⟨S8192x4096, .f32⟩
  | .hbm, ⟨9, _⟩ => ⟨S1x4096, .f32⟩
  | .hbm, ⟨10, _⟩ => ⟨S1024x4096, .f32⟩
  | .hbm, ⟨11, _⟩ => ⟨S9216x4096, .f32⟩
  | .hbm, ⟨12, _⟩ => ⟨S1x1x8x1x4096, .f32⟩
  | .hbm, ⟨13, _⟩ => ⟨S8x4096, .f32⟩
  | .hbm, ⟨14, _⟩ => ⟨S4x4096, .f32⟩
  | .hbm, ⟨15, _⟩ => ⟨S4x1x4096, .f32⟩
  | .hbm, ⟨16, _⟩ => ⟨S4x2048x4096, .f32⟩
  | .hbm, ⟨17, _⟩ => ⟨S8192x4096, .f32⟩
  | .hbm, ⟨18, _⟩ => ⟨S1x4096, .f32⟩
  | .hbm, ⟨19, _⟩ => ⟨S1024x4096, .f32⟩
  | .hbm, ⟨20, _⟩ => ⟨S9216x4096, .f32⟩
  | .hbm, ⟨21, _⟩ => ⟨S1x4096, .f32⟩
  | .hbm, ⟨22, _⟩ => ⟨S4096, .f32⟩
  | .hbm, ⟨23, _⟩ => ⟨S9216x4096, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S_, .f32⟩
  | .hbm, ⟨31, _⟩ => ⟨S9216x1, .f32⟩
  | .hbm, ⟨32, _⟩ => ⟨S9216x1, .f32⟩
  | .hbm, ⟨33, _⟩ => ⟨S9216x1, .f32⟩
  | .hbm, ⟨34, _⟩ => ⟨S9216x4096, .f32⟩
  | .hbm, ⟨35, _⟩ => ⟨S9216x4096, .f32⟩
  | .hbm, ⟨36, _⟩ => ⟨S1x4096, .f32⟩
  | .hbm, ⟨37, _⟩ => ⟨S9216x4096, .f32⟩
  | .hbm, ⟨38, _⟩ => ⟨S9216x4096, .f32⟩
  | .hbm, ⟨39, _⟩ => ⟨S_, .f32⟩
  | .hbm, ⟨40, _⟩ => ⟨S9216x4096, .f32⟩
  | .hbm, ⟨41, _⟩ => ⟨S9216x4096, .f32⟩
  | .hbm, ⟨42, _⟩ => ⟨S9216x4096, .f32⟩
  | .hbm, ⟨43, _⟩ => ⟨S9216x4096, .f32⟩
  | .hbm, ⟨44, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Residual.lean ====
abbrev S9216x4096 : Shape := ⟨2, ![9216, 4096]⟩
abbrev S8192x4096 : Shape := ⟨2, ![8192, 4096]⟩
abbrev S4x4096 : Shape := ⟨2, ![4, 4096]⟩
abbrev S4x6x8x1x4096 : Shape := ⟨5, ![4, 6, 8, 1, 4096]⟩
abbrev S4x1x4096 : Shape := ⟨3, ![4, 1, 4096]⟩
abbrev S256x4096 : Shape := ⟨2, ![256, 4096]⟩
abbrev S1x1x4096 : Shape := ⟨3, ![1, 1, 4096]⟩
abbrev S1x1x1x1x4096 : Shape := ⟨5, ![1, 1, 1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S8192x4096, .bf16⟩
  | .hbm, ⟨2, _⟩ => ⟨S4x4096, .f32⟩
  | .hbm, ⟨3, _⟩ => ⟨S4x6x8x1x4096, .f32⟩
  | .hbm, ⟨4, _⟩ => ⟨S4x1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S256x4096, .f32⟩
  | .local _ .vmem, ⟨8, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c3_i32 : BitVec 32 := 3#32
  let c5_i32 : BitVec 32 := 5#32
  let c0_i32_4 : BitVec 32 := 0#32
  let c0_i32_5 : BitVec 32 := 0#32
  let c0_i32_6 : BitVec 32 := 0#32
  ![c3_i32.toNat, c5_i32.toNat, v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidualRefIdeal.lean ====
abbrev S9216x4096 : Shape := ⟨2, ![9216, 4096]⟩
abbrev S8192x4096 : Shape := ⟨2, ![8192, 4096]⟩
abbrev S4x4096 : Shape := ⟨2, ![4, 4096]⟩
abbrev S4x6x8x1x4096 : Shape := ⟨5, ![4, 6, 8, 1, 4096]⟩
abbrev S1x1x8x1x4096 : Shape := ⟨5, ![1, 1, 8, 1, 4096]⟩
abbrev S8x4096 : Shape := ⟨2, ![8, 4096]⟩
abbrev S4x1x4096 : Shape := ⟨3, ![4, 1, 4096]⟩
abbrev S4x2048x4096 : Shape := ⟨3, ![4, 2048, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S8192x4096, .bf16⟩
  | .hbm, ⟨2, _⟩ => ⟨S4x4096, .f32⟩
  | .hbm, ⟨3, _⟩ => ⟨S4x6x8x1x4096, .f32⟩
  | .hbm, ⟨4, _⟩ => ⟨S8192x4096, .f32⟩
  | .hbm, ⟨5, _⟩ => ⟨S1x1x8x1x4096, .f32⟩
  | .hbm, ⟨6, _⟩ => ⟨S8x4096, .f32⟩
  | .hbm, ⟨7, _⟩ => ⟨S4x4096, .f32⟩
  | .hbm, ⟨8, _⟩ => ⟨S4x1x4096, .f32⟩
  | .hbm, ⟨9, _⟩ => ⟨S4x2048x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== ResMod.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S4x1x4096 : Shape := ⟨3, ![4, 1, 4096]⟩
abbrev S256x4096 : Shape := ⟨2, ![256, 4096]⟩
abbrev S1x1x4096 : Shape := ⟨3, ![1, 1, 4096]⟩
abbrev S1x1x1x1x4096 : Shape := ⟨5, ![1, 1, 1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S9216x4096, .f32⟩
  | .hbm, ⟨1, _⟩ => ⟨S9216x4096, .bf16⟩
  | .hbm, ⟨2, _⟩ => ⟨S4x4096, .f32⟩
  | .hbm, ⟨3, _⟩ => ⟨S4x6x8x1x4096, .f32⟩
  | .hbm, ⟨4, _⟩ => ⟨S4x4096, .f32⟩
  | .hbm, ⟨5, _⟩ => ⟨S4x1x4096, .f32⟩
  | .hbm, ⟨6, _⟩ => ⟨S4x1x4096, .f32⟩
  | .hbm, ⟨7, _⟩ => ⟨S9216x4096, .f32⟩
  | .hbm, ⟨8, _⟩ => ⟨S9216x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x4096, .f32⟩
  | .local _ .vmem, ⟨8, _⟩ => ⟨S1x1x1x1x4096, .f32⟩
  | .local _ .vmem, ⟨9, _⟩ => ⟨S1x1x1x1x4096, .f32⟩
  | .local _ .vmem, ⟨10, _⟩ => ⟨S1x1x1x1x4096, .f32⟩
  | .local _ .vmem, ⟨11, _⟩ => ⟨S1x1x1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, c5_i32.toNat, v18.toNat, c0_i32_5.toNat, c0_i32_6.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, c0_i32_5.toNat, v18.toNat, c0_i32_6.toNat, c0_i32_7.toNat]

def cc0_transform_6 (i : grid0.Coords) : Fin 5 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, c1_i32_5.toNat, v18.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResModRefIdeal.lean ====
abbrev S9216x4096 : Shape := ⟨2, ![9216, 4096]⟩
abbrev S4x4096 : Shape := ⟨2, ![4, 4096]⟩
abbrev S4x6x8x1x4096 : Shape := ⟨5, ![4, 6, 8, 1, 4096]⟩
abbrev S1x1x8x1x4096 : Shape := ⟨5, ![1, 1, 8, 1, 4096]⟩
abbrev S8x4096 : Shape := ⟨2, ![8, 4096]⟩
abbrev S4x1x4096 : Shape := ⟨3, ![4, 1, 4096]⟩
abbrev S4x2048x4096 : Shape := ⟨3, ![4, 2048, 4096]⟩
abbrev S8192x4096 : Shape := ⟨2, ![8192, 4096]⟩
abbrev S1x4096 : Shape := ⟨2, ![1, 4096]⟩
abbrev S1024x4096 : Shape := ⟨2, ![1024, 4096]⟩
abbrev S4096 : Shape := ⟨1, ![4096]⟩
abbrev S_ : Shape := ⟨0, ![]⟩
abbrev S9216 : Shape := ⟨1, ![9216]⟩
abbrev S9216x1 : Shape := ⟨2, ![9216, 1]⟩

abbrev nBuf : Space → Nat
  | .hbm => 77
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S9216x4096, .bf16⟩
  | .hbm, ⟨2, _⟩ => ⟨S4x4096, .f32⟩
  | .hbm, ⟨3, _⟩ => ⟨S4x6x8x1x4096, .f32⟩
  | .hbm, ⟨4, _⟩ => ⟨S4x4096, .f32⟩
  | .hbm, ⟨5, _⟩ => ⟨S1x1x8x1x4096, .f32⟩
  | .hbm, ⟨6, _⟩ => ⟨S8x4096, .f32⟩
  | .hbm, ⟨7, _⟩ => ⟨S4x4096, .f32⟩
  | .hbm, ⟨8, _⟩ => ⟨S4x1x4096, .f32⟩
  | .hbm, ⟨9, _⟩ => ⟨S4x2048x4096, .f32⟩
  | .hbm, ⟨10, _⟩ => ⟨S8192x4096, .f32⟩
  | .hbm, ⟨11, _⟩ => ⟨S1x4096, .f32⟩
  | .hbm, ⟨12, _⟩ => ⟨S1024x4096, .f32⟩
  | .hbm, ⟨13, _⟩ => ⟨S9216x4096, .f32⟩
  | .hbm, ⟨14, _⟩ => ⟨S9216x4096, .f32⟩
  | .hbm, ⟨15, _⟩ => ⟨S1x4096, .f32⟩
  | .hbm, ⟨16, _⟩ => ⟨S4096, .f32⟩
  | .hbm, ⟨17, _⟩ => ⟨S9216x4096, .f32⟩
  | .hbm, ⟨18, _⟩ => ⟨S_, .f32⟩
  | .hbm, ⟨19, _⟩ => ⟨S9216, .f32⟩
  | .hbm, ⟨20, _⟩ => ⟨S9216x1, .f32⟩
  | .hbm, ⟨21, _⟩ => ⟨S_, .f32⟩
  | .hbm, ⟨22, _⟩ => ⟨S9216x1, .f32⟩
  | .hbm, ⟨23, _⟩ => ⟨S9216x1, .f32⟩
  | .hbm, ⟨24, _⟩ => ⟨S_, .f32⟩
  | .hbm, ⟨25, _⟩ => ⟨S9216x1, .f32⟩
  | .hbm, ⟨26, _⟩ => ⟨S9216x1, .f32⟩
  | .hbm, ⟨27, _⟩ => ⟨S9216x1, .f32⟩
  | .hbm, ⟨28, _⟩ => ⟨S9216x4096, .f32⟩
  | .hbm, ⟨29, _⟩ => ⟨S9216x4096, .f32⟩
  | .hbm, ⟨30, _⟩ => ⟨S1x4096, .f32⟩
  | .hbm, ⟨31, _⟩ => ⟨S9216x4096, .f32⟩
  | .hbm, ⟨32, _⟩ => ⟨S9216x4096, .f32⟩
  | .hbm, ⟨33, _⟩ => ⟨S9216x4096, .f32⟩
  | .hbm, ⟨34, _⟩ => ⟨S9216x4096, .f32⟩
  | .hbm, ⟨35, _⟩ => ⟨S1x1x8x1x4096, .f32⟩
  | .hbm, ⟨36, _⟩ => ⟨S8x4096, .f32⟩
  | .hbm, ⟨37, _⟩ => ⟨S4x4096, .f32⟩
  | .hbm, ⟨38, _⟩ => ⟨S4x1x4096, .f32⟩
  | .hbm, ⟨39, _⟩ => ⟨S4x2048x4096, .f32⟩
  | .hbm, ⟨40, _⟩ => ⟨S8192x4096, .f32⟩
  | .hbm, ⟨41, _⟩ => ⟨S1x4096, .f32⟩
  | .hbm, ⟨42, _⟩ => ⟨S1024x4096, .f32⟩
  | .hbm, ⟨43, _⟩ => ⟨S9216x4096, .f32⟩
  | .hbm, ⟨44, _⟩ => ⟨S1x1x8x1x4096, .f32⟩
  | .hbm, ⟨45, _⟩ => ⟨S8x4096, .f32⟩
  | .hbm, ⟨46, _⟩ => ⟨S4x4096, .f32⟩
  | .hbm, ⟨47, _⟩ => ⟨S4x1x4096, .f32⟩
  | .hbm, ⟨48, _⟩ => ⟨S4x2048x4096, .f32⟩
  | .hbm, ⟨49, _⟩ => ⟨S8192x4096, .f32⟩
  | .hbm, ⟨50, _⟩ => ⟨S1x4096, .f32⟩
  | .hbm, ⟨51, _⟩ => ⟨S1024x4096, .f32⟩
  | .hbm, ⟨52, _⟩ => ⟨S9216x4096, .f32⟩
  | .hbm, ⟨53, _⟩ => ⟨S1x4096, .f32⟩
  | .hbm, ⟨54, _⟩ => ⟨S4096, .f32⟩
  | .hbm, ⟨55, _⟩ => ⟨S9216x4096, .f32⟩
  | .hbm, ⟨56, _⟩ => ⟨S_, .f32⟩
  | .hbm, ⟨57, _⟩ => ⟨S9216, .f32⟩
  | .hbm, ⟨58, _⟩ => ⟨S9216x1, .f32⟩
  | .hbm, ⟨59, _⟩ => ⟨S_, .f32⟩
  | .hbm, ⟨60, _⟩ => ⟨S9216x1, .f32⟩
  | .hbm, ⟨61, _⟩ => ⟨S9216x1, .f32⟩
  | .hbm, ⟨62, _⟩ => ⟨S_, .f32⟩
  | .hbm, ⟨63, _⟩ => ⟨S9216x1, .f32⟩
  | .hbm, ⟨64, _⟩ => ⟨S9216x1, .f32⟩
  | .hbm, ⟨65, _⟩ => ⟨S9216x1, .f32⟩
  | .hbm, ⟨66, _⟩ => ⟨S9216x4096, .f32⟩
  | .hbm, ⟨67, _⟩ => ⟨S9216x4096, .f32⟩
  | .hbm, ⟨68, _⟩ => ⟨S1x4096, .f32⟩
  | .hbm, ⟨69, _⟩ => ⟨S9216x4096, .f32⟩
  | .hbm, ⟨70, _⟩ => ⟨S9216x4096, .f32⟩
  | .hbm, ⟨71, _⟩ => ⟨S_, .f32⟩
  | .hbm, ⟨72, _⟩ => ⟨S9216x4096, .f32⟩
  | .hbm, ⟨73, _⟩ => ⟨S9216x4096, .f32⟩
  | .hbm, ⟨74, _⟩ => ⟨S9216x4096, .f32⟩
  | .hbm, ⟨75, _⟩ => ⟨S9216x4096, .f32⟩
  | .hbm, ⟨76, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== ChDft.lean ====
abbrev S9216x4096 : Shape := ⟨2, ![9216, 4096]⟩
abbrev S256x256 : Shape := ⟨2, ![256, 256]⟩
abbrev S_ : Shape := ⟨0, ![]⟩
abbrev S9216x2048 : Shape := ⟨2, ![9216, 2048]⟩
abbrev S1024x1024 : Shape := ⟨2, ![1024, 1024]⟩
abbrev S1024x2048 : Shape := ⟨2, ![1024, 2048]⟩
abbrev S1024x256 : Shape := ⟨2, ![1024, 256]⟩

abbrev nBuf : Space → Nat
  | .hbm => 12
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S256x256, .f32⟩
  | .hbm, ⟨2, _⟩ => ⟨S256x256, .f32⟩
  | .hbm, ⟨3, _⟩ => ⟨S_, .f32⟩
  | .hbm, ⟨4, _⟩ => ⟨S256x256, .f32⟩
  | .hbm, ⟨5, _⟩ => ⟨S256x256, .f32⟩
  | .hbm, ⟨6, _⟩ => ⟨S256x256, .bf16⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S9216x2048, .bf16⟩
  | .local _ .vmem, ⟨0, _⟩ => ⟨S1024x1024, .bf16⟩
  | .local _ .vmem, ⟨1, _⟩ => ⟨S1024x1024, .bf16⟩
  | .local _ .vmem, ⟨2, _⟩ => ⟨S256x256, .bf16⟩
  | .local _ .vmem, ⟨3, _⟩ => ⟨S256x256, .bf16⟩
  | .local _ .vmem, ⟨4, _⟩ => ⟨S1024x2048, .bf16⟩
  | .local _ .vmem, ⟨5, _⟩ => ⟨S1024x2048, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ChDftRefIdeal.lean ====
abbrev S9216x4096 : Shape := ⟨2, ![9216, 4096]⟩
abbrev S256x256 : Shape := ⟨2, ![256, 256]⟩
abbrev S9216x1024 : Shape := ⟨2, ![9216, 1024]⟩
abbrev S9216x4x256 : Shape := ⟨3, ![9216, 4, 256]⟩
abbrev S_ : Shape := ⟨0, ![]⟩
abbrev S9216x2048 : Shape := ⟨2, ![9216, 2048]⟩

abbrev nBuf : Space → Nat
  | .hbm => 22
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S256x256, .f32⟩
  | .hbm, ⟨2, _⟩ => ⟨S256x256, .f32⟩
  | .hbm, ⟨3, _⟩ => ⟨S9216x1024, .bf16⟩
  | .hbm, ⟨4, _⟩ => ⟨S9216x1024, .f32⟩
  | .hbm, ⟨5, _⟩ => ⟨S9216x4x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S9216x4x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S256x256, .f32⟩
  | .hbm, ⟨17, _⟩ => ⟨S9216x4x256, .f32⟩
  | .hbm, ⟨18, _⟩ => ⟨S9216x1024, .f32⟩
  | .hbm, ⟨19, _⟩ => ⟨S9216x1024, .f32⟩
  | .hbm, ⟨20, _⟩ => ⟨S9216x2048, .f32⟩
  | .hbm, ⟨21, _⟩ => ⟨S9216x2048, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SeqDft.lean ====
abbrev S9216x2048 : Shape := ⟨2, ![9216, 2048]⟩
abbrev S2048x2048 : Shape := ⟨2, ![2048, 2048]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SeqDftRefIdeal.lean ====
abbrev S9216x2048 : Shape := ⟨2, ![9216, 2048]⟩
abbrev S2048x2048 : Shape := ⟨2, ![2048, 2048]⟩
abbrev S8192x2048 : Shape := ⟨2, ![8192, 2048]⟩
abbrev S4x2048x2048 : Shape := ⟨3, ![4, 2048, 2048]⟩
abbrev S4x2048x1024 : Shape := ⟨3, ![4, 2048, 1024]⟩
abbrev S4x1024x2048 : Shape := ⟨3, ![4, 1024, 2048]⟩
abbrev S_ : Shape := ⟨0, ![]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S2048x2048, .f32⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S4x2048x1024, .f32⟩
  | .hbm, ⟨12, _⟩ => ⟨S4x1024x2048, .f32⟩
  | .hbm, ⟨13, _⟩ => ⟨S4x2048x1024, .f32⟩
  | .hbm, ⟨14, _⟩ => ⟨S4x2048x1024, .f32⟩
  | .hbm, ⟨15, _⟩ => ⟨S4x1024x2048, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S8192x1024, .f32⟩
  | .hbm, ⟨22, _⟩ => ⟨S8192x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== CtxDft.lean ====
abbrev S9216x2048 : Shape := ⟨2, ![9216, 2048]⟩
abbrev S256x256 : Shape := ⟨2, ![256, 256]⟩
abbrev S1024x1024 : Shape := ⟨2, ![1024, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S256x256, .f32⟩
  | .hbm, ⟨2, _⟩ => ⟨S256x256, .f32⟩
  | .hbm, ⟨3, _⟩ => ⟨S256x256, .bf16⟩
  | .hbm, ⟨4, _⟩ => ⟨S256x256, .f32⟩
  | .hbm, ⟨5, _⟩ => ⟨S256x256, .bf16⟩
  | .hbm, ⟨6, _⟩ => ⟨S1024x1024, .bf16⟩
  | .local _ .vmem, ⟨0, _⟩ => ⟨S256x256, .bf16⟩
  | .local _ .vmem, ⟨1, _⟩ => ⟨S256x256, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let v1 : BitVec 32 := Scalar.addi v0 arg0
  let c0_i32 : BitVec 32 := 0#32
  let c0_i32_0 : BitVec 32 := 0#32
  ![v1.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxDftRefIdeal.lean ====
abbrev S9216x2048 : Shape := ⟨2, ![9216, 2048]⟩
abbrev S256x256 : Shape := ⟨2, ![256, 256]⟩
abbrev S1024x2048 : Shape := ⟨2, ![1024, 2048]⟩
abbrev S4x256x2048 : Shape := ⟨3, ![4, 256, 2048]⟩
abbrev S4x256x1024 : Shape := ⟨3, ![4, 256, 1024]⟩
abbrev S4x1024x256 : Shape := ⟨3, ![4, 1024, 256]⟩
abbrev S_ : Shape := ⟨0, ![]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S256x256, .f32⟩
  | .hbm, ⟨2, _⟩ => ⟨S256x256, .f32⟩
  | .hbm, ⟨3, _⟩ => ⟨S1024x2048, .bf16⟩
  | .hbm, ⟨4, _⟩ => ⟨S1024x2048, .f32⟩
  | .hbm, ⟨5, _⟩ => ⟨S4x256x2048, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S4x256x1024, .f32⟩
  | .hbm, ⟨12, _⟩ => ⟨S4x1024x256, .f32⟩
  | .hbm, ⟨13, _⟩ => ⟨S4x256x1024, .f32⟩
  | .hbm, ⟨14, _⟩ => ⟨S4x256x1024, .f32⟩
  | .hbm, ⟨15, _⟩ => ⟨S4x1024x256, .f32⟩
  | .hbm, ⟨16, _⟩ => ⟨S4x256x1024, .f32⟩
  | .hbm, ⟨17, _⟩ => ⟨S4x256x1024, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S1024x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.AttnMath.lean ====
/- The mathematics of one attended value: a softmax taken in powers of 2 of scores scaled by 1 / log 2, its sum of the
   weights divided at the end, is the softmax in powers of e, at any two shifts of the scores. -/
module

public import Idealize.ShloMosaic.PureOps.Ideal

@[expose] public section

noncomputable section

namespace Cert.AttnMath

open Idealize.ShloMosaic

/-- A real factor that is not negative distributes over a sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of 2 of a scaled and shifted score is the power of e of the score, times a constant. -/
theorem exp2_score (a μ : ℝ) : Ideal.exp2 (((a / Real.log 2 : ℝ) : EReal) - (μ : EReal))
    = ((Real.exp a * (2 : ℝ) ^ (-μ) : ℝ) : EReal) := by
  rw [← EReal.coe_sub, Ideal.exp2_coe]
  congr 1
  show (2 : ℝ) ^ (a / Real.log 2 - μ) = _
  rw [sub_eq_add_neg, Real.rpow_add (by norm_num)]
  congr 1
  rw [Real.rpow_def_of_pos (by norm_num), mul_div_cancel₀]
  exact (Real.log_pos (by norm_num)).ne'

theorem exp_score (a μ : ℝ) : Ideal.exp ((a : EReal) - (μ : EReal))
    = ((Real.exp a * Real.exp (-μ) : ℝ) : EReal) := by
  rw [← EReal.coe_sub, Ideal.exp_coe, sub_eq_add_neg, Real.exp_add]

variable {ι κ : Type*} [Fintype ι] [Fintype κ]

/-- Weights `p · α`, `q · α` and their total, against weights `p · β`, `q · β` and theirs: the same attended value. -/
theorem attend (p : ι → ℝ) (q : κ → ℝ) (hp : ∀ i, 0 < p i) (hq : ∀ j, 0 < q j) [Nonempty ι] (α β : ℝ) (hα : 0 < α) (hβ : 0 < β)
    (v : ι → EReal) (w : κ → EReal) :
    Ideal.div ((∑ i, ((p i * α : ℝ) : EReal) * v i) + ∑ j, ((q j * α : ℝ) : EReal) * w j)
        ((∑ i, ((p i * α : ℝ) : EReal)) + ∑ j, ((q j * α : ℝ) : EReal))
      = (∑ i, v i * Ideal.div ((p i * β : ℝ) : EReal) ((∑ i, ((p i * β : ℝ) : EReal)) + ∑ j, ((q j * β : ℝ) : EReal)))
        + ∑ j, w j * Ideal.div ((q j * β : ℝ) : EReal) ((∑ i, ((p i * β : ℝ) : EReal)) + ∑ j, ((q j * β : ℝ) : EReal)) := by
  have hz : 0 < (∑ i, p i) + ∑ j, q j :=
    add_pos_of_pos_of_nonneg (Finset.sum_pos (fun i _ => hp i) Finset.univ_nonempty) (Finset.sum_nonneg fun j _ => (hq j).le)
  have tot : ∀ γ : ℝ, (∑ i, ((p i * γ : ℝ) : EReal)) + ∑ j, ((q j * γ : ℝ) : EReal)
      = (((((∑ i, p i) + ∑ j, q j) * γ : ℝ)) : EReal) := fun γ => by
    rw [← coe_sum, ← coe_sum, ← EReal.coe_add, ← Finset.sum_mul, ← Finset.sum_mul, ← add_mul]
  rw [tot α, tot β]
  have hzα := mul_pos hz hα
  have hzβ := mul_pos hz hβ
  simp only [Ideal.div_coe hzα.ne', Ideal.div_coe hzβ.ne']
  have hr : (0 : ℝ) ≤ 1 / (((∑ i, p i) + ∑ j, q j) * α) := (one_div_pos.mpr hzα).le
  rw [mul_comm (_ + _), EReal.left_distrib_of_nonneg_of_ne_top (by exact_mod_cast hr) (EReal.coe_ne_top _),
    mul_comm _ (∑ i, _), mul_comm _ (∑ i, _), sum_mul_coe _ _ _ hr, sum_mul_coe _ _ _ hr]
  have one : ∀ x : ℝ, ((x * α : ℝ) : EReal) * ((1 / (((∑ i, p i) + ∑ j, q j) * α) : ℝ) : EReal)
      = ((x * β : ℝ) : EReal) * ((1 / (((∑ i, p i) + ∑ j, q j) * β) : ℝ) : EReal) := fun x => by
    rw [← EReal.coe_mul, ← EReal.coe_mul]
    congr 1
    field_simp
  congr 1
  · refine Finset.sum_congr rfl fun i _ => ?_
    rw [← one, mul_comm _ (v i), mul_assoc]
  · refine Finset.sum_congr rfl fun j _ => ?_
    rw [← one, mul_comm _ (w j), mul_assoc]

/-- The kernel's attended value against the reference's, at real scores and any two real shifts. -/
theorem attend_scores (a : ι → ℝ) (b : κ → ℝ) [Nonempty ι] (μ ν : ℝ) (v : ι → EReal) (w : κ → EReal) :
    Ideal.div ((∑ i, Ideal.exp2 (((a i / Real.log 2 : ℝ) : EReal) - μ) * v i)
          + ∑ j, Ideal.exp2 (((b j / Real.log 2 : ℝ) : EReal) - μ) * w j)
        ((∑ i, Ideal.exp2 (((a i / Real.log 2 : ℝ) : EReal) - μ)) + ∑ j, Ideal.exp2 (((b j / Real.log 2 : ℝ) : EReal) - μ))
      = (∑ i, v i * Ideal.div (Ideal.exp ((a i : EReal) - ν))
            ((∑ i, Ideal.exp ((a i : EReal) - ν)) + ∑ j, Ideal.exp ((b j : EReal) - ν)))
        + ∑ j, w j * Ideal.div (Ideal.exp ((b j : EReal) - ν))
            ((∑ i, Ideal.exp ((a i : EReal) - ν)) + ∑ j, Ideal.exp ((b j : EReal) - ν)) := by
  simp only [exp2_score, exp_score]
  exact attend (fun i => Real.exp (a i)) (fun j => Real.exp (b j)) (fun _ => Real.exp_pos _) (fun _ => Real.exp_pos _) _ _
    (Real.rpow_pos_of_pos (by norm_num) _) (Real.exp_pos _) v w

end Cert.AttnMath

end
-- ==== Proof.AttnScore.lean ====
/- One score and one softmax row of the attention in plain reals: the kernel's lanes of scaled queries against its packed
   keys, the reference's two products over sqrt(192), and a greatest score that is a real. -/
module

public import proofs.«01_k».proof.Proof.AttnMath
public import Idealize.ShloMosaic.Lib.Pipeline.ValueKit

@[expose] public section

noncomputable section

namespace Cert.AttnMath

open Idealize.ShloMosaic

/-- Every number of a family is a real. -/
def Reals {ι : Type*} (f : ι → EReal) : Prop := ∀ i, ∃ r : ℝ, f i = r

theorem Reals.eq {ι : Type*} {f : ι → EReal} (h : Reals f) (i : ι) : f i = ((f i).toReal : EReal) := by
  obtain ⟨r, e⟩ := h i
  rw [e, EReal.toReal_coe]

/-- The product of two families, in the reals. -/
def dot {n : ℕ} (f g : Fin n → EReal) : ℝ := ∑ x, (f x).toReal * (g x).toReal

theorem dot_coe {n : ℕ} {f g : Fin n → EReal} (hf : Reals f) (hg : Reals g) : ∑ x, f x * g x = (dot f g : EReal) := by
  rw [dot, coe_sum]
  exact Finset.sum_congr rfl fun x _ => by rw [EReal.coe_mul, ← hf.eq, ← hg.eq]

theorem dot_comm {n : ℕ} (f g : Fin n → EReal) : dot f g = dot g f := by
  unfold dot
  exact Finset.sum_congr rfl fun x _ => mul_comm _ _

/-- One score: both products of a query and a key, over sqrt(192). -/
def score (qn : Fin 128 → EReal) (qr : Fin 64 → EReal) (kn : Fin 128 → EReal) (kr : Fin 64 → EReal) : ℝ :=
  (dot qn kn + dot kr qr) / Real.sqrt 192

theorem bits_192 : Ideal.ofBits FTy.f32 1128267776#32 = ((192 : ℝ) : EReal) := by
  simp [Ideal.ofBits, Ideal.ieee, -EReal.coe_mul]; norm_num

theorem bits_2 : Ideal.ofBits FTy.f32 1073741824#32 = ((2 : ℝ) : EReal) := by
  simp [Ideal.ofBits, Ideal.ieee, -EReal.coe_mul]; norm_num

theorem root_192 : Ideal.sqrt (Ideal.ofBits FTy.f32 1128267776#32) = ((Real.sqrt 192 : ℝ) : EReal) := by
  rw [bits_192, Ideal.sqrt_coe, if_neg (by norm_num)]

theorem log_two : Ideal.log (Ideal.ofBits FTy.f32 1073741824#32) = ((Real.log 2 : ℝ) : EReal) := by
  rw [bits_2, Ideal.log_coe, if_neg (by norm_num)]

theorem root_pos : 0 < Real.sqrt 192 := Real.sqrt_pos.mpr (by norm_num)

theorem log_pos : 0 < Real.log 2 := Real.log_pos (by norm_num)

/-- The reference's score is that score. -/
theorem reference_score {qn : Fin 128 → EReal} {qr : Fin 64 → EReal} {kn : Fin 128 → EReal} {kr : Fin 64 → EReal}
    (h1 : Reals qn) (h2 : Reals qr) (h3 : Reals kn) (h4 : Reals kr) :
    Ideal.div ((∑ x, qn x * kn x) + ∑ x, kr x * qr x) (Ideal.sqrt (Ideal.ofBits FTy.f32 1128267776#32)) = (score qn qr kn kr : EReal) := by
  rw [root_192, dot_coe h1 h3, dot_coe h4 h2, ← EReal.coe_add, Ideal.div_coe root_pos.ne', ← EReal.coe_mul, score]
  congr 1
  rw [mul_one_div]

/-- A sum over lanes is the sum over the first of them and the rest. -/
theorem sum_split {a b n : ℕ} (hn : a + b = n) (f : Fin n → EReal) :
    ∑ i, f i = (∑ i : Fin a, f ⟨i.val, by omega⟩) + ∑ i : Fin b, f ⟨a + i.val, by omega⟩ := by
  subst hn
  exact Fin.sum_univ_add f

theorem scaled_term {ι : Type*} {f g : ι → EReal} (hf : Reals f) (hg : Reals g) (d : ℝ) (hd : d ≠ 0) (i : ι) :
    Ideal.div (f i) (d : EReal) * g i = (((f i).toReal * (g i).toReal / d : ℝ) : EReal) := by
  rw [Ideal.div_coe hd, hf.eq, hg.eq, ← EReal.coe_mul, ← EReal.coe_mul]
  congr 1
  simp only [EReal.toReal_coe]
  ring

/-- The kernel's score, over 256 lanes of a scaled query and a packed key, is the same over log 2. -/
theorem lanes {qn : Fin 128 → EReal} {qr : Fin 64 → EReal} {kn : Fin 128 → EReal} {kr : Fin 64 → EReal}
    (h1 : Reals qn) (h2 : Reals qr) (h3 : Reals kn) (h4 : Reals kr) (Q K : Fin 256 → EReal)
    (hQ1 : ∀ x : Fin 128, Q ⟨x.val, by omega⟩
      = Ideal.div (qn x) (Ideal.sqrt (Ideal.ofBits FTy.f32 1128267776#32) * Ideal.log (Ideal.ofBits FTy.f32 1073741824#32)))
    (hQ2 : ∀ x : Fin 64, Q ⟨128 + x.val, by omega⟩
      = Ideal.div (qr x) (Ideal.sqrt (Ideal.ofBits FTy.f32 1128267776#32) * Ideal.log (Ideal.ofBits FTy.f32 1073741824#32)))
    (hK1 : ∀ x : Fin 128, K ⟨x.val, by omega⟩ = kn x) (hK2 : ∀ x : Fin 64, K ⟨128 + x.val, by omega⟩ = kr x)
    (hK3 : ∀ x : Fin 64, K ⟨192 + x.val, by omega⟩ = 0) :
    ∑ x, Q x * K x = ((score qn qr kn kr / Real.log 2 : ℝ) : EReal) := by
  rw [root_192, log_two, ← EReal.coe_mul] at hQ1 hQ2
  have hd : Real.sqrt 192 * Real.log 2 ≠ 0 := (mul_pos root_pos log_pos).ne'
  rw [sum_split (show 128 + 128 = 256 from rfl), sum_split (a := 64) (b := 64) (n := 128) rfl
    (fun i => Q ⟨128 + i.val, by omega⟩ * K ⟨128 + i.val, by omega⟩)]
  have e1 : ∑ i : Fin 128, Q ⟨i.val, by omega⟩ * K ⟨i.val, by omega⟩ = ((dot qn kn / (Real.sqrt 192 * Real.log 2) : ℝ) : EReal) := by
    rw [dot, Finset.sum_div, coe_sum]
    exact Finset.sum_congr rfl fun x _ => by rw [hQ1, hK1, scaled_term h1 h3 _ hd]
  have e2 : ∑ i : Fin 64, Q ⟨128 + i.val, by omega⟩ * K ⟨128 + i.val, by omega⟩
      = ((dot qr kr / (Real.sqrt 192 * Real.log 2) : ℝ) : EReal) := by
    rw [dot, Finset.sum_div, coe_sum]
    exact Finset.sum_congr rfl fun x _ => by rw [hQ2, hK2, scaled_term h2 h4 _ hd]
  have e3 : ∑ i : Fin 64, Q ⟨128 + (64 + i.val), by omega⟩ * K ⟨128 + (64 + i.val), by omega⟩ = 0 :=
    Finset.sum_eq_zero fun x _ => by
      have : K ⟨128 + (64 + x.val), by omega⟩ = 0 := (congrArg K (Fin.ext (by show 128 + (64 + x.val) = 192 + x.val; omega))).trans (hK3 x)
      rw [this, mul_zero]
  rw [e1, e2, e3, add_zero, ← EReal.coe_add, score, dot_comm kr qr, ← add_div, div_div]

/-- The greatest of finitely many reals is a real. -/
theorem max_real {ι : Type*} (s : Finset ι) (a : ι → ℝ) (hs : s.Nonempty) :
    ∃ ν : ℝ, s.fold max (⊥ : EReal) (fun i => (a i : EReal)) = ν := by
  classical
  induction s using Finset.induction_on with
  | empty => exact absurd hs Finset.not_nonempty_empty
  | insert i s hi ih =>
    rw [Finset.fold_insert hi]
    rcases s.eq_empty_or_nonempty with rfl | hs'
    · exact ⟨a i, by simp⟩
    · obtain ⟨ν, e⟩ := ih hs'
      refine ⟨max (a i) ν, ?_⟩
      rw [e]
      exact (Monotone.map_max EReal.coe_strictMono.monotone).symm

/-- A row's greatest, taken by the host's reduction from below everything, is a real where the row is. -/
theorem greatest_real {s t u : Shape} {axes : List (Fin s.rank)} (x : FVec Ideal s .f32) (init : FVec Ideal u .f32) (y : FVec Ideal t .f32)
    (h : s.ReducesTo axes t) (hu : 0 < u.numel) (hi : ∀ i, init i = ⊥) (hy : ∀ i, y i = ⊥) (j : t.Idx) (hx : Reals x) (i : s.Idx) (hij : h.drop i = j) :
    ∃ ν : ℝ, maximumf y (Host.reduce FloatOps.maximumf x init h hu) j = ν := by
  have e : Host.reduce FloatOps.maximumf x init h hu j = Host.reduce (max : EReal → EReal → EReal) x init h hu j := rfl
  rw [show maximumf y (Host.reduce FloatOps.maximumf x init h hu) j = max (y j) (Host.reduce FloatOps.maximumf x init h hu j) from rfl, e,
    Host.reduce_eq_fold, hi, Finset.fold_congr (g := fun i => ((x i).toReal : EReal)) (fun i _ => hx.eq i), hy]
  obtain ⟨ν, hν⟩ := max_real (Finset.univ.filter fun i => h.drop i = j) (fun i => (x i).toReal) ⟨i, by simp [hij]⟩
  exact ⟨ν, by rw [hν]; exact max_eq_right bot_le⟩

/-- Two places with the same coordinates are the same. -/
theorem ix3_congr {a b c : ℕ} {x x' : Fin a} {y y' : Fin b} {z z' : Fin c} (h0 : x.val = x'.val) (h1 : y.val = y'.val) (h2 : z.val = z'.val) :
    ix3 x y z = ix3 x' y' z' := by
  rw [Fin.ext h0, Fin.ext h1, Fin.ext h2]

theorem ix4_congr {a b c d : ℕ} {x x' : Fin a} {y y' : Fin b} {z z' : Fin c} {w w' : Fin d} (h0 : x.val = x'.val) (h1 : y.val = y'.val)
    (h2 : z.val = z'.val) (h3 : w.val = w'.val) : ix4 x y z w = ix4 x' y' z' w' := by
  rw [Fin.ext h0, Fin.ext h1, Fin.ext h2, Fin.ext h3]

/-- The attended value of a row: its softmax in powers of e at the shift `ν`, times the values. -/
def row {n k : ℕ} (a : Fin n → ℝ) (b : Fin k → ℝ) (ν : ℝ) (v : Fin n → EReal) (w : Fin k → EReal) : EReal :=
  (∑ i, v i * Ideal.div (Ideal.exp ((a i : EReal) - ν)) ((∑ i, Ideal.exp ((a i : EReal) - ν)) + ∑ j, Ideal.exp ((b j : EReal) - ν)))
    + ∑ j, w j * Ideal.div (Ideal.exp ((b j : EReal) - ν)) ((∑ i, Ideal.exp ((a i : EReal) - ν)) + ∑ j, Ideal.exp ((b j : EReal) - ν))

/-- The kernel's attended value of a row is `row`. -/
theorem kernel_row {n k : ℕ} [Nonempty (Fin n)] [Nonempty (Fin k)] (a : Fin n → ℝ) (b : Fin k → ℝ) (ν : ℝ) (v : Fin n → EReal) (w : Fin k → EReal)
    (A : Fin n → EReal) (B : Fin k → EReal) (hA : ∀ i, A i = ((a i / Real.log 2 : ℝ) : EReal)) (hB : ∀ i, B i = ((b i / Real.log 2 : ℝ) : EReal))
    (μ : EReal) (hμ : μ = max (Finset.univ.fold max ⊥ A) (Finset.univ.fold max ⊥ B)) :
    Ideal.div ((∑ i, Ideal.exp2 (A i - μ) * v i) + ∑ j, Ideal.exp2 (B j - μ) * w j)
        ((∑ i, Ideal.exp2 (A i - μ)) + ∑ j, Ideal.exp2 (B j - μ)) = row a b ν v w := by
  obtain rfl : A = fun i => ((a i / Real.log 2 : ℝ) : EReal) := funext hA
  obtain rfl : B = fun i => ((b i / Real.log 2 : ℝ) : EReal) := funext hB
  obtain ⟨x, ex⟩ := max_real Finset.univ (fun i => a i / Real.log 2) Finset.univ_nonempty
  obtain ⟨y, ey⟩ := max_real Finset.univ (fun i => b i / Real.log 2) Finset.univ_nonempty
  rw [ex, ey] at hμ
  obtain rfl : μ = ((max x y : ℝ) : EReal) := hμ.trans (Monotone.map_max EReal.coe_strictMono.monotone).symm
  exact attend_scores a b (max x y) ν v w

end Cert.AttnMath

end
-- ==== Proof.AttnFinite.lean ====
/- The precondition read: every number of the queries and of the keys is a real. -/
module

public import proofs.«01_k».proof.Pre_attn_finite
public import Idealize.ShloMosaic.Lib.Pipeline.ValueKit

@[expose] public section

noncomputable section

namespace Cert.AttnFinite

open Idealize.ShloMosaic

/-- The bit patterns of the two infinities. -/
theorem high_bits : Ideal.ofBits FTy.f32 0x7F800000#32 = ⊤ := by simp [Ideal.ofBits, Ideal.ieee]

theorem low_bits : Ideal.ofBits FTy.f32 0xFF800000#32 = ⊥ := by simp [Ideal.ofBits, Ideal.ieee]

theorem both : ∀ a b : BitVec 1, IntOp.andi a b = 1#1 → a = 1#1 ∧ b = 1#1 := by decide

/-- An "and" taken along a list is set only where every word of the list is. -/
theorem all_of_foldl {ι : Type*} (x : ι → BitVec 1) (l : List ι) : ∀ z : BitVec 1,
    l.foldl (fun r i => IntOp.andi r (x i)) z = 1#1 → z = 1#1 ∧ ∀ i ∈ l, x i = 1#1 := by
  induction l with
  | nil => exact fun z e => ⟨e, by simp⟩
  | cons a l ih =>
    intro z e
    obtain ⟨h1, h2⟩ := ih _ e
    obtain ⟨h3, h4⟩ := both _ _ h1
    refine ⟨h3, fun i hi => ?_⟩
    rcases List.mem_cons.mp hi with rfl | hi
    · exact h4
    · exact h2 i hi

theorem all_of_reduce {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  rw [Host.reduce_eq_foldl] at e
  refine (all_of_foldl x _ _ e).2 i (List.mem_filter.mpr ⟨?_, by simpa using hi⟩)
  exact List.mem_map.mpr ⟨s.rowMajor i, List.mem_finRange _, Equiv.symm_apply_apply _ _⟩

/-- A number whose absolute value is below the infinite one is a real. -/
theorem real_of_cmp (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

theorem real_at {s t u : Shape} {axes : List (Fin s.rank)} (x : FVec Ideal s .f32) (y : FVec Ideal s .f32) (hy : ∀ i, y i = ⊤)
    (init : u.Idx → BitVec 1) (h : s.ReducesTo axes t) (hu : 0 < u.numel) (j : t.Idx) (hj : ∀ i, h.drop i = j)
    (e : Host.reduce IntOp.andi (cmpf .olt (Host.absf x) y) init h hu j = 1#1) (i : s.Idx) : ∃ r : ℝ, x i = r := by
  have := all_of_reduce _ _ h hu j e i (hj i)
  refine real_of_cmp (x i) ?_
  rw [← hy i]
  exact this

open Cert.Pre_attn_finite

/-- The precondition function's side conditions. -/
instance facts : Cert.Pre_attn_finite.Facts where
  bcast_S_S4x2048x16x128 := by decide
  reducesTo_S4x2048x16x128_S_d0_1_2_3 := by decide
  h_S_ := by decide
  bcast_S_S4x2048x16x64 := by decide
  reducesTo_S4x2048x16x64_S_d0_1_2_3 := by decide
  bcast_S_S4x2048x64 := by decide
  reducesTo_S4x2048x64_S_d0_1_2 := by decide
  bcast_S_S4x256x16x128 := by decide
  reducesTo_S4x256x16x128_S_d0_1_2_3 := by decide
  bcast_S_S4x256x64 := by decide
  reducesTo_S4x256x64_S_d0_1_2 := by decide

/-- Where the precondition holds the queries and the keys are real throughout. -/
theorem reals (qn : FVec Ideal S4x2048x16x128 .f32) (qr : FVec Ideal S4x2048x16x64 .f32) (kn : FVec Ideal S4x2048x16x128 .f32)
    (kr : FVec Ideal S4x2048x64 .f32) (v : FVec Ideal S4x2048x16x128 .f32) (knt : FVec Ideal S4x256x16x128 .f32)
    (krt : FVec Ideal S4x256x64 .f32) (vt : FVec Ideal S4x256x16x128 .f32) (j : S_.Idx)
    (e : Cert.Pre_attn_finite.fn (F := Ideal) qn qr kn kr v knt krt vt j = 1#1) :
    (∀ i, ∃ r : ℝ, qn i = r) ∧ (∀ i, ∃ r : ℝ, qr i = r) ∧ (∀ i, ∃ r : ℝ, kn i = r) ∧ (∀ i, ∃ r : ℝ, kr i = r)
      ∧ (∀ i, ∃ r : ℝ, knt i = r) ∧ ∀ i, ∃ r : ℝ, krt i = r := by
  obtain ⟨e, e6⟩ := both _ _ e
  obtain ⟨e, e5⟩ := both _ _ e
  obtain ⟨e, e3⟩ := both _ _ e
  obtain ⟨e, e2⟩ := both _ _ e
  obtain ⟨e0, e1⟩ := both _ _ e
  refine ⟨real_at _ _ (fun _ => high_bits) _ _ _ j (fun _ => funext fun a => a.elim0) e0,
    real_at _ _ (fun _ => high_bits) _ _ _ j (fun _ => funext fun a => a.elim0) e1,
    real_at _ _ (fun _ => high_bits) _ _ _ j (fun _ => funext fun a => a.elim0) e2,
    real_at _ _ (fun _ => high_bits) _ _ _ j (fun _ => funext fun a => a.elim0) e3,
    real_at _ _ (fun _ => high_bits) _ _ _ j (fun _ => funext fun a => a.elim0) e5,
    real_at _ _ (fun _ => high_bits) _ _ _ j (fun _ => funext fun a => a.elim0) e6⟩

end Cert.AttnFinite

end
-- ==== Proof.AttnRefRead.lean ====
/- The attention's reference read at one place: the scores, their greatest, the weights and the weighted sum. -/
module

public import proofs.«01_k».proof.Proof.Gen.AttnRefIdeal.Run
public import proofs.«01_k».proof.Proof.AttnScore
public import proofs.«01_k».proof.Proof.AttnFinite
public import Idealize.ShloMosaic.Lib.Pipeline.ValueKit

@[expose] public section

set_option maxRecDepth 16384

noncomputable section

open Idealize.ShloMosaic Idealize.ShloMosaic.TcCoe Idealize.SL.Sem

namespace Cert.AttnRefIdeal.Read

open Cert.AttnRefIdeal Cert.AttnRefIdeal.Gen

/-- The scores: the queries' products with the keys of the latent tokens and then of the context, over sqrt(192). -/
def scores (qn : FVec Ideal S4x2048x16x128 .f32) (qr : FVec Ideal S4x2048x16x64 .f32)
    (kn : FVec Ideal S4x2048x16x128 .f32) (kr : FVec Ideal S4x2048x64 .f32)
    (knt : FVec Ideal S4x256x16x128 .f32) (krt : FVec Ideal S4x256x64 .f32) : FVec Ideal S4x16x2048x2304 .f32 :=
  Host.divf (addf (Host.dotGeneral dot_S4x2048x16x128_S4x2304x16x128_S4x16x2048x2304_3_3_1_1_02_02 none qn
      (concatenate S4x2304x16x128 1 [⟨S4x2048x16x128, kn⟩, ⟨S4x256x16x128, knt⟩] concatenates_S4x2048x16x128_S4x256x16x128_S4x2304x16x128_d1))
    (transpose S4x16x2048x2304 [0, 3, 2, 1] (Host.dotGeneral dot_S4x2304x64_S4x2048x16x64_S4x2304x2048x16_2_3_1_12_0_0 none
      (concatenate S4x2304x64 1 [⟨S4x2048x64, kr⟩, ⟨S4x256x64, krt⟩] concatenates_S4x2048x64_S4x256x64_S4x2304x64_d1) qr)
      transposes_S4x2304x2048x16_S4x16x2048x2304_0_3_2_1))
    (broadcastInDim S4x16x2048x2304 ![] bcast_S_S4x16x2048x2304 (Host.sqrt (constant S_ .f32 0x43400000#32)))

/-- The powers of e of the scores less their row's greatest. -/
def powers (S : FVec Ideal S4x16x2048x2304 .f32) : FVec Ideal S4x16x2048x2304 .f32 :=
  Host.exp (subf S (broadcastInDim S4x16x2048x2304 ![0, 1, 2, 3] bcast_S4x16x2048x1_S4x16x2048x2304_0_1_2_3
    (broadcastInDim S4x16x2048x1 ![0, 1, 2] bcast_S4x16x2048_S4x16x2048x1_0_1_2
      (maximumf (broadcastInDim S4x16x2048 ![] bcast_S_S4x16x2048 (constant S_ .f32 0xFF800000#32))
        (Host.reduce FloatOps.maximumf S (constant S_ .f32 0xFF800000#32) reducesTo_S4x16x2048x2304_S4x16x2048_d3 h_S_)))))

/-- The weights: the powers over their row's sum. -/
def weights (E : FVec Ideal S4x16x2048x2304 .f32) : FVec Ideal S4x16x2048x2304 .f32 :=
  Host.divf E (broadcastInDim S4x16x2048x2304 ![0, 1, 2, 3] bcast_S4x16x2048x1_S4x16x2048x2304_0_1_2_3
    (broadcastInDim S4x16x2048x1 ![0, 1, 2] bcast_S4x16x2048_S4x16x2048x1_0_1_2
      (Host.reduceAdd E (constant S_ .f32 0x00000000#32) reducesTo_S4x16x2048x2304_S4x16x2048_d3 h_S_)))

/-- The attended values, a row per query and the heads side by side. -/
def attended (W : FVec Ideal S4x16x2048x2304 .f32) (v : FVec Ideal S4x2048x16x128 .f32) (vt : FVec Ideal S4x256x16x128 .f32) :
    FVec Ideal S8192x2048 .bf16 :=
  truncf .bf16 (shapeCast _ (transpose S4x2048x16x128 [0, 3, 1, 2]
    (Host.dotGeneral dot_S4x2304x16x128_S4x16x2048x2304_S4x16x128x2048_1_3_3_2_02_01 none
      (concatenate S4x2304x16x128 1 [⟨S4x2048x16x128, v⟩, ⟨S4x256x16x128, vt⟩] concatenates_S4x2048x16x128_S4x256x16x128_S4x2304x16x128_d1) W)
    transposes_S4x16x128x2048_S4x2048x16x128_0_3_1_2) shapeCasts_S4x2048x16x128_S8192x2048) bitsLt_bf16_f32

theorem res_eq (m : (ℓ : Loc nD τ sig) → Buf (Elt Ideal) ℓ) (c : Dev nD) : Cert.AttnRefIdeal.Value.res_main_v24 (F := Ideal) m c
    = attended (weights (powers (scores (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
        (m ((c.tc : Thread nD τ).loc main_arg6))))) (m ((c.tc : Thread nD τ).loc main_arg4)) (m ((c.tc : Thread nD τ).loc main_arg7)) := by
  unfold Cert.AttnRefIdeal.Value.res_main_v24 attended weights powers scores
  rfl

theorem scores_at (qn qr kn kr knt krt) (b : Fin 4) (h : Fin 16) (q : Fin 2048) (k : Fin 2304) :
    scores qn qr kn kr knt krt (ix4 b h q k)
      = Ideal.div ((∑ x : Fin 128, qn (ix4 b q h x) * if hk : k.val < 2048 then kn (ix4 b ⟨k.val, hk⟩ h x) else knt (ix4 b ⟨k.val - 2048, by omega⟩ h x))
        + ∑ x : Fin 64, (if hk : k.val < 2048 then kr (ix3 b ⟨k.val, hk⟩ x) else krt (ix3 b ⟨k.val - 2048, by omega⟩ x)) * qr (ix4 b q h x))
        (Ideal.sqrt (Ideal.ofBits FTy.f32 1128267776#32)) := by
  pointwise [scores]

theorem weights_at (S) (b : Fin 4) (h : Fin 16) (q : Fin 2048) (k : Fin 2304) :
    weights S (ix4 b h q k) = Ideal.div (S (ix4 b h q k)) (∑ x : Fin 2304, S (ix4 b h q x)) := by
  pointwise [weights]

/-- A row's greatest score. -/
def greatest (S : FVec Ideal S4x16x2048x2304 .f32) : FVec Ideal S4x16x2048 .f32 :=
  maximumf (broadcastInDim S4x16x2048 ![] bcast_S_S4x16x2048 (constant S_ .f32 0xFF800000#32))
    (Host.reduce FloatOps.maximumf S (constant S_ .f32 0xFF800000#32) reducesTo_S4x16x2048x2304_S4x16x2048_d3 h_S_)

theorem powers_eq (S) : powers S = Host.exp (subf S (broadcastInDim S4x16x2048x2304 ![0, 1, 2, 3] bcast_S4x16x2048x1_S4x16x2048x2304_0_1_2_3
    (broadcastInDim S4x16x2048x1 ![0, 1, 2] bcast_S4x16x2048_S4x16x2048x1_0_1_2 (greatest S)))) := rfl

theorem powers_at (S) (b : Fin 4) (h : Fin 16) (q : Fin 2048) (k : Fin 2304) :
    powers S (ix4 b h q k) = Ideal.exp (S (ix4 b h q k) - greatest S (ix3 b h q)) := by
  rw [powers_eq]
  generalize greatest S = M
  pointwise

/-- A row's greatest is a real where the scores are. -/
theorem greatest_real (S : FVec Ideal S4x16x2048x2304 .f32) (hS : AttnMath.Reals S) (b : Fin 4) (h : Fin 16) (q : Fin 2048) :
    ∃ ν : ℝ, greatest S (ix3 b h q) = ν := by
  exact AttnMath.greatest_real S _ _ reducesTo_S4x16x2048x2304_S4x16x2048_d3 h_S_ (fun _ => AttnFinite.low_bits)
    (fun _ => AttnFinite.low_bits) (ix3 b h q) hS (ix4 b h q ⟨0, by decide⟩)
    ((reducesTo_S4x16x2048x2304_S4x16x2048_d3.fiber_r4_a3 (ix3 b h q) _).mpr ⟨⟨0, by decide⟩, rfl⟩)

theorem attended_at (W v vt) (b : Fin 4) (h : Fin 16) (q : Fin 2048) (l : Fin 128) (j : S8192x2048.Idx)
    (h0 : (j 0).val = 2048 * b.val + q.val) (h1 : (j 1).val = 128 * h.val + l.val) :
    attended W v vt j = (∑ x : Fin 2048, v (ix4 b x h l) * W (ix4 b h q ⟨x.val, by omega⟩))
      + ∑ x : Fin 256, vt (ix4 b x h l) * W (ix4 b h q ⟨2048 + x.val, by omega⟩) := by
  pointwise [attended]
  exact congrArg₂ (· + ·)
    (Finset.sum_congr rfl fun x _ => congrArg₂ (· * ·)
      (congrArg v (AttnMath.ix4_congr (by dsimp only; omega) rfl (by dsimp only; omega) (by dsimp only; omega)))
      (congrArg W (AttnMath.ix4_congr (by dsimp only; omega) (by dsimp only; omega) (by dsimp only; omega) rfl)))
    (Finset.sum_congr rfl fun x _ => congrArg₂ (· * ·)
      (congrArg vt (AttnMath.ix4_congr (by dsimp only; omega) rfl (by dsimp only; omega) (by dsimp only; omega)))
      (congrArg W (AttnMath.ix4_congr (by dsimp only; omega) (by dsimp only; omega) (by dsimp only; omega) rfl)))

variable (qn : FVec Ideal S4x2048x16x128 .f32) (qr : FVec Ideal S4x2048x16x64 .f32) (kn : FVec Ideal S4x2048x16x128 .f32)
  (kr : FVec Ideal S4x2048x64 .f32) (v : FVec Ideal S4x2048x16x128 .f32) (knt : FVec Ideal S4x256x16x128 .f32)
  (krt : FVec Ideal S4x256x64 .f32) (vt : FVec Ideal S4x256x16x128 .f32)

/-- The score of a query against a latent token's key. -/
def latent (b : Fin 4) (h : Fin 16) (q : Fin 2048) (k : Fin 2048) : ℝ :=
  AttnMath.score (fun x => qn (ix4 b q h x)) (fun x => qr (ix4 b q h x)) (fun x => kn (ix4 b k h x)) (fun x => kr (ix3 b k x))

/-- The score of a query against a context token's key. -/
def context (b : Fin 4) (h : Fin 16) (q : Fin 2048) (k : Fin 256) : ℝ :=
  AttnMath.score (fun x => qn (ix4 b q h x)) (fun x => qr (ix4 b q h x)) (fun x => knt (ix4 b k h x)) (fun x => krt (ix3 b k x))

section
variable (r0 : AttnMath.Reals qn) (r1 : AttnMath.Reals qr) (r2 : AttnMath.Reals kn) (r3 : AttnMath.Reals kr) (r5 : AttnMath.Reals knt)
  (r6 : AttnMath.Reals krt)
include r0 r1 r2 r3 r5 r6

theorem scores_latent (b : Fin 4) (h : Fin 16) (q : Fin 2048) (k : Fin 2048) :
    scores qn qr kn kr knt krt (ix4 b h q ⟨k.val, by omega⟩) = (latent qn qr kn kr b h q k : EReal) := by
  rw [scores_at]
  simp only [dif_pos k.isLt]
  exact AttnMath.reference_score (fun _ => r0 _) (fun _ => r1 _) (fun _ => r2 _) (fun _ => r3 _)

theorem scores_context (b : Fin 4) (h : Fin 16) (q : Fin 2048) (k : Fin 256) :
    scores qn qr kn kr knt krt (ix4 b h q ⟨2048 + k.val, by omega⟩) = (context qn qr knt krt b h q k : EReal) := by
  rw [scores_at]
  simp only [dif_neg (show ¬ 2048 + k.val < 2048 by omega), Nat.add_sub_cancel_left]
  exact AttnMath.reference_score (fun _ => r0 _) (fun _ => r1 _) (fun _ => r5 _) (fun _ => r6 _)

theorem scores_real : AttnMath.Reals (scores qn qr kn kr knt krt) := fun i => by
  obtain ⟨b, h, q, k, rfl⟩ : ∃ b h q k, i = ix4 b h q k := ⟨i 0, i 1, i 2, i 3, by funext a; fin_cases a <;> rfl⟩
  by_cases hk : k.val < 2048
  · exact ⟨_, scores_latent qn qr kn kr knt krt r0 r1 r2 r3 r5 r6 b h q ⟨k.val, hk⟩⟩
  · refine ⟨_, (congrArg (fun z => scores qn qr kn kr knt krt (ix4 b h q z)) (Fin.ext ?_)).trans
      (scores_context qn qr kn kr knt krt r0 r1 r2 r3 r5 r6 b h q ⟨k.val - 2048, by omega⟩)⟩
    show k.val = 2048 + (k.val - 2048)
    omega

/-- The reference's result at one place, its row's softmax at some real shift. -/
theorem reference_at (b : Fin 4) (h : Fin 16) (q : Fin 2048) (l : Fin 128) (j : S8192x2048.Idx)
    (h0 : (j 0).val = 2048 * b.val + q.val) (h1 : (j 1).val = 128 * h.val + l.val) :
    ∃ ν : ℝ, attended (weights (powers (scores qn qr kn kr knt krt))) v vt j
      = AttnMath.row (latent qn qr kn kr b h q) (context qn qr knt krt b h q) ν (fun k => v (ix4 b k h l)) (fun k => vt (ix4 b k h l)) := by
  obtain ⟨ν, hν⟩ := greatest_real _ (scores_real qn qr kn kr knt krt r0 r1 r2 r3 r5 r6) b h q
  refine ⟨ν, ?_⟩
  rw [attended_at _ _ _ b h q l j h0 h1]
  have e : ∀ k, powers (scores qn qr kn kr knt krt) (ix4 b h q k) = Ideal.exp (scores qn qr kn kr knt krt (ix4 b h q k) - ν) := fun k => by
    rw [powers_at, hν]
  have eL := scores_latent qn qr kn kr knt krt r0 r1 r2 r3 r5 r6 b h q
  have eC := scores_context qn qr kn kr knt krt r0 r1 r2 r3 r5 r6 b h q
  have s : ∑ x : Fin 2304, Ideal.exp (scores qn qr kn kr knt krt (ix4 b h q x) - ν)
      = (∑ k, Ideal.exp ((latent qn qr kn kr b h q k : EReal) - ν)) + ∑ k, Ideal.exp ((context qn qr knt krt b h q k : EReal) - ν) := by
    rw [AttnMath.sum_split (show 2048 + 256 = 2304 from rfl)]
    simp only [eL, eC]
  simp only [weights_at, e, s, eL, eC]
  rfl

end

end Cert.AttnRefIdeal.Read

end
-- ==== Proof.AttnRead.lean ====
/- The attention's packed operands read: a query's lanes scaled, the keys' and the values' lanes, at one head and lane. -/
module

public import proofs.«01_k».proof.Proof.Gen.AttnIdeal.Value
public import proofs.«01_k».proof.Proof.AttnScore
public import Idealize.ShloMosaic.Lib.Pipeline.ValueKit

@[expose] public section

set_option maxRecDepth 200000

noncomputable section

open Idealize.ShloMosaic Idealize.ShloMosaic.TcCoe Idealize.SL.Sem
open Idealize.ShloMosaic.Pipeline (Dat)

namespace Cert.AttnIdeal.Final

open Cert.AttnIdeal Cert.AttnIdeal.Gen

variable (m : (ℓ : Loc nD τ sig) → Buf (Elt Ideal) ℓ)

/-- A query's or a key's lanes, 256 a head: the 128 without position, the 64 with, and 64 of zeros. -/
def packK (kn : FVec Ideal S4x2048x16x128 .f32) (kr : FVec Ideal S4x2048x64 .f32) : FVec Ideal S8192x4096 .bf16 :=
  shapeCast S8192x4096 (truncf .bf16 (concatenate S4x2048x16x256 3 [⟨S4x2048x16x128, kn⟩,
    ⟨S4x2048x16x64, broadcastInDim S4x2048x16x64 ![0, 1, 2, 3] bcast_S4x2048x1x64_S4x2048x16x64_0_1_2_3
      (broadcastInDim S4x2048x1x64 ![0, 1, 3] bcast_S4x2048x64_S4x2048x1x64_0_1_3 kr)⟩,
    ⟨S4x2048x16x64, broadcastInDim S4x2048x16x64 ![] bcast_S_S4x2048x16x64 (constant S_ .f32 0x00000000#32)⟩]
    concatenates_S4x2048x16x128_S4x2048x16x64_S4x2048x16x64_S4x2048x16x256_d3) bitsLt_bf16_f32) shapeCasts_S4x2048x16x256_S8192x4096

def packKt (kn : FVec Ideal S4x256x16x128 .f32) (kr : FVec Ideal S4x256x64 .f32) : FVec Ideal S1024x4096 .bf16 :=
  shapeCast S1024x4096 (truncf .bf16 (concatenate S4x256x16x256 3 [⟨S4x256x16x128, kn⟩,
    ⟨S4x256x16x64, broadcastInDim S4x256x16x64 ![0, 1, 2, 3] bcast_S4x256x1x64_S4x256x16x64_0_1_2_3
      (broadcastInDim S4x256x1x64 ![0, 1, 3] bcast_S4x256x64_S4x256x1x64_0_1_3 kr)⟩,
    ⟨S4x256x16x64, broadcastInDim S4x256x16x64 ![] bcast_S_S4x256x16x64 (constant S_ .f32 0x00000000#32)⟩]
    concatenates_S4x256x16x128_S4x256x16x64_S4x256x16x64_S4x256x16x256_d3) bitsLt_bf16_f32) shapeCasts_S4x256x16x256_S1024x4096

/-- The queries' lanes, scaled. -/
def packQ (qn : FVec Ideal S4x2048x16x128 .f32) (qr : FVec Ideal S4x2048x16x64 .f32) : FVec Ideal S8192x4096 .bf16 :=
  shapeCast S8192x4096 (truncf .bf16 (Host.divf (concatenate S4x2048x16x256 3 [⟨S4x2048x16x128, qn⟩, ⟨S4x2048x16x64, qr⟩, ⟨S4x2048x16x64, qr⟩]
    concatenates_S4x2048x16x128_S4x2048x16x64_S4x2048x16x64_S4x2048x16x256_d3)
    (broadcastInDim S4x2048x16x256 ![] bcast_S_S4x2048x16x256 (mulf (Host.sqrt (constant S_ .f32 0x43400000#32)) (Host.log (constant S_ .f32 0x40000000#32)))))
    bitsLt_bf16_f32) shapeCasts_S4x2048x16x256_S8192x4096

/-- The values' lanes, 256 a head: the 128 of the value and 128 of ones. -/
def packV (v : FVec Ideal S4x2048x16x128 .f32) : FVec Ideal S8192x4096 .bf16 :=
  shapeCast S8192x4096 (truncf .bf16 (concatenate S4x2048x16x256 3 [⟨S4x2048x16x128, v⟩,
    ⟨S4x2048x16x128, broadcastInDim S4x2048x16x128 ![] bcast_S_S4x2048x16x128 (constant S_ .f32 0x3F800000#32)⟩]
    concatenates_S4x2048x16x128_S4x2048x16x128_S4x2048x16x256_d3) bitsLt_bf16_f32) shapeCasts_S4x2048x16x256_S8192x4096

def packVt (v : FVec Ideal S4x256x16x128 .f32) : FVec Ideal S1024x4096 .bf16 :=
  shapeCast S1024x4096 (truncf .bf16 (concatenate S4x256x16x256 3 [⟨S4x256x16x128, v⟩,
    ⟨S4x256x16x128, broadcastInDim S4x256x16x128 ![] bcast_S_S4x256x16x128 (constant S_ .f32 0x3F800000#32)⟩]
    concatenates_S4x256x16x128_S4x256x16x128_S4x256x16x256_d3) bitsLt_bf16_f32) shapeCasts_S4x256x16x256_S1024x4096

theorem packK_plain (kn kr) (i : S8192x4096.Idx) (b : Fin 4) (h : Fin 16) (k : Fin 2048) (x : Fin 128) (h0 : (i 0).val = 2048 * b.val + k.val)
    (h1 : (i 1).val = 256 * h.val + (x.val)) : packK kn kr i = kn (ix4 b k h x) := by
  pointwise [packK]
  rw [dif_pos (show (i 1).val % 256 < 128 by omega)]
  exact congrArg kn (AttnMath.ix4_congr (by dsimp only; omega) (by dsimp only; omega) (by dsimp only; omega) (by dsimp only; omega))

theorem packK_rotated (kn kr) (i : S8192x4096.Idx) (b : Fin 4) (h : Fin 16) (k : Fin 2048) (x : Fin 64) (h0 : (i 0).val = 2048 * b.val + k.val)
    (h1 : (i 1).val = 256 * h.val + (128 + x.val)) : packK kn kr i = kr (ix3 b k x) := by
  pointwise [packK]
  rw [dif_neg (show ¬ (i 1).val % 256 < 128 by omega)]
  rw [dif_pos (show (i 1).val % 256 - 128 < 64 by omega)]
  exact congrArg kr (AttnMath.ix3_congr (by dsimp only; omega) (by dsimp only; omega) (by dsimp only; omega))

theorem packK_zero (kn kr) (i : S8192x4096.Idx) (b : Fin 4) (h : Fin 16) (k : Fin 2048) (x : Fin 64) (h0 : (i 0).val = 2048 * b.val + k.val)
    (h1 : (i 1).val = 256 * h.val + (192 + x.val)) : packK kn kr i = 0 := by
  pointwise [packK]
  rw [dif_neg (show ¬ (i 1).val % 256 < 128 by omega)]
  rw [dif_neg (show ¬ (i 1).val % 256 - 128 < 64 by omega)]

theorem packKt_plain (kn kr) (i : S1024x4096.Idx) (b : Fin 4) (h : Fin 16) (k : Fin 256) (x : Fin 128) (h0 : (i 0).val = 256 * b.val + k.val)
    (h1 : (i 1).val = 256 * h.val + (x.val)) : packKt kn kr i = kn (ix4 b k h x) := by
  pointwise [packKt]
  rw [dif_pos (show (i 1).val % 256 < 128 by omega)]
  exact congrArg kn (AttnMath.ix4_congr (by dsimp only; omega) (by dsimp only; omega) (by dsimp only; omega) (by dsimp only; omega))

theorem packKt_rotated (kn kr) (i : S1024x4096.Idx) (b : Fin 4) (h : Fin 16) (k : Fin 256) (x : Fin 64) (h0 : (i 0).val = 256 * b.val + k.val)
    (h1 : (i 1).val = 256 * h.val + (128 + x.val)) : packKt kn kr i = kr (ix3 b k x) := by
  pointwise [packKt]
  rw [dif_neg (show ¬ (i 1).val % 256 < 128 by omega)]
  rw [dif_pos (show (i 1).val % 256 - 128 < 64 by omega)]
  exact congrArg kr (AttnMath.ix3_congr (by dsimp only; omega) (by dsimp only; omega) (by dsimp only; omega))

theorem packKt_zero (kn kr) (i : S1024x4096.Idx) (b : Fin 4) (h : Fin 16) (k : Fin 256) (x : Fin 64) (h0 : (i 0).val = 256 * b.val + k.val)
    (h1 : (i 1).val = 256 * h.val + (192 + x.val)) : packKt kn kr i = 0 := by
  pointwise [packKt]
  rw [dif_neg (show ¬ (i 1).val % 256 < 128 by omega)]
  rw [dif_neg (show ¬ (i 1).val % 256 - 128 < 64 by omega)]

theorem packQ_plain (qn qr) (i : S8192x4096.Idx) (b : Fin 4) (h : Fin 16) (k : Fin 2048) (x : Fin 128) (h0 : (i 0).val = 2048 * b.val + k.val)
    (h1 : (i 1).val = 256 * h.val + (x.val)) : packQ qn qr i = Ideal.div (qn (ix4 b k h x)) (Ideal.sqrt (Ideal.ofBits FTy.f32 1128267776#32) * Ideal.log (Ideal.ofBits FTy.f32 1073741824#32)) := by
  pointwise [packQ]
  rw [dif_pos (show (i 1).val % 256 < 128 by omega)]
  exact congrArg (fun z => Ideal.div (qn z) _) (AttnMath.ix4_congr (by dsimp only; omega) (by dsimp only; omega) (by dsimp only; omega) (by dsimp only; omega))

theorem packQ_rotated (qn qr) (i : S8192x4096.Idx) (b : Fin 4) (h : Fin 16) (k : Fin 2048) (x : Fin 64) (h0 : (i 0).val = 2048 * b.val + k.val)
    (h1 : (i 1).val = 256 * h.val + (128 + x.val)) : packQ qn qr i = Ideal.div (qr (ix4 b k h x)) (Ideal.sqrt (Ideal.ofBits FTy.f32 1128267776#32) * Ideal.log (Ideal.ofBits FTy.f32 1073741824#32)) := by
  pointwise [packQ]
  rw [dif_neg (show ¬ (i 1).val % 256 < 128 by omega)]
  rw [dif_pos (show (i 1).val % 256 - 128 < 64 by omega)]
  exact congrArg (fun z => Ideal.div (qr z) _) (AttnMath.ix4_congr (by dsimp only; omega) (by dsimp only; omega) (by dsimp only; omega) (by dsimp only; omega))

theorem packV_plain (v) (i : S8192x4096.Idx) (b : Fin 4) (h : Fin 16) (k : Fin 2048) (x : Fin 128) (h0 : (i 0).val = 2048 * b.val + k.val)
    (h1 : (i 1).val = 256 * h.val + (x.val)) : packV v i = v (ix4 b k h x) := by
  pointwise [packV]
  rw [dif_pos (show (i 1).val % 256 < 128 by omega)]
  exact congrArg v (AttnMath.ix4_congr (by dsimp only; omega) (by dsimp only; omega) (by dsimp only; omega) (by dsimp only; omega))

theorem packV_one (v) (i : S8192x4096.Idx) (b : Fin 4) (h : Fin 16) (k : Fin 2048) (x : Fin 128) (h0 : (i 0).val = 2048 * b.val + k.val)
    (h1 : (i 1).val = 256 * h.val + (128 + x.val)) : packV v i = 1 := by
  pointwise [packV]
  rw [dif_neg (show ¬ (i 1).val % 256 < 128 by omega)]

theorem packVt_plain (v) (i : S1024x4096.Idx) (b : Fin 4) (h : Fin 16) (k : Fin 256) (x : Fin 128) (h0 : (i 0).val = 256 * b.val + k.val)
    (h1 : (i 1).val = 256 * h.val + (x.val)) : packVt v i = v (ix4 b k h x) := by
  pointwise [packVt]
  rw [dif_pos (show (i 1).val % 256 < 128 by omega)]
  exact congrArg v (AttnMath.ix4_congr (by dsimp only; omega) (by dsimp only; omega) (by dsimp only; omega) (by dsimp only; omega))

theorem packVt_one (v) (i : S1024x4096.Idx) (b : Fin 4) (h : Fin 16) (k : Fin 256) (x : Fin 128) (h0 : (i 0).val = 256 * b.val + k.val)
    (h1 : (i 1).val = 256 * h.val + (128 + x.val)) : packVt v i = 1 := by
  pointwise [packVt]
  rw [dif_neg (show ¬ (i 1).val % 256 < 128 by omega)]

set_option maxHeartbeats 2000000 in
theorem V_v20 (c : Dev nD) : V m c main_v20 = concatenate S9216x4096 0 [⟨S8192x4096, packK (m ((c.tc : Thread nD τ).loc main_arg2)) (m ((c.tc : Thread nD τ).loc main_arg3))⟩,
   ⟨S1024x4096, packKt (m ((c.tc : Thread nD τ).loc main_arg5)) (m ((c.tc : Thread nD τ).loc main_arg6))⟩] concatenates_S8192x4096_S1024x4096_S9216x4096_d0 := by
  unfold V packK packKt
  after_results
  try rfl

set_option maxHeartbeats 2000000 in
theorem V_v29 (c : Dev nD) : V m c main_v29 = concatenate S9216x4096 0 [⟨S8192x4096, packV (m ((c.tc : Thread nD τ).loc main_arg4))⟩,
   ⟨S1024x4096, packVt (m ((c.tc : Thread nD τ).loc main_arg7))⟩] concatenates_S8192x4096_S1024x4096_S9216x4096_d0 := by
  unfold V packV packVt
  after_results
  try rfl

set_option maxHeartbeats 2000000 in
theorem V_v7 (c : Dev nD) : V m c main_v7 = packQ (m ((c.tc : Thread nD τ).loc main_arg0)) (m ((c.tc : Thread nD τ).loc main_arg1)) := by
  unfold V packQ
  after_results
  try rfl

/-- The latent tokens' rows stand before the context's. -/
theorem rows_latent (L : FVec Ideal S8192x4096 .bf16) (C : FVec Ideal S1024x4096 .bf16) (i : S9216x4096.Idx) (h0 : (i 0).val < 8192) :
    concatenate S9216x4096 0 [⟨S8192x4096, L⟩, ⟨S1024x4096, C⟩] concatenates_S8192x4096_S1024x4096_S9216x4096_d0 i
      = L (ix2 ⟨(i 0).val, h0⟩ ⟨(i 1).val, (i 1).isLt⟩) := by
  pointwise
  rw [dif_pos h0]

theorem rows_context (L : FVec Ideal S8192x4096 .bf16) (C : FVec Ideal S1024x4096 .bf16) (i : S9216x4096.Idx) (h0 : ¬ (i 0).val < 8192)
    (h1 : (i 0).val - 8192 < 1024) :
    concatenate S9216x4096 0 [⟨S8192x4096, L⟩, ⟨S1024x4096, C⟩] concatenates_S8192x4096_S1024x4096_S9216x4096_d0 i
      = C (ix2 ⟨(i 0).val - 8192, h1⟩ ⟨(i 1).val, (i 1).isLt⟩) := by
  pointwise
  rw [dif_neg h0]

end Cert.AttnIdeal.Final

end
-- ==== Proof.AttnTile.lean ====
/- One tile of the attention at one place: the reference there, where the scores are real. -/
module

public import proofs.«01_k».proof.Proof.Gen.AttnIdeal.Value
public import proofs.«01_k».proof.Proof.AttnRefRead
public import proofs.«01_k».proof.Proof.AttnRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Final

open Cert.AttnIdeal Cert.AttnIdeal.Gen
open Cert.AttnRefIdeal.Read (latent context)

variable (m : (ℓ : Loc nD τ sig) → Buf (Elt Ideal) ℓ)

/-- One tile's attended value at one place, from the products of its query row with the keys. -/
theorem tile (q : Vec Ideal S256x256 .bf16) (kL : Vec Ideal S2048x256 .bf16) (kC : Vec Ideal S256x256 .bf16)
    (vL : Vec Ideal S2048x256 .bf16) (vC : Vec Ideal S256x256 .bf16) (x : S256x128.Idx)
    (a : Fin 2048 → ℝ) (b : Fin 256 → ℝ) (ν : ℝ) (v : Fin 2048 → EReal) (w : Fin 256 → EReal)
    (hA : ∀ k : Fin 2048, ∑ d : Fin 256, q (ix2 (x 0) d) * kL (ix2 k d) = ((a k / Real.log 2 : ℝ) : EReal))
    (hB : ∀ k : Fin 256, ∑ d : Fin 256, q (ix2 (x 0) d) * kC (ix2 k d) = ((b k / Real.log 2 : ℝ) : EReal))
    (hv : ∀ k : Fin 2048, vL (ix2 k ⟨(x 1).val, lt_trans (x 1).isLt (by decide)⟩) = v k)
    (hw : ∀ k : Fin 256, vC (ix2 k ⟨(x 1).val, lt_trans (x 1).isLt (by decide)⟩) = w k)
    (ov : ∀ k : Fin 2048, vL (ix2 k ⟨128 + (x 1).val, Nat.add_lt_add_left (x 1).isLt 128⟩) = (1 : EReal))
    (ow : ∀ k : Fin 256, vC (ix2 k ⟨128 + (x 1).val, Nat.add_lt_add_left (x 1).isLt 128⟩) = (1 : EReal)) :
    k0_pay2 q kL kC vL vC x = AttnMath.row a b ν v w := by
  pointwise [k0_pay2]
  simp only [hv, hw, ov, ow, mul_one]
  exact AttnMath.kernel_row a b ν v w _ _ hA hB _ (by rw [AttnFinite.low_bits])

/-! The context's keys and values in the packed arrays' last rows. -/

theorem context_plain (c : Dev nD) (i : S9216x4096.Idx) (b : Fin 4) (h : Fin 16) (k : Fin 256) (y : Fin 128) (h0 : (i 0).val = 8192 + 256 * b.val + k.val)
    (h1 : (i 1).val = 256 * h.val + (y.val)) : V m c main_v20 i = m ((c.tc : Thread nD τ).loc main_arg5) (ix4 b k h y) :=
  (congrFun (V_v20 m c) i).trans ((rows_context _ _ i (by omega) (by omega)).trans
    (packKt_plain _ _ _ b h k y (by show (i 0).val - 8192 = _; omega) h1))

theorem context_rotated (c : Dev nD) (i : S9216x4096.Idx) (b : Fin 4) (h : Fin 16) (k : Fin 256) (y : Fin 64) (h0 : (i 0).val = 8192 + 256 * b.val + k.val)
    (h1 : (i 1).val = 256 * h.val + (128 + y.val)) : V m c main_v20 i = m ((c.tc : Thread nD τ).loc main_arg6) (ix3 b k y) :=
  (congrFun (V_v20 m c) i).trans ((rows_context _ _ i (by omega) (by omega)).trans
    (packKt_rotated _ _ _ b h k y (by show (i 0).val - 8192 = _; omega) h1))

theorem context_zero (c : Dev nD) (i : S9216x4096.Idx) (b : Fin 4) (h : Fin 16) (k : Fin 256) (y : Fin 64) (h0 : (i 0).val = 8192 + 256 * b.val + k.val)
    (h1 : (i 1).val = 256 * h.val + (192 + y.val)) : V m c main_v20 i = (0 : EReal) :=
  (congrFun (V_v20 m c) i).trans ((rows_context _ _ i (by omega) (by omega)).trans
    (packKt_zero _ _ _ b h k y (by show (i 0).val - 8192 = _; omega) h1))

theorem context_value (c : Dev nD) (i : S9216x4096.Idx) (b : Fin 4) (h : Fin 16) (k : Fin 256) (y : Fin 128) (h0 : (i 0).val = 8192 + 256 * b.val + k.val)
    (h1 : (i 1).val = 256 * h.val + (y.val)) : V m c main_v29 i = m ((c.tc : Thread nD τ).loc main_arg7) (ix4 b k h y) :=
  (congrFun (V_v29 m c) i).trans ((rows_context _ _ i (by omega) (by omega)).trans
    (packVt_plain _ _ b h k y (by show (i 0).val - 8192 = _; omega) h1))

theorem context_one (c : Dev nD) (i : S9216x4096.Idx) (b : Fin 4) (h : Fin 16) (k : Fin 256) (y : Fin 128) (h0 : (i 0).val = 8192 + 256 * b.val + k.val)
    (h1 : (i 1).val = 256 * h.val + (128 + y.val)) : V m c main_v29 i = (1 : EReal) :=
  (congrFun (V_v29 m c) i).trans ((rows_context _ _ i (by omega) (by omega)).trans
    (packVt_one _ _ b h k y (by show (i 0).val - 8192 = _; omega) h1))

/-- The queries and the keys are real. -/
structure Real (c : Dev nD) : Prop where
  r0 : AttnMath.Reals (ι := S4x2048x16x128.Idx) (m ((c.tc : Thread nD τ).loc main_arg0))
  r1 : AttnMath.Reals (ι := S4x2048x16x64.Idx) (m ((c.tc : Thread nD τ).loc main_arg1))
  r2 : AttnMath.Reals (ι := S4x2048x16x128.Idx) (m ((c.tc : Thread nD τ).loc main_arg2))
  r3 : AttnMath.Reals (ι := S4x2048x64.Idx) (m ((c.tc : Thread nD τ).loc main_arg3))
  r5 : AttnMath.Reals (ι := S4x256x16x128.Idx) (m ((c.tc : Thread nD τ).loc main_arg5))
  r6 : AttnMath.Reals (ι := S4x256x64.Idx) (m ((c.tc : Thread nD τ).loc main_arg6))

/-- The reference's result from the kernel's arguments. -/
def result (c : Dev nD) : FVec Ideal S8192x2048 .bf16 :=
  Cert.AttnRefIdeal.Read.attended (Cert.AttnRefIdeal.Read.weights (Cert.AttnRefIdeal.Read.powers (Cert.AttnRefIdeal.Read.scores
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6)))))
    (m ((c.tc : Thread nD τ).loc main_arg4)) (m ((c.tc : Thread nD τ).loc main_arg7))

/-- One tile at one place is the reference there, its operands being the packed arrays' rows of a batch and lanes of a head. -/
theorem place (c : Dev nD) (R : Real m c) (q : Vec Ideal S256x256 .bf16) (kL : Vec Ideal S2048x256 .bf16) (kC : Vec Ideal S256x256 .bf16)
    (vL : Vec Ideal S2048x256 .bf16) (vC : Vec Ideal S256x256 .bf16) (x : S256x128.Idx) (b : Fin 4) (h : Fin 16) (r : Fin 2048)
    (hq : ∀ d : Fin 256, q (ix2 (x 0) d) = V m c main_v7 (ix2 ⟨2048 * b.val + r.val, by omega⟩ ⟨256 * h.val + d.val, by omega⟩))
    (hkL : ∀ (k : Fin 2048) (d : Fin 256), kL (ix2 k d) = V m c main_v20 (ix2 ⟨2048 * b.val + k.val, by omega⟩ ⟨256 * h.val + d.val, by omega⟩))
    (hkC : ∀ (k : Fin 256) (d : Fin 256), kC (ix2 k d) = V m c main_v20 (ix2 ⟨8192 + 256 * b.val + k.val, by omega⟩ ⟨256 * h.val + d.val, by omega⟩))
    (hvL : ∀ (k : Fin 2048) (d : Fin 256), vL (ix2 k d) = V m c main_v29 (ix2 ⟨2048 * b.val + k.val, by omega⟩ ⟨256 * h.val + d.val, by omega⟩))
    (hvC : ∀ (k : Fin 256) (d : Fin 256), vC (ix2 k d) = V m c main_v29 (ix2 ⟨8192 + 256 * b.val + k.val, by omega⟩ ⟨256 * h.val + d.val, by omega⟩))
    (j : S8192x2048.Idx) (h0 : (j 0).val = 2048 * b.val + r.val) (h1 : (j 1).val = 128 * h.val + (x 1).val) :
    k0_pay2 q kL kC vL vC x = result m c j := by
  obtain ⟨ν, e⟩ := Cert.AttnRefIdeal.Read.reference_at _ _ _ _ (m ((c.tc : Thread nD τ).loc main_arg4)) _ _ (m ((c.tc : Thread nD τ).loc main_arg7))
    R.r0 R.r1 R.r2 R.r3 R.r5 R.r6 b h r (x 1) j h0 h1
  refine Eq.trans ?_ e.symm
  refine tile q kL kC vL vC x _ _ ν _ _ (fun k => ?_) (fun k => ?_) (fun k => ?_) (fun k => ?_) (fun k => ?_) fun k => ?_
  · refine AttnMath.lanes (fun _ => R.r0 _) (fun _ => R.r1 _) (fun _ => R.r2 _) (fun _ => R.r3 _) _ _
      (fun y => ?_) (fun y => ?_) (fun y => ?_) (fun y => ?_) fun y => ?_
    · exact (hq _).trans ((congrFun (V_v7 m c) _).trans (packQ_plain _ _ _ b h r y rfl rfl))
    · exact (hq _).trans ((congrFun (V_v7 m c) _).trans (packQ_rotated _ _ _ b h r y rfl rfl))
    · exact (hkL k _).trans ((congrFun (V_v20 m c) _).trans ((rows_latent _ _ _ (show 2048 * b.val + k.val < 8192 by omega)).trans
        (packK_plain _ _ _ b h k y rfl rfl)))
    · exact (hkL k _).trans ((congrFun (V_v20 m c) _).trans ((rows_latent _ _ _ (show 2048 * b.val + k.val < 8192 by omega)).trans
        (packK_rotated _ _ _ b h k y rfl rfl)))
    · exact (hkL k _).trans ((congrFun (V_v20 m c) _).trans ((rows_latent _ _ _ (show 2048 * b.val + k.val < 8192 by omega)).trans
        (packK_zero _ _ _ b h k y rfl rfl)))
  · refine AttnMath.lanes (fun _ => R.r0 _) (fun _ => R.r1 _) (fun _ => R.r5 _) (fun _ => R.r6 _) _ _
      (fun y => ?_) (fun y => ?_) (fun y => ?_) (fun y => ?_) fun y => ?_
    · exact (hq _).trans ((congrFun (V_v7 m c) _).trans (packQ_plain _ _ _ b h r y rfl rfl))
    · exact (hq _).trans ((congrFun (V_v7 m c) _).trans (packQ_rotated _ _ _ b h r y rfl rfl))
    · exact (hkC k _).trans (context_plain m c _ b h k y rfl rfl)
    · exact (hkC k _).trans (context_rotated m c _ b h k y rfl rfl)
    · exact (hkC k _).trans (context_zero m c _ b h k y rfl rfl)
  · exact (hvL k _).trans ((congrFun (V_v29 m c) _).trans ((rows_latent _ _ _ (show 2048 * b.val + k.val < 8192 by omega)).trans
      (packV_plain _ _ b h k (x 1) rfl rfl)))
  · exact (hvC k _).trans (context_value m c _ b h k (x 1) rfl rfl)
  · exact (hvL k _).trans ((congrFun (V_v29 m c) _).trans ((rows_latent _ _ _ (show 2048 * b.val + k.val < 8192 by omega)).trans
      (packV_one _ _ b h k (x 1) rfl rfl)))
  · exact (hvC k _).trans (context_one m c _ b h k (x 1) rfl rfl)

end Cert.AttnIdeal.Final

end
-- ==== Proof.AttnValue.lean ====
/- The attention's result: every tile of every grid point is the reference there, where the scores are real. -/
module

public import proofs.«01_k».proof.Proof.Gen.AttnIdeal.Value
public import proofs.«01_k».proof.Proof.AttnTile
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Final

open Cert.AttnIdeal Cert.AttnIdeal.Gen

variable (m : (ℓ : Loc nD τ sig) → Buf (Elt Ideal) ℓ)

/-- Every window's block index: the batch turns slowest, the head fastest, the context's rows after every latent token's. -/
theorem idx : ∀ t : Fin cfg0.N, win0_0.index t = ![t.val / 16, t.val % 16] ∧ win0_1.index t = ![t.val / 16, t.val % 16]
    ∧ win0_2.index t = ![32 + t.val / 16, t.val % 16] ∧ win0_3.index t = ![t.val / 16, t.val % 16]
    ∧ win0_4.index t = ![32 + t.val / 16, t.val % 16] ∧ win0_5.index t = ![t.val / 16, t.val % 16] :=
  (by decide +kernel : ∀ t : Fin grid0.N, win0_0.index t = ![t.val / 16, t.val % 16] ∧ win0_1.index t = ![t.val / 16, t.val % 16]
    ∧ win0_2.index t = ![32 + t.val / 16, t.val % 16] ∧ win0_3.index t = ![t.val / 16, t.val % 16]
    ∧ win0_4.index t = ![32 + t.val / 16, t.val % 16] ∧ win0_5.index t = ![t.val / 16, t.val % 16])

/-! The grid point's blocks, as rows of a batch and lanes of a head of the packed arrays. -/

theorem slice_at (X : Vec Ideal S2048x256 .bf16) (o : ℕ) (inb) (r d : Fin 256) (ho : o + r.val < 2048) :
    View.ld X (Rect.unit ![o, 0] ![256, 256] inb) (ix2 r d) = X (ix2 ⟨o + r.val, ho⟩ d) :=
  View.ld_unit_apply_of X _ _ inb _ _ (by
    intro a
    fin_cases a
    · rfl
    · exact (Nat.zero_add _).symm)

theorem block0 (c : Dev nD) (t : Fin cfg0.N) (z : S2048x256.Idx) : iblk m c 0 t z
    = V m c main_v7 (ix2 ⟨2048 * (t.val / 16) + (z 0).val, by have h := t.isLt; have h2 : (z 0).val < 2048 := (z 0).isLt; have h3 : t.val < 64 := h; omega⟩ ⟨256 * (t.val % 16) + (z 1).val, by have h2 : (z 1).val < 256 := (z 1).isLt; omega⟩) := by
  blk_point [iblk, idx t]

theorem block1 (c : Dev nD) (t : Fin cfg0.N) (z : S2048x256.Idx) : X0_1 m c t z
    = V m c main_v20 (ix2 ⟨2048 * (t.val / 16) + (z 0).val, by have h := t.isLt; have h2 : (z 0).val < 2048 := (z 0).isLt; have h3 : t.val < 64 := h; omega⟩ ⟨256 * (t.val % 16) + (z 1).val, by have h2 : (z 1).val < 256 := (z 1).isLt; omega⟩) := by
  unfold X0_1 Pipeline.Window.fill
  rw [dif_pos (moved0_1 t z)]
  blk_point [iblk, idx t]

theorem block2 (c : Dev nD) (t : Fin cfg0.N) (z : S256x256.Idx) : iblk m c 2 t z
    = V m c main_v20 (ix2 ⟨8192 + 256 * (t.val / 16) + (z 0).val, by have h := t.isLt; have h2 : (z 0).val < 256 := (z 0).isLt; have h3 : t.val < 64 := h; omega⟩ ⟨256 * (t.val % 16) + (z 1).val, by have h2 : (z 1).val < 256 := (z 1).isLt; omega⟩) := by
  blk_point [iblk, idx t]

theorem block3 (c : Dev nD) (t : Fin cfg0.N) (z : S2048x256.Idx) : X0_3 m c t z
    = V m c main_v29 (ix2 ⟨2048 * (t.val / 16) + (z 0).val, by have h := t.isLt; have h2 : (z 0).val < 2048 := (z 0).isLt; have h3 : t.val < 64 := h; omega⟩ ⟨256 * (t.val % 16) + (z 1).val, by have h2 : (z 1).val < 256 := (z 1).isLt; omega⟩) := by
  unfold X0_3 Pipeline.Window.fill
  rw [dif_pos (moved0_3 t z)]
  blk_point [iblk, idx t]

theorem block4 (c : Dev nD) (t : Fin cfg0.N) (z : S256x256.Idx) : iblk m c 4 t z
    = V m c main_v29 (ix2 ⟨8192 + 256 * (t.val / 16) + (z 0).val, by have h := t.isLt; have h2 : (z 0).val < 256 := (z 0).isLt; have h3 : t.val < 64 := h; omega⟩ ⟨256 * (t.val % 16) + (z 1).val, by have h2 : (z 1).val < 256 := (z 1).isLt; omega⟩) := by
  blk_point [iblk, idx t]

section
variable (q : Vec Ideal S256x256 .bf16) (kL : Vec Ideal S2048x256 .bf16) (kC : Vec Ideal S256x256 .bf16)
  (vL : Vec Ideal S2048x256 .bf16) (vC : Vec Ideal S256x256 .bf16)

/-! Every tile's payload is the first tile's of its own query rows. -/

theorem same1 : k0_pay4 (k0_pay3 q) kL kC vL vC = k0_pay2 q kL kC vL vC := rfl
theorem same2 : k0_pay7 (k0_pay5 q) (k0_pay6 q kL) kC vL vC = k0_pay2 q kL kC vL vC := rfl
theorem same3 : k0_pay13 (k0_pay9 q kL) (k0_pay10 q kC) (k0_pay11 q kL) (k0_pay12 q kC) vL vC = k0_pay2 q kL kC vL vC := rfl
theorem same4 : k0_pay19 (k0_pay16 q kC) (k0_pay17 q kL kC) (k0_pay18 q kL kC) vL vC = k0_pay2 q kL kC vL vC := rfl
theorem same5 : k0_pay26 (k0_pay24 q kL kC vL) (k0_pay25 q kL kC) vC = k0_pay2 q kL kC vL vC := rfl
theorem same6 : k0_pay29 (k0_pay27 q kL kC vL vC) (k0_pay28 q kL kC vL vC) = k0_pay2 q kL kC vL vC := rfl
theorem same7 : k0_pay1 (k0_pay30 q kL kC vL vC) = k0_pay2 q kL kC vL vC := rfl

end

/-- The result array after the run is the reference's. -/
theorem final (c : Dev nD) (R : Real m c) : (dats m 0 c).arrAt 5 cfg0.N = result m c := by
  refine (dats m 0 c).arrAt_eq_of_covers 5 _ (by decide +kernel) fun t _ y => ?_
  have ht : t.val < 64 := t.isLt
  blk_simp
  rw [after0_5]
  unfold outsAt0
  frame_out
  canon_tiles x h
  case piece0 =>
    rw [same7]
    refine place m c R _ _ _ _ _ x ⟨t.val / 16, by omega⟩ ⟨t.val % 16, by omega⟩ ⟨1792 + (x 0).val, by omega⟩
      (fun d => (slice_at _ 1792 _ (x 0) d (by omega)).trans (block0 m c t (ix2 ⟨1792 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece1 =>
    rw [same6]
    refine place m c R _ _ _ _ _ x ⟨t.val / 16, by omega⟩ ⟨t.val % 16, by omega⟩ ⟨1536 + (x 0).val, by omega⟩
      (fun d => (slice_at _ 1536 _ (x 0) d (by omega)).trans (block0 m c t (ix2 ⟨1536 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece2 =>
    rw [same5]
    refine place m c R _ _ _ _ _ x ⟨t.val / 16, by omega⟩ ⟨t.val % 16, by omega⟩ ⟨1280 + (x 0).val, by omega⟩
      (fun d => (slice_at _ 1280 _ (x 0) d (by omega)).trans (block0 m c t (ix2 ⟨1280 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece3 =>
    rw [same4]
    refine place m c R _ _ _ _ _ x ⟨t.val / 16, by omega⟩ ⟨t.val % 16, by omega⟩ ⟨1024 + (x 0).val, by omega⟩
      (fun d => (slice_at _ 1024 _ (x 0) d (by omega)).trans (block0 m c t (ix2 ⟨1024 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece4 =>
    rw [same3]
    refine place m c R _ _ _ _ _ x ⟨t.val / 16, by omega⟩ ⟨t.val % 16, by omega⟩ ⟨768 + (x 0).val, by omega⟩
      (fun d => (slice_at _ 768 _ (x 0) d (by omega)).trans (block0 m c t (ix2 ⟨768 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece5 =>
    rw [same2]
    refine place m c R _ _ _ _ _ x ⟨t.val / 16, by omega⟩ ⟨t.val % 16, by omega⟩ ⟨512 + (x 0).val, by omega⟩
      (fun d => (slice_at _ 512 _ (x 0) d (by omega)).trans (block0 m c t (ix2 ⟨512 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece6 =>
    rw [same1]
    refine place m c R _ _ _ _ _ x ⟨t.val / 16, by omega⟩ ⟨t.val % 16, by omega⟩ ⟨256 + (x 0).val, by omega⟩
      (fun d => (slice_at _ 256 _ (x 0) d (by omega)).trans (block0 m c t (ix2 ⟨256 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega
  case piece7 =>
    refine place m c R _ _ _ _ _ x ⟨t.val / 16, by omega⟩ ⟨t.val % 16, by omega⟩ ⟨0 + (x 0).val, by omega⟩
      (fun d => (slice_at _ 0 _ (x 0) d (by omega)).trans (block0 m c t (ix2 ⟨0 + (x 0).val, by omega⟩ d)))
      (fun k d => block1 m c t _) (fun k d => block2 m c t _) (fun k d => block3 m c t _) (fun k d => block4 m c t _) _ ?_ ?_
    · blk_simp [idx t]
      dsimp only
      omega
    · blk_simp [idx t]
      dsimp only
      omega

end Cert.AttnIdeal.Final

end
-- ==== Proof.Ff2Value.lean ====
/- What the second feed-forward kernel leaves in its two results: the matrix product, added up over four slices of the
   inner axis, and the next layer's first feed-forward weight rounded to 16 bits. -/
module

public import proofs.«01_k».proof.Proof.Gen.Ff2Ideal.Value
public import proofs.«01_k».proof.Proof.Gen.Ff2RefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ff2Ideal.Final

open Cert.Ff2Ideal Cert.Ff2Ideal.Gen

variable (m : (ℓ : Loc nD τ sig) → Buf (Elt Ideal) ℓ)

/-- The reference's product of the rows `x` and the weight `w`. -/
abbrev product (x : FVec Ideal S9216x16384 .bf16) (w : FVec Ideal S16384x4096 .bf16) : FVec Ideal S9216x4096 .bf16 :=
  truncf .bf16 (Host.dotGeneral Cert.Ff2RefIdeal.dot_S9216x16384_S16384x4096_S9216x4096_1_0_0_1_n_n none
    (extf .f32 x Cert.Ff2RefIdeal.Gen.bitsLt_bf16_f32) (extf .f32 w Cert.Ff2RefIdeal.Gen.bitsLt_bf16_f32))
    Cert.Ff2RefIdeal.Gen.bitsLt_bf16_f32

/-- The reference's rounding of layer 1 of the other weight. -/
abbrev rounded (w : FVec Ideal S4x4096x16384 .f32) : FVec Ideal S4096x16384 .bf16 :=
  truncf .bf16 (shapeCast _ (extractStridedSlice Cert.Ff2RefIdeal.S1x4096x16384 ![1, 0, 0] w
      Cert.Ff2RefIdeal.Gen.slices_S4x4096x16384_S1x4096x16384_1_0_0)
    Cert.Ff2RefIdeal.Gen.shapeCasts_S1x4096x16384_S4096x16384) Cert.Ff2RefIdeal.Gen.bitsLt_bf16_f32

/-- Every window's block index: the row tile turns slowest, then the column tile, then the slice of the inner axis;
    the side cast's tile stops at the last one. -/
theorem idx : ∀ t : Fin cfg0.N, win0_0.index t = ![t.val / 16, t.val % 4] ∧ win0_1.index t = ![t.val % 4, t.val / 4 % 4]
    ∧ win0_2.index t = ![1, min t.val 127, 0] ∧ win0_3.index t = ![t.val / 16, t.val / 4 % 4]
    ∧ win0_4.index t = ![min t.val 127, 0] :=
  (by decide +kernel : ∀ t : Fin grid0.N, win0_0.index t = ![t.val / 16, t.val % 4]
    ∧ win0_1.index t = ![t.val % 4, t.val / 4 % 4] ∧ win0_2.index t = ![1, min t.val 127, 0]
    ∧ win0_3.index t = ![t.val / 16, t.val / 4 % 4] ∧ win0_4.index t = ![min t.val 127, 0])

/-- The first slice's payload: its own product. -/
theorem first_apply (x : Vec Ideal S1024x4096 .bf16) (w : Vec Ideal S4096x1024 .bf16) (j) :
    k0_pay3 x w j = 0 + ∑ k : Fin 4096, x (ix2 (j 0) k) * w (ix2 k (j 1)) := by
  pointwise [k0_pay3, k0_pay2]

/-- A later slice's payload: what the scratch held and its own product. -/
theorem later_apply (x : Vec Ideal S1024x4096 .bf16) (w : Vec Ideal S4096x1024 .bf16) (acc : Vec Ideal S1024x1024 .f32) (j) :
    k0_pay4 x w acc j = acc j + ∑ k : Fin 4096, x (ix2 (j 0) k) * w (ix2 k (j 1)) := by
  pointwise [k0_pay4, k0_pay2]

/-- At the last slice the result's block holds what the scratch holds. -/
theorem out_eq (c : Dev nD) (t : Fin cfg0.N) (h : t.val % 4 = 3) (j) :
    (outsAt0 m c t.val t.isLt).1 j = (outsAt0 m c t.val t.isLt).2.2 j := by
  rw [outsAt0_C m c t (by omega) (by omega) h]
  frame_out
  pointwise [k0_pay5]

/-- The first result after the run is the product. -/
theorem final (c : Dev nD) : (dats m 0 c).arrAt 3 cfg0.N
    = product (m ((c : Thread nD τ).loc main_arg0)) (m ((c : Thread nD τ).loc main_arg1)) := by
  refine (dats m 0 c).arrAt_eq_of_covers 3 _ (by decide +kernel) fun t hf y => ?_
  blk_simp
  have hr : t.val % 4 = 3 := (flush0_3 t).mp hf
  rw [after0_3]
  refine (out_eq m c t hr y).trans ?_
  rw [Pipeline.eq_sum_fin_of_reset_step_apply_of_flush (fun n h => (outsAt0 m c n h).2.2) 4 (fun _ => 0)
    (fun p j => ∑ k : Fin 4096, (show FVec Ideal S1024x4096 .bf16 from iblk m c 0 p) (ix2 (j 0) k)
      * (show FVec Ideal S4096x1024 .bf16 from iblk m c 1 p) (ix2 k (j 1)))
    (fun t h j => by
      show (outsAt0 m c t.val t.isLt).2.2 j = _
      rw [outsAt0_A m c t h (by omega) (by omega)]; frame_out; rw [first_apply])
    (fun t h j => by
      show (outsAt0 m c t.val t.isLt).2.2 j = _
      by_cases h2 : t.val % 4 = 3
      · rw [outsAt0_C m c t h (by omega) h2]; frame_out; rw [Idealize.ShloMosaic.read_unread_whole, later_apply]
      · rw [outsAt0_B m c t h (by omega) h2]; frame_out; rw [Idealize.ShloMosaic.read_unread_whole, later_apply])
    t hr _, zero_add]
  pointwise [product]
  refine Fin.sum_mul_add_congr fun s k hl => ?_
  blk_point [iblk, V, idx t, idx ⟨_, Pipeline.run_point_lt_of_flush t hr s⟩]

/-- One point's block of the second result is the rounded weight there. -/
theorem point_cast (c : Dev nD) (t : Fin cfg0.N) (y) : k0_pay1 (iblk m c 2 t) y
    = rounded (m ((c : Thread nD τ).loc main_arg2)) (((cfg0.win 4).blk t).view.emb y) := by
  pointwise [k0_pay1, rounded]
  blk_point [iblk, V, idx t]

/-- The second result after the run is the rounded weight. -/
theorem final_cast (c : Dev nD) : (dats m 0 c).arrAt 4 cfg0.N = rounded (m ((c : Thread nD τ).loc main_arg2)) := by
  refine (dats m 0 c).arrAt_eq_of_covers 4 _ (by decide +kernel) fun t _ y => ?_
  blk_simp
  rw [after0_4]
  refine Eq.trans ?_ (point_cast m c t y)
  by_cases h : t.val % 4 = 0
  · rw [outsAt0_A m c t h (by omega) (by omega)]; frame_out
  · by_cases h2 : t.val % 4 = 3
    · rw [outsAt0_C m c t h (by omega) h2]; frame_out
    · rw [outsAt0_B m c t h (by omega) h2]; frame_out

end Cert.Ff2Ideal.Final

end
-- ==== Proof.OutProjValue.lean ====
/- What the output projection's kernel leaves in its result: the matrix product of the two arrays. -/
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen

variable (m : (ℓ : Loc nD τ sig) → Buf (Elt Ideal) ℓ)

/-- The reference's product of the rows `x` and the weight `w`. -/
abbrev product (x : FVec Ideal S9216x4096 .bf16) (w : FVec Ideal S4096x4096 .bf16) : FVec Ideal S9216x4096 .bf16 :=
  truncf .bf16 (Host.dotGeneral Cert.OutProjRefIdeal.dot_S9216x4096_S4096x4096_S9216x4096_1_0_0_1_n_n none
    (extf .f32 x Cert.OutProjRefIdeal.Gen.bitsLt_bf16_f32) (extf .f32 w Cert.OutProjRefIdeal.Gen.bitsLt_bf16_f32))
    Cert.OutProjRefIdeal.Gen.bitsLt_bf16_f32

/-- Every window's block index: the row tile turns slowest, the column tile next. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, win0_0.index t = ![t.val / 4, 0] ∧ win0_1.index t = ![0, t.val % 4]
    ∧ win0_2.index t = ![t.val / 4, t.val % 4])

/-- One point's block of the result is the product there. -/
theorem point (c : Dev nD) (t : Fin cfg0.N) (y) : k0_pay1 (iblk m c 0 t) (iblk m c 1 t) y
    = product (m ((c : Thread nD τ).loc main_arg0)) (m ((c : Thread nD τ).loc main_arg1))
        (((cfg0.win 2).blk t).view.emb y) := by
  pointwise [k0_pay1, product]
  blk_point [iblk, V, idx t]

/-- The result array after the run is the product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutProjIdeal.Final

end
-- ==== Proof.InProjValue.lean ====
/- What the input projection's kernel leaves in its two results: the product's columns before the tail, and the
   weight of the output projection rounded to 16 bits. -/
module

public import proofs.«01_k».proof.Proof.Gen.InProjIdeal.Value
public import proofs.«01_k».proof.Proof.Gen.InProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Final

open Cert.InProjIdeal Cert.InProjIdeal.Gen

variable (m : (ℓ : Loc nD τ sig) → Buf (Elt Ideal) ℓ)

/-- The reference's columns of the product of the rows `x` and layer 0 of the weight `w`. -/
abbrev product (x : FVec Ideal S9216x4096 .bf16) (w : FVec Ideal S4x4096x4672 .bf16) : FVec Ideal S9216x4096 .bf16 :=
  truncf .bf16 (extractStridedSlice Cert.InProjRefIdeal.S9216x4096 ![0, 0]
    (Host.dotGeneral Cert.InProjRefIdeal.dot_S9216x4096_S4096x4672_S9216x4672_1_0_0_1_n_n none
      (extf .f32 x Cert.InProjRefIdeal.Gen.bitsLt_bf16_f32)
      (extf .f32 (shapeCast _ (extractStridedSlice Cert.InProjRefIdeal.S1x4096x4672 ![0, 0, 0] w
          Cert.InProjRefIdeal.Gen.slices_S4x4096x4672_S1x4096x4672_0_0_0)
        Cert.InProjRefIdeal.Gen.shapeCasts_S1x4096x4672_S4096x4672) Cert.InProjRefIdeal.Gen.bitsLt_bf16_f32))
    Cert.InProjRefIdeal.Gen.slices_S9216x4672_S9216x4096_0_0) Cert.InProjRefIdeal.Gen.bitsLt_bf16_f32

/-- The reference's rounding of layer 0 of the other weight. -/
abbrev rounded (w : FVec Ideal S4x4096x4096 .f32) : FVec Ideal S4096x4096 .bf16 :=
  truncf .bf16 (shapeCast _ (extractStridedSlice Cert.InProjRefIdeal.S1x4096x4096 ![0, 0, 0] w
      Cert.InProjRefIdeal.Gen.slices_S4x4096x4096_S1x4096x4096_0_0_0)
    Cert.InProjRefIdeal.Gen.shapeCasts_S1x4096x4096_S4096x4096) Cert.InProjRefIdeal.Gen.bitsLt_bf16_f32

/-- Every window's block index: the row tile turns slowest; the side cast's tile stops at the last one. -/
theorem idx : ∀ t : Fin cfg0.N, win0_0.index t = ![t.val / 4, 0] ∧ win0_1.index t = ![0, 0, t.val % 4]
    ∧ win0_2.index t = ![0, min t.val 31, 0] ∧ win0_3.index t = ![t.val / 4, t.val % 4]
    ∧ win0_4.index t = ![min t.val 31, 0] :=
  (by decide +kernel : ∀ t : Fin grid0.N, win0_0.index t = ![t.val / 4, 0] ∧ win0_1.index t = ![0, 0, t.val % 4]
    ∧ win0_2.index t = ![0, min t.val 31, 0] ∧ win0_3.index t = ![t.val / 4, t.val % 4]
    ∧ win0_4.index t = ![min t.val 31, 0])

/-- One point's block of the first result is the product there. -/
theorem point (c : Dev nD) (t : Fin cfg0.N) (y) : k0_pay2 (iblk m c 0 t) (X0_1 m c t) y
    = product (m ((c : Thread nD τ).loc main_arg0)) (m ((c : Thread nD τ).loc main_arg1))
        (((cfg0.win 3).blk t).view.emb y) := by
  pointwise [k0_pay2, product]
  blk_point [X0_1, Pipeline.Window.fill, moved0_1 t, iblk, V, idx t]

/-- The first result after the run is the product. -/
theorem final (c : Dev nD) : (dats m 0 c).arrAt 3 cfg0.N
    = product (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  exact point m c t y

/-- One point's block of the second result is the rounded weight there. -/
theorem point_cast (c : Dev nD) (t : Fin cfg0.N) (y) : k0_pay1 (iblk m c 2 t) y
    = rounded (m ((c : Thread nD τ).loc main_arg2)) (((cfg0.win 4).blk t).view.emb y) := by
  pointwise [k0_pay1, rounded]
  blk_point [iblk, V, idx t]

/-- The second result after the run is the rounded weight. -/
theorem final_cast (c : Dev nD) : (dats m 0 c).arrAt 4 cfg0.N = rounded (m ((c : Thread nD τ).loc main_arg2)) := by
  refine (dats m 0 c).arrAt_eq_of_covers 4 _ (by decide +kernel) fun t _ y => ?_
  blk_simp
  rw [after0_4]; unfold outsAt0; frame_out
  exact point_cast m c t y

end Cert.InProjIdeal.Final

end
-- ==== Proof.Ff1Ride.lean ====
/- The feed-forward-up kernel's body on any staging buffers, case by case: what one step leaves in each buffer.

   A step moves a 64-row strip of the residual into the strip's place of one scratch buffer and, from the second row
   of tiles on, multiplies the whole of the other scratch buffer. -/
module

public import proofs.«01_k».proof.Proof.Gen.Ff1Ideal.Launch
public import proofs.«01_k».proof.Proof.Gen.Ff1Ideal.Skeleton
public import proofs.«01_k».proof.Proof.Gen.Ff1Ideal.Points
public import proofs.«01_k».proof.Proof.Gen.Ff1Ideal.Frame
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Ff1Ideal.Ride

open Cert.Ff1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- `A'` is `A` with the strip of 64 rows at `off` replaced by `w`. -/
def Ridden (off : Fin 2 → ℕ) (A A' : Vec F S1024x4096 .bf16) (w : Vec F S64x4096 .bf16) : Prop :=
  (∀ (x : S64x4096.Idx) (y : S1024x4096.Idx), (∀ a : Fin 2, (y a).val = off a + (x a).val) → A' y = w x)
  ∧ ∀ y : S1024x4096.Idx, ((y (0 : Fin 2)).val < off 0 ∨ off 0 + 64 ≤ (y (0 : Fin 2)).val) → A' y = A y

/-- A load of the whole of a buffer that reads `X` reads `X`. -/
theorem load_whole {κ : Kind} {sp : Space} {s : Shape} {e : EltTy} {a : Memref sig κ sp s e} (h : a.IsWhole)
    (X : s.Idx → Elt F e) {off : Fin s.rank → ℕ} (inb : ∀ k, off k + s.size k ≤ s.size k) :
    a.view.readAt (Elt F) (Rect.unit off s.size inb).toLoadRect (h.unread X) = X :=
  (View.readAt_full a.view (h.unread X) inb).trans (h.read_unread X)

/-- A store of a strip leaves the buffer with that strip replaced. -/
theorem ridden_of_store {a : Memref sig .tc .vmem S1024x4096 .bf16} (h : a.IsWhole) (A : Vec F S1024x4096 .bf16)
    {off : Fin 2 → ℕ} (inb : ∀ k : Fin 2, off k + S64x4096.size k ≤ S1024x4096.size k) (w : Vec F S64x4096 .bf16) :
    Ridden off A (a.view.read (Elt F) (a.view.writes (Elt F) (h.unread A)
      [⟨Rect.unit (s := S1024x4096) off S64x4096.size inb, w⟩])) w := by
  refine ⟨fun x y hy => ?_, fun y hy => ?_⟩
  · exact View.read_writes_cons_unit_of_mem a.view _ inb w [] y x rfl hy
  · refine (View.read_writes_cons_unit_of_not_mem a.view _ inb w [] y rfl (0 : Fin 2) hy).trans ?_
    exact congrFun (h.read_unread A) y

/-- A strip of the modulated rows, from the blocks it is made of. -/
def strip (x0 : Vec F S64x4096 .f32) (x1 : Vec F S64x4096 .bf16) (x2 : Vec F S1x1x4096 .f32) (x3 : Vec F S1x1x1x1x4096 .f32)
    (x4 : Vec F S1x1x4096 .f32) (x5 x6 : Vec F S1x1x1x1x4096 .f32) : Vec F S64x4096 .bf16 :=
  k0_pay1 (k0_pay3 x0 x3 x1 x2) (k0_pay4 x4) (k0_pay5 x0 x3 x1 x2) x6 x5

theorem pay3_congr {a a' : Vec F S64x4096 .f32} {b b' : Vec F S1x1x1x1x4096 .f32} {d d' : Vec F S64x4096 .bf16}
    {e e' : Vec F S1x1x4096 .f32} (ha : a = a') (hb : b = b') (hd : d = d') (he : e = e') :
    k0_pay3 a b d e = k0_pay3 a' b' d' e' := by subst ha hb hd he; rfl

theorem pay11_congr {a a' : Vec F S1024x4096 .bf16} {b b' : Vec F S4096x1024 .bf16} (ha : a = a') (hb : b = b') :
    k0_pay11 a b = k0_pay11 a' b' := by subst ha hb; rfl

theorem strip_congr {x0 y0 : Vec F S64x4096 .f32} {x1 y1 : Vec F S64x4096 .bf16} {x2 y2 : Vec F S1x1x4096 .f32}
    {x3 y3 : Vec F S1x1x1x1x4096 .f32} {x4 y4 : Vec F S1x1x4096 .f32} {x5 y5 x6 y6 : Vec F S1x1x1x1x4096 .f32}
    (h0 : x0 = y0) (h1 : x1 = y1) (h2 : x2 = y2) (h3 : x3 = y3) (h4 : x4 = y4) (h5 : x5 = y5) (h6 : x6 = y6) :
    strip x0 x1 x2 x3 x4 x5 x6 = strip y0 y1 y2 y3 y4 y5 y6 := by subst h0 h1 h2 h3 h4 h5 h6; rfl

theorem Ridden.congr {off : Fin 2 → ℕ} {A A' : Vec F S1024x4096 .bf16} {w w' : Vec F S64x4096 .bf16} (h : Ridden off A A' w)
    (e : w = w') : Ridden off A A' w' := e ▸ h

set_option maxHeartbeats 2000000 in
/-- A step of the first row of tiles: the strip goes into the even buffer, nothing is multiplied. -/
theorem run_first (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x1x4096 .f32) (harg4 : arg4.IsWhole) (arg5 : Memref sig .tc .vmem S1x1x1x1x4096 .f32) (harg5 : arg5.IsWhole) (arg6 : Memref sig .tc .vmem S1x1x4096 .f32) (harg6 : arg6.IsWhole) (arg7 : Memref sig .tc .vmem S1x1x1x1x4096 .f32) (harg7 : arg7.IsWhole) (arg8 : Memref sig .tc .vmem S1x1x1x1x4096 .f32) (harg8 : arg8.IsWhole) (arg9 : Memref sig .tc .vmem S4096x1024 .bf16) (harg9 : arg9.IsWhole) (arg10 : Memref sig .tc .vmem S1x128x4096 .f32) (harg10 : arg10.IsWhole) (arg11 : Memref sig .tc .vmem S64x4096 .f32) (harg11 : arg11.IsWhole) (arg12 : Memref sig .tc .vmem S1024x1024 .bf16) (harg12 : arg12.IsWhole) (arg13 : Memref sig .tc .vmem S128x4096 .bf16) (harg13 : arg13.IsWhole) (arg14 : Memref sig .tc .vmem S1024x4096 .bf16) (harg14 : arg14.IsWhole) (arg15 : Memref sig .tc .vmem S1024x4096 .bf16) (harg15 : arg15.IsWhole)
    (hc0 : k0_cond1 i = 1#1) (hc1 : ¬ k0_cond2 i = 1#1) (hc2 : ¬ k0_cond3 i = 1#1)
    (x0 : Vec F S64x4096 .f32) (x1 : Vec F S64x4096 .bf16) (x2 : Vec F S1x1x4096 .f32) (x3 : Vec F S1x1x1x1x4096 .f32) (x4 : Vec F S1x1x4096 .f32) (x5 : Vec F S1x1x1x1x4096 .f32) (x6 : Vec F S1x1x1x1x4096 .f32) (x7 : Vec F S4096x1024 .bf16) (x8 : Vec F S1x128x4096 .f32) (xi : Vec F S1024x1024 .bf16) (A B : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xi ∗ (∃ d, owns (c : Thread nD τ) arg13 fullShare d) ∗ owns (c : Thread nD τ) arg14 fullShare A ∗ owns (c : Thread nD τ) arg15 fullShare B
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 x0 x3 x1 x2) ∗ owns (c : Thread nD τ) arg12 fullShare xi ∗ owns (c : Thread nD τ) arg13 fullShare (k0_pay2 x8) ∗ (∃ A', iprop(⌜Ridden (k0_off1 i) A A' (strip x0 x1 x2 x3 x4 x5 x6)⌝ ∗ owns (c : Thread nD τ) arg14 fullShare A')) ∗ owns (c : Thread nD τ) arg15 fullShare B) -∗ K ⟨⟩))
      ⊢ wp frame (wpE (defs₀ (F := F)) Variants.none c none) E (cc0_ff1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ff1_eq_skeleton]; unfold cc0_ff1_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg14.eq_unread hf12; obtain rfl := harg15.eq_unread hf13
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (View.read_writes_full _ _ _ _ _).trans ?_; exact pay3_congr (load_whole harg2 x0 _) (load_whole harg5 x3 _) (load_whole harg3 x1 _) (load_whole harg4 x2 _)
  isplitl [H10]
  · iexists _; isplitr; · ipureintro; exact harg12.read_unread _
    iexact H10
  isplitl [H11]
  · iexists _; isplitr; swap; · iexact H11
    ipureintro; refine (View.read_writes_full _ _ _ _ _).trans ?_; exact congrArg k0_pay2 (load_whole harg10 x8 _)
  isplitl [H12]
  · iexists _; isplitr; swap
    · iexists _; isplitr; swap; · iexact H12
      ipureintro; rfl
    ipureintro; exact (ridden_of_store harg14 _ _ _).congr (strip_congr (load_whole harg2 x0 _) (load_whole harg3 x1 _) (load_whole harg4 x2 _) (load_whole harg5 x3 _) (load_whole harg6 x4 _) (load_whole harg7 x5 _) (load_whole harg8 x6 _))
  iexists _; isplitr; · ipureintro; exact harg15.read_unread _
  iexact H13

set_option maxHeartbeats 2000000 in
/-- A step of an odd row of tiles: the strip goes into the odd buffer, the even one is multiplied. -/
theorem run_odd (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x1x4096 .f32) (harg4 : arg4.IsWhole) (arg5 : Memref sig .tc .vmem S1x1x1x1x4096 .f32) (harg5 : arg5.IsWhole) (arg6 : Memref sig .tc .vmem S1x1x4096 .f32) (harg6 : arg6.IsWhole) (arg7 : Memref sig .tc .vmem S1x1x1x1x4096 .f32) (harg7 : arg7.IsWhole) (arg8 : Memref sig .tc .vmem S1x1x1x1x4096 .f32) (harg8 : arg8.IsWhole) (arg9 : Memref sig .tc .vmem S4096x1024 .bf16) (harg9 : arg9.IsWhole) (arg10 : Memref sig .tc .vmem S1x128x4096 .f32) (harg10 : arg10.IsWhole) (arg11 : Memref sig .tc .vmem S64x4096 .f32) (harg11 : arg11.IsWhole) (arg12 : Memref sig .tc .vmem S1024x1024 .bf16) (harg12 : arg12.IsWhole) (arg13 : Memref sig .tc .vmem S128x4096 .bf16) (harg13 : arg13.IsWhole) (arg14 : Memref sig .tc .vmem S1024x4096 .bf16) (harg14 : arg14.IsWhole) (arg15 : Memref sig .tc .vmem S1024x4096 .bf16) (harg15 : arg15.IsWhole)
    (hc0 : ¬ k0_cond1 i = 1#1) (hc1 : k0_cond2 i = 1#1) (hc2 : ¬ k0_cond3 i = 1#1)
    (x0 : Vec F S64x4096 .f32) (x1 : Vec F S64x4096 .bf16) (x2 : Vec F S1x1x4096 .f32) (x3 : Vec F S1x1x1x1x4096 .f32) (x4 : Vec F S1x1x4096 .f32) (x5 : Vec F S1x1x1x1x4096 .f32) (x6 : Vec F S1x1x1x1x4096 .f32) (x7 : Vec F S4096x1024 .bf16) (x8 : Vec F S1x128x4096 .f32) (A B : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare A ∗ owns (c : Thread nD τ) arg15 fullShare B
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 x0 x3 x1 x2) ∗ owns (c : Thread nD τ) arg12 fullShare (k0_pay11 A x7) ∗ owns (c : Thread nD τ) arg13 fullShare (k0_pay2 x8) ∗ owns (c : Thread nD τ) arg14 fullShare A ∗ (∃ A', iprop(⌜Ridden (k0_off2 i) B A' (strip x0 x1 x2 x3 x4 x5 x6)⌝ ∗ owns (c : Thread nD τ) arg15 fullShare A'))) -∗ K ⟨⟩))
      ⊢ wp frame (wpE (defs₀ (F := F)) Variants.none c none) E (cc0_ff1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ff1_eq_skeleton]; unfold cc0_ff1_skel
  simp only [k0_part3_eq_skeleton]; unfold k0_part3_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hf13
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (View.read_writes_full _ _ _ _ _).trans ?_; exact pay3_congr (load_whole harg2 x0 _) (load_whole harg5 x3 _) (load_whole harg3 x1 _) (load_whole harg4 x2 _)
  isplitl [H10]
  · iexists _; isplitr; swap; · iexact H10
    ipureintro; refine (View.read_writes_full _ _ _ _ _).trans ?_; exact pay11_congr (load_whole harg14 A _) (load_whole harg9 x7 _)
  isplitl [H11]
  · iexists _; isplitr; swap; · iexact H11
    ipureintro; refine (View.read_writes_full _ _ _ _ _).trans ?_; exact congrArg k0_pay2 (load_whole harg10 x8 _)
  isplitl [H12]
  · iexists _; isplitr; · ipureintro; exact harg14.read_unread _
    iexact H12
  iexists _; isplitr; swap
  · iexists _; isplitr; swap; · iexact H13
    ipureintro; rfl
  ipureintro; exact (ridden_of_store harg15 _ _ _).congr (strip_congr (load_whole harg2 x0 _) (load_whole harg3 x1 _) (load_whole harg4 x2 _) (load_whole harg5 x3 _) (load_whole harg6 x4 _) (load_whole harg7 x5 _) (load_whole harg8 x6 _))

set_option maxHeartbeats 2000000 in
/-- A step of an even row of tiles after the first: the strip goes into the even buffer, the odd one is multiplied. -/
theorem run_even (c : Dev nD) (i : grid0.Coords) (arg2 : Memref sig .tc .vmem S64x4096 .f32) (harg2 : arg2.IsWhole) (arg3 : Memref sig .tc .vmem S64x4096 .bf16) (harg3 : arg3.IsWhole) (arg4 : Memref sig .tc .vmem S1x1x4096 .f32) (harg4 : arg4.IsWhole) (arg5 : Memref sig .tc .vmem S1x1x1x1x4096 .f32) (harg5 : arg5.IsWhole) (arg6 : Memref sig .tc .vmem S1x1x4096 .f32) (harg6 : arg6.IsWhole) (arg7 : Memref sig .tc .vmem S1x1x1x1x4096 .f32) (harg7 : arg7.IsWhole) (arg8 : Memref sig .tc .vmem S1x1x1x1x4096 .f32) (harg8 : arg8.IsWhole) (arg9 : Memref sig .tc .vmem S4096x1024 .bf16) (harg9 : arg9.IsWhole) (arg10 : Memref sig .tc .vmem S1x128x4096 .f32) (harg10 : arg10.IsWhole) (arg11 : Memref sig .tc .vmem S64x4096 .f32) (harg11 : arg11.IsWhole) (arg12 : Memref sig .tc .vmem S1024x1024 .bf16) (harg12 : arg12.IsWhole) (arg13 : Memref sig .tc .vmem S128x4096 .bf16) (harg13 : arg13.IsWhole) (arg14 : Memref sig .tc .vmem S1024x4096 .bf16) (harg14 : arg14.IsWhole) (arg15 : Memref sig .tc .vmem S1024x4096 .bf16) (harg15 : arg15.IsWhole)
    (hc0 : ¬ k0_cond1 i = 1#1) (hc1 : ¬ k0_cond2 i = 1#1) (hc2 : k0_cond3 i = 1#1)
    (x0 : Vec F S64x4096 .f32) (x1 : Vec F S64x4096 .bf16) (x2 : Vec F S1x1x4096 .f32) (x3 : Vec F S1x1x1x1x4096 .f32) (x4 : Vec F S1x1x4096 .f32) (x5 : Vec F S1x1x1x1x4096 .f32) (x6 : Vec F S1x1x1x1x4096 .f32) (x7 : Vec F S4096x1024 .bf16) (x8 : Vec F S1x128x4096 .f32) (A B : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare A ∗ owns (c : Thread nD τ) arg15 fullShare B
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 x0 x3 x1 x2) ∗ owns (c : Thread nD τ) arg12 fullShare (k0_pay11 B x7) ∗ owns (c : Thread nD τ) arg13 fullShare (k0_pay2 x8) ∗ (∃ A', iprop(⌜Ridden (k0_off3 i) A A' (strip x0 x1 x2 x3 x4 x5 x6)⌝ ∗ owns (c : Thread nD τ) arg14 fullShare A')) ∗ owns (c : Thread nD τ) arg15 fullShare B) -∗ K ⟨⟩))
      ⊢ wp frame (wpE (defs₀ (F := F)) Variants.none c none) E (cc0_ff1 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ff1_eq_skeleton]; unfold cc0_ff1_skel
  simp only [k0_part5_eq_skeleton]; unfold k0_part5_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hf13
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (View.read_writes_full _ _ _ _ _).trans ?_; exact pay3_congr (load_whole harg2 x0 _) (load_whole harg5 x3 _) (load_whole harg3 x1 _) (load_whole harg4 x2 _)
  isplitl [H10]
  · iexists _; isplitr; swap; · iexact H10
    ipureintro; refine (View.read_writes_full _ _ _ _ _).trans ?_; exact pay11_congr (load_whole harg15 B _) (load_whole harg9 x7 _)
  isplitl [H11]
  · iexists _; isplitr; swap; · iexact H11
    ipureintro; refine (View.read_writes_full _ _ _ _ _).trans ?_; exact congrArg k0_pay2 (load_whole harg10 x8 _)
  isplitl [H12]
  · iexists _; isplitr; swap
    · iexists _; isplitr; swap; · iexact H12
      ipureintro; rfl
    ipureintro; exact (ridden_of_store harg14 _ _ _).congr (strip_congr (load_whole harg2 x0 _) (load_whole harg3 x1 _) (load_whole harg4 x2 _) (load_whole harg5 x3 _) (load_whole harg6 x4 _) (load_whole harg7 x5 _) (load_whole harg8 x6 _))
  iexists _; isplitr; · ipureintro; exact harg15.read_unread _
  iexact H13

end Cert.Ff1Ideal.Ride

end
-- ==== Proof.Ff1Frame.lean ====
/- The run of the feed-forward-up kernel: what its two scratch buffers hold between steps, and that every step keeps it.

   A row of sixteen steps fills one buffer with a tile of 1024 modulated rows, 64 rows a step, while the tile the row
   of steps before it filled is multiplied out of the other buffer; the two change places from one row to the next. -/
module

public import proofs.«01_k».proof.Proof.Ff1Ride
public import Idealize.ShloMosaic.Lib.Claim

@[expose] public section

set_option maxRecDepth 16384

noncomputable section

namespace Cert.Ff1Ideal.Ride

open Cert.Ff1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a step stands -/

theorem cond_first : ∀ t : Fin cfg0.N, k0_cond1 (grid0.coords t) = 1#1 ↔ t.val / 16 = 0 :=
  (by decide +kernel : ∀ t : Fin grid0.N, k0_cond1 (grid0.coords t) = 1#1 ↔ t.val / 16 = 0)
theorem cond_odd : ∀ t : Fin cfg0.N, k0_cond2 (grid0.coords t) = 1#1 ↔ t.val / 16 % 2 = 1 :=
  (by decide +kernel : ∀ t : Fin grid0.N, k0_cond2 (grid0.coords t) = 1#1 ↔ t.val / 16 % 2 = 1)
theorem cond_even : ∀ t : Fin cfg0.N, k0_cond3 (grid0.coords t) = 1#1 ↔ (t.val / 16 % 2 = 0 ∧ t.val / 16 ≠ 0) :=
  (by decide +kernel : ∀ t : Fin grid0.N, k0_cond3 (grid0.coords t) = 1#1 ↔ (t.val / 16 % 2 = 0 ∧ t.val / 16 ≠ 0))

theorem off_first : ∀ t : Fin cfg0.N, k0_off1 (grid0.coords t) = ![64 * (t.val % 16), 0] :=
  (by decide +kernel : ∀ t : Fin grid0.N, k0_off1 (grid0.coords t) = ![64 * (t.val % 16), 0])
theorem off_odd : ∀ t : Fin cfg0.N, k0_off2 (grid0.coords t) = ![64 * (t.val % 16), 0] :=
  (by decide +kernel : ∀ t : Fin grid0.N, k0_off2 (grid0.coords t) = ![64 * (t.val % 16), 0])
theorem off_even : ∀ t : Fin cfg0.N, k0_off3 (grid0.coords t) = ![64 * (t.val % 16), 0] :=
  (by decide +kernel : ∀ t : Fin grid0.N, k0_off3 (grid0.coords t) = ![64 * (t.val % 16), 0])

theorem live_res : ∀ t : Fin cfg0.N, cfg0.idle 9 (grid0.coords t) = false :=
  (by decide +kernel : ∀ t : Fin grid0.N, cfg0.idle 9 (grid0.coords t) = false)
theorem live_cast : ∀ t : Fin cfg0.N, cfg0.idle 11 (grid0.coords t) = false :=
  (by decide +kernel : ∀ t : Fin grid0.N, cfg0.idle 11 (grid0.coords t) = false)
theorem live_hid : ∀ t : Fin cfg0.N, t.val / 16 ≠ 0 → cfg0.idle 10 (grid0.coords t) = false :=
  (by decide +kernel : ∀ t : Fin grid0.N, t.val / 16 ≠ 0 → cfg0.idle 10 (grid0.coords t) = false)
theorem idle_hid : ∀ t : Fin cfg0.N, t.val / 16 = 0 → cfg0.idle 10 (grid0.coords t) = true :=
  (by decide +kernel : ∀ t : Fin grid0.N, t.val / 16 = 0 → cfg0.idle 10 (grid0.coords t) = true)
theorem noFlush_hid : ∀ t : Fin cfg0.N, t.val / 16 = 0 → (cfg0.win 10).flush t = false :=
  (by decide +kernel : ∀ t : Fin grid0.N, t.val / 16 = 0 → (cfg0.win 10).flush t = false)

/-! ## What the scratch buffers hold -/

/-- The strip step `t` moves. -/
def stripAt (c : Dev nD) (t : Fin cfg0.N) : Vec F S64x4096 .bf16 :=
  strip (iblk m c 0 t) (iblk m c 1 t) (iblk m c 2 t) (iblk m c 3 t) (iblk m c 4 t) (iblk m c 5 t) (iblk m c 6 t)

/-- A row of a tile, within its strip. -/
def inStrip (y : S1024x4096.Idx) : S64x4096.Idx := fun
  | 0 => ⟨(y (0 : Fin 2)).val % 64, Nat.mod_lt _ (by decide)⟩
  | 1 => y (1 : Fin 2)

/-- The step a row of tile `i` is moved at. -/
def stepOf (i r : ℕ) : Fin cfg0.N :=
  ⟨(16 * i + r / 64) % cfg0.N, Nat.mod_lt _ (by rw [show cfg0.N = 160 from N_0]; decide)⟩

/-- Tile `i` of the modulated rows. -/
def tileAt (c : Dev nD) (i : ℕ) : Vec F S1024x4096 .bf16 := fun y =>
  stripAt m c (stepOf i (y (0 : Fin 2)).val) (inStrip y)

/-- Before step `n` one buffer holds the strips of this row of steps, the other the whole tile of the row before. -/
def Inv (c : Dev nD) (n : ℕ) (A B : Vec F S1024x4096 .bf16) : Prop :=
  (n / 16 % 2 = 0 → (∀ y : S1024x4096.Idx, (y (0 : Fin 2)).val < 64 * (n % 16) → A y = tileAt m c (n / 16) y)
      ∧ (n / 16 ≠ 0 → B = tileAt m c (n / 16 - 1)))
  ∧ (n / 16 % 2 = 1 → (∀ y : S1024x4096.Idx, (y (0 : Fin 2)).val < 64 * (n % 16) → B y = tileAt m c (n / 16) y)
      ∧ A = tileAt m c (n / 16 - 1))

/-- One step adds its strip. -/
theorem rows_step (c : Dev nD) (t : Fin cfg0.N) (A A' : Vec F S1024x4096 .bf16)
    (hA : ∀ y : S1024x4096.Idx, (y (0 : Fin 2)).val < 64 * (t.val % 16) → A y = tileAt m c (t.val / 16) y)
    {off : Fin 2 → ℕ} (hoff : off = ![64 * (t.val % 16), 0]) (hR : Ridden off A A' (stripAt m c t)) :
    ∀ y : S1024x4096.Idx, (y (0 : Fin 2)).val < 64 * (t.val % 16 + 1) → A' y = tileAt m c (t.val / 16) y := by
  intro y hy
  have hN : t.val < 160 := lt_of_lt_of_eq t.isLt (show cfg0.N = 160 from N_0)
  subst hoff
  by_cases h : (y (0 : Fin 2)).val < 64 * (t.val % 16)
  · exact (hR.2 y (Or.inl h)).trans (hA y h)
  · have e : A' y = stripAt m c t (inStrip y) := hR.1 (inStrip y) y (Fin.forall_fin_two.mpr
      ⟨by show (y (0 : Fin 2)).val = 64 * (t.val % 16) + (y (0 : Fin 2)).val % 64; omega,
        by show (y (1 : Fin 2)).val = 0 + (y (1 : Fin 2)).val; omega⟩)
    have s : stepOf (t.val / 16) (y (0 : Fin 2)).val = t := Fin.ext (by
      have e : ∀ n : ℕ, n = 160 → (16 * (t.val / 16) + (y (0 : Fin 2)).val / 64) % n = t.val := by
        intro n hn; subst hn; omega
      exact e cfg0.N N_0)
    rw [e]; unfold tileAt; rw [s]

theorem inv_even (c : Dev nD) (t : Fin cfg0.N) (A A' B : Vec F S1024x4096 .bf16) (h : Inv m c t.val A B)
    (he : t.val / 16 % 2 = 0) {off : Fin 2 → ℕ} (hoff : off = ![64 * (t.val % 16), 0])
    (hR : Ridden off A A' (stripAt m c t)) : Inv m c (t.val + 1) A' B := by
  have r := rows_step m c t A A' (h.1 he).1 hoff hR
  by_cases hj : t.val % 16 = 15
  · have hd : (t.val + 1) / 16 = t.val / 16 + 1 := by omega
    have hm : (t.val + 1) % 16 = 0 := by omega
    refine ⟨fun h' => ?_, fun _ => ⟨fun y hy => ?_, funext fun y => ?_⟩⟩
    · exfalso; omega
    · exfalso; omega
    · rw [hd, Nat.add_sub_cancel]
      exact r y (by have := (y (0 : Fin 2)).isLt; have : (y (0 : Fin 2)).val < 1024 := this; omega)
  · have hd : (t.val + 1) / 16 = t.val / 16 := by omega
    have hm : (t.val + 1) % 16 = t.val % 16 + 1 := by omega
    unfold Inv; rw [hd, hm]
    exact ⟨fun _ => ⟨r, (h.1 he).2⟩, fun h' => by exfalso; omega⟩

theorem inv_odd (c : Dev nD) (t : Fin cfg0.N) (A B B' : Vec F S1024x4096 .bf16) (h : Inv m c t.val A B)
    (he : t.val / 16 % 2 = 1) {off : Fin 2 → ℕ} (hoff : off = ![64 * (t.val % 16), 0])
    (hR : Ridden off B B' (stripAt m c t)) : Inv m c (t.val + 1) A B' := by
  have r := rows_step m c t B B' (h.2 he).1 hoff hR
  by_cases hj : t.val % 16 = 15
  · have hd : (t.val + 1) / 16 = t.val / 16 + 1 := by omega
    have hm : (t.val + 1) % 16 = 0 := by omega
    refine ⟨fun _ => ⟨fun y hy => ?_, fun _ => funext fun y => ?_⟩, fun h' => ?_⟩
    · exfalso; omega
    · rw [hd, Nat.add_sub_cancel]
      exact r y (by have := (y (0 : Fin 2)).isLt; have : (y (0 : Fin 2)).val < 1024 := this; omega)
    · exfalso; omega
  · have hd : (t.val + 1) / 16 = t.val / 16 := by omega
    have hm : (t.val + 1) % 16 = t.val % 16 + 1 := by omega
    unfold Inv; rw [hd, hm]
    exact ⟨fun h' => by exfalso; omega, fun _ => ⟨r, (h.2 he).2⟩⟩

/-! ## The proof data -/

abbrev scE : Memref sig .tc .vmem S1024x4096 .bf16 := Memref.whole cc0_scratch0
abbrev scO : Memref sig .tc .vmem S1024x4096 .bf16 := Memref.whole cc0_scratch1

/-- What is held between steps: the two scratch buffers as `Inv` says, and the generator register. -/
def PhiN (c : Dev nD) (n : ℕ) : sProp 𝕄 :=
  iprop(∃ A, ∃ B, iprop(⌜Inv m c n A B⌝ ∗ owns (c : Thread nD τ) scE fullShare A ∗ owns (c : Thread nD τ) scO fullShare B ∗ (∃ r, prngReg c r)))

/-- What every window's buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay3 (iblk m c 0 t) (iblk m c 3 t) (iblk m c 1 t) (iblk m c 2 t)
    | ⟨10, _⟩ => k0_pay11 (tileAt m c (t.val / 16 - 1)) (iblk m c 7 t)
    | ⟨11, _⟩ => k0_pay2 (iblk m c 8 t)
  Φ t := PhiN m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = k0_pay3 (iblk m c 0 t) (iblk m c 3 t) (iblk m c 1 t) (iblk m c 2 t) := by dsimp only [dats]
theorem after_10 (c : Dev nD) (t : Fin cfg0.N) : (dats m 0 c).after 10 t
    = k0_pay11 (tileAt m c (t.val / 16 - 1)) (iblk m c 7 t) := by dsimp only [dats]
theorem after_11 (c : Dev nD) (t : Fin cfg0.N) : (dats m 0 c).after 11 t = k0_pay2 (iblk m c 8 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## One step -/

/-- What a step is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem leaves_0 (c : Dev nD) (t : Fin cfg0.N) : (dats m 0 c).leavesExact 0 t
    = owns (c : Thread nD τ) (win0_0.stage (cfg0.slots t 0)) fullShare ((dats m 0 c).after 0 t) := by
  unfold Dat.leavesExact; rw [show cfg0.idle 0 (grid0.coords t) = false from rfl]
theorem leaves_1 (c : Dev nD) (t : Fin cfg0.N) : (dats m 0 c).leavesExact 1 t
    = owns (c : Thread nD τ) (win0_1.stage (cfg0.slots t 1)) fullShare ((dats m 0 c).after 1 t) := by
  unfold Dat.leavesExact; rw [show cfg0.idle 1 (grid0.coords t) = false from rfl]
theorem leaves_2 (c : Dev nD) (t : Fin cfg0.N) : (dats m 0 c).leavesExact 2 t
    = owns (c : Thread nD τ) (win0_2.stage (cfg0.slots t 2)) fullShare ((dats m 0 c).after 2 t) := by
  unfold Dat.leavesExact; rw [show cfg0.idle 2 (grid0.coords t) = false from rfl]
theorem leaves_3 (c : Dev nD) (t : Fin cfg0.N) : (dats m 0 c).leavesExact 3 t
    = owns (c : Thread nD τ) (win0_3.stage (cfg0.slots t 3)) fullShare ((dats m 0 c).after 3 t) := by
  unfold Dat.leavesExact; rw [show cfg0.idle 3 (grid0.coords t) = false from rfl]
theorem leaves_4 (c : Dev nD) (t : Fin cfg0.N) : (dats m 0 c).leavesExact 4 t
    = owns (c : Thread nD τ) (win0_4.stage (cfg0.slots t 4)) fullShare ((dats m 0 c).after 4 t) := by
  unfold Dat.leavesExact; rw [show cfg0.idle 4 (grid0.coords t) = false from rfl]
theorem leaves_5 (c : Dev nD) (t : Fin cfg0.N) : (dats m 0 c).leavesExact 5 t
    = owns (c : Thread nD τ) (win0_5.stage (cfg0.slots t 5)) fullShare ((dats m 0 c).after 5 t) := by
  unfold Dat.leavesExact; rw [show cfg0.idle 5 (grid0.coords t) = false from rfl]
theorem leaves_6 (c : Dev nD) (t : Fin cfg0.N) : (dats m 0 c).leavesExact 6 t
    = owns (c : Thread nD τ) (win0_6.stage (cfg0.slots t 6)) fullShare ((dats m 0 c).after 6 t) := by
  unfold Dat.leavesExact; rw [show cfg0.idle 6 (grid0.coords t) = false from rfl]
theorem leaves_7 (c : Dev nD) (t : Fin cfg0.N) : (dats m 0 c).leavesExact 7 t
    = owns (c : Thread nD τ) (win0_7.stage (cfg0.slots t 7)) fullShare ((dats m 0 c).after 7 t) := by
  unfold Dat.leavesExact; rw [show cfg0.idle 7 (grid0.coords t) = false from rfl]
theorem leaves_8 (c : Dev nD) (t : Fin cfg0.N) : (dats m 0 c).leavesExact 8 t
    = owns (c : Thread nD τ) (win0_8.stage (cfg0.slots t 8)) fullShare ((dats m 0 c).after 8 t) := by
  unfold Dat.leavesExact; rw [show cfg0.idle 8 (grid0.coords t) = false from rfl]
theorem leaves_9 (c : Dev nD) (t : Fin cfg0.N) : (dats m 0 c).leavesExact 9 t
    = owns (c : Thread nD τ) (win0_9.stage (cfg0.slots t 9)) fullShare ((dats m 0 c).after 9 t) := by
  unfold Dat.leavesExact; rw [show cfg0.idle 9 (grid0.coords t) = false from live_res t]
theorem leaves_10 (c : Dev nD) (t : Fin cfg0.N) (h : t.val / 16 ≠ 0) : (dats m 0 c).leavesExact 10 t
    = owns (c : Thread nD τ) (win0_10.stage (cfg0.slots t 10)) fullShare ((dats m 0 c).after 10 t) := by
  unfold Dat.leavesExact; rw [live_hid t h]
theorem leaves_11 (c : Dev nD) (t : Fin cfg0.N) : (dats m 0 c).leavesExact 11 t
    = owns (c : Thread nD τ) (win0_11.stage (cfg0.slots t 11)) fullShare ((dats m 0 c).after 11 t) := by
  unfold Dat.leavesExact; rw [show cfg0.idle 11 (grid0.coords t) = false from live_cast t]
set_option maxHeartbeats 4800000 in
/-- Every step runs, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  unfold PhiN
  by_cases h0 : t.val / 16 = 0
  · rw [leaves_0 m c t, leaves_1 m c t, leaves_2 m c t, leaves_3 m c t, leaves_4 m c t, leaves_5 m c t, leaves_6 m c t, leaves_7 m c t, leaves_8 m c t, leaves_9 m c t, leaves_11 m c t]
    rw [Dat.leavesExact_idle (dats m 0 c) 10 t (idle_hid t h0) (noFlush_hid t h0)]
    rw [after_0 m c t, after_1 m c t, after_2 m c t, after_3 m c t, after_4 m c t, after_5 m c t, after_6 m c t, after_7 m c t, after_8 m c t, after_9 m c t, after_11 m c t]
    iintro ⟨⟨%A, %B, %hI, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ _ _ _ _ ((cond_first t).mpr h0) (fun h => by have := (cond_odd t).mp h; omega) (fun h => by have := (cond_even t).mp h; omega) (iblk m c 0 t) (iblk m c 1 t) (iblk m c 2 t) (iblk m c 3 t) (iblk m c 4 t) (iblk m c 5 t) (iblk m c 6 t) (iblk m c 7 t) (iblk m c 8 t) _ A B Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [HA]; · iexact HA
    isplitl [HB]; · iexact HB
    iintro ⟨H0, H1, H2, H3, H4, H5, H6, H7, H8, H9, H10, H11, ⟨%A', %hR, HA⟩, HB⟩
    isplitl [HA HB Hg]
    · iexists _, _; isplitr; · ipureintro; exact inv_even m c t A A' B hI (by omega) (off_first t) hR
      isplitl [HA]; · iexact HA
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexact H11
  · by_cases h1 : t.val / 16 % 2 = 1
    · rw [leaves_0 m c t, leaves_1 m c t, leaves_2 m c t, leaves_3 m c t, leaves_4 m c t, leaves_5 m c t, leaves_6 m c t, leaves_7 m c t, leaves_8 m c t, leaves_9 m c t, leaves_11 m c t]
      rw [leaves_10 m c t h0]
      rw [after_0 m c t, after_1 m c t, after_2 m c t, after_3 m c t, after_4 m c t, after_5 m c t, after_6 m c t, after_7 m c t, after_8 m c t, after_9 m c t, after_10 m c t, after_11 m c t]
      iintro ⟨⟨%A, %B, %hI, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have hA : A = tileAt m c (t.val / 16 - 1) := (hI.2 h1).2
      rw [← hA]
      iapply (run_odd c (grid0.coords t) _ _ _ _ _ _ _ _ _ _ _ _ _ _ _ _ _ _ _ _ _ _ _ _ _ _ _ _ (fun h => by have := (cond_first t).mp h; omega) ((cond_odd t).mpr h1) (fun h => by have := (cond_even t).mp h; omega) (iblk m c 0 t) (iblk m c 1 t) (iblk m c 2 t) (iblk m c 3 t) (iblk m c 4 t) (iblk m c 5 t) (iblk m c 6 t) (iblk m c 7 t) (iblk m c 8 t) A B Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HA]; · iexact HA
      isplitl [HB]; · iexact HB
      iintro ⟨H0, H1, H2, H3, H4, H5, H6, H7, H8, H9, H10, H11, HA, ⟨%B', %hR, HB⟩⟩
      isplitl [HA HB Hg]
      · iexists _, _; isplitr; · ipureintro; exact inv_odd m c t A B B' hI h1 (off_odd t) hR
        isplitl [HA]; · iexact HA
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [leaves_0 m c t, leaves_1 m c t, leaves_2 m c t, leaves_3 m c t, leaves_4 m c t, leaves_5 m c t, leaves_6 m c t, leaves_7 m c t, leaves_8 m c t, leaves_9 m c t, leaves_11 m c t]
      rw [leaves_10 m c t h0]
      rw [after_0 m c t, after_1 m c t, after_2 m c t, after_3 m c t, after_4 m c t, after_5 m c t, after_6 m c t, after_7 m c t, after_8 m c t, after_9 m c t, after_10 m c t, after_11 m c t]
      iintro ⟨⟨%A, %B, %hI, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have hB : B = tileAt m c (t.val / 16 - 1) := (hI.1 (by omega)).2 h0
      rw [← hB]
      iapply (run_even c (grid0.coords t) _ _ _ _ _ _ _ _ _ _ _ _ _ _ _ _ _ _ _ _ _ _ _ _ _ _ _ _ (fun h => by have := (cond_first t).mp h; omega) (fun h => h1 ((cond_odd t).mp h)) ((cond_even t).mpr ⟨by omega, h0⟩) (iblk m c 0 t) (iblk m c 1 t) (iblk m c 2 t) (iblk m c 3 t) (iblk m c 4 t) (iblk m c 5 t) (iblk m c 6 t) (iblk m c 7 t) (iblk m c 8 t) A B Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HA]; · iexact HA
      isplitl [HB]; · iexact HB
      iintro ⟨H0, H1, H2, H3, H4, H5, H6, H7, H8, H9, H10, H11, ⟨%A', %hR, HA⟩, HB⟩
      isplitl [HA HB Hg]
      · iexists _, _; isplitr; · ipureintro; exact inv_even m c t A A' B hI (by omega) (off_even t) hR
        isplitl [HA]; · iexact HA
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem PhiA_eq (c : Dev nD) :
    (Pipeline.ΦA spec0 c : sProp 𝕄)
      = iprop(iprop((∃ d, owns (c : Thread nD τ) scE fullShare d) ∗ (∃ d, owns (c : Thread nD τ) scO fullShare d)) ∗ (∃ r, prngReg c r)) := by
  unfold Pipeline.ΦA; rw [scopedRest0_eq]; simp only [scE, scO, owns_whole]; try rfl

theorem inv_zero (c : Dev nD) (A B : Vec F S1024x4096 .bf16) : Inv m c 0 A B :=
  ⟨fun _ => ⟨fun y hy => absurd hy (Nat.not_lt_zero _), fun h => absurd rfl h⟩, fun h => absurd h (by decide)⟩

theorem hin (c : Dev nD) : Pipeline.ΦA spec0 c ⊢ (dats m 0 c).Φ 0 := by
  rw [show (dats m 0 c).Φ 0 = PhiN m c 0 from rfl, PhiA_eq]
  unfold PhiN
  iintro ⟨⟨⟨%A, HA⟩, ⟨%B, HB⟩⟩, Hg⟩
  iexists A, B
  isplitr; · ipureintro; exact inv_zero m c A B
  isplitl [HA]; · iexact HA
  isplitl [HB]; · iexact HB
  iexact Hg

theorem hout (c : Dev nD) : (dats m 0 c).Φ (Fin.last cfg0.N) ⊢ Pipeline.ΦA spec0 c := by
  rw [show (dats m 0 c).Φ (Fin.last cfg0.N) = PhiN m c cfg0.N from rfl, PhiA_eq]
  unfold PhiN
  iintro ⟨%A, %B, -, HA, HB, Hg⟩
  isplitl [HA HB]
  · isplitl [HA]
    · iexists A; iexact HA
    · iexists B; iexact HB
  iexact Hg

set_option backward.isDefEq.respectTransparency.types false in
/-- The whole program runs, every array ends as the steps leave it, and no counter is left raised. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_post m ρ)) ((θ_run defs _ _).mono (fun _ h => h.2) (run_quiescent m ρ))

end Cert.Ff1Ideal.Ride

end
-- ==== Proof.Ff1RefRead.lean ====
/- The feed-forward-up call's reference read at one place: the residual, its norm and modulation, and the squared
   rectified product. -/
module

public import proofs.«01_k».proof.Proof.Gen.Ff1RefIdeal.Run
public import Idealize.ShloMosaic.Lib.Pipeline.ValueKit

@[expose] public section

set_option maxRecDepth 16384

noncomputable section

open Idealize.ShloMosaic Idealize.ShloMosaic.TcCoe Idealize.SL.Sem

namespace Cert.Ff1RefIdeal.Read

open Cert.Ff1RefIdeal Cert.Ff1RefIdeal.Gen

/-- The group's row that a token's row takes: one per batch of latent tokens, the fifth for the context. -/
def spread (z : FVec Ideal S8x4096 .f32) : FVec Ideal S9216x4096 .f32 :=
  concatenate S9216x4096 0 [⟨S8192x4096, (shapeCast _ (broadcastInDim S4x2048x4096 ![0, 1, 2] bcast_S4x1x4096_S4x2048x4096_0_1_2
      (broadcastInDim S4x1x4096 ![0, 2] bcast_S4x4096_S4x1x4096_0_2 (extractStridedSlice S4x4096 ![0, 0] z slices_S8x4096_S4x4096_0_0)))
      shapeCasts_S4x2048x4096_S8192x4096)⟩,
    ⟨S1024x4096, (broadcastInDim S1024x4096 ![0, 1] bcast_S1x4096_S1024x4096_0_1 (extractStridedSlice S1x4096 ![4, 0] z slices_S8x4096_S1x4096_4_0))⟩]
    concatenates_S8192x4096_S1024x4096_S9216x4096_d0

def gateRows (a : FVec Ideal S4x6x8x1x4096 .f32) : FVec Ideal S8x4096 .f32 :=
  shapeCast _ (extractStridedSlice S1x1x8x1x4096 ![0, 2, 0, 0, 0] a slices_S4x6x8x1x4096_S1x1x8x1x4096_0_2_0_0_0) shapeCasts_S1x1x8x1x4096_S8x4096

def shiftRows (a : FVec Ideal S4x6x8x1x4096 .f32) : FVec Ideal S8x4096 .f32 :=
  shapeCast _ (extractStridedSlice S1x1x8x1x4096 ![0, 3, 0, 0, 0] a slices_S4x6x8x1x4096_S1x1x8x1x4096_0_3_0_0_0) shapeCasts_S1x1x8x1x4096_S8x4096

def scaleRows (a : FVec Ideal S4x6x8x1x4096 .f32) : FVec Ideal S8x4096 .f32 :=
  shapeCast _ (extractStridedSlice S1x1x8x1x4096 ![0, 4, 0, 0, 0] a slices_S4x6x8x1x4096_S1x1x8x1x4096_0_4_0_0_0) shapeCasts_S1x1x8x1x4096_S8x4096

/-- A row over the root of its mean square, times the weight's first row. -/
def normed (x : FVec Ideal S9216x4096 .f32) (g : FVec Ideal S4x4096 .f32) : FVec Ideal S9216x4096 .f32 :=
  mulf (mulf x (broadcastInDim S9216x4096 ![0, 1] bcast_S9216x1_S9216x4096_0_1 (Host.rsqrt (addf (Host.divf
      (broadcastInDim S9216x1 ![0] bcast_S9216_S9216x1_0 (Host.reduceAdd (mulf x x) (constant S_ .f32 0x00000000#32) reducesTo_S9216x4096_S9216_d1 h_S_))
      (broadcastInDim S9216x1 ![] bcast_S_S9216x1 (constant S_ .f32 0x45800000#32)))
      (broadcastInDim S9216x1 ![] bcast_S_S9216x1 (constant S_ .f32 0x358637BD#32))))))
    (broadcastInDim S9216x4096 ![0, 1] bcast_S1x4096_S9216x4096_0_1 (broadcastInDim S1x4096 ![1] bcast_S4096_S1x4096_1
      (shapeCast _ (extractStridedSlice S1x4096 ![0, 0] g slices_S4x4096_S1x4096_0_0) shapeCasts_S1x4096_S4096)))

/-- The residual after the token mixer. -/
def resid (t : FVec Ideal S9216x4096 .f32) (y : FVec Ideal S9216x4096 .bf16) (g : FVec Ideal S4x4096 .f32)
    (a : FVec Ideal S4x6x8x1x4096 .f32) : FVec Ideal S9216x4096 .f32 :=
  addf t (mulf (spread (gateRows a)) (normed (extf .f32 y bitsLt_bf16_f32) g))

/-- The residual's norm, scaled and shifted. -/
def moved (x : FVec Ideal S9216x4096 .f32) (g : FVec Ideal S4x4096 .f32) (a : FVec Ideal S4x6x8x1x4096 .f32) :
    FVec Ideal S9216x4096 .bf16 :=
  truncf .bf16 (addf (mulf (normed x g) (addf (broadcastInDim S9216x4096 ![] bcast_S_S9216x4096 (constant S_ .f32 0x3F800000#32))
    (spread (scaleRows a)))) (spread (shiftRows a))) bitsLt_bf16_f32

/-- The product's positive part, squared. -/
def hidden (h : FVec Ideal S9216x4096 .bf16) (w : FVec Ideal S4096x16384 .bf16) : FVec Ideal S9216x16384 .bf16 :=
  truncf .bf16 (mulf
    (maximumf (Host.dotGeneral dot_S9216x4096_S4096x16384_S9216x16384_1_0_0_1_n_n none (extf .f32 h bitsLt_bf16_f32) (extf .f32 w bitsLt_bf16_f32))
      (broadcastInDim S9216x16384 ![] bcast_S_S9216x16384 (constant S_ .f32 0x00000000#32)))
    (maximumf (Host.dotGeneral dot_S9216x4096_S4096x16384_S9216x16384_1_0_0_1_n_n none (extf .f32 h bitsLt_bf16_f32) (extf .f32 w bitsLt_bf16_f32))
      (broadcastInDim S9216x16384 ![] bcast_S_S9216x16384 (constant S_ .f32 0x00000000#32)))) bitsLt_bf16_f32

/-- The other weight's first layer in 16 bits. -/
def rounded (w : FVec Ideal S4x16384x4096 .f32) : FVec Ideal S16384x4096 .bf16 :=
  truncf .bf16 (shapeCast _ (extractStridedSlice S1x16384x4096 ![0, 0, 0] w slices_S4x16384x4096_S1x16384x4096_0_0_0)
    shapeCasts_S1x16384x4096_S16384x4096) bitsLt_bf16_f32

theorem res_eq (m : (ℓ : Loc nD τ sig) → Buf (Elt Ideal) ℓ) (c : Dev nD) : Cert.Ff1RefIdeal.Value.res_main_v70 (F := Ideal) m c
    = hidden (moved (resid (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))
        (m ((c.tc : Thread nD τ).loc main_arg3))) (m ((c.tc : Thread nD τ).loc main_arg5)) := by
  unfold Cert.Ff1RefIdeal.Value.res_main_v70 hidden moved resid normed spread gateRows shiftRows scaleRows
  rfl

/-- The group of a row. -/
def group (r : ℕ) : Fin 8 := ⟨min (r / 2048) 4, by omega⟩

theorem spread_at (z : FVec Ideal S8x4096 .f32) (r : Fin 9216) (k : Fin 4096) : spread z (ix2 r k) = z (ix2 (group r.val) k) := by
  pointwise [spread]
  by_cases h : r.val < 8192
  · rw [dif_pos h]
    refine congrArg z (congrArg₂ ix2 (Fin.ext ?_) (Fin.ext ?_))
    · show _ = min (r.val / 2048) 4
      dsimp only
      omega
    · rfl
  · rw [dif_neg h]
    refine congrArg z (congrArg₂ ix2 (Fin.ext ?_) rfl)
    show 4 = min (r.val / 2048) 4
    omega

theorem gateRows_at (a) (r : Fin 8) (k : Fin 4096) : gateRows a (ix2 r k) = a (ix5 0 2 r 0 k) := by
  pointwise [gateRows]

theorem shiftRows_at (a) (r : Fin 8) (k : Fin 4096) : shiftRows a (ix2 r k) = a (ix5 0 3 r 0 k) := by
  pointwise [shiftRows]

theorem scaleRows_at (a) (r : Fin 8) (k : Fin 4096) : scaleRows a (ix2 r k) = a (ix5 0 4 r 0 k) := by
  pointwise [scaleRows]

/-- One over the root of a row's mean square. -/
def invRms (x : Fin 4096 → EReal) : EReal :=
  Ideal.rsqrt (Ideal.div (∑ k, x k * x k) (Ideal.ofBits .f32 0x45800000#32) + Ideal.ofBits .f32 0x358637BD#32)

theorem normed_at (x) (g) (r : Fin 9216) (k : Fin 4096) :
    normed x g (ix2 r k) = x (ix2 r k) * invRms (fun k => x (ix2 r k)) * g (ix2 0 k) := by
  pointwise [normed]
  unfold invRms
  rfl

theorem resid_at (t y g a) (r : Fin 9216) (k : Fin 4096) :
    resid t y g a (ix2 r k) = t (ix2 r k) + a (ix5 0 2 (group r.val) 0 k) * (y (ix2 r k) * invRms (fun k => y (ix2 r k)) * g (ix2 0 k)) := by
  unfold resid
  show t _ + spread (gateRows a) _ * normed (extf .f32 y bitsLt_bf16_f32) g _ = _
  rw [spread_at, gateRows_at, normed_at]
  rfl

theorem moved_at (x g a) (r : Fin 9216) (k : Fin 4096) :
    moved x g a (ix2 r k) = x (ix2 r k) * invRms (fun k => x (ix2 r k)) * g (ix2 0 k)
        * (Ideal.ofBits .f32 0x3F800000#32 + a (ix5 0 4 (group r.val) 0 k))
      + a (ix5 0 3 (group r.val) 0 k) := by
  unfold moved
  show normed x g _ * (Ideal.ofBits .f32 0x3F800000#32 + spread (scaleRows a) _) + spread (shiftRows a) _ = _
  rw [spread_at, spread_at, scaleRows_at, shiftRows_at, normed_at]

theorem hidden_at (h w) (r : Fin 9216) (n : Fin 16384) : hidden h w (ix2 r n)
    = max (∑ k : Fin 4096, h (ix2 r k) * w (ix2 k n)) 0 * max (∑ k : Fin 4096, h (ix2 r k) * w (ix2 k n)) 0 := by
  pointwise [hidden]

end Cert.Ff1RefIdeal.Read

end
-- ==== Proof.Ff1Value.lean ====
/- What the feed-forward-up kernel leaves in its three results: the residual after the token mixer, the squared positive
   part of the product of the residual's modulated norm, and the other weight's first layer in 16 bits. -/
module

public import proofs.«01_k».proof.Proof.Ff1Frame
public import proofs.«01_k».proof.Proof.Ff1RefRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ff1Ideal.Final

open Cert.Ff1Ideal Cert.Ff1Ideal.Gen Cert.Ff1Ideal.Ride
open Cert.Ff1RefIdeal.Read (resid moved hidden rounded invRms group)

variable (m : (ℓ : Loc nD τ sig) → Buf (Elt Ideal) ℓ)

/-- Every window's block index. The moved rows stop at the last strip, the product's rows stand a tile behind. -/
theorem idx : ∀ t : Fin cfg0.N, win0_0.index t = ![min t.val 143, 0] ∧ win0_1.index t = ![min t.val 143, 0]
    ∧ win0_2.index t = ![0, 0, 0] ∧ win0_3.index t = ![0, 2, min (t.val / 32) 4, 0, 0] ∧ win0_4.index t = ![0, 0, 0]
    ∧ win0_5.index t = ![0, 3, min (t.val / 32) 4, 0, 0] ∧ win0_6.index t = ![0, 4, min (t.val / 32) 4, 0, 0]
    ∧ (t.val / 16 ≠ 0 → win0_7.index t = ![0, t.val % 16]) ∧ win0_8.index t = ![0, min t.val 127, 0] ∧ win0_9.index t = ![min t.val 143, 0]
    ∧ (t.val / 16 ≠ 0 → win0_10.index t = ![t.val / 16 - 1, t.val % 16]) ∧ win0_11.index t = ![min t.val 127, 0] :=
  (by decide +kernel : ∀ t : Fin grid0.N, win0_0.index t = ![min t.val 143, 0] ∧ win0_1.index t = ![min t.val 143, 0]
    ∧ win0_2.index t = ![0, 0, 0] ∧ win0_3.index t = ![0, 2, min (t.val / 32) 4, 0, 0] ∧ win0_4.index t = ![0, 0, 0]
    ∧ win0_5.index t = ![0, 3, min (t.val / 32) 4, 0, 0] ∧ win0_6.index t = ![0, 4, min (t.val / 32) 4, 0, 0]
    ∧ (t.val / 16 ≠ 0 → win0_7.index t = ![0, t.val % 16]) ∧ win0_8.index t = ![0, min t.val 127, 0] ∧ win0_9.index t = ![min t.val 143, 0]
    ∧ (t.val / 16 ≠ 0 → win0_10.index t = ![t.val / 16 - 1, t.val % 16]) ∧ win0_11.index t = ![min t.val 127, 0])

/-! ## One step's payloads, entry by entry -/

theorem pay3_at (x) (a) (y) (g) (r : Fin 64) (k : Fin 4096) : k0_pay3 (F := Ideal) x a y g (ix2 r k)
    = x (ix2 r k) + a (ix5 0 0 0 0 k) * (y (ix2 r k) * invRms (fun k => y (ix2 r k)) * g (ix3 0 0 k)) := by
  pointwise [k0_pay3]
  unfold invRms
  rfl

theorem strip_at (x0) (x1) (x2) (x3) (x4) (x5) (x6) (r : Fin 64) (k : Fin 4096) :
    strip (F := Ideal) x0 x1 x2 x3 x4 x5 x6 (ix2 r k)
    = k0_pay3 x0 x3 x1 x2 (ix2 r k) * invRms (fun k => k0_pay3 x0 x3 x1 x2 (ix2 r k)) * x4 (ix3 0 0 k)
        * (Ideal.ofBits .f32 0x3F800000#32 + x6 (ix5 0 0 0 0 k)) + x5 (ix5 0 0 0 0 k) := by
  unfold strip k0_pay5
  generalize k0_pay3 x0 x3 x1 x2 = X
  pointwise [k0_pay1, k0_pay4]
  unfold invRms
  rfl

theorem pay11_at (h) (w) (r : Fin 1024) (n : Fin 1024) : k0_pay11 (F := Ideal) h w (ix2 r n)
    = max (∑ k : Fin 4096, h (ix2 r k) * w (ix2 k n)) 0 * max (∑ k : Fin 4096, h (ix2 r k) * w (ix2 k n)) 0 := by
  pointwise [k0_pay11]

/-! ## The blocks -/

set_option maxHeartbeats 2000000 in
theorem V_v0 (c : Dev nD) : V m c main_v0 = broadcastInDim S4x1x4096 ![0, 2] bcast_S4x4096_S4x1x4096_0_2 (m ((c : Thread nD τ).loc main_arg2)) := by
  unfold V
  after_results
  try rfl

set_option maxHeartbeats 2000000 in
theorem V_v1 (c : Dev nD) : V m c main_v1 = broadcastInDim S4x1x4096 ![0, 2] bcast_S4x4096_S4x1x4096_0_2 (m ((c : Thread nD τ).loc main_arg4)) := by
  unfold V
  after_results
  try rfl

/-- The row of the array that row `r` of step `t`'s strip is. -/
def rowOf (t : Fin cfg0.N) (r : Fin 64) : Fin 9216 := ⟨64 * min t.val 143 + r.val, by omega⟩

theorem blk_x (c : Dev nD) (t : Fin cfg0.N) (r : Fin 64) (k : Fin 4096) :
    iblk m c 0 t (ix2 r k) = m ((c : Thread nD τ).loc main_arg0) (ix2 (rowOf t r) k) := by
  unfold rowOf
  blk_point [iblk, V, idx t]

theorem blk_y (c : Dev nD) (t : Fin cfg0.N) (r : Fin 64) (k : Fin 4096) :
    iblk m c 1 t (ix2 r k) = m ((c : Thread nD τ).loc main_arg1) (ix2 (rowOf t r) k) := by
  unfold rowOf
  blk_point [iblk, V, idx t]

theorem blk_gate (c : Dev nD) (t : Fin cfg0.N) (r : Fin 64) (k : Fin 4096) :
    iblk m c 3 t (ix5 0 0 0 0 k) = m ((c : Thread nD τ).loc main_arg3) (ix5 0 2 (group (rowOf t r).val) 0 k) := by
  unfold rowOf group
  blk_point [iblk, V, idx t]

theorem blk_shift (c : Dev nD) (t : Fin cfg0.N) (r : Fin 64) (k : Fin 4096) :
    iblk m c 5 t (ix5 0 0 0 0 k) = m ((c : Thread nD τ).loc main_arg3) (ix5 0 3 (group (rowOf t r).val) 0 k) := by
  unfold rowOf group
  blk_point [iblk, V, idx t]

theorem blk_scale (c : Dev nD) (t : Fin cfg0.N) (r : Fin 64) (k : Fin 4096) :
    iblk m c 6 t (ix5 0 0 0 0 k) = m ((c : Thread nD τ).loc main_arg3) (ix5 0 4 (group (rowOf t r).val) 0 k) := by
  unfold rowOf group
  blk_point [iblk, V, idx t]

theorem blk_gpost (c : Dev nD) (t : Fin cfg0.N) (k : Fin 4096) :
    iblk m c 2 t (ix3 0 0 k) = m ((c : Thread nD τ).loc main_arg2) (ix2 0 k) := by
  unfold iblk
  show V m c main_v0 _ = _
  rw [V_v0]
  pointwise
  blk_point [idx t]

theorem blk_gpre (c : Dev nD) (t : Fin cfg0.N) (k : Fin 4096) :
    iblk m c 4 t (ix3 0 0 k) = m ((c : Thread nD τ).loc main_arg4) (ix2 0 k) := by
  unfold iblk
  show V m c main_v1 _ = _
  rw [V_v1]
  pointwise
  blk_point [idx t]

/-! ## The results -/

/-- The residual after the token mixer. -/
abbrev mixed (c : Dev nD) : FVec Ideal S9216x4096 .f32 :=
  resid (m ((c : Thread nD τ).loc main_arg0)) (m ((c : Thread nD τ).loc main_arg1)) (m ((c : Thread nD τ).loc main_arg2))
    (m ((c : Thread nD τ).loc main_arg3))

/-- Its modulated norm. -/
abbrev fed (c : Dev nD) : FVec Ideal S9216x4096 .bf16 :=
  moved (mixed m c) (m ((c : Thread nD τ).loc main_arg4)) (m ((c : Thread nD τ).loc main_arg3))

theorem point_x (c : Dev nD) (t : Fin cfg0.N) (r : Fin 64) (k : Fin 4096) :
    k0_pay3 (iblk m c 0 t) (iblk m c 3 t) (iblk m c 1 t) (iblk m c 2 t) (ix2 r k) = mixed m c (ix2 (rowOf t r) k) := by
  refine (pay3_at _ _ _ _ r k).trans (Eq.trans ?_ (Cert.Ff1RefIdeal.Read.resid_at _ _ _ _ (rowOf t r) k).symm)
  simp only [blk_x, blk_y, blk_gpost, blk_gate m c t r]

theorem point_strip (c : Dev nD) (t : Fin cfg0.N) (r : Fin 64) (k : Fin 4096) :
    stripAt m c t (ix2 r k) = fed m c (ix2 (rowOf t r) k) := by
  unfold stripAt
  refine (strip_at _ _ _ _ _ _ _ r k).trans (Eq.trans ?_ (Cert.Ff1RefIdeal.Read.moved_at _ _ _ (rowOf t r) k).symm)
  simp only [point_x, blk_gpre, blk_shift m c t r, blk_scale m c t r]

/-- A tile's rows are the modulated norm's. -/
theorem point_tile (c : Dev nD) (i : ℕ) (hi : i < 9) (r : Fin 1024) (k : Fin 4096) :
    tileAt m c i (ix2 r k) = fed m c (ix2 ⟨1024 * i + r.val, by omega⟩ k) := by
  unfold tileAt
  have e : inStrip (ix2 r k) = ix2 ⟨r.val % 64, Nat.mod_lt _ (by decide)⟩ k := by
    funext a; refine Fin.cases ?_ (fun a => ?_) a
    · rfl
    · have : a = 0 := Subsingleton.elim _ _
      subst this; rfl
  rw [e, point_strip]
  refine congrArg (fed m c) (congrArg₂ ix2 (Fin.ext ?_) rfl)
  show 64 * min ((16 * i + r.val / 64) % cfg0.N) 143 + r.val % 64 = 1024 * i + r.val
  have e : ∀ n : ℕ, n = 160 → 64 * min ((16 * i + r.val / 64) % n) 143 + r.val % 64 = 1024 * i + r.val := by
    intro n hn; subst hn; have := r.isLt; omega
  exact e cfg0.N N_0

theorem place_x (c : Dev nD) (t : Fin cfg0.N) (y : S64x4096.Idx) :
    k0_pay3 (iblk m c 0 t) (iblk m c 3 t) (iblk m c 1 t) (iblk m c 2 t) y = mixed m c (((cfg0.win 9).blk t).view.emb y) := by
  obtain ⟨r, k, rfl⟩ : ∃ (r : Fin 64) (k : Fin 4096), y = ix2 r k := ⟨y 0, y 1, by funext a; fin_cases a <;> rfl⟩
  rw [point_x]
  generalize mixed m c = X
  unfold rowOf
  blk_point [idx t]

/-- The product's entry at one step. -/
theorem place_hid (c : Dev nD) (t : Fin cfg0.N) (ht : t.val / 16 ≠ 0) (y : S1024x1024.Idx) :
    k0_pay11 (tileAt m c (t.val / 16 - 1)) (iblk m c 7 t) y
    = hidden (fed m c) (m ((c : Thread nD τ).loc main_arg5)) (((cfg0.win 10).blk t).view.emb y) := by
  obtain ⟨r, n, rfl⟩ : ∃ (r : Fin 1024) (n : Fin 1024), y = ix2 r n := ⟨y 0, y 1, by funext a; fin_cases a <;> rfl⟩
  have hN : t.val < 160 := lt_of_lt_of_eq t.isLt (show cfg0.N = 160 from N_0)
  have hi : t.val / 16 - 1 < 9 := by omega
  have e : ((cfg0.win 10).blk t).view.emb (ix2 r n)
      = (ix2 ⟨1024 * (t.val / 16 - 1) + r.val, by omega⟩ ⟨1024 * (t.val % 16) + n.val, by omega⟩ : S9216x16384.Idx) := by
    funext a
    refine Fin.ext ?_
    fin_cases a
    · blk_simp [(idx t).2.2.2.2.2.2.2.2.2.2.1 ht]
      show (t.val / 16 - 1) * 1024 + r.val = 1024 * (t.val / 16 - 1) + r.val
      rw [Nat.mul_comm]
    · blk_simp [(idx t).2.2.2.2.2.2.2.2.2.2.1 ht]
      show t.val % 16 * 1024 + n.val = 1024 * (t.val % 16) + n.val
      rw [Nat.mul_comm]
  rw [e]
  refine (pay11_at _ _ r n).trans (Eq.trans ?_ (Cert.Ff1RefIdeal.Read.hidden_at _ _ _ _).symm)
  have h7 : ∀ k : Fin 4096, iblk m c 7 t (ix2 k n) = m ((c : Thread nD τ).loc main_arg5) (ix2 k ⟨1024 * (t.val % 16) + n.val, by omega⟩) := by
    intro k
    blk_point [iblk, V, (idx t).2.2.2.2.2.2.2.1 ht]
  simp only [point_tile m c _ hi, h7]

/-- The first result after the run is the residual. -/
theorem final_x (c : Dev nD) : (dats m 0 c).arrAt 9 cfg0.N = mixed m c := by
  refine (dats m 0 c).arrAt_eq_of_covers 9 _ (by decide +kernel) fun t _ y => ?_
  blk_simp
  rw [after_9]
  exact place_x m c t y

/-- The second result after the run is the squared positive part of the product. -/
theorem final_hid (c : Dev nD) : (dats m 0 c).arrAt 10 cfg0.N = hidden (fed m c) (m ((c : Thread nD τ).loc main_arg5)) := by
  refine (dats m 0 c).arrAt_eq_of_covers 10 _ (by decide +kernel) fun t ht y => ?_
  blk_simp
  rw [after_10]
  refine place_hid m c t (fun h => ?_) y
  rw [noFlush_hid t h] at ht
  exact Bool.noConfusion ht

theorem point_cast (c : Dev nD) (t : Fin cfg0.N) (y) : k0_pay2 (iblk m c 8 t) y
    = rounded (m ((c : Thread nD τ).loc main_arg6)) (((cfg0.win 11).blk t).view.emb y) := by
  pointwise [k0_pay2, rounded]
  blk_point [iblk, V, idx t]

/-- The third result after the run is the other weight's first layer in 16 bits. -/
theorem final_cast (c : Dev nD) : (dats m 0 c).arrAt 11 cfg0.N = rounded (m ((c : Thread nD τ).loc main_arg6)) := by
  refine (dats m 0 c).arrAt_eq_of_covers 11 _ (by decide +kernel) fun t _ y => ?_
  blk_simp
  rw [after_11]
  exact point_cast m c t y

/-- The whole program runs to its three results, its arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v2_0) = mixed m c
      ∧ r.2.mem ((c.tc : Thread nD τ).loc main_v2_1) = hidden (fed m c) (m ((c.tc : Thread nD τ).loc main_arg5))
      ∧ r.2.mem ((c.tc : Thread nD τ).loc main_v2_2) = rounded (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 9).trans (final_x m c), ((h.1 c).1 10).trans (final_hid m c),
    ((h.1 c).1 11).trans (final_cast m c), h.2.1 c⟩) (θ_run_and (run_post m ρ) (Cert.Ff1Ideal.Ride.frame m ρ))

end Cert.Ff1Ideal.Final

end
-- ==== Proof.MergeValue.lean ====
/- What the merge kernel leaves in its result: the gated sum of the three branches' projections, on the latent rows
   and then the context rows. -/
module

public import proofs.«01_k».proof.Proof.Gen.MergeIdeal.Value
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen

variable (m : (ℓ : Loc nD τ sig) → Buf (Elt Ideal) ℓ)

/-- The reference's projection of a branch of 1024 columns, its latent rows above its context rows. -/
def narrow (a : FVec Ideal S8192x1024 .bf16) (b : FVec Ideal S1024x1024 .bf16) (w : FVec Ideal S4x1024x4096 .bf16) :
    FVec Ideal S9216x4096 .f32 :=
  Host.dotGeneral Cert.MergeRefIdeal.dot_S9216x1024_S1024x4096_S9216x4096_1_0_0_1_n_n none
    (concatenate Cert.MergeRefIdeal.S9216x1024 0 [⟨S8192x1024, extf .f32 a Cert.MergeRefIdeal.Gen.bitsLt_bf16_f32⟩,
      ⟨S1024x1024, extf .f32 b Cert.MergeRefIdeal.Gen.bitsLt_bf16_f32⟩]
      Cert.MergeRefIdeal.Gen.concatenates_S8192x1024_S1024x1024_S9216x1024_d0)
    (extf .f32 (shapeCast _ (extractStridedSlice Cert.MergeRefIdeal.S1x1024x4096 ![1, 0, 0] w
      Cert.MergeRefIdeal.Gen.slices_S4x1024x4096_S1x1024x4096_1_0_0)
      Cert.MergeRefIdeal.Gen.shapeCasts_S1x1024x4096_S1024x4096) Cert.MergeRefIdeal.Gen.bitsLt_bf16_f32)

/-- The reference's projection of the branch of 2048 columns. -/
def wide (a : FVec Ideal S8192x2048 .bf16) (b : FVec Ideal S1024x2048 .bf16) (w : FVec Ideal S4x2048x4096 .bf16) :
    FVec Ideal S9216x4096 .f32 :=
  Host.dotGeneral Cert.MergeRefIdeal.dot_S9216x2048_S2048x4096_S9216x4096_1_0_0_1_n_n none
    (concatenate Cert.MergeRefIdeal.S9216x2048 0 [⟨S8192x2048, extf .f32 a Cert.MergeRefIdeal.Gen.bitsLt_bf16_f32⟩,
      ⟨S1024x2048, extf .f32 b Cert.MergeRefIdeal.Gen.bitsLt_bf16_f32⟩]
      Cert.MergeRefIdeal.Gen.concatenates_S8192x2048_S1024x2048_S9216x2048_d0)
    (extf .f32 (shapeCast _ (extractStridedSlice Cert.MergeRefIdeal.S1x2048x4096 ![1, 0, 0] w
      Cert.MergeRefIdeal.Gen.slices_S4x2048x4096_S1x2048x4096_1_0_0)
      Cert.MergeRefIdeal.Gen.shapeCasts_S1x2048x4096_S2048x4096) Cert.MergeRefIdeal.Gen.bitsLt_bf16_f32)

/-- The reference's logits of the gates. -/
def logits (u : FVec Ideal S9216x1280 .bf16) (w : FVec Ideal S4x512x12288 .bf16) (b : FVec Ideal S4x12288 .f32) :
    FVec Ideal Cert.MergeRefIdeal.S9216x12288 .f32 :=
  addf (Host.dotGeneral Cert.MergeRefIdeal.dot_S9216x512_S512x12288_S9216x12288_1_0_0_1_n_n none
      (extf .f32 (extractStridedSlice Cert.MergeRefIdeal.S9216x512 ![0, 0] u
        Cert.MergeRefIdeal.Gen.slices_S9216x1280_S9216x512_0_0) Cert.MergeRefIdeal.Gen.bitsLt_bf16_f32)
      (extf .f32 (shapeCast _ (extractStridedSlice Cert.MergeRefIdeal.S1x512x12288 ![1, 0, 0] w
        Cert.MergeRefIdeal.Gen.slices_S4x512x12288_S1x512x12288_1_0_0)
        Cert.MergeRefIdeal.Gen.shapeCasts_S1x512x12288_S512x12288) Cert.MergeRefIdeal.Gen.bitsLt_bf16_f32))
    (broadcastInDim Cert.MergeRefIdeal.S9216x12288 ![0, 1] Cert.MergeRefIdeal.Gen.bcast_S1x12288_S9216x12288_0_1
      (broadcastInDim Cert.MergeRefIdeal.S1x12288 ![1] Cert.MergeRefIdeal.Gen.bcast_S12288_S1x12288_1
        (shapeCast _ (extractStridedSlice Cert.MergeRefIdeal.S1x12288 ![1, 0] b
          Cert.MergeRefIdeal.Gen.slices_S4x12288_S1x12288_1_0) Cert.MergeRefIdeal.Gen.shapeCasts_S1x12288_S12288)))

/-- The reference's gates: the logistic function of the logits. -/
def gates (u : FVec Ideal S9216x1280 .bf16) (w : FVec Ideal S4x512x12288 .bf16) (b : FVec Ideal S4x12288 .f32) :
    FVec Ideal Cert.MergeRefIdeal.S9216x12288 .f32 :=
  Host.divf (broadcastInDim Cert.MergeRefIdeal.S9216x12288 ![] Cert.MergeRefIdeal.Gen.bcast_S_S9216x12288
      (constant Cert.MergeRefIdeal.S_ .f32 0x3F800000#32))
    (addf (broadcastInDim Cert.MergeRefIdeal.S9216x12288 ![] Cert.MergeRefIdeal.Gen.bcast_S_S9216x12288
      (constant Cert.MergeRefIdeal.S_ .f32 0x3F800000#32)) (Host.exp (Host.negf (logits u w b))))

/-- The reference's gated sum. -/
abbrev merged (f : FVec Ideal S8192x1024 .bf16) (c : FVec Ideal S8192x1024 .bf16) (a : FVec Ideal S8192x2048 .bf16)
    (ft : FVec Ideal S1024x1024 .bf16) (ct : FVec Ideal S1024x1024 .bf16) (at' : FVec Ideal S1024x2048 .bf16)
    (u : FVec Ideal S9216x1280 .bf16) (wf : FVec Ideal S4x1024x4096 .bf16) (wc : FVec Ideal S4x1024x4096 .bf16)
    (wa : FVec Ideal S4x2048x4096 .bf16) (wg : FVec Ideal S4x512x12288 .bf16) (bg : FVec Ideal S4x12288 .f32) :
    FVec Ideal S9216x4096 .bf16 :=
  truncf .bf16 (addf (addf
      (mulf (extractStridedSlice Cert.MergeRefIdeal.S9216x4096 ![0, 0] (gates u wg bg)
        Cert.MergeRefIdeal.Gen.slices_S9216x12288_S9216x4096_0_0) (narrow f ft wf))
      (mulf (extractStridedSlice Cert.MergeRefIdeal.S9216x4096 ![0, 4096] (gates u wg bg)
        Cert.MergeRefIdeal.Gen.slices_S9216x12288_S9216x4096_0_4096) (narrow c ct wc)))
      (mulf (extractStridedSlice Cert.MergeRefIdeal.S9216x4096 ![0, 8192] (gates u wg bg)
        Cert.MergeRefIdeal.Gen.slices_S9216x12288_S9216x4096_0_8192) (wide a at' wa)))
    Cert.MergeRefIdeal.Gen.bitsLt_bf16_f32

/-- Every window's block index: the latent windows stop at the last latent tile, the context windows wait at the first
    context tile, and a gate's weight lies eight column tiles after the one before. -/
theorem idx : ∀ t : Fin cfg0.N, win0_0.index t = ![min (t.val / 8) 15, 0] ∧ win0_1.index t = ![min (t.val / 8) 15, 0]
    ∧ win0_2.index t = ![min (t.val / 8) 15, 0] ∧ win0_3.index t = ![t.val / 8 - 16, 0]
    ∧ win0_4.index t = ![t.val / 8 - 16, 0] ∧ win0_5.index t = ![t.val / 8 - 16, 0] ∧ win0_6.index t = ![t.val / 8, 0]
    ∧ win0_7.index t = ![1, 0, t.val % 8] ∧ win0_8.index t = ![1, 0, t.val % 8] ∧ win0_9.index t = ![1, 0, t.val % 8]
    ∧ win0_10.index t = ![1, 0, t.val % 8] ∧ win0_11.index t = ![1, 0, 8 + t.val % 8]
    ∧ win0_12.index t = ![1, 0, 16 + t.val % 8] ∧ win0_13.index t = ![1, 0, t.val % 8]
    ∧ win0_14.index t = ![1, 0, 8 + t.val % 8] ∧ win0_15.index t = ![1, 0, 16 + t.val % 8]
    ∧ win0_16.index t = ![t.val / 8, t.val % 8] :=
  (by decide +kernel : ∀ t : Fin grid0.N, win0_0.index t = ![min (t.val / 8) 15, 0]
    ∧ win0_1.index t = ![min (t.val / 8) 15, 0]
    ∧ win0_2.index t = ![min (t.val / 8) 15, 0] ∧ win0_3.index t = ![t.val / 8 - 16, 0]
    ∧ win0_4.index t = ![t.val / 8 - 16, 0] ∧ win0_5.index t = ![t.val / 8 - 16, 0] ∧ win0_6.index t = ![t.val / 8, 0]
    ∧ win0_7.index t = ![1, 0, t.val % 8] ∧ win0_8.index t = ![1, 0, t.val % 8] ∧ win0_9.index t = ![1, 0, t.val % 8]
    ∧ win0_10.index t = ![1, 0, t.val % 8] ∧ win0_11.index t = ![1, 0, 8 + t.val % 8]
    ∧ win0_12.index t = ![1, 0, 16 + t.val % 8] ∧ win0_13.index t = ![1, 0, t.val % 8]
    ∧ win0_14.index t = ![1, 0, 8 + t.val % 8] ∧ win0_15.index t = ![1, 0, 16 + t.val % 8]
    ∧ win0_16.index t = ![t.val / 8, t.val % 8])

/-- The row tile's coordinate is below 16 exactly on the latent tiles. -/
theorem coord : ∀ t : Fin cfg0.N, Scalar.cmpi .slt (BitVec.ofNat 32 (grid0.coords t 0).val) 16#32
    = if t.val / 8 < 16 then 1#1 else 0#1 :=
  (by decide +kernel : ∀ t : Fin grid0.N, Scalar.cmpi .slt (BitVec.ofNat 32 (grid0.coords t 0).val) 16#32
    = if t.val / 8 < 16 then 1#1 else 0#1)

/-- The block of the result that point `t` writes, its place in the array. -/
abbrev at16 (t : Fin cfg0.N) (y : S512x512.Idx) : S9216x4096.Idx := ((cfg0.win 16).blk t).view.emb y

/-- A gate's block at one entry. -/
abbrev gateAt (u : FVec Ideal S512x512 .bf16) (w : FVec Ideal S1x512x512 .bf16) (b : FVec Ideal S1x1x512 .f32)
    (y : S512x512.Idx) : EReal :=
  Ideal.logistic (∑ x : Fin 512, u (ix2 (y 0) x) * w (ix3 0 x (y 1)) + b (ix3 0 0 (y 1)))

/-- A narrow branch's block at one entry: the latent block `a` or, where `s` is clear, the context block `b`. -/
abbrev narrowAt (s : BitVec 1) (a b : FVec Ideal S512x1024 .bf16) (w : FVec Ideal S1x1024x512 .bf16)
    (y : S512x512.Idx) : EReal :=
  ∑ x : Fin 1024, Scalar.select s (a (ix2 (y 0) x)) (b (ix2 (y 0) x)) * w (ix3 0 x (y 1))

/-- The wide branch's block at one entry. -/
abbrev wideAt (s : BitVec 1) (a b : FVec Ideal S512x2048 .bf16) (w : FVec Ideal S1x2048x512 .bf16)
    (y : S512x512.Idx) : EReal :=
  ∑ x : Fin 2048, Scalar.select s (a (ix2 (y 0) x)) (b (ix2 (y 0) x)) * w (ix3 0 x (y 1))

/-- The row of the array that row `y 0` of the block is. -/
theorem at16_row (t : Fin cfg0.N) (y : S512x512.Idx) : (at16 t y 0).val = t.val / 8 * 512 + (y 0).val := by
  show (((cfg0.win 16).blk t).view.emb y 0).val = _
  blk_simp [idx t]

/-- The column of the array that column `y 1` of the block is. -/
theorem at16_col (t : Fin cfg0.N) (y : S512x512.Idx) : (at16 t y 1).val = t.val % 8 * 512 + (y 1).val := by
  show (((cfg0.win 16).blk t).view.emb y 1).val = _
  blk_simp [idx t]

/-- The first branch's gate is the reference's. -/
theorem gate_f (c : Dev nD) (t : Fin cfg0.N) (y : S512x512.Idx) :
    gateAt (X0_6 m c t) (iblk m c 10 t) (iblk m c 13 t) y
    = extractStridedSlice Cert.MergeRefIdeal.S9216x4096 ![0, 0] (gates (m ((c : Thread nD τ).loc main_arg6))
        (m ((c : Thread nD τ).loc main_arg10)) (m ((c : Thread nD τ).loc main_arg11)))
        Cert.MergeRefIdeal.Gen.slices_S9216x12288_S9216x4096_0_0 (at16 t y) := by
  pointwise [gates, logits]
  unfold gateAt Ideal.logistic
  have hr := at16_row t y
  have hc := at16_col t y
  refine congrArg (fun z : EReal => Ideal.div 1 (1 + Ideal.exp (-z))) ?_
  refine congrArg₂ (· + ·) (Finset.sum_congr rfl fun x _ => congrArg₂ (· * ·) ?_ ?_) ?_
  · blk_point [X0_6, Pipeline.Window.fill, moved0_6 t, iblk, V, idx t]
  · blk_point [iblk, V, idx t]
  · blk_point [iblk, V, idx t]

/-- The second branch's gate is the reference's. -/
theorem gate_c (c : Dev nD) (t : Fin cfg0.N) (y : S512x512.Idx) :
    gateAt (X0_6 m c t) (iblk m c 11 t) (iblk m c 14 t) y
    = extractStridedSlice Cert.MergeRefIdeal.S9216x4096 ![0, 4096] (gates (m ((c : Thread nD τ).loc main_arg6))
        (m ((c : Thread nD τ).loc main_arg10)) (m ((c : Thread nD τ).loc main_arg11)))
        Cert.MergeRefIdeal.Gen.slices_S9216x12288_S9216x4096_0_4096 (at16 t y) := by
  pointwise [gates, logits]
  unfold gateAt Ideal.logistic
  have hr := at16_row t y
  have hc := at16_col t y
  refine congrArg (fun z : EReal => Ideal.div 1 (1 + Ideal.exp (-z))) ?_
  refine congrArg₂ (· + ·) (Finset.sum_congr rfl fun x _ => congrArg₂ (· * ·) ?_ ?_) ?_
  · blk_point [X0_6, Pipeline.Window.fill, moved0_6 t, iblk, V, idx t]
  · blk_point [iblk, V, idx t]
  · blk_point [iblk, V, idx t]

/-- The third branch's gate is the reference's. -/
theorem gate_a (c : Dev nD) (t : Fin cfg0.N) (y : S512x512.Idx) :
    gateAt (X0_6 m c t) (iblk m c 12 t) (iblk m c 15 t) y
    = extractStridedSlice Cert.MergeRefIdeal.S9216x4096 ![0, 8192] (gates (m ((c : Thread nD τ).loc main_arg6))
        (m ((c : Thread nD τ).loc main_arg10)) (m ((c : Thread nD τ).loc main_arg11)))
        Cert.MergeRefIdeal.Gen.slices_S9216x12288_S9216x4096_0_8192 (at16 t y) := by
  pointwise [gates, logits]
  unfold gateAt Ideal.logistic
  have hr := at16_row t y
  have hc := at16_col t y
  refine congrArg (fun z : EReal => Ideal.div 1 (1 + Ideal.exp (-z))) ?_
  refine congrArg₂ (· + ·) (Finset.sum_congr rfl fun x _ => congrArg₂ (· * ·) ?_ ?_) ?_
  · blk_point [X0_6, Pipeline.Window.fill, moved0_6 t, iblk, V, idx t]
  · blk_point [iblk, V, idx t]
  · blk_point [iblk, V, idx t]

/-- The first branch's projection is the reference's. -/
theorem part_f (c : Dev nD) (t : Fin cfg0.N) (y : S512x512.Idx) :
    narrowAt (Scalar.cmpi CmpIPredicate.slt (BitVec.ofNat 32 (grid0.coords t 0).val) 16#32) (iblk m c 0 t)
      (iblk m c 3 t) (iblk m c 7 t) y
    = narrow (m ((c : Thread nD τ).loc main_arg0)) (m ((c : Thread nD τ).loc main_arg3))
        (m ((c : Thread nD τ).loc main_arg7)) (at16 t y) := by
  rw [coord t]
  pointwise [narrow]
  unfold narrowAt
  have hr := at16_row t y
  have hc := at16_col t y
  have hy : (y 0).val < 512 := (y 0).isLt
  refine Finset.sum_congr rfl fun x _ => congrArg₂ (· * ·) ?_ ?_
  · by_cases h : t.val / 8 < 16
    · rw [if_pos h, dif_pos (by omega)]
      show iblk m c 0 t _ = _
      blk_point [iblk, V, idx t]
    · rw [if_neg h, dif_neg (by omega)]
      show iblk m c 3 t _ = _
      blk_point [iblk, V, idx t]
  · blk_point [iblk, V, idx t]

/-- The second branch's projection is the reference's. -/
theorem part_c (c : Dev nD) (t : Fin cfg0.N) (y : S512x512.Idx) :
    narrowAt (Scalar.cmpi CmpIPredicate.slt (BitVec.ofNat 32 (grid0.coords t 0).val) 16#32) (iblk m c 1 t)
      (iblk m c 4 t) (iblk m c 8 t) y
    = narrow (m ((c : Thread nD τ).loc main_arg1)) (m ((c : Thread nD τ).loc main_arg4))
        (m ((c : Thread nD τ).loc main_arg8)) (at16 t y) := by
  rw [coord t]
  pointwise [narrow]
  unfold narrowAt
  have hr := at16_row t y
  have hc := at16_col t y
  have hy : (y 0).val < 512 := (y 0).isLt
  refine Finset.sum_congr rfl fun x _ => congrArg₂ (· * ·) ?_ ?_
  · by_cases h : t.val / 8 < 16
    · rw [if_pos h, dif_pos (by omega)]
      show iblk m c 1 t _ = _
      blk_point [iblk, V, idx t]
    · rw [if_neg h, dif_neg (by omega)]
      show iblk m c 4 t _ = _
      blk_point [iblk, V, idx t]
  · blk_point [iblk, V, idx t]

/-- The third branch's projection is the reference's. -/
theorem part_a (c : Dev nD) (t : Fin cfg0.N) (y : S512x512.Idx) :
    wideAt (Scalar.cmpi CmpIPredicate.slt (BitVec.ofNat 32 (grid0.coords t 0).val) 16#32) (iblk m c 2 t)
      (iblk m c 5 t) (iblk m c 9 t) y
    = wide (m ((c : Thread nD τ).loc main_arg2)) (m ((c : Thread nD τ).loc main_arg5))
        (m ((c : Thread nD τ).loc main_arg9)) (at16 t y) := by
  rw [coord t]
  pointwise [wide]
  unfold wideAt
  have hr := at16_row t y
  have hc := at16_col t y
  have hy : (y 0).val < 512 := (y 0).isLt
  refine Finset.sum_congr rfl fun x _ => congrArg₂ (· * ·) ?_ ?_
  · by_cases h : t.val / 8 < 16
    · rw [if_pos h, dif_pos (by omega)]
      show iblk m c 2 t _ = _
      blk_point [iblk, V, idx t]
    · rw [if_neg h, dif_neg (by omega)]
      show iblk m c 5 t _ = _
      blk_point [iblk, V, idx t]
  · blk_point [iblk, V, idx t]

/-- One point's block of the result is the gated sum there. -/
theorem point (c : Dev nD) (t : Fin cfg0.N) (y : S512x512.Idx) :
    k0_pay1 (k0_pay2 (grid0.coords t) (iblk m c 1 t) (iblk m c 4 t))
      (k0_pay3 (grid0.coords t) (iblk m c 2 t) (iblk m c 5 t)) (X0_6 m c t)
      (k0_pay4 (grid0.coords t) (iblk m c 0 t) (iblk m c 3 t) (X0_6 m c t) (iblk m c 10 t) (iblk m c 13 t)
        (iblk m c 7 t))
      (k0_pay5 (X0_6 m c t) (iblk m c 11 t)) (iblk m c 14 t) (iblk m c 8 t) (iblk m c 12 t) (iblk m c 15 t)
      (iblk m c 9 t) y
    = merged (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (at16 t y) := by
  refine Eq.trans ?_ (congrArg₂ (· + ·) (congrArg₂ (· + ·)
    (congrArg₂ (· * ·) (gate_f m c t y) (part_f m c t y)) (congrArg₂ (· * ·) (gate_c m c t y) (part_c m c t y)))
    (congrArg₂ (· * ·) (gate_a m c t y) (part_a m c t y)))
  pointwise [k0_pay1, k0_pay2, k0_pay3, k0_pay4, k0_pay5]

/-- The result after the run is the gated sum. -/
theorem final (c : Dev nD) : (dats m 0 c).arrAt 16 cfg0.N
    = merged (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  refine (dats m 0 c).arrAt_eq_of_covers 16 _ (by decide +kernel) fun t _ y => ?_
  blk_simp
  rw [after0_16]; unfold outsAt0; frame_out
  exact point m c t y

end Cert.MergeIdeal.Final

end
-- ==== Proof.InTailValue.lean ====
/- What the kernel of the input projection's tail leaves in its result: the gates' hidden, the compressed keys and
   values, the shared rotary key, the same with its halves exchanged, and zeros. -/
module

public import proofs.«01_k».proof.Proof.Gen.InTailIdeal.Value
public import proofs.«01_k».proof.Proof.Gen.InTailRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InTailIdeal.Final

open Cert.InTailIdeal Cert.InTailIdeal.Gen

variable (m : (ℓ : Loc nD τ sig) → Buf (Elt Ideal) ℓ)

/-- The reference's product of the rows `x` and the columns of `w` from the compressed keys on. -/
def columns (x : FVec Ideal S9216x4096 .bf16) (w : FVec Ideal S4x4096x4672 .bf16) :
    FVec Ideal Cert.InTailRefIdeal.S9216x576 .f32 :=
  Host.dotGeneral Cert.InTailRefIdeal.dot_S9216x4096_S4096x576_S9216x576_1_0_0_1_n_n none
    (extf .f32 x Cert.InTailRefIdeal.Gen.bitsLt_bf16_f32)
    (extf .f32 (shapeCast _ (extractStridedSlice Cert.InTailRefIdeal.S1x4096x576 ![0, 0, 4096] w
        Cert.InTailRefIdeal.Gen.slices_S4x4096x4672_S1x4096x576_0_0_4096)
      Cert.InTailRefIdeal.Gen.shapeCasts_S1x4096x576_S4096x576) Cert.InTailRefIdeal.Gen.bitsLt_bf16_f32)

/-- The reference's product of the rows `x` and the gates' first weight. -/
def hidden (x : FVec Ideal S9216x4096 .bf16) (g : FVec Ideal S4x4096x512 .f32) :
    FVec Ideal Cert.InTailRefIdeal.S9216x512 .f32 :=
  Host.dotGeneral Cert.InTailRefIdeal.dot_S9216x4096_S4096x512_S9216x512_1_0_0_1_n_n none
    (extf .f32 x Cert.InTailRefIdeal.Gen.bitsLt_bf16_f32)
    (extf .f32 (truncf .bf16 (shapeCast _ (extractStridedSlice Cert.InTailRefIdeal.S1x4096x512 ![0, 0, 0] g
        Cert.InTailRefIdeal.Gen.slices_S4x4096x512_S1x4096x512_0_0_0)
      Cert.InTailRefIdeal.Gen.shapeCasts_S1x4096x512_S4096x512) Cert.InTailRefIdeal.Gen.bitsLt_bf16_f32)
      Cert.InTailRefIdeal.Gen.bitsLt_bf16_f32)

/-- The reference's exchange of the halves of each axis in the last 64 columns. -/
def swapped (u : FVec Ideal Cert.InTailRefIdeal.S9216x576 .f32) : FVec Ideal Cert.InTailRefIdeal.S9216x64 .f32 :=
  concatenate Cert.InTailRefIdeal.S9216x64 1
    [⟨Cert.InTailRefIdeal.S9216x16, extractStridedSlice Cert.InTailRefIdeal.S9216x16 ![0, 16]
        (extractStridedSlice Cert.InTailRefIdeal.S9216x64 ![0, 512] u
          Cert.InTailRefIdeal.Gen.slices_S9216x576_S9216x64_0_512)
        Cert.InTailRefIdeal.Gen.slices_S9216x64_S9216x16_0_16⟩,
      ⟨Cert.InTailRefIdeal.S9216x16, extractStridedSlice Cert.InTailRefIdeal.S9216x16 ![0, 0]
        (extractStridedSlice Cert.InTailRefIdeal.S9216x64 ![0, 512] u
          Cert.InTailRefIdeal.Gen.slices_S9216x576_S9216x64_0_512)
        Cert.InTailRefIdeal.Gen.slices_S9216x64_S9216x16_0_0⟩,
      ⟨Cert.InTailRefIdeal.S9216x16, extractStridedSlice Cert.InTailRefIdeal.S9216x16 ![0, 48]
        (extractStridedSlice Cert.InTailRefIdeal.S9216x64 ![0, 512] u
          Cert.InTailRefIdeal.Gen.slices_S9216x576_S9216x64_0_512)
        Cert.InTailRefIdeal.Gen.slices_S9216x64_S9216x16_0_48⟩,
      ⟨Cert.InTailRefIdeal.S9216x16, extractStridedSlice Cert.InTailRefIdeal.S9216x16 ![0, 32]
        (extractStridedSlice Cert.InTailRefIdeal.S9216x64 ![0, 512] u
          Cert.InTailRefIdeal.Gen.slices_S9216x576_S9216x64_0_512)
        Cert.InTailRefIdeal.Gen.slices_S9216x64_S9216x16_0_32⟩]
    Cert.InTailRefIdeal.Gen.concatenates_S9216x16_S9216x16_S9216x16_S9216x16_S9216x64_d1

/-- The reference's result. -/
def tail (x : FVec Ideal S9216x4096 .bf16) (g : FVec Ideal S4x4096x512 .f32) (w : FVec Ideal S4x4096x4672 .bf16) :
    FVec Ideal S9216x1280 .bf16 :=
  truncf .bf16 (concatenate Cert.InTailRefIdeal.S9216x1280 1
    [⟨Cert.InTailRefIdeal.S9216x512, hidden x g⟩, ⟨Cert.InTailRefIdeal.S9216x576, columns x w⟩,
      ⟨Cert.InTailRefIdeal.S9216x64, swapped (columns x w)⟩,
      ⟨Cert.InTailRefIdeal.S9216x128, broadcastInDim Cert.InTailRefIdeal.S9216x128 ![]
        Cert.InTailRefIdeal.Gen.bcast_S_S9216x128 (constant Cert.InTailRefIdeal.S_ .f32 0x00000000#32)⟩]
    Cert.InTailRefIdeal.Gen.concatenates_S9216x512_S9216x576_S9216x64_S9216x128_S9216x1280_d1)
    Cert.InTailRefIdeal.Gen.bitsLt_bf16_f32

/-- Every window's block index: one block of rows a point, the whole weight of layer 0. -/
theorem idx : ∀ t : Fin cfg0.N, win0_0.index t = ![t.val, 0] ∧ win0_1.index t = ![0, 0, 0]
    ∧ win0_2.index t = ![t.val, 0] :=
  (by decide +kernel : ∀ t : Fin grid0.N, win0_0.index t = ![t.val, 0] ∧ win0_1.index t = ![0, 0, 0]
    ∧ win0_2.index t = ![t.val, 0])

/-- The column that column `k` of the exchanged key is read from. -/
def source (k : Fin 64) : Fin 64 := ⟨k.val / 32 * 32 + (k.val + 16) % 32, by omega⟩

/-- The shared rotary key's columns of a weight. -/
def rotary (w : FVec Ideal S4x4096x4672 .bf16) : FVec Ideal S4x4096x64 .bf16 :=
  extractStridedSlice S4x4096x64 ![0, 0, 4608] w slices_S4x4096x4672_S4x4096x64_0_0_4608

/-- The positions the exchanged key's columns are read from, as the host prints them. -/
def positions : IVec S64x1 32 :=
  broadcastInDim S64x1 ![0] bcast_S64_S64x1_0 (select
    (cmpi .slt (fun i => lit0 (S64.rowMajor i)) (broadcastInDim S64 ![] bcast_S_S64 (constantI S_ 32 0#32)))
    (addi (fun i => lit0 (S64.rowMajor i)) (broadcastInDim S64 ![] bcast_S_S64 (constantI S_ 32 64#32)))
    (fun i => lit0 (S64.rowMajor i)))

/-- The weight as the host lays it out. -/
def laid (g : FVec Ideal S4x4096x512 .f32) (w : FVec Ideal S4x4096x4672 .bf16) : FVec Ideal S4x4096x1280 .bf16 :=
  concatenate S4x4096x1280 2 [⟨S4x4096x512, truncf .bf16 g bitsLt_bf16_f32⟩,
    ⟨S4x4096x512, extractStridedSlice S4x4096x512 ![0, 0, 4096] w slices_S4x4096x4672_S4x4096x512_0_0_4096⟩,
    ⟨S4x4096x64, rotary w⟩,
    ⟨S4x4096x64, Host.gather gather_S4x4096x64_S64x1_S4x4096x64_01_2_n_n_2_1_440961 (rotary w) positions⟩,
    ⟨S4x4096x128, broadcastInDim S4x4096x128 ![] bcast_S_S4x4096x128 (constant S_ .bf16 0x0000#16)⟩]
    concatenates_S4x4096x512_S4x4096x512_S4x4096x64_S4x4096x64_S4x4096x128_S4x4096x1280_d2

set_option maxHeartbeats 2000000 in
/-- The weight the launch finds is the one laid out. -/
theorem V_v11 (c : Dev nD) : V m c main_v11
    = laid (m ((c : Thread nD τ).loc main_arg1)) (m ((c : Thread nD τ).loc main_arg2)) := by
  unfold V
  after_results
  rfl

/-- Position `k` holds the column that column `k` of the exchanged key is read from. -/
theorem positions_at : ∀ k : Fin 64, positions (ix2 k (0 : Fin 1)) = BitVec.ofNat 32 (source k).val := by
  decide +kernel

/-- A column's number as a 32-bit word, read signed and held below 64, is the column's number. -/
theorem clamped : ∀ k : Fin 64, min (BitVec.ofNat 32 (source k).val).toInt.toNat 63 = (source k).val := by
  decide +kernel

/-- The host's exchange, column by column. -/
theorem gather_at (x : FVec Ideal S4x4096x64 .bf16) (l : Fin 4) (r : Fin 4096) (k : Fin 64) :
    Host.gather gather_S4x4096x64_S64x1_S4x4096x64_01_2_n_n_2_1_440961 x positions (ix3 l r k)
      = x (ix3 l r (source k)) := by
  have hp : gather_S4x4096x64_S64x1_S4x4096x64_01_2_n_n_2_1_440961.start (ix3 l r k) positions 2 = (source k).val := by
    refine Eq.trans ?_ (clamped k)
    rw [← positions_at k]
    refine congrArg (fun i => min (positions i).toInt.toNat 63) ?_
    funext a
    fin_cases a <;> rfl
  unfold Host.gather
  refine congrArg x (funext fun a => Fin.ext ?_)
  fin_cases a
  · show 0 + 0 + l.val = l.val
    omega
  · show 0 + 0 + r.val = r.val
    omega
  · show gather_S4x4096x64_S64x1_S4x4096x64_01_2_n_n_2_1_440961.start (ix3 l r k) positions 2
      + gather_S4x4096x64_S64x1_S4x4096x64_01_2_n_n_2_1_440961.batchCoord (ix3 l r k) 2
      + gather_S4x4096x64_S64x1_S4x4096x64_01_2_n_n_2_1_440961.offCoord (ix3 l r k) 2 = (source k).val
    rw [hp, GatherDims.batchCoord_eq_zero _ _ _ List.not_mem_nil, GatherDims.offCoord_eq_zero _ _ _ (by
      rw [GatherDims.mem_sKept]
      exact fun h => h.1 (List.mem_singleton.mpr rfl))]
    rfl

/-- The host's weight in the gates' columns. -/
theorem laid_gate (g : FVec Ideal S4x4096x512 .f32) (w : FVec Ideal S4x4096x4672 .bf16) (r : Fin 4096) (k : Fin 1280)
    (h : k.val < 512) : laid g w (ix3 (0 : Fin 4) r k) = g (ix3 (0 : Fin 4) r ⟨k.val, h⟩) := by
  pointwise [laid]
  rw [dif_pos h]

/-- The host's weight in the compressed keys' and the rotary key's columns. -/
theorem laid_key (g : FVec Ideal S4x4096x512 .f32) (w : FVec Ideal S4x4096x4672 .bf16) (r : Fin 4096) (k : Fin 1280)
    (h : 512 ≤ k.val) (h' : k.val < 1088) : laid g w (ix3 (0 : Fin 4) r k)
      = w (ix3 (0 : Fin 4) r ⟨4096 + (k.val - 512), by omega⟩) := by
  pointwise [laid, rotary]
  rw [dif_neg (by omega)]
  by_cases h2 : k.val - 512 < 512
  · rw [dif_pos h2]
  · rw [dif_neg h2, dif_pos (by omega)]
    exact congrArg (fun i => w (ix3 (0 : Fin 4) r i)) (Fin.ext (by show 4608 + _ = 4096 + _; omega))

/-- The host's weight in the exchanged key's columns. -/
theorem laid_swap (g : FVec Ideal S4x4096x512 .f32) (w : FVec Ideal S4x4096x4672 .bf16) (r : Fin 4096) (k : Fin 1280)
    (j : Fin 64) (h : k.val = 1088 + j.val) : laid g w (ix3 (0 : Fin 4) r k)
      = w (ix3 (0 : Fin 4) r ⟨4608 + (source j).val, by omega⟩) := by
  have e : (⟨k.val - 512 - 512 - 64, by omega⟩ : Fin 64) = j := Fin.ext (by show _ - _ - _ - _ = _; omega)
  pointwise [laid]
  rw [dif_neg (by omega), dif_neg (by omega), dif_neg (by omega), dif_pos (by omega), e, gather_at]
  pointwise [rotary]

/-- The host's weight past the last of them. -/
theorem laid_zero (g : FVec Ideal S4x4096x512 .f32) (w : FVec Ideal S4x4096x4672 .bf16) (r : Fin 4096) (k : Fin 1280)
    (h : 1152 ≤ k.val) : laid g w (ix3 (0 : Fin 4) r k) = 0 := by
  pointwise [laid]
  rw [dif_neg (by omega), dif_neg (by omega), dif_neg (by omega), dif_neg (by omega)]

/-- The reference's columns, entry by entry. -/
theorem columns_at (x : FVec Ideal S9216x4096 .bf16) (w : FVec Ideal S4x4096x4672 .bf16) (r : Fin 9216) (k : Fin 576) :
    columns x w (ix2 r k) = ∑ z : Fin 4096, x (ix2 r z) * w (ix3 (0 : Fin 4) z ⟨4096 + k.val, by omega⟩) := by
  pointwise [columns]

/-- The reference's result is the product with the weight laid out. -/
theorem tail_at (x : FVec Ideal S9216x4096 .bf16) (g : FVec Ideal S4x4096x512 .f32)
    (w : FVec Ideal S4x4096x4672 .bf16) (r : Fin 9216) (k : Fin 1280) :
    tail x g w (ix2 r k) = ∑ z : Fin 4096, x (ix2 r z) * laid g w (ix3 (0 : Fin 4) z k) := by
  pointwise [tail]
  by_cases h : k.val < 512
  · rw [dif_pos h]
    pointwise [hidden]
    refine Finset.sum_congr rfl fun z _ => congrArg (x (ix2 r z) * ·) (laid_gate g w z k h).symm
  rw [dif_neg h]
  by_cases h1 : k.val < 1088
  · rw [dif_pos (by omega), columns_at]
    exact Finset.sum_congr rfl fun z _ => congrArg (x (ix2 r z) * ·) (laid_key g w z k (by omega) h1).symm
  rw [dif_neg (by omega)]
  by_cases h2 : k.val < 1152
  · rw [dif_pos (by omega)]
    obtain ⟨j, hj⟩ : ∃ j : Fin 64, k.val = 1088 + j.val := ⟨⟨k.val - 1088, by omega⟩, by show _ = _ + (_ - _); omega⟩
    refine Eq.trans (b := columns x w (ix2 r ⟨512 + (source j).val, by omega⟩)) ?_ ?_
    · pointwise [swapped]
      split_ifs <;> (refine congrArg (fun i => columns x w (ix2 r i)) (Fin.ext ?_); unfold source; dsimp only; omega)
    · rw [columns_at]
      refine Finset.sum_congr rfl fun z _ => congrArg (x (ix2 r z) * ·) ((laid_swap g w z k j hj).trans ?_).symm
      exact congrArg (fun i => w (ix3 (0 : Fin 4) z i)) (Fin.ext (by show 4608 + _ = 4096 + (512 + _); omega))
  · rw [dif_neg (by omega)]
    refine (Finset.sum_eq_zero fun z _ => ?_).symm
    rw [laid_zero g w z k (by omega), mul_zero]

/-- One point's block of the result is the reference's there. -/
theorem point (c : Dev nD) (t : Fin cfg0.N) (y : S1024x1280.Idx) : k0_pay1 (iblk m c 0 t) (iblk m c 1 t) y
    = tail (m ((c : Thread nD τ).loc main_arg0)) (m ((c : Thread nD τ).loc main_arg1))
        (m ((c : Thread nD τ).loc main_arg2)) (((cfg0.win 2).blk t).view.emb y) := by
  have ht : t.val < 9 := lt_of_lt_of_eq t.isLt (by decide)
  have h0 : (y 0).val < 1024 := (y 0).isLt
  have e : ((cfg0.win 2).blk t).view.emb y = ix2 (⟨t.val * 1024 + (y 0).val, by omega⟩ : Fin 9216) (y 1) := by
    funext a
    fin_cases a <;> (apply Fin.ext; blk_simp [idx t]; rfl)
  rw [e]
  refine Eq.trans ?_ (tail_at _ _ _ _ _).symm
  pointwise [k0_pay1]
  refine Finset.sum_congr rfl fun z _ => congrArg₂ (· * ·) ?_ ?_
  · blk_point [iblk, V, idx t]
  · unfold iblk
    show V m c main_v11 _ = _
    rw [V_v11]
    refine congrArg (laid _ _) (funext fun a => Fin.ext ?_)
    fin_cases a <;> (show ((win0_1.blk t).view.emb (ix3 (0 : Fin 1) z (y 1)) _).val = _; blk_simp [idx t]; rfl)

/-- The result after the run is the reference's. -/
theorem final (c : Dev nD) : (dats m 0 c).arrAt 2 cfg0.N
    = tail (m ((c : Thread nD τ).loc main_arg0)) (m ((c : Thread nD τ).loc main_arg1))
        (m ((c : Thread nD τ).loc main_arg2)) := by
  refine (dats m 0 c).arrAt_eq_of_covers 2 _ (by decide +kernel) fun t _ y => ?_
  blk_simp
  rw [after0_2]
  unfold out0_2
  frame_out
  exact point m c t y

end Cert.InTailIdeal.Final

end
-- ==== Proof.Rotary.lean ====
/- The rotary embedding at one entry: the factors of a token's column and of its partner in the other half. -/
module

public import Idealize.ShloMosaic.Lib.Pipeline.ValueKit

@[expose] public section

noncomputable section

open Idealize.ShloMosaic

namespace Cert.Rotary

/-- The column that column `k` is combined with: the same frequency of the same axis in the other half. -/
def source (k : Fin 64) : Fin 64 := ⟨k.val / 32 * 32 + (k.val + 16) % 32, by omega⟩

/-- The entry of an angle table for a token's row `r` and column `k`. -/
def entry (x : FVec Ideal ⟨3, ![2048, 2, 16]⟩ .f32) (r : ℕ) (k : Fin 64) : EReal :=
  x (ix3 (⟨r % 2048, by omega⟩ : Fin 2048) (⟨k.val / 32, by omega⟩ : Fin 2) (⟨k.val % 16, by omega⟩ : Fin 16))

/-- The factor of a column itself: its cosine on the latent rows, one on the context rows. -/
def same (cos : FVec Ideal ⟨3, ![2048, 2, 16]⟩ .f32) (r : ℕ) (k : Fin 64) : EReal :=
  if r < 8192 then entry cos r k else 1

/-- The factor of its partner: the sine, negated in the first half, on the latent rows, zero on the context rows. -/
def other (sin : FVec Ideal ⟨3, ![2048, 2, 16]⟩ .f32) (r : ℕ) (k : Fin 64) : EReal :=
  if r < 8192 then (if k.val % 32 < 16 then - entry sin r k else entry sin r k) else 0

theorem entry_eq (x : FVec Ideal ⟨3, ![2048, 2, 16]⟩ .f32) (r : ℕ) (k : Fin 64) (s : Fin 2048) (a : Fin 2) (f : Fin 16)
    (hs : s.val = r % 2048) (ha : a.val = k.val / 32) (hf : f.val = k.val % 16) : x (ix3 s a f) = entry x r k := by
  have es : s = ⟨r % 2048, by omega⟩ := Fin.ext hs
  have ea : a = ⟨k.val / 32, by omega⟩ := Fin.ext ha
  have ef : f = ⟨k.val % 16, by omega⟩ := Fin.ext hf
  rw [es, ea, ef]
  rfl

/-- A rotation of a pair of columns, in either half. -/
theorem rotation (x : Fin 64 → EReal) (C S : EReal) (k : Fin 64) (p q : Fin 64) (hp : p.val = k.val / 32 * 32 + k.val % 16)
    (hq : q.val = k.val / 32 * 32 + 16 + k.val % 16) :
    (if h : k.val / 16 % 2 < 1 then x p * C - x q * S else x q * C + x p * S)
      = x k * C + x (source k) * (if k.val % 32 < 16 then -S else S) := by
  by_cases h : k.val / 16 % 2 < 1
  · have e1 : p = k := Fin.ext (by omega)
    have e2 : q = source k := Fin.ext (by unfold source; dsimp only; omega)
    rw [dif_pos h, if_pos (by omega), mul_neg, sub_eq_add_neg, e1, e2]
  · have e1 : q = k := Fin.ext (by omega)
    have e2 : p = source k := Fin.ext (by unfold source; dsimp only; omega)
    rw [dif_neg h, if_neg (by omega), e1, e2]

end Cert.Rotary

end
-- ==== Proof.KvRefRead.lean ====
/- The keys' and values' reference read at one place. -/
module

public import proofs.«01_k».proof.Proof.Gen.KvProjRefIdeal.Run
public import proofs.«01_k».proof.Proof.Rotary
public import Idealize.ShloMosaic.Lib.Pipeline.ValueKit

@[expose] public section

set_option maxRecDepth 16384

noncomputable section

open Idealize.ShloMosaic Idealize.ShloMosaic.TcCoe Idealize.SL.Sem

namespace Cert.KvProjRefIdeal.Read

open Cert.KvProjRefIdeal Cert.KvProjRefIdeal.Gen Cert.Rotary

/-- A row over the root of its mean square, times the weight's first row. -/
def normed (x : FVec Ideal S9216x512 .f32) (g : FVec Ideal S4x512 .f32) : FVec Ideal S9216x512 .f32 :=
  mulf (mulf x (broadcastInDim S9216x512 ![0, 1] bcast_S9216x1_S9216x512_0_1 (Host.rsqrt (addf (Host.divf
      (broadcastInDim S9216x1 ![0] bcast_S9216_S9216x1_0 (Host.reduceAdd (mulf x x) (constant S_ .f32 0x00000000#32) reducesTo_S9216x512_S9216_d1 h_S_))
      (broadcastInDim S9216x1 ![] bcast_S_S9216x1 (constant S_ .f32 0x44000000#32)))
      (broadcastInDim S9216x1 ![] bcast_S_S9216x1 (constant S_ .f32 0x358637BD#32))))))
    (broadcastInDim S9216x512 ![0, 1] bcast_S1x512_S9216x512_0_1 (broadcastInDim S1x512 ![1] bcast_S512_S1x512_1
      (shapeCast _ (extractStridedSlice S1x512 ![0, 0] g slices_S4x512_S1x512_0_0) shapeCasts_S1x512_S512)))

/-- The product of the normed rows and the weight's first layer. -/
def product (c : FVec Ideal S9216x512 .bf16) (g : FVec Ideal S4x512 .f32) (w : FVec Ideal S4x512x4096 .f32) :
    FVec Ideal S9216x4096 .f32 :=
  Host.dotGeneral dot_S9216x512_S512x4096_S9216x4096_1_0_0_1_n_n none
    (extf .f32 (truncf .bf16 (normed (extf .f32 c bitsLt_bf16_f32) g) bitsLt_bf16_f32) bitsLt_bf16_f32)
    (extf .f32 (truncf .bf16 (shapeCast _ (extractStridedSlice S1x512x4096 ![0, 0, 0] w slices_S4x512x4096_S1x512x4096_0_0_0)
      shapeCasts_S1x512x4096_S512x4096) bitsLt_bf16_f32) bitsLt_bf16_f32)

/-- The latent rows of the shared key, their 64 columns as axis, half and frequency. -/
def split (k : FVec Ideal S9216x64 .bf16) : FVec Ideal S4x2048x2x2x16 .f32 :=
  shapeCast _ (shapeCast _ (extractStridedSlice S8192x64 ![0, 0] (extf .f32 k bitsLt_bf16_f32) slices_S9216x64_S8192x64_0_0)
    shapeCasts_S8192x64_S4x2048x64) shapeCasts_S4x2048x64_S4x2048x2x2x16

def first (k : FVec Ideal S9216x64 .bf16) : FVec Ideal S4x2048x2x16 .f32 :=
  shapeCast _ (extractStridedSlice S4x2048x2x1x16 ![0, 0, 0, 0, 0] (split k) slices_S4x2048x2x2x16_S4x2048x2x1x16_0_0_0_0_0)
    shapeCasts_S4x2048x2x1x16_S4x2048x2x16

def second (k : FVec Ideal S9216x64 .bf16) : FVec Ideal S4x2048x2x16 .f32 :=
  shapeCast _ (extractStridedSlice S4x2048x2x1x16 ![0, 0, 0, 1, 0] (split k) slices_S4x2048x2x2x16_S4x2048x2x1x16_0_0_0_1_0)
    shapeCasts_S4x2048x2x1x16_S4x2048x2x16

def angle (x : FVec Ideal S2048x2x16 .f32) : FVec Ideal S4x2048x2x16 .f32 :=
  broadcastInDim S4x2048x2x16 ![0, 1, 2, 3] bcast_S1x2048x2x16_S4x2048x2x16_0_1_2_3
    (broadcastInDim S1x2048x2x16 ![1, 2, 3] bcast_S2048x2x16_S1x2048x2x16_1_2_3 x)

/-- The latent rows rotated. -/
def latent (k : FVec Ideal S9216x64 .bf16) (cos sin : FVec Ideal S2048x2x16 .f32) : FVec Ideal S8192x64 .f32 :=
  shapeCast _ (shapeCast _ (concatenate S4x2048x2x2x16 3
    [⟨S4x2048x2x1x16, broadcastInDim S4x2048x2x1x16 ![0, 1, 2, 4] bcast_S4x2048x2x16_S4x2048x2x1x16_0_1_2_4
        (subf (mulf (first k) (angle cos)) (mulf (second k) (angle sin)))⟩,
      ⟨S4x2048x2x1x16, broadcastInDim S4x2048x2x1x16 ![0, 1, 2, 4] bcast_S4x2048x2x16_S4x2048x2x1x16_0_1_2_4
        (addf (mulf (second k) (angle cos)) (mulf (first k) (angle sin)))⟩]
    concatenates_S4x2048x2x1x16_S4x2048x2x1x16_S4x2048x2x2x16_d3) shapeCasts_S4x2048x2x2x16_S4x2048x64)
    shapeCasts_S4x2048x64_S8192x64

/-- The shared key, its latent rows rotated. -/
def shared (k : FVec Ideal S9216x64 .bf16) (cos sin : FVec Ideal S2048x2x16 .f32) : FVec Ideal S9216x64 .f32 :=
  concatenate S9216x64 0 [⟨S8192x64, latent k cos sin⟩,
    ⟨S1024x64, extractStridedSlice S1024x64 ![8192, 0] (extf .f32 k bitsLt_bf16_f32) slices_S9216x64_S1024x64_8192_0⟩]
    concatenates_S8192x64_S1024x64_S9216x64_d0

/-- The keys' slots. -/
def keys (c : FVec Ideal S9216x512 .bf16) (k : FVec Ideal S9216x64 .bf16) (cos sin : FVec Ideal S2048x2x16 .f32)
    (g : FVec Ideal S4x512 .f32) (w : FVec Ideal S4x512x4096 .f32) : FVec Ideal S9216x4096 .bf16 :=
  truncf .bf16 (shapeCast _ (concatenate S9216x16x256 2
    [⟨S9216x16x128, extractStridedSlice S9216x16x128 ![0, 0, 0] (shapeCast _ (product c g w) shapeCasts_S9216x4096_S9216x16x256)
        slices_S9216x16x256_S9216x16x128_0_0_0⟩,
      ⟨S9216x16x64, broadcastInDim S9216x16x64 ![0, 1, 2] bcast_S9216x1x64_S9216x16x64_0_1_2
        (broadcastInDim S9216x1x64 ![0, 2] bcast_S9216x64_S9216x1x64_0_2 (shared k cos sin))⟩,
      ⟨S9216x16x64, broadcastInDim S9216x16x64 ![] bcast_S_S9216x16x64 (constant S_ .f32 0x00000000#32)⟩]
    concatenates_S9216x16x128_S9216x16x64_S9216x16x64_S9216x16x256_d2) shapeCasts_S9216x16x256_S9216x4096) bitsLt_bf16_f32

/-- The values' slots. -/
def values (c : FVec Ideal S9216x512 .bf16) (g : FVec Ideal S4x512 .f32) (w : FVec Ideal S4x512x4096 .f32) :
    FVec Ideal S9216x4096 .bf16 :=
  truncf .bf16 (shapeCast _ (concatenate S9216x16x256 2
    [⟨S9216x16x128, extractStridedSlice S9216x16x128 ![0, 0, 128] (shapeCast _ (product c g w) shapeCasts_S9216x4096_S9216x16x256)
        slices_S9216x16x256_S9216x16x128_0_0_128⟩,
      ⟨S9216x16x128, broadcastInDim S9216x16x128 ![] bcast_S_S9216x16x128 (constant S_ .f32 0x3F800000#32)⟩]
    concatenates_S9216x16x128_S9216x16x128_S9216x16x256_d2) shapeCasts_S9216x16x256_S9216x4096) bitsLt_bf16_f32

theorem res_eq (m : (ℓ : Loc nD τ sig) → Buf (Elt Ideal) ℓ) (c : Dev nD) : Cert.KvProjRefIdeal.Value.res_main_v63 (F := Ideal) m c
    = keys (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) := by
  unfold Cert.KvProjRefIdeal.Value.res_main_v63 keys shared latent first second split angle product normed
  rfl

/-- One over the root of a row's mean square. -/
def invRms (x : Fin 512 → EReal) : EReal :=
  Ideal.rsqrt (Ideal.div (∑ k, x k * x k) (Ideal.ofBits .f32 0x44000000#32) + Ideal.ofBits .f32 0x358637BD#32)

theorem normed_at (x) (g) (r : Fin 9216) (k : Fin 512) :
    normed x g (ix2 r k) = x (ix2 r k) * invRms (fun k => x (ix2 r k)) * g (ix2 0 k) := by
  pointwise [normed]
  unfold invRms
  rfl

theorem product_at (c g w) (r : Fin 9216) (n : Fin 4096) : product c g w (ix2 r n)
    = ∑ k : Fin 512, c (ix2 r k) * invRms (fun k => c (ix2 r k)) * g (ix2 0 k) * w (ix3 0 k n) := by
  pointwise [product]
  refine Finset.sum_congr rfl fun k _ => congrArg (· * _) ?_
  rw [normed_at]
  rfl

theorem first_at (x : FVec Ideal S9216x64 .bf16) (b : Fin 4) (s : Fin 2048) (a : Fin 2) (f : Fin 16) :
    first x (ix4 b s a f) = x (ix2 (⟨b.val * 2048 + s.val, by omega⟩ : Fin 9216) (⟨a.val * 32 + f.val, by omega⟩ : Fin 64)) := by
  pointwise [first, split]

theorem second_at (x : FVec Ideal S9216x64 .bf16) (b : Fin 4) (s : Fin 2048) (a : Fin 2) (f : Fin 16) :
    second x (ix4 b s a f) = x (ix2 (⟨b.val * 2048 + s.val, by omega⟩ : Fin 9216) (⟨a.val * 32 + 16 + f.val, by omega⟩ : Fin 64)) := by
  pointwise [second, split]

theorem angle_at (z : FVec Ideal S2048x2x16 .f32) (b : Fin 4) (s : Fin 2048) (a : Fin 2) (f : Fin 16) :
    angle z (ix4 b s a f) = z (ix3 s a f) := by
  pointwise [angle]

theorem first_row (x : FVec Ideal S9216x64 .bf16) (r : Fin 8192) (a : Fin 2) (f : Fin 16) :
    first x (ix4 (⟨r.val / 2048, by omega⟩ : Fin 4) (⟨r.val % 2048, by omega⟩ : Fin 2048) a f)
      = x (ix2 (⟨r.val, by omega⟩ : Fin 9216) (⟨a.val * 32 + f.val, by omega⟩ : Fin 64)) := by
  rw [first_at]
  exact congrArg x (congrArg₂ ix2 (Fin.ext (by show r.val / 2048 * 2048 + r.val % 2048 = r.val; omega)) rfl)

theorem second_row (x : FVec Ideal S9216x64 .bf16) (r : Fin 8192) (a : Fin 2) (f : Fin 16) :
    second x (ix4 (⟨r.val / 2048, by omega⟩ : Fin 4) (⟨r.val % 2048, by omega⟩ : Fin 2048) a f)
      = x (ix2 (⟨r.val, by omega⟩ : Fin 9216) (⟨a.val * 32 + 16 + f.val, by omega⟩ : Fin 64)) := by
  rw [second_at]
  exact congrArg x (congrArg₂ ix2 (Fin.ext (by show r.val / 2048 * 2048 + r.val % 2048 = r.val; omega)) rfl)

theorem latent_at (x cos sin) (r : Fin 8192) (k : Fin 64) : latent x cos sin (ix2 r k)
    = x (ix2 (⟨r.val, by omega⟩ : Fin 9216) k) * same cos r.val k + x (ix2 (⟨r.val, by omega⟩ : Fin 9216) (source k)) * other sin r.val k := by
  let b : Fin 4 := ⟨r.val / 2048, by omega⟩
  let s : Fin 2048 := ⟨r.val % 2048, by omega⟩
  let a : Fin 2 := ⟨k.val / 32, by omega⟩
  let f : Fin 16 := ⟨k.val % 16, by omega⟩
  have read : latent x cos sin (ix2 r k) = if h : k.val / 16 % 2 < 1
      then first x (ix4 b s a f) * angle cos (ix4 b s a f) - second x (ix4 b s a f) * angle sin (ix4 b s a f)
      else second x (ix4 b s a f) * angle cos (ix4 b s a f) + first x (ix4 b s a f) * angle sin (ix4 b s a f) := by
    pointwise [latent]
    rfl
  rw [read, first_row, second_row, angle_at, angle_at]
  unfold same other
  rw [if_pos r.isLt, if_pos r.isLt]
  exact rotation (fun i => x (ix2 (⟨r.val, by omega⟩ : Fin 9216) i)) (entry cos r.val k) (entry sin r.val k) k _ _ rfl rfl

theorem shared_at (x cos sin) (r : Fin 9216) (k : Fin 64) : shared x cos sin (ix2 r k)
    = x (ix2 r k) * same cos r.val k + x (ix2 r (source k)) * other sin r.val k := by
  pointwise [shared]
  by_cases h : r.val < 8192
  · rw [dif_pos h, latent_at]
  · rw [dif_neg h]
    unfold same other
    rw [if_neg h, if_neg h, mul_one, mul_zero, add_zero]
    exact congrArg (fun i => x (ix2 i k)) (Fin.ext (by dsimp only; omega))

theorem keys_at (c x cos sin g w) (r : Fin 9216) (n : Fin 4096) : keys c x cos sin g w (ix2 r n)
    = if h : n.val % 256 < 128 then product c g w (ix2 r n)
      else if h' : n.val % 256 < 192 then shared x cos sin (ix2 r ⟨n.val % 256 - 128, by omega⟩) else 0 := by
  pointwise [keys]
  by_cases h : n.val % 256 < 128
  · rw [dif_pos h, dif_pos h]
  rw [dif_neg h, dif_neg h]
  by_cases h' : n.val % 256 < 192
  · rw [dif_pos (by omega), dif_pos h']
  · rw [dif_neg (by omega), dif_neg h']

theorem values_at (c g w) (r : Fin 9216) (n : Fin 4096) : values c g w (ix2 r n)
    = if h : n.val % 256 < 128 then product c g w (ix2 r ⟨n.val + 128, by omega⟩) else 1 := by
  pointwise [values]
  by_cases h : n.val % 256 < 128
  · rw [dif_pos h, dif_pos h]
    exact congrArg (fun i => product c g w (ix2 r i)) (Fin.ext (by dsimp only; omega))
  · rw [dif_neg h, dif_neg h]

end Cert.KvProjRefIdeal.Read

end
-- ==== Proof.KvValue.lean ====
/- What the kernel of the keys' and values' projection leaves in its two results. -/
module

public import proofs.«01_k».proof.Proof.Gen.KvProjIdeal.Value
public import proofs.«01_k».proof.Proof.KvRefRead

@[expose] public section

set_option maxRecDepth 16384

noncomputable section

open Idealize.ShloMosaic Idealize.ShloMosaic.TcCoe Idealize.SL.Sem
open Idealize.ShloMosaic.Pipeline (Dat)

namespace Cert.KvProjIdeal.Final

open Cert.KvProjIdeal Cert.KvProjIdeal.Gen Cert.Rotary Cert.KvProjRefIdeal.Read

variable (m : (ℓ : Loc nD τ sig) → Buf (Elt Ideal) ℓ)

/-- Every window's block index. -/
theorem idx : ∀ t : Fin cfg0.N, win0_0.index t = ![t.val, 1] ∧ win0_1.index t = ![t.val, 8]
    ∧ win0_2.index t = ![if t.val < 16 then t.val % 4 else 4, 0] ∧ win0_3.index t = ![0, 0, 0]
    ∧ win0_4.index t = ![0, 0, 0] ∧ win0_5.index t = ![0, 0, 1] ∧ win0_6.index t = ![t.val, 0]
    ∧ win0_7.index t = ![t.val, 0] :=
  (by decide +kernel : ∀ t : Fin grid0.N, win0_0.index t = ![t.val, 1] ∧ win0_1.index t = ![t.val, 8]
    ∧ win0_2.index t = ![if t.val < 16 then t.val % 4 else 4, 0] ∧ win0_3.index t = ![0, 0, 0]
    ∧ win0_4.index t = ![0, 0, 0] ∧ win0_5.index t = ![0, 0, 1] ∧ win0_6.index t = ![t.val, 0]
    ∧ win0_7.index t = ![t.val, 0])

/-- A block's slots: 128 columns of its head of `p`, then the 128 columns of `k`. -/
def slot (p : FVec Ideal S512x2048 .f32) (k : FVec Ideal S512x128 .bf16) : FVec Ideal S512x4096 .bf16 := fun y =>
  if h : (y 1).val % 256 < 128 then p (ix2 (y 0) (⟨(y 1).val / 256 * 128 + (y 1).val % 256, by have h4 : (y 1).val < 4096 := (y 1).isLt; omega⟩ : Fin 2048))
  else k (ix2 (y 0) (⟨(y 1).val % 256 - 128, by omega⟩ : Fin 128))

theorem low (p : FVec Ideal S512x2048 .f32) (k : FVec Ideal S512x128 .bf16) (o n : ℕ) (hs : S512x2048.Slices ![0, o] S512x128)
    (x : S512x128.Idx) (y : S512x4096.Idx) (ho : o = n * 128) (h0 : (y 0).val = (x 0).val)
    (h1 : (y 1).val = n * 256 + (x 1).val) :
    truncf (F := Ideal) .bf16 (extractStridedSlice S512x128 ![0, o] p hs) bitsLt_bf16_f32 x = slot p k y := by
  have hx : (x 1).val < 128 := (x 1).isLt
  have hy : (y 1).val < 4096 := (y 1).isLt
  unfold slot
  rw [dif_pos (by omega)]
  refine Eq.trans (b := p (ix2 (x 0) ⟨o + (x 1).val, by omega⟩)) ?_ ?_
  · pointwise
  · exact congrArg p (congrArg₂ ix2 (Fin.ext h0.symm) (Fin.ext (by show o + (x 1).val = _; dsimp only; omega)))

theorem high (p : FVec Ideal S512x2048 .f32) (k : FVec Ideal S512x128 .bf16) (n : ℕ)
    (x : S512x128.Idx) (y : S512x4096.Idx) (h0 : (y 0).val = (x 0).val)
    (h1 : (y 1).val = n * 256 + 128 + (x 1).val) : k x = slot p k y := by
  have hx : (x 1).val < 128 := (x 1).isLt
  have hy : (y 1).val < 4096 := (y 1).isLt
  unfold slot
  rw [dif_neg (by omega)]
  refine congrArg k (funext fun a => Fin.ext ?_)
  fin_cases a
  · exact h0.symm
  · show (x 1).val = (y 1).val % 256 - 128
    omega

/-- The product at one entry. -/
theorem pay4_at (x : FVec Ideal S512x512 .bf16) (g : FVec Ideal S1x1x512 .f32) (w : FVec Ideal S1x512x2048 .bf16)
    (r : Fin 512) (k : Fin 2048) : k0_pay4 (F := Ideal) x g w (ix2 r k)
    = ∑ z : Fin 512, x (ix2 r z) * invRms (fun z => x (ix2 r z)) * g (ix3 0 0 z) * w (ix3 0 z k) := by
  pointwise [k0_pay4, k0_pay3]
  rfl

theorem lane : ∀ k : Fin 128, IntOp.cmpi .slt (BitVec.ofNat 32 k.val) 64#32 = if k.val < 64 then 1#1 else 0#1 := by
  decide +kernel

/-- The shared key at one entry. -/
theorem pay5_at (a : FVec Ideal S512x128 .bf16) (b : FVec Ideal S512x128 .f32) (r : Fin 512) (k : Fin 128) :
    k0_pay5 a b (ix2 r k) = if h : k.val < 64 then a (ix2 r k) * b (ix2 r k)
      + a (ix2 r ⟨k.val + 64, by omega⟩) * b (ix2 r ⟨k.val + 64, by omega⟩) else 0 := by
  pointwise [k0_pay5]
  rw [lane]
  by_cases h : k.val < 64
  · have e : (⟨(k.val + 128 - 64) % 128, by omega⟩ : Fin 128) = ⟨k.val + 64, by omega⟩ := Fin.ext (by dsimp only; omega)
    rw [if_pos h, dif_pos h, e]
    rfl
  · rw [if_neg h, dif_neg h]
    rfl

/-- The rotary columns with the halves of each axis exchanged, as the host lays them out. -/
def swapped (k : FVec Ideal S9216x64 .bf16) : FVec Ideal S9216x64 .bf16 :=
  concatenate S9216x64 1 [⟨S9216x16, extractStridedSlice S9216x16 ![0, 16] k slices_S9216x64_S9216x16_0_16⟩,
    ⟨S9216x16, extractStridedSlice S9216x16 ![0, 0] k slices_S9216x64_S9216x16_0_0⟩,
    ⟨S9216x16, extractStridedSlice S9216x16 ![0, 48] k slices_S9216x64_S9216x16_0_48⟩,
    ⟨S9216x16, extractStridedSlice S9216x16 ![0, 32] k slices_S9216x64_S9216x16_0_32⟩]
    concatenates_S9216x16_S9216x16_S9216x16_S9216x16_S9216x64_d1

/-- The columns the kernel reads, as the host lays them out. -/
def columns (c : FVec Ideal S9216x512 .bf16) (k : FVec Ideal S9216x64 .bf16) : FVec Ideal S9216x1280 .bf16 :=
  concatenate S9216x1280 1 [⟨S9216x512, broadcastInDim S9216x512 ![] bcast_S_S9216x512 (constant S_ .bf16 0x0000#16)⟩,
    ⟨S9216x512, c⟩, ⟨S9216x64, k⟩, ⟨S9216x64, swapped k⟩,
    ⟨S9216x128, broadcastInDim S9216x128 ![] bcast_S_S9216x128 (constant S_ .bf16 0x0000#16)⟩]
    concatenates_S9216x512_S9216x512_S9216x64_S9216x64_S9216x128_S9216x1280_d1

set_option maxHeartbeats 2000000 in
theorem V_v7 (c : Dev nD) : V m c main_v7
    = columns (m ((c : Thread nD τ).loc main_arg0)) (m ((c : Thread nD τ).loc main_arg1)) := by
  unfold V
  after_results
  rfl

/-- The weight as the host lays it out: the keys' columns of every head, then the values'. -/
def weight (w : FVec Ideal S4x512x4096 .f32) : FVec Ideal S4x512x4096 .bf16 :=
  truncf .bf16 (concatenate S4x512x4096 2
    [⟨S4x512x2048, shapeCast _ (extractStridedSlice S4x512x16x128 ![0, 0, 0, 0] (shapeCast _ w shapeCasts_S4x512x4096_S4x512x16x256)
        slices_S4x512x16x256_S4x512x16x128_0_0_0_0) shapeCasts_S4x512x16x128_S4x512x2048⟩,
      ⟨S4x512x2048, shapeCast _ (extractStridedSlice S4x512x16x128 ![0, 0, 0, 128] (shapeCast _ w shapeCasts_S4x512x4096_S4x512x16x256)
        slices_S4x512x16x256_S4x512x16x128_0_0_0_128) shapeCasts_S4x512x16x128_S4x512x2048⟩]
    concatenates_S4x512x2048_S4x512x2048_S4x512x4096_d2) bitsLt_bf16_f32

set_option maxHeartbeats 2000000 in
theorem V_v14 (c : Dev nD) : V m c main_v14 = weight (m ((c : Thread nD τ).loc main_arg5)) := by
  unfold V
  after_results
  rfl

/-- The factors of every row, as the host lays them out: cosines and signed sines, then ones and zeros. -/
def table (cos sin : FVec Ideal S2048x2x16 .f32) : FVec Ideal S2560x128 .f32 :=
  concatenate S2560x128 0
    [⟨S2048x128, concatenate S2048x128 1
      [⟨S2048x64, shapeCast _ (concatenate S2048x2x2x16 2
          [⟨S2048x2x1x16, broadcastInDim S2048x2x1x16 ![0, 1, 3] bcast_S2048x2x16_S2048x2x1x16_0_1_3 cos⟩,
            ⟨S2048x2x1x16, broadcastInDim S2048x2x1x16 ![0, 1, 3] bcast_S2048x2x16_S2048x2x1x16_0_1_3 cos⟩]
          concatenates_S2048x2x1x16_S2048x2x1x16_S2048x2x2x16_d2) shapeCasts_S2048x2x2x16_S2048x64⟩,
        ⟨S2048x64, shapeCast _ (concatenate S2048x2x2x16 2
          [⟨S2048x2x1x16, broadcastInDim S2048x2x1x16 ![0, 1, 3] bcast_S2048x2x16_S2048x2x1x16_0_1_3 (Host.negf sin)⟩,
            ⟨S2048x2x1x16, broadcastInDim S2048x2x1x16 ![0, 1, 3] bcast_S2048x2x16_S2048x2x1x16_0_1_3 sin⟩]
          concatenates_S2048x2x1x16_S2048x2x1x16_S2048x2x2x16_d2) shapeCasts_S2048x2x2x16_S2048x64⟩]
      concatenates_S2048x64_S2048x64_S2048x128_d1⟩,
      ⟨S512x128, concatenate S512x128 1
        [⟨S512x64, broadcastInDim S512x64 ![] bcast_S_S512x64 (constant S_ .f32 0x3F800000#32)⟩,
          ⟨S512x64, broadcastInDim S512x64 ![] bcast_S_S512x64 (constant S_ .f32 0x00000000#32)⟩]
        concatenates_S512x64_S512x64_S512x128_d1⟩]
    concatenates_S2048x128_S512x128_S2560x128_d0

set_option maxHeartbeats 2000000 in
theorem V_v29 (c : Dev nD) : V m c main_v29
    = table (m ((c : Thread nD τ).loc main_arg2)) (m ((c : Thread nD τ).loc main_arg3)) := by
  unfold V
  after_results
  rfl

theorem swapped_at (k : FVec Ideal S9216x64 .bf16) (r : Fin 9216) (j : Fin 64) :
    swapped k (ix2 r j) = k (ix2 r (source j)) := by
  pointwise [swapped]
  split_ifs <;> (refine congrArg (fun i => k (ix2 r i)) (Fin.ext ?_); unfold source; dsimp only; omega)

theorem columns_at (c : FVec Ideal S9216x512 .bf16) (k : FVec Ideal S9216x64 .bf16) (r : Fin 9216) (j : Fin 1280) (i : Fin 512)
    (h : j.val = 512 + i.val) : columns c k (ix2 r j) = c (ix2 r i) := by
  pointwise [columns]
  rw [dif_neg (by omega), dif_pos (by omega)]
  exact congrArg (fun i => c (ix2 r i)) (Fin.ext (by show _ - _ = _; omega))

theorem columns_key (c : FVec Ideal S9216x512 .bf16) (k : FVec Ideal S9216x64 .bf16) (r : Fin 9216) (j : Fin 1280) (i : Fin 64)
    (h : j.val = 1024 + i.val) : columns c k (ix2 r j) = k (ix2 r i) := by
  pointwise [columns]
  rw [dif_neg (by omega), dif_neg (by omega), dif_pos (by omega)]
  exact congrArg (fun i => k (ix2 r i)) (Fin.ext (by show _ - _ - _ = _; omega))

theorem columns_swap (c : FVec Ideal S9216x512 .bf16) (k : FVec Ideal S9216x64 .bf16) (r : Fin 9216) (j : Fin 1280) (i : Fin 64)
    (h : j.val = 1088 + i.val) : columns c k (ix2 r j) = k (ix2 r (source i)) := by
  have e : (⟨j.val - 512 - 512 - 64, by omega⟩ : Fin 64) = i := Fin.ext (by show _ - _ - _ - _ = _; omega)
  pointwise [columns]
  rw [dif_neg (by omega), dif_neg (by omega), dif_neg (by omega), dif_pos (by omega), e, swapped_at]

theorem weight_low (w : FVec Ideal S4x512x4096 .f32) (z : Fin 512) (n : Fin 4096) (j : Fin 4096) (h : n.val < 2048)
    (hj : j.val = n.val / 128 * 256 + n.val % 128) : weight w (ix3 0 z n) = w (ix3 0 z j) := by
  pointwise [weight]
  rw [dif_pos h]
  exact congrArg (fun i => w (ix3 0 z i)) (Fin.ext (by rw [hj]))

theorem weight_high (w : FVec Ideal S4x512x4096 .f32) (z : Fin 512) (n : Fin 4096) (j : Fin 4096) (h : 2048 ≤ n.val)
    (hj : j.val = (n.val - 2048) / 128 * 256 + 128 + n.val % 128) : weight w (ix3 0 z n) = w (ix3 0 z j) := by
  pointwise [weight]
  rw [dif_neg (by omega)]
  exact congrArg (fun i => w (ix3 0 z i)) (Fin.ext (by rw [hj]; dsimp only; omega))

theorem table_cos (cos sin : FVec Ideal S2048x2x16 .f32) (R : Fin 2560) (j : Fin 128) (k : Fin 64) (h : j.val = k.val) (r : ℕ)
    (hr : R.val = if r < 8192 then r % 2048 else 2048 + r % 512) : table cos sin (ix2 R j) = same cos r k := by
  have hj : j.val < 64 := by omega
  pointwise [table]
  unfold same
  by_cases h8 : r < 8192
  · rw [if_pos h8] at hr
    have hR : R.val < 2048 := by omega
    refine Eq.trans ((dif_pos hR).trans (dif_pos hj)) (Eq.trans ?_ (if_pos h8).symm)
    by_cases h2 : j.val / 16 % 2 < 1
    · exact (dif_pos h2).trans (entry_eq cos r k _ _ _ hr (by dsimp only; omega) (by dsimp only; omega))
    · exact (dif_neg h2).trans (entry_eq cos r k _ _ _ hr (by dsimp only; omega) (by dsimp only; omega))
  · rw [if_neg h8] at hr
    have hR : ¬ R.val < 2048 := by omega
    exact Eq.trans ((dif_neg hR).trans (dif_pos hj)) (if_neg h8).symm

theorem table_sin (cos sin : FVec Ideal S2048x2x16 .f32) (R : Fin 2560) (j : Fin 128) (k : Fin 64) (h : j.val = 64 + k.val) (r : ℕ)
    (hr : R.val = if r < 8192 then r % 2048 else 2048 + r % 512) : table cos sin (ix2 R j) = other sin r k := by
  have hj : ¬ j.val < 64 := by omega
  pointwise [table]
  unfold other
  by_cases h8 : r < 8192
  · rw [if_pos h8] at hr
    have hR : R.val < 2048 := by omega
    refine Eq.trans ((dif_pos hR).trans (dif_neg hj)) (Eq.trans ?_ (if_pos h8).symm)
    by_cases h2 : (j.val - 64) / 16 % 2 < 1
    · exact ((dif_pos h2).trans (congrArg Neg.neg (entry_eq sin r k _ _ _ hr (by dsimp only; omega) (by dsimp only; omega)))).trans
        (if_pos (by omega)).symm
    · exact ((dif_neg h2).trans (entry_eq sin r k _ _ _ hr (by dsimp only; omega) (by dsimp only; omega))).trans
        (if_neg (by omega)).symm
  · rw [if_neg h8] at hr
    have hR : ¬ R.val < 2048 := by omega
    exact Eq.trans ((dif_neg hR).trans (dif_neg hj)) (if_neg h8).symm

theorem block0 (c : Dev nD) (t : Fin cfg0.N) (ht : t.val < 18) (a z : Fin 512) : X0_0 m c t (ix2 a z)
    = V m c main_v7 (ix2 (⟨t.val * 512 + a.val, by omega⟩ : Fin 9216) (⟨512 + z.val, by omega⟩ : Fin 1280)) := by
  unfold X0_0 Pipeline.Window.fill
  rw [dif_pos (moved0_0 t _)]
  blk_point [iblk, idx t]

theorem block1 (c : Dev nD) (t : Fin cfg0.N) (ht : t.val < 18) (a : Fin 512) (k : Fin 128) : iblk m c 1 t (ix2 a k)
    = V m c main_v7 (ix2 (⟨t.val * 512 + a.val, by omega⟩ : Fin 9216) (⟨1024 + k.val, by omega⟩ : Fin 1280)) := by
  blk_point [iblk, idx t]

theorem block2 (c : Dev nD) (t : Fin cfg0.N) (ht : t.val < 18) (a : Fin 512) (k : Fin 128) : iblk m c 2 t (ix2 a k)
    = V m c main_v29 (ix2 (⟨(if t.val < 16 then t.val % 4 else 4) * 512 + a.val, by split_ifs <;> omega⟩ : Fin 2560) k) := by
  blk_point [iblk, idx t]

theorem block3 (c : Dev nD) (t : Fin cfg0.N) (z : Fin 512) : iblk m c 3 t (ix3 (0 : Fin 1) (0 : Fin 1) z)
    = m ((c : Thread nD τ).loc main_arg4) (ix2 (0 : Fin 4) z) := by
  blk_point [iblk, V, idx t]

theorem block4 (c : Dev nD) (t : Fin cfg0.N) (z : Fin 512) (n : Fin 2048) : iblk m c 4 t (ix3 (0 : Fin 1) z n)
    = V m c main_v14 (ix3 (0 : Fin 4) z (⟨n.val, by omega⟩ : Fin 4096)) := by
  blk_point [iblk, idx t]

theorem block5 (c : Dev nD) (t : Fin cfg0.N) (z : Fin 512) (n : Fin 2048) : iblk m c 5 t (ix3 (0 : Fin 1) z n)
    = V m c main_v14 (ix3 (0 : Fin 4) z (⟨2048 + n.val, by omega⟩ : Fin 4096)) := by
  blk_point [iblk, idx t]

/-- A block of the rows the kernel reads, entry by entry. -/
theorem rows (c : Dev nD) (t : Fin cfg0.N) (ht : t.val < 18) (a z : Fin 512) : X0_0 m c t (ix2 a z)
    = m ((c : Thread nD τ).loc main_arg0) (ix2 (⟨t.val * 512 + a.val, by omega⟩ : Fin 9216) z) := by
  rw [block0 m c t ht, V_v7]
  exact columns_at _ _ _ _ z rfl

theorem core (c : Dev nD) (t : Fin cfg0.N) (ht : t.val < 18) (a : Fin 512) (n : Fin 2048) (j : Fin 4096)
    (hj : j.val = n.val / 128 * 256 + n.val % 128) :
    k0_pay4 (F := Ideal) (X0_0 m c t) (iblk m c 3 t) (iblk m c 4 t) (ix2 a n)
      = product (m ((c : Thread nD τ).loc main_arg0)) (m ((c : Thread nD τ).loc main_arg4)) (m ((c : Thread nD τ).loc main_arg5))
        (ix2 (⟨t.val * 512 + a.val, by omega⟩ : Fin 9216) j) := by
  rw [pay4_at, product_at]
  have e : (fun z => X0_0 m c t (ix2 a z)) = fun z => m ((c : Thread nD τ).loc main_arg0) (ix2 (⟨t.val * 512 + a.val, by omega⟩ : Fin 9216) z) :=
    funext fun z => rows m c t ht a z
  refine Finset.sum_congr rfl fun z _ => ?_
  rw [e, rows m c t ht, block3, block4, V_v14, weight_low _ z _ j (by dsimp only; omega) (by dsimp only; omega)]

theorem core_v (c : Dev nD) (t : Fin cfg0.N) (ht : t.val < 18) (a : Fin 512) (n : Fin 2048) (j : Fin 4096)
    (hj : j.val = n.val / 128 * 256 + 128 + n.val % 128) :
    k0_pay22 (F := Ideal) (k0_pay3 (X0_0 m c t) (iblk m c 3 t)) (iblk m c 5 t) (ix2 a n)
      = product (m ((c : Thread nD τ).loc main_arg0)) (m ((c : Thread nD τ).loc main_arg4)) (m ((c : Thread nD τ).loc main_arg5))
        (ix2 (⟨t.val * 512 + a.val, by omega⟩ : Fin 9216) j) := by
  refine (pay4_at _ _ _ _ _).trans ?_
  rw [product_at]
  have e : (fun z => X0_0 m c t (ix2 a z)) = fun z => m ((c : Thread nD τ).loc main_arg0) (ix2 (⟨t.val * 512 + a.val, by omega⟩ : Fin 9216) z) :=
    funext fun z => rows m c t ht a z
  refine Finset.sum_congr rfl fun z _ => ?_
  rw [e, rows m c t ht, block3, block5, V_v14, weight_high _ z _ j (by dsimp only; omega) (by dsimp only; omega)]

/-- The shared key's columns of a block. -/
theorem rotated (c : Dev nD) (t : Fin cfg0.N) (ht : t.val < 18) (a : Fin 512) (k : Fin 128) :
    k0_pay5 (F := Ideal) (iblk m c 1 t) (iblk m c 2 t) (ix2 a k) = if h : k.val < 64 then
      shared (m ((c : Thread nD τ).loc main_arg1)) (m ((c : Thread nD τ).loc main_arg2)) (m ((c : Thread nD τ).loc main_arg3))
        (ix2 (⟨t.val * 512 + a.val, by omega⟩ : Fin 9216) ⟨k.val, h⟩) else 0 := by
  rw [pay5_at]
  by_cases h : k.val < 64
  · have hr : ((if t.val < 16 then t.val % 4 else 4) * 512 + a.val)
        = if t.val * 512 + a.val < 8192 then (t.val * 512 + a.val) % 2048 else 2048 + (t.val * 512 + a.val) % 512 := by
      split_ifs <;> omega
    rw [dif_pos h, dif_pos h, shared_at, block1 m c t ht, block1 m c t ht, block2 m c t ht, block2 m c t ht, V_v7, V_v29,
      columns_key _ _ _ _ ⟨k.val, h⟩ rfl, columns_swap _ _ _ _ ⟨k.val, h⟩ (by dsimp only; omega),
      table_cos _ _ _ _ ⟨k.val, h⟩ rfl _ hr, table_sin _ _ _ _ ⟨k.val, h⟩ (by dsimp only; omega) _ hr]
  · rw [dif_neg h, dif_neg h]

theorem emb (t : Fin cfg0.N) (ht : t.val < 18) (y : S512x4096.Idx) : ((cfg0.win 6).blk t).view.emb y
    = ix2 (⟨t.val * 512 + (y 0).val, by have h : (y 0).val < 512 := (y 0).isLt; omega⟩ : Fin 9216) (y 1) := by
  funext a
  fin_cases a <;> (apply Fin.ext; blk_simp [idx t]; rfl)

theorem emb_v (t : Fin cfg0.N) (ht : t.val < 18) (y : S512x4096.Idx) : ((cfg0.win 7).blk t).view.emb y
    = ix2 (⟨t.val * 512 + (y 0).val, by have h : (y 0).val < 512 := (y 0).isLt; omega⟩ : Fin 9216) (y 1) := by
  funext a
  fin_cases a <;> (apply Fin.ext; blk_simp [idx t]; rfl)

/-- The keys' slots of a block are the reference's there. -/
theorem point (c : Dev nD) (t : Fin cfg0.N) (ht : t.val < 18) (y : S512x4096.Idx) :
    slot (k0_pay4 (X0_0 m c t) (iblk m c 3 t) (iblk m c 4 t)) (k0_pay5 (iblk m c 1 t) (iblk m c 2 t)) y
      = keys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  have hy : (y 1).val < 4096 := (y 1).isLt
  rw [emb t ht]
  refine Eq.trans ?_ (keys_at _ _ _ _ _ _ _ _).symm
  unfold slot
  by_cases h : (y 1).val % 256 < 128
  · rw [dif_pos h, dif_pos h]
    exact core m c t ht (y 0) _ (y 1) (by dsimp only; omega)
  · rw [dif_neg h, dif_neg h]
    refine (rotated m c t ht (y 0) ⟨(y 1).val % 256 - 128, by omega⟩).trans ?_
    by_cases h' : (y 1).val % 256 < 192
    · rw [dif_pos h', dif_pos (by dsimp only; omega)]
    · rw [dif_neg h', dif_neg (by dsimp only; omega)]

/-- The values' slots of a block are the reference's there. -/
theorem point_v (c : Dev nD) (t : Fin cfg0.N) (ht : t.val < 18) (y : S512x4096.Idx) :
    slot (k0_pay22 (k0_pay3 (X0_0 m c t) (iblk m c 3 t)) (iblk m c 5 t)) k0_pay23 y
      = values (m ((c : Thread nD τ).loc main_arg0)) (m ((c : Thread nD τ).loc main_arg4)) (m ((c : Thread nD τ).loc main_arg5))
          (((cfg0.win 7).blk t).view.emb y) := by
  have hy : (y 1).val < 4096 := (y 1).isLt
  rw [emb_v t ht]
  refine Eq.trans ?_ (values_at _ _ _ _ _).symm
  unfold slot
  by_cases h : (y 1).val % 256 < 128
  · rw [dif_pos h, dif_pos h]
    exact core_v m c t ht (y 0) _ _ (by dsimp only; omega)
  · rw [dif_neg h, dif_neg h]
    pointwise [k0_pay23]

/-- The keys after the run are the reference's. -/
theorem final (c : Dev nD) : (dats m 0 c).arrAt 6 cfg0.N = keys (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 6 _ (by decide +kernel) fun t _ y => ?_
  have ht : t.val < 18 := lt_of_lt_of_eq t.isLt (by decide)
  blk_simp
  rw [after0_6]
  unfold outsAt0
  frame_out
  refine Eq.trans ?_ (point m c t ht y)
  canon_tiles x h
  case piece0 => exact high (k0_pay4 (X0_0 m c t) (iblk m c 3 t) (iblk m c 4 t)) (k0_pay5 (iblk m c 1 t) (iblk m c 2 t)) 15 x y (by omega) (by omega)
  case piece1 => exact low (k0_pay4 (X0_0 m c t) (iblk m c 3 t) (iblk m c 4 t)) (k0_pay5 (iblk m c 1 t) (iblk m c 2 t)) 1920 15 _ x y (by omega) (by omega) (by omega)
  case piece2 => exact high (k0_pay4 (X0_0 m c t) (iblk m c 3 t) (iblk m c 4 t)) (k0_pay5 (iblk m c 1 t) (iblk m c 2 t)) 14 x y (by omega) (by omega)
  case piece3 => exact low (k0_pay4 (X0_0 m c t) (iblk m c 3 t) (iblk m c 4 t)) (k0_pay5 (iblk m c 1 t) (iblk m c 2 t)) 1792 14 _ x y (by omega) (by omega) (by omega)
  case piece4 => exact high (k0_pay4 (X0_0 m c t) (iblk m c 3 t) (iblk m c 4 t)) (k0_pay5 (iblk m c 1 t) (iblk m c 2 t)) 13 x y (by omega) (by omega)
  case piece5 => exact low (k0_pay4 (X0_0 m c t) (iblk m c 3 t) (iblk m c 4 t)) (k0_pay5 (iblk m c 1 t) (iblk m c 2 t)) 1664 13 _ x y (by omega) (by omega) (by omega)
  case piece6 => exact high (k0_pay4 (X0_0 m c t) (iblk m c 3 t) (iblk m c 4 t)) (k0_pay5 (iblk m c 1 t) (iblk m c 2 t)) 12 x y (by omega) (by omega)
  case piece7 => exact low (k0_pay4 (X0_0 m c t) (iblk m c 3 t) (iblk m c 4 t)) (k0_pay5 (iblk m c 1 t) (iblk m c 2 t)) 1536 12 _ x y (by omega) (by omega) (by omega)
  case piece8 => exact high (k0_pay4 (X0_0 m c t) (iblk m c 3 t) (iblk m c 4 t)) (k0_pay5 (iblk m c 1 t) (iblk m c 2 t)) 11 x y (by omega) (by omega)
  case piece9 => exact low (k0_pay4 (X0_0 m c t) (iblk m c 3 t) (iblk m c 4 t)) (k0_pay5 (iblk m c 1 t) (iblk m c 2 t)) 1408 11 _ x y (by omega) (by omega) (by omega)
  case piece10 => exact high (k0_pay4 (X0_0 m c t) (iblk m c 3 t) (iblk m c 4 t)) (k0_pay5 (iblk m c 1 t) (iblk m c 2 t)) 10 x y (by omega) (by omega)
  case piece11 => exact low (k0_pay4 (X0_0 m c t) (iblk m c 3 t) (iblk m c 4 t)) (k0_pay5 (iblk m c 1 t) (iblk m c 2 t)) 1280 10 _ x y (by omega) (by omega) (by omega)
  case piece12 => exact high (k0_pay4 (X0_0 m c t) (iblk m c 3 t) (iblk m c 4 t)) (k0_pay5 (iblk m c 1 t) (iblk m c 2 t)) 9 x y (by omega) (by omega)
  case piece13 => exact low (k0_pay4 (X0_0 m c t) (iblk m c 3 t) (iblk m c 4 t)) (k0_pay5 (iblk m c 1 t) (iblk m c 2 t)) 1152 9 _ x y (by omega) (by omega) (by omega)
  case piece14 => exact high (k0_pay4 (X0_0 m c t) (iblk m c 3 t) (iblk m c 4 t)) (k0_pay5 (iblk m c 1 t) (iblk m c 2 t)) 8 x y (by omega) (by omega)
  case piece15 => exact low (k0_pay4 (X0_0 m c t) (iblk m c 3 t) (iblk m c 4 t)) (k0_pay5 (iblk m c 1 t) (iblk m c 2 t)) 1024 8 _ x y (by omega) (by omega) (by omega)
  case piece16 => exact high (k0_pay4 (X0_0 m c t) (iblk m c 3 t) (iblk m c 4 t)) (k0_pay5 (iblk m c 1 t) (iblk m c 2 t)) 7 x y (by omega) (by omega)
  case piece17 => exact low (k0_pay4 (X0_0 m c t) (iblk m c 3 t) (iblk m c 4 t)) (k0_pay5 (iblk m c 1 t) (iblk m c 2 t)) 896 7 _ x y (by omega) (by omega) (by omega)
  case piece18 => exact high (k0_pay4 (X0_0 m c t) (iblk m c 3 t) (iblk m c 4 t)) (k0_pay5 (iblk m c 1 t) (iblk m c 2 t)) 6 x y (by omega) (by omega)
  case piece19 => exact low (k0_pay4 (X0_0 m c t) (iblk m c 3 t) (iblk m c 4 t)) (k0_pay5 (iblk m c 1 t) (iblk m c 2 t)) 768 6 _ x y (by omega) (by omega) (by omega)
  case piece20 => exact high (k0_pay4 (X0_0 m c t) (iblk m c 3 t) (iblk m c 4 t)) (k0_pay5 (iblk m c 1 t) (iblk m c 2 t)) 5 x y (by omega) (by omega)
  case piece21 => exact low (k0_pay4 (X0_0 m c t) (iblk m c 3 t) (iblk m c 4 t)) (k0_pay5 (iblk m c 1 t) (iblk m c 2 t)) 640 5 _ x y (by omega) (by omega) (by omega)
  case piece22 => exact high (k0_pay4 (X0_0 m c t) (iblk m c 3 t) (iblk m c 4 t)) (k0_pay5 (iblk m c 1 t) (iblk m c 2 t)) 4 x y (by omega) (by omega)
  case piece23 => exact low (k0_pay4 (X0_0 m c t) (iblk m c 3 t) (iblk m c 4 t)) (k0_pay5 (iblk m c 1 t) (iblk m c 2 t)) 512 4 _ x y (by omega) (by omega) (by omega)
  case piece24 => exact high (k0_pay4 (X0_0 m c t) (iblk m c 3 t) (iblk m c 4 t)) (k0_pay5 (iblk m c 1 t) (iblk m c 2 t)) 3 x y (by omega) (by omega)
  case piece25 => exact low (k0_pay4 (X0_0 m c t) (iblk m c 3 t) (iblk m c 4 t)) (k0_pay5 (iblk m c 1 t) (iblk m c 2 t)) 384 3 _ x y (by omega) (by omega) (by omega)
  case piece26 => exact high (k0_pay4 (X0_0 m c t) (iblk m c 3 t) (iblk m c 4 t)) (k0_pay5 (iblk m c 1 t) (iblk m c 2 t)) 2 x y (by omega) (by omega)
  case piece27 => exact low (k0_pay4 (X0_0 m c t) (iblk m c 3 t) (iblk m c 4 t)) (k0_pay5 (iblk m c 1 t) (iblk m c 2 t)) 256 2 _ x y (by omega) (by omega) (by omega)
  case piece28 => exact high (k0_pay4 (X0_0 m c t) (iblk m c 3 t) (iblk m c 4 t)) (k0_pay5 (iblk m c 1 t) (iblk m c 2 t)) 1 x y (by omega) (by omega)
  case piece29 => exact low (k0_pay4 (X0_0 m c t) (iblk m c 3 t) (iblk m c 4 t)) (k0_pay5 (iblk m c 1 t) (iblk m c 2 t)) 128 1 _ x y (by omega) (by omega) (by omega)
  case piece30 => exact high (k0_pay4 (X0_0 m c t) (iblk m c 3 t) (iblk m c 4 t)) (k0_pay5 (iblk m c 1 t) (iblk m c 2 t)) 0 x y (by omega) (by omega)
  case piece31 => exact low (k0_pay4 (X0_0 m c t) (iblk m c 3 t) (iblk m c 4 t)) (k0_pay5 (iblk m c 1 t) (iblk m c 2 t)) 0 0 _ x y (by omega) (by omega) (by omega)

/-- The values after the run are the reference's. -/
theorem final_v (c : Dev nD) : (dats m 0 c).arrAt 7 cfg0.N = values (m ((c : Thread nD τ).loc main_arg0))
    (m ((c : Thread nD τ).loc main_arg4)) (m ((c : Thread nD τ).loc main_arg5)) := by
  refine (dats m 0 c).arrAt_eq_of_covers 7 _ (by decide +kernel) fun t _ y => ?_
  have ht : t.val < 18 := lt_of_lt_of_eq t.isLt (by decide)
  blk_simp
  rw [after0_7]
  unfold outsAt0
  frame_out
  refine Eq.trans ?_ (point_v m c t ht y)
  canon_tiles x h
  case piece0 => exact high (k0_pay22 (k0_pay3 (X0_0 m c t) (iblk m c 3 t)) (iblk m c 5 t)) k0_pay23 15 x y (by omega) (by omega)
  case piece1 => exact low (k0_pay22 (k0_pay3 (X0_0 m c t) (iblk m c 3 t)) (iblk m c 5 t)) k0_pay23 1920 15 _ x y (by omega) (by omega) (by omega)
  case piece2 => exact high (k0_pay22 (k0_pay3 (X0_0 m c t) (iblk m c 3 t)) (iblk m c 5 t)) k0_pay23 14 x y (by omega) (by omega)
  case piece3 => exact low (k0_pay22 (k0_pay3 (X0_0 m c t) (iblk m c 3 t)) (iblk m c 5 t)) k0_pay23 1792 14 _ x y (by omega) (by omega) (by omega)
  case piece4 => exact high (k0_pay22 (k0_pay3 (X0_0 m c t) (iblk m c 3 t)) (iblk m c 5 t)) k0_pay23 13 x y (by omega) (by omega)
  case piece5 => exact low (k0_pay22 (k0_pay3 (X0_0 m c t) (iblk m c 3 t)) (iblk m c 5 t)) k0_pay23 1664 13 _ x y (by omega) (by omega) (by omega)
  case piece6 => exact high (k0_pay22 (k0_pay3 (X0_0 m c t) (iblk m c 3 t)) (iblk m c 5 t)) k0_pay23 12 x y (by omega) (by omega)
  case piece7 => exact low (k0_pay22 (k0_pay3 (X0_0 m c t) (iblk m c 3 t)) (iblk m c 5 t)) k0_pay23 1536 12 _ x y (by omega) (by omega) (by omega)
  case piece8 => exact high (k0_pay22 (k0_pay3 (X0_0 m c t) (iblk m c 3 t)) (iblk m c 5 t)) k0_pay23 11 x y (by omega) (by omega)
  case piece9 => exact low (k0_pay22 (k0_pay3 (X0_0 m c t) (iblk m c 3 t)) (iblk m c 5 t)) k0_pay23 1408 11 _ x y (by omega) (by omega) (by omega)
  case piece10 => exact high (k0_pay22 (k0_pay3 (X0_0 m c t) (iblk m c 3 t)) (iblk m c 5 t)) k0_pay23 10 x y (by omega) (by omega)
  case piece11 => exact low (k0_pay22 (k0_pay3 (X0_0 m c t) (iblk m c 3 t)) (iblk m c 5 t)) k0_pay23 1280 10 _ x y (by omega) (by omega) (by omega)
  case piece12 => exact high (k0_pay22 (k0_pay3 (X0_0 m c t) (iblk m c 3 t)) (iblk m c 5 t)) k0_pay23 9 x y (by omega) (by omega)
  case piece13 => exact low (k0_pay22 (k0_pay3 (X0_0 m c t) (iblk m c 3 t)) (iblk m c 5 t)) k0_pay23 1152 9 _ x y (by omega) (by omega) (by omega)
  case piece14 => exact high (k0_pay22 (k0_pay3 (X0_0 m c t) (iblk m c 3 t)) (iblk m c 5 t)) k0_pay23 8 x y (by omega) (by omega)
  case piece15 => exact low (k0_pay22 (k0_pay3 (X0_0 m c t) (iblk m c 3 t)) (iblk m c 5 t)) k0_pay23 1024 8 _ x y (by omega) (by omega) (by omega)
  case piece16 => exact high (k0_pay22 (k0_pay3 (X0_0 m c t) (iblk m c 3 t)) (iblk m c 5 t)) k0_pay23 7 x y (by omega) (by omega)
  case piece17 => exact low (k0_pay22 (k0_pay3 (X0_0 m c t) (iblk m c 3 t)) (iblk m c 5 t)) k0_pay23 896 7 _ x y (by omega) (by omega) (by omega)
  case piece18 => exact high (k0_pay22 (k0_pay3 (X0_0 m c t) (iblk m c 3 t)) (iblk m c 5 t)) k0_pay23 6 x y (by omega) (by omega)
  case piece19 => exact low (k0_pay22 (k0_pay3 (X0_0 m c t) (iblk m c 3 t)) (iblk m c 5 t)) k0_pay23 768 6 _ x y (by omega) (by omega) (by omega)
  case piece20 => exact high (k0_pay22 (k0_pay3 (X0_0 m c t) (iblk m c 3 t)) (iblk m c 5 t)) k0_pay23 5 x y (by omega) (by omega)
  case piece21 => exact low (k0_pay22 (k0_pay3 (X0_0 m c t) (iblk m c 3 t)) (iblk m c 5 t)) k0_pay23 640 5 _ x y (by omega) (by omega) (by omega)
  case piece22 => exact high (k0_pay22 (k0_pay3 (X0_0 m c t) (iblk m c 3 t)) (iblk m c 5 t)) k0_pay23 4 x y (by omega) (by omega)
  case piece23 => exact low (k0_pay22 (k0_pay3 (X0_0 m c t) (iblk m c 3 t)) (iblk m c 5 t)) k0_pay23 512 4 _ x y (by omega) (by omega) (by omega)
  case piece24 => exact high (k0_pay22 (k0_pay3 (X0_0 m c t) (iblk m c 3 t)) (iblk m c 5 t)) k0_pay23 3 x y (by omega) (by omega)
  case piece25 => exact low (k0_pay22 (k0_pay3 (X0_0 m c t) (iblk m c 3 t)) (iblk m c 5 t)) k0_pay23 384 3 _ x y (by omega) (by omega) (by omega)
  case piece26 => exact high (k0_pay22 (k0_pay3 (X0_0 m c t) (iblk m c 3 t)) (iblk m c 5 t)) k0_pay23 2 x y (by omega) (by omega)
  case piece27 => exact low (k0_pay22 (k0_pay3 (X0_0 m c t) (iblk m c 3 t)) (iblk m c 5 t)) k0_pay23 256 2 _ x y (by omega) (by omega) (by omega)
  case piece28 => exact high (k0_pay22 (k0_pay3 (X0_0 m c t) (iblk m c 3 t)) (iblk m c 5 t)) k0_pay23 1 x y (by omega) (by omega)
  case piece29 => exact low (k0_pay22 (k0_pay3 (X0_0 m c t) (iblk m c 3 t)) (iblk m c 5 t)) k0_pay23 128 1 _ x y (by omega) (by omega) (by omega)
  case piece30 => exact high (k0_pay22 (k0_pay3 (X0_0 m c t) (iblk m c 3 t)) (iblk m c 5 t)) k0_pay23 0 x y (by omega) (by omega)
  case piece31 => exact low (k0_pay22 (k0_pay3 (X0_0 m c t) (iblk m c 3 t)) (iblk m c 5 t)) k0_pay23 0 0 _ x y (by omega) (by omega) (by omega)

end Cert.KvProjIdeal.Final

end
-- ==== Proof.QRefRead.lean ====
/- The queries' reference read at one place. -/
module

public import proofs.«01_k».proof.Proof.Gen.QProjRefIdeal.Run
public import proofs.«01_k».proof.Proof.Rotary
public import Idealize.ShloMosaic.Lib.Pipeline.ValueKit

@[expose] public section

set_option maxRecDepth 16384

noncomputable section

open Idealize.ShloMosaic Idealize.ShloMosaic.TcCoe Idealize.SL.Sem

namespace Cert.QProjRefIdeal.Read

open Cert.QProjRefIdeal Cert.QProjRefIdeal.Gen Cert.Rotary

/-- A row over the root of its mean square, times the weight's first row. -/
def normed (x : FVec Ideal S9216x1024 .f32) (g : FVec Ideal S4x1024 .f32) : FVec Ideal S9216x1024 .f32 :=
  mulf (mulf x (broadcastInDim S9216x1024 ![0, 1] bcast_S9216x1_S9216x1024_0_1 (Host.rsqrt (addf (Host.divf
      (broadcastInDim S9216x1 ![0] bcast_S9216_S9216x1_0 (Host.reduceAdd (mulf x x) (constant S_ .f32 0x00000000#32) reducesTo_S9216x1024_S9216_d1 h_S_))
      (broadcastInDim S9216x1 ![] bcast_S_S9216x1 (constant S_ .f32 0x44800000#32)))
      (broadcastInDim S9216x1 ![] bcast_S_S9216x1 (constant S_ .f32 0x358637BD#32))))))
    (broadcastInDim S9216x1024 ![0, 1] bcast_S1x1024_S9216x1024_0_1 (broadcastInDim S1x1024 ![1] bcast_S1024_S1x1024_1
      (shapeCast _ (extractStridedSlice S1x1024 ![0, 0] g slices_S4x1024_S1x1024_0_0) shapeCasts_S1x1024_S1024)))

/-- The compressed queries: the last 1024 columns. -/
def compressed (u : FVec Ideal S9216x4096 .bf16) : FVec Ideal S9216x1024 .f32 :=
  extf .f32 (extractStridedSlice S9216x1024 ![0, 3072] u slices_S9216x4096_S9216x1024_0_3072) bitsLt_bf16_f32

/-- The product of the normed rows and the weight's first layer. -/
def product (u : FVec Ideal S9216x4096 .bf16) (g : FVec Ideal S4x1024 .f32) (w : FVec Ideal S4x1024x3072 .f32) :
    FVec Ideal S9216x3072 .f32 :=
  Host.dotGeneral dot_S9216x1024_S1024x3072_S9216x3072_1_0_0_1_n_n none
    (extf .f32 (truncf .bf16 (normed (compressed u) g) bitsLt_bf16_f32) bitsLt_bf16_f32)
    (extf .f32 (truncf .bf16 (shapeCast _ (extractStridedSlice S1x1024x3072 ![0, 0, 0] w slices_S4x1024x3072_S1x1024x3072_0_0_0)
      shapeCasts_S1x1024x3072_S1024x3072) bitsLt_bf16_f32) bitsLt_bf16_f32)

/-- The rotary columns of every head. -/
def rotary (p : FVec Ideal S9216x3072 .f32) : FVec Ideal S9216x16x64 .f32 :=
  extractStridedSlice S9216x16x64 ![0, 0, 128] (shapeCast _ p shapeCasts_S9216x3072_S9216x16x192)
    slices_S9216x16x192_S9216x16x64_0_0_128

/-- The latent rows of a head, their 64 columns as axis, half and frequency. -/
def split (x : FVec Ideal S9216x16x64 .f32) : FVec Ideal S4x2048x16x2x2x16 .f32 :=
  shapeCast _ (shapeCast _ (extractStridedSlice S8192x16x64 ![0, 0, 0] x slices_S9216x16x64_S8192x16x64_0_0_0)
    shapeCasts_S8192x16x64_S4x2048x16x64) shapeCasts_S4x2048x16x64_S4x2048x16x2x2x16

def first (x : FVec Ideal S9216x16x64 .f32) : FVec Ideal S4x2048x16x2x16 .f32 :=
  shapeCast _ (extractStridedSlice S4x2048x16x2x1x16 ![0, 0, 0, 0, 0, 0] (split x)
    slices_S4x2048x16x2x2x16_S4x2048x16x2x1x16_0_0_0_0_0_0) shapeCasts_S4x2048x16x2x1x16_S4x2048x16x2x16

def second (x : FVec Ideal S9216x16x64 .f32) : FVec Ideal S4x2048x16x2x16 .f32 :=
  shapeCast _ (extractStridedSlice S4x2048x16x2x1x16 ![0, 0, 0, 0, 1, 0] (split x)
    slices_S4x2048x16x2x2x16_S4x2048x16x2x1x16_0_0_0_0_1_0) shapeCasts_S4x2048x16x2x1x16_S4x2048x16x2x16

def angle (z : FVec Ideal S2048x2x16 .f32) : FVec Ideal S4x2048x16x2x16 .f32 :=
  broadcastInDim S4x2048x16x2x16 ![0, 1, 2, 3, 4] bcast_S1x2048x1x2x16_S4x2048x16x2x16_0_1_2_3_4
    (broadcastInDim S1x2048x1x2x16 ![1, 2, 3, 4] bcast_S2048x1x2x16_S1x2048x1x2x16_1_2_3_4
      (broadcastInDim S2048x1x2x16 ![0, 2, 3] bcast_S2048x2x16_S2048x1x2x16_0_2_3 z))

/-- The latent rows rotated. -/
def latent (x : FVec Ideal S9216x16x64 .f32) (cos sin : FVec Ideal S2048x2x16 .f32) : FVec Ideal S8192x16x64 .f32 :=
  shapeCast _ (shapeCast _ (concatenate S4x2048x16x2x2x16 4
    [⟨S4x2048x16x2x1x16, broadcastInDim S4x2048x16x2x1x16 ![0, 1, 2, 3, 5] bcast_S4x2048x16x2x16_S4x2048x16x2x1x16_0_1_2_3_5
        (subf (mulf (first x) (angle cos)) (mulf (second x) (angle sin)))⟩,
      ⟨S4x2048x16x2x1x16, broadcastInDim S4x2048x16x2x1x16 ![0, 1, 2, 3, 5] bcast_S4x2048x16x2x16_S4x2048x16x2x1x16_0_1_2_3_5
        (addf (mulf (second x) (angle cos)) (mulf (first x) (angle sin)))⟩]
    concatenates_S4x2048x16x2x1x16_S4x2048x16x2x1x16_S4x2048x16x2x2x16_d4) shapeCasts_S4x2048x16x2x2x16_S4x2048x16x64)
    shapeCasts_S4x2048x16x64_S8192x16x64

/-- The rotary columns, their latent rows rotated. -/
def rotated (x : FVec Ideal S9216x16x64 .f32) (cos sin : FVec Ideal S2048x2x16 .f32) : FVec Ideal S9216x16x64 .f32 :=
  concatenate S9216x16x64 0 [⟨S8192x16x64, latent x cos sin⟩,
    ⟨S1024x16x64, extractStridedSlice S1024x16x64 ![8192, 0, 0] x slices_S9216x16x64_S1024x16x64_8192_0_0⟩]
    concatenates_S8192x16x64_S1024x16x64_S9216x16x64_d0

/-- The queries' slots: the plain columns, the rotated ones, and these once more, all scaled. -/
def queries (u : FVec Ideal S9216x4096 .bf16) (cos sin : FVec Ideal S2048x2x16 .f32) (g : FVec Ideal S4x1024 .f32)
    (w : FVec Ideal S4x1024x3072 .f32) : FVec Ideal S9216x4096 .bf16 :=
  truncf .bf16 (mulf (shapeCast _ (concatenate S9216x16x256 2
    [⟨S9216x16x128, extractStridedSlice S9216x16x128 ![0, 0, 0] (shapeCast _ (product u g w) shapeCasts_S9216x3072_S9216x16x192)
        slices_S9216x16x192_S9216x16x128_0_0_0⟩,
      ⟨S9216x16x64, rotated (rotary (product u g w)) cos sin⟩,
      ⟨S9216x16x64, rotated (rotary (product u g w)) cos sin⟩]
    concatenates_S9216x16x128_S9216x16x64_S9216x16x64_S9216x16x256_d2) shapeCasts_S9216x16x256_S9216x4096)
    (broadcastInDim S9216x4096 ![] bcast_S_S9216x4096 (constant S_ .f32 0x3DD53B95#32))) bitsLt_bf16_f32

set_option maxHeartbeats 2000000 in
theorem res_eq (m : (ℓ : Loc nD τ sig) → Buf (Elt Ideal) ℓ) (c : Dev nD) : Cert.QProjRefIdeal.Value.res_main_v61 (F := Ideal) m c
    = queries (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold Cert.QProjRefIdeal.Value.res_main_v61 queries rotated latent first second split angle rotary product normed compressed
  rfl

/-- One over the root of a row's mean square. -/
def invRms (x : Fin 1024 → EReal) : EReal :=
  Ideal.rsqrt (Ideal.div (∑ k, x k * x k) (Ideal.ofBits .f32 0x44800000#32) + Ideal.ofBits .f32 0x358637BD#32)

/-- A row of compressed queries. -/
def row (u : FVec Ideal S9216x4096 .bf16) (r : Fin 9216) (k : Fin 1024) : EReal :=
  u (ix2 r (⟨3072 + k.val, by omega⟩ : Fin 4096))

theorem compressed_at (u) (r : Fin 9216) (k : Fin 1024) : compressed u (ix2 r k) = row u r k := by
  pointwise [compressed]
  unfold row
  rfl

theorem normed_at (u) (g) (r : Fin 9216) (k : Fin 1024) :
    normed (compressed u) g (ix2 r k) = row u r k * invRms (row u r) * g (ix2 0 k) := by
  have e : row u r = fun k => compressed u (ix2 r k) := funext fun k => (compressed_at u r k).symm
  rw [e]
  pointwise [normed]
  unfold invRms
  rfl

theorem product_at (u g w) (r : Fin 9216) (n : Fin 3072) : product u g w (ix2 r n)
    = ∑ k : Fin 1024, row u r k * invRms (row u r) * g (ix2 0 k) * w (ix3 0 k n) := by
  pointwise [product]
  refine Finset.sum_congr rfl fun k _ => congrArg (· * _) ?_
  rw [normed_at]

theorem first_at (x : FVec Ideal S9216x16x64 .f32) (b : Fin 4) (s : Fin 2048) (h : Fin 16) (a : Fin 2) (f : Fin 16) :
    first x (ix5 b s h a f) = x (ix3 (⟨b.val * 2048 + s.val, by omega⟩ : Fin 9216) h (⟨a.val * 32 + f.val, by omega⟩ : Fin 64)) := by
  pointwise [first, split]

theorem second_at (x : FVec Ideal S9216x16x64 .f32) (b : Fin 4) (s : Fin 2048) (h : Fin 16) (a : Fin 2) (f : Fin 16) :
    second x (ix5 b s h a f) = x (ix3 (⟨b.val * 2048 + s.val, by omega⟩ : Fin 9216) h (⟨a.val * 32 + 16 + f.val, by omega⟩ : Fin 64)) := by
  pointwise [second, split]

theorem angle_at (z : FVec Ideal S2048x2x16 .f32) (b : Fin 4) (s : Fin 2048) (h : Fin 16) (a : Fin 2) (f : Fin 16) :
    angle z (ix5 b s h a f) = z (ix3 s a f) := by
  pointwise [angle]

theorem first_row (x : FVec Ideal S9216x16x64 .f32) (r : Fin 8192) (h : Fin 16) (a : Fin 2) (f : Fin 16) :
    first x (ix5 (⟨r.val / 2048, by omega⟩ : Fin 4) (⟨r.val % 2048, by omega⟩ : Fin 2048) h a f)
      = x (ix3 (⟨r.val, by omega⟩ : Fin 9216) h (⟨a.val * 32 + f.val, by omega⟩ : Fin 64)) := by
  rw [first_at]
  exact congrArg (fun i => x (ix3 i h _)) (Fin.ext (by show r.val / 2048 * 2048 + r.val % 2048 = r.val; omega))

theorem second_row (x : FVec Ideal S9216x16x64 .f32) (r : Fin 8192) (h : Fin 16) (a : Fin 2) (f : Fin 16) :
    second x (ix5 (⟨r.val / 2048, by omega⟩ : Fin 4) (⟨r.val % 2048, by omega⟩ : Fin 2048) h a f)
      = x (ix3 (⟨r.val, by omega⟩ : Fin 9216) h (⟨a.val * 32 + 16 + f.val, by omega⟩ : Fin 64)) := by
  rw [second_at]
  exact congrArg (fun i => x (ix3 i h _)) (Fin.ext (by show r.val / 2048 * 2048 + r.val % 2048 = r.val; omega))

theorem latent_at (x cos sin) (r : Fin 8192) (h : Fin 16) (k : Fin 64) : latent x cos sin (ix3 r h k)
    = x (ix3 (⟨r.val, by omega⟩ : Fin 9216) h k) * same cos r.val k
      + x (ix3 (⟨r.val, by omega⟩ : Fin 9216) h (source k)) * other sin r.val k := by
  let b : Fin 4 := ⟨r.val / 2048, by omega⟩
  let s : Fin 2048 := ⟨r.val % 2048, by omega⟩
  let a : Fin 2 := ⟨k.val / 32, by omega⟩
  let f : Fin 16 := ⟨k.val % 16, by omega⟩
  have read : latent x cos sin (ix3 r h k) = if i : k.val / 16 % 2 < 1
      then first x (ix5 b s h a f) * angle cos (ix5 b s h a f) - second x (ix5 b s h a f) * angle sin (ix5 b s h a f)
      else second x (ix5 b s h a f) * angle cos (ix5 b s h a f) + first x (ix5 b s h a f) * angle sin (ix5 b s h a f) := by
    pointwise [latent]
    rfl
  rw [read, first_row, second_row, angle_at, angle_at]
  unfold same other
  rw [if_pos r.isLt, if_pos r.isLt]
  exact rotation (fun i => x (ix3 (⟨r.val, by omega⟩ : Fin 9216) h i)) (entry cos r.val k) (entry sin r.val k) k _ _ rfl rfl

theorem rotated_at (x cos sin) (r : Fin 9216) (h : Fin 16) (k : Fin 64) : rotated x cos sin (ix3 r h k)
    = x (ix3 r h k) * same cos r.val k + x (ix3 r h (source k)) * other sin r.val k := by
  pointwise [rotated]
  by_cases i : r.val < 8192
  · rw [dif_pos i, latent_at]
  · rw [dif_neg i]
    unfold same other
    rw [if_neg i, if_neg i, mul_one, mul_zero, add_zero]
    exact congrArg (fun i => x (ix3 i h k)) (Fin.ext (by dsimp only; omega))

theorem rotary_at (p : FVec Ideal S9216x3072 .f32) (r : Fin 9216) (h : Fin 16) (k : Fin 64) :
    rotary p (ix3 r h k) = p (ix2 r (⟨h.val * 192 + 128 + k.val, by omega⟩ : Fin 3072)) := by
  pointwise [rotary]
  try exact congrArg (fun i => p (ix2 r i)) (Fin.ext (by dsimp only; omega))

/-- A rotated column of head `h`, from the product. -/
def turned (u : FVec Ideal S9216x4096 .bf16) (cos sin : FVec Ideal S2048x2x16 .f32) (g : FVec Ideal S4x1024 .f32)
    (w : FVec Ideal S4x1024x3072 .f32) (r : Fin 9216) (h : Fin 16) (k : Fin 64) : EReal :=
  product u g w (ix2 r (⟨h.val * 192 + 128 + k.val, by omega⟩ : Fin 3072)) * same cos r.val k
    + product u g w (ix2 r (⟨h.val * 192 + 128 + (source k).val, by omega⟩ : Fin 3072)) * other sin r.val k

theorem turned_eq (u cos sin g w) (r : Fin 9216) (h : Fin 16) (k : Fin 64) :
    rotated (rotary (product u g w)) cos sin (ix3 r h k) = turned u cos sin g w r h k := by
  rw [rotated_at, rotary_at, rotary_at]
  rfl

theorem queries_at (u cos sin g w) (r : Fin 9216) (n : Fin 4096) : queries u cos sin g w (ix2 r n)
    = (if i : n.val % 256 < 128 then product u g w (ix2 r (⟨n.val / 256 * 192 + n.val % 256, by omega⟩ : Fin 3072))
        else turned u cos sin g w r ⟨n.val / 256, by omega⟩ ⟨(n.val % 256 - 128) % 64, by omega⟩) * Ideal.ofBits .f32 0x3DD53B95#32 := by
  pointwise [queries]
  refine congrArg (· * _) ?_
  by_cases i : n.val % 256 < 128
  · refine Eq.trans (dif_pos i) (Eq.trans ?_ (dif_pos i).symm)
    exact congrArg (fun i => product u g w (ix2 r i)) (Fin.ext (by dsimp only))
  refine Eq.trans (dif_neg i) (Eq.trans ?_ (dif_neg i).symm)
  rw [← turned_eq]
  by_cases j : n.val % 256 < 192
  · exact (dif_pos (by omega)).trans (congrArg (fun i => rotated _ cos sin (ix3 r _ i)) (Fin.ext (by dsimp only; omega)))
  · exact (dif_neg (by omega)).trans (congrArg (fun i => rotated _ cos sin (ix3 r _ i)) (Fin.ext (by dsimp only; omega)))

end Cert.QProjRefIdeal.Read

end
-- ==== Proof.QHost.lean ====
/- The queries' projection: its blocks' arithmetic, and the weight and the factors as the host lays them out. -/
module

public import proofs.«01_k».proof.Proof.Gen.QProjIdeal.Value
public import proofs.«01_k».proof.Proof.QRefRead

@[expose] public section

set_option maxRecDepth 16384

noncomputable section

open Idealize.ShloMosaic Idealize.ShloMosaic.TcCoe Idealize.SL.Sem
open Idealize.ShloMosaic.Pipeline (Dat)

namespace Cert.QProjIdeal.Final

open Cert.QProjIdeal Cert.QProjIdeal.Gen Cert.Rotary Cert.QProjRefIdeal.Read

variable (m : (ℓ : Loc nD τ sig) → Buf (Elt Ideal) ℓ)

/-- Every window's block index: the rows' block is the point's quarter, the heads' block its remainder. -/
theorem idx : ∀ t : Fin cfg0.N, win0_0.index t = ![t.val / 4, 3] ∧ win0_1.index t = ![0, 0, 0]
    ∧ win0_2.index t = ![if t.val / 4 < 16 then t.val / 4 % 4 else 4, 0] ∧ win0_3.index t = ![0, 0, t.val % 4]
    ∧ win0_4.index t = ![t.val / 4, t.val % 4] :=
  (by decide +kernel : ∀ t : Fin grid0.N, win0_0.index t = ![t.val / 4, 3] ∧ win0_1.index t = ![0, 0, 0]
    ∧ win0_2.index t = ![if t.val / 4 < 16 then t.val / 4 % 4 else 4, 0] ∧ win0_3.index t = ![0, 0, t.val % 4]
    ∧ win0_4.index t = ![t.val / 4, t.val % 4])

/-- The product of the normed rows and the weight's block, scaled, at one entry. -/
theorem pay5_at (x : FVec Ideal S512x1024 .bf16) (w : FVec Ideal S1x1024x1024 .bf16) (r : Fin 512) (n : Fin 1024) :
    k0_pay5 (F := Ideal) x w (ix2 r n) = (∑ z : Fin 1024, x (ix2 r z) * w (ix3 0 z n)) * Ideal.ofBits .f32 0x3DD53B95#32 := by
  pointwise [k0_pay5]

/-- The normed rows at one entry. -/
theorem pay4_at (x : FVec Ideal S512x1024 .bf16) (g : FVec Ideal S1x1x1024 .f32) (r : Fin 512) (z : Fin 1024) :
    k0_pay4 (F := Ideal) x g (ix2 r z) = x (ix2 r z) * invRms (fun z => x (ix2 r z)) * g (ix3 0 0 z) := by
  pointwise [k0_pay4]
  rfl

theorem pay6_at (x : FVec Ideal S512x128 .f32) (r : Fin 512) (z : Fin 128) : k0_pay6 (F := Ideal) x (ix2 r z) = x (ix2 r z) := by
  pointwise [k0_pay6]

/-- A block's slots: 128 plain columns of a head, then its columns times the factors, each with the one 64 lanes on. -/
def slot (p : FVec Ideal S512x1024 .f32) (f : FVec Ideal S512x128 .f32) : FVec Ideal S512x1024 .bf16 := fun y =>
  if h : (y 1).val % 256 < 128 then p y
  else p y * f (ix2 (y 0) (⟨(y 1).val % 256 - 128, by omega⟩ : Fin 128))
    + p (ix2 (y 0) (⟨(y 1).val / 256 * 256 + 128 + ((y 1).val % 256 - 64) % 128, by have h4 : (y 1).val < 1024 := (y 1).isLt; omega⟩ : Fin 1024))
      * f (ix2 (y 0) (⟨((y 1).val % 256 - 64) % 128, by omega⟩ : Fin 128))

theorem low (p : FVec Ideal S512x1024 .f32) (f : FVec Ideal S512x128 .f32) (o n : ℕ) (hs : S512x1024.Slices ![0, o] S512x128)
    (x : S512x128.Idx) (y : S512x1024.Idx) (ho : o = n * 256) (h0 : (y 0).val = (x 0).val)
    (h1 : (y 1).val = o + (x 1).val) :
    truncf (F := Ideal) .bf16 (extractStridedSlice S512x128 ![0, o] p hs) bitsLt_bf16_f32 x = slot p f y := by
  have hx : (x 1).val < 128 := (x 1).isLt
  have hy : (y 1).val < 1024 := (y 1).isLt
  unfold slot
  rw [dif_pos (by omega)]
  refine Eq.trans (b := p (ix2 (x 0) ⟨o + (x 1).val, by omega⟩)) ?_ ?_
  · pointwise
  · refine congrArg p (funext fun a => Fin.ext ?_)
    fin_cases a
    · exact h0.symm
    · exact h1.symm

theorem high (p : FVec Ideal S512x1024 .f32) (f : FVec Ideal S512x128 .f32) (o n : ℕ) (hs : S512x1024.Slices ![0, o] S512x128)
    (x : S512x128.Idx) (y : S512x1024.Idx) (ho : o = n * 256 + 128) (h0 : (y 0).val = (x 0).val)
    (h1 : (y 1).val = o + (x 1).val) :
    truncf (F := Ideal) .bf16 (addf (mulf (extractStridedSlice S512x128 ![0, o] p hs) f)
      (dynamicRotate 1 64#32 none (mulf (extractStridedSlice S512x128 ![0, o] p hs) f) rotates_S512x128_d1)) bitsLt_bf16_f32 x
      = slot p f y := by
  have hx : (x 1).val < 128 := (x 1).isLt
  have hy : (y 1).val < 1024 := (y 1).isLt
  unfold slot
  rw [dif_neg (by omega)]
  have ex : x = ix2 (x 0) (x 1) := by funext a; fin_cases a <;> rfl
  have read : ∀ (r : Fin 512) (k : Fin 128), truncf (F := Ideal) .bf16 (addf (mulf (extractStridedSlice S512x128 ![0, o] p hs) f)
      (dynamicRotate 1 64#32 none (mulf (extractStridedSlice S512x128 ![0, o] p hs) f) rotates_S512x128_d1)) bitsLt_bf16_f32 (ix2 r k)
      = p (ix2 r ⟨o + k.val, by omega⟩) * f (ix2 r k)
        + p (ix2 r ⟨o + (k.val + 128 - 64) % 128, by omega⟩) * f (ix2 r ⟨(k.val + 128 - 64) % 128, by omega⟩) := by
    intro r k
    pointwise
  refine (congrArg _ ex).trans ((read (x 0) (x 1)).trans ?_)
  refine congrArg₂ (· + ·) (congrArg₂ (· * ·) (congrArg p (funext fun a => Fin.ext ?_))
    (congrArg f (congrArg₂ ix2 (Fin.ext h0.symm) (Fin.ext ?_)))) (congrArg₂ (· * ·) (congrArg p (congrArg₂ ix2 (Fin.ext h0.symm) (Fin.ext ?_)))
    (congrArg f (congrArg₂ ix2 (Fin.ext h0.symm) (Fin.ext ?_))))
  · fin_cases a
    · exact h0.symm
    · exact h1.symm
  · show (x 1).val = (y 1).val % 256 - 128
    omega
  · show o + ((x 1).val + 128 - 64) % 128 = (y 1).val / 256 * 256 + 128 + ((y 1).val % 256 - 64) % 128
    omega
  · show ((x 1).val + 128 - 64) % 128 = ((y 1).val % 256 - 64) % 128
    omega

/-- The factors of every row, as the host lays them out: cosines and signed sines, then ones and zeros. -/
def table (cos sin : FVec Ideal S2048x2x16 .f32) : FVec Ideal S2560x128 .f32 :=
  concatenate S2560x128 0
    [⟨S2048x128, concatenate S2048x128 1
      [⟨S2048x64, shapeCast _ (concatenate S2048x2x2x16 2
          [⟨S2048x2x1x16, broadcastInDim S2048x2x1x16 ![0, 1, 3] bcast_S2048x2x16_S2048x2x1x16_0_1_3 cos⟩,
            ⟨S2048x2x1x16, broadcastInDim S2048x2x1x16 ![0, 1, 3] bcast_S2048x2x16_S2048x2x1x16_0_1_3 cos⟩]
          concatenates_S2048x2x1x16_S2048x2x1x16_S2048x2x2x16_d2) shapeCasts_S2048x2x2x16_S2048x64⟩,
        ⟨S2048x64, shapeCast _ (concatenate S2048x2x2x16 2
          [⟨S2048x2x1x16, broadcastInDim S2048x2x1x16 ![0, 1, 3] bcast_S2048x2x16_S2048x2x1x16_0_1_3 (Host.negf sin)⟩,
            ⟨S2048x2x1x16, broadcastInDim S2048x2x1x16 ![0, 1, 3] bcast_S2048x2x16_S2048x2x1x16_0_1_3 sin⟩]
          concatenates_S2048x2x1x16_S2048x2x1x16_S2048x2x2x16_d2) shapeCasts_S2048x2x2x16_S2048x64⟩]
      concatenates_S2048x64_S2048x64_S2048x128_d1⟩,
      ⟨S512x128, concatenate S512x128 1
        [⟨S512x64, broadcastInDim S512x64 ![] bcast_S_S512x64 (constant S_ .f32 0x3F800000#32)⟩,
          ⟨S512x64, broadcastInDim S512x64 ![] bcast_S_S512x64 (constant S_ .f32 0x00000000#32)⟩]
        concatenates_S512x64_S512x64_S512x128_d1⟩]
    concatenates_S2048x128_S512x128_S2560x128_d0

set_option maxHeartbeats 2000000 in
theorem V_v27 (c : Dev nD) : V m c main_v27
    = table (m ((c : Thread nD τ).loc main_arg1)) (m ((c : Thread nD τ).loc main_arg2)) := by
  unfold V
  after_results
  rfl

/-- The positions the exchanged columns are read from, as the host prints them. -/
def positions : IVec S64x1 32 :=
  broadcastInDim S64x1 ![0] bcast_S64_S64x1_0 (select
    (cmpi .slt (fun i => lit0 (S64.rowMajor i)) (broadcastInDim S64 ![] bcast_S_S64 (constantI S_ 32 0#32)))
    (addi (fun i => lit0 (S64.rowMajor i)) (broadcastInDim S64 ![] bcast_S_S64 (constantI S_ 32 64#32)))
    (fun i => lit0 (S64.rowMajor i)))

/-- The weight's rotary columns of every head. -/
def turning (w : FVec Ideal S4x1024x3072 .f32) : FVec Ideal S4x1024x16x64 .f32 :=
  extractStridedSlice S4x1024x16x64 ![0, 0, 0, 128] (shapeCast _ w shapeCasts_S4x1024x3072_S4x1024x16x192)
    slices_S4x1024x16x192_S4x1024x16x64_0_0_0_128

/-- The weight as the host lays it out. -/
def weight (w : FVec Ideal S4x1024x3072 .f32) : FVec Ideal S4x1024x4096 .bf16 :=
  truncf .bf16 (shapeCast _ (concatenate S4x1024x16x256 3
    [⟨S4x1024x16x128, extractStridedSlice S4x1024x16x128 ![0, 0, 0, 0] (shapeCast _ w shapeCasts_S4x1024x3072_S4x1024x16x192)
        slices_S4x1024x16x192_S4x1024x16x128_0_0_0_0⟩,
      ⟨S4x1024x16x64, turning w⟩,
      ⟨S4x1024x16x64, Host.gather gather_S4x1024x16x64_S64x1_S4x1024x16x64_012_3_n_n_3_1_41024161 (turning w) positions⟩]
    concatenates_S4x1024x16x128_S4x1024x16x64_S4x1024x16x64_S4x1024x16x256_d3) shapeCasts_S4x1024x16x256_S4x1024x4096) bitsLt_bf16_f32

set_option maxHeartbeats 2000000 in
theorem V_v12 (c : Dev nD) : V m c main_v12 = weight (m ((c : Thread nD τ).loc main_arg4)) := by
  unfold V
  after_results
  rfl

/-- Position `k` holds the column that column `k` is read from. -/
theorem positions_at : ∀ k : Fin 64, positions (ix2 k (0 : Fin 1)) = BitVec.ofNat 32 (source k).val := by
  decide +kernel

/-- A column's number as a 32-bit word, read signed and held below 64, is the column's number. -/
theorem clamped : ∀ k : Fin 64, min (BitVec.ofNat 32 (source k).val).toInt.toNat 63 = (source k).val := by
  decide +kernel

/-- The host's exchange, column by column. -/
theorem gather_at (x : FVec Ideal S4x1024x16x64 .f32) (l : Fin 4) (r : Fin 1024) (h : Fin 16) (k : Fin 64) :
    Host.gather gather_S4x1024x16x64_S64x1_S4x1024x16x64_012_3_n_n_3_1_41024161 x positions (ix4 l r h k)
      = x (ix4 l r h (source k)) := by
  have hp : gather_S4x1024x16x64_S64x1_S4x1024x16x64_012_3_n_n_3_1_41024161.start (ix4 l r h k) positions 3 = (source k).val := by
    refine Eq.trans ?_ (clamped k)
    rw [← positions_at k]
    refine congrArg (fun i => min (positions i).toInt.toNat 63) ?_
    funext a
    fin_cases a <;> rfl
  unfold Host.gather
  refine congrArg x (funext fun a => Fin.ext ?_)
  fin_cases a
  · show 0 + 0 + l.val = l.val
    omega
  · show 0 + 0 + r.val = r.val
    omega
  · show 0 + 0 + h.val = h.val
    omega
  · show gather_S4x1024x16x64_S64x1_S4x1024x16x64_012_3_n_n_3_1_41024161.start (ix4 l r h k) positions 3
      + gather_S4x1024x16x64_S64x1_S4x1024x16x64_012_3_n_n_3_1_41024161.batchCoord (ix4 l r h k) 3
      + gather_S4x1024x16x64_S64x1_S4x1024x16x64_012_3_n_n_3_1_41024161.offCoord (ix4 l r h k) 3 = (source k).val
    rw [hp, GatherDims.batchCoord_eq_zero _ _ _ List.not_mem_nil, GatherDims.offCoord_eq_zero _ _ _ (by
      rw [GatherDims.mem_sKept]
      exact fun h => h.1 (List.mem_singleton.mpr rfl))]
    rfl

theorem turning_at (w : FVec Ideal S4x1024x3072 .f32) (z : Fin 1024) (h : Fin 16) (k : Fin 64) :
    turning w (ix4 0 z h k) = w (ix3 0 z (⟨h.val * 192 + 128 + k.val, by omega⟩ : Fin 3072)) := by
  pointwise [turning]
  try exact congrArg (fun i => w (ix3 0 z i)) (Fin.ext (by dsimp only; omega))

theorem weight_plain (w : FVec Ideal S4x1024x3072 .f32) (z : Fin 1024) (n : Fin 4096) (i : Fin 3072) (h : n.val % 256 < 128)
    (hi : i.val = n.val / 256 * 192 + n.val % 256) : weight w (ix3 0 z n) = w (ix3 0 z i) := by
  pointwise [weight]
  exact (dif_pos h).trans (congrArg (fun i => w (ix3 0 z i)) (Fin.ext (by rw [hi])))

theorem weight_same (w : FVec Ideal S4x1024x3072 .f32) (z : Fin 1024) (n : Fin 4096) (h : Fin 16) (k : Fin 64)
    (hn : n.val = h.val * 256 + 128 + k.val) :
    weight w (ix3 0 z n) = w (ix3 0 z (⟨h.val * 192 + 128 + k.val, by omega⟩ : Fin 3072)) := by
  have eh : (⟨n.val / 256, by omega⟩ : Fin 16) = h := Fin.ext (by dsimp only; omega)
  have ek : (⟨n.val % 256 - 128, by omega⟩ : Fin 64) = k := Fin.ext (by dsimp only; omega)
  have hk := k.isLt
  rw [← turning_at w z h k]
  pointwise [weight]
  refine (dif_neg (by omega)).trans ((dif_pos (by omega)).trans ?_)
  exact congrArg₂ (fun a b => turning w (ix4 0 z a b)) eh ek

theorem weight_partner (w : FVec Ideal S4x1024x3072 .f32) (z : Fin 1024) (n : Fin 4096) (h : Fin 16) (k : Fin 64)
    (hn : n.val = h.val * 256 + 192 + k.val) :
    weight w (ix3 0 z n) = w (ix3 0 z (⟨h.val * 192 + 128 + (source k).val, by omega⟩ : Fin 3072)) := by
  have eh : (⟨n.val / 256, by omega⟩ : Fin 16) = h := Fin.ext (by dsimp only; omega)
  have ek : (⟨n.val % 256 - 128 - 64, by omega⟩ : Fin 64) = k := Fin.ext (by dsimp only; omega)
  have hk := k.isLt
  rw [← turning_at w z h (source k), ← gather_at (turning w) 0 z h k]
  pointwise [weight]
  refine (dif_neg (by omega)).trans ((dif_neg (by omega)).trans ?_)
  exact congrArg₂ (fun a b => Host.gather gather_S4x1024x16x64_S64x1_S4x1024x16x64_012_3_n_n_3_1_41024161 (turning w) positions (ix4 0 z a b)) eh ek

theorem table_cos (cos sin : FVec Ideal S2048x2x16 .f32) (R : Fin 2560) (j : Fin 128) (k : Fin 64) (h : j.val = k.val) (r : ℕ)
    (hr : R.val = if r < 8192 then r % 2048 else 2048 + r % 512) : table cos sin (ix2 R j) = same cos r k := by
  have hj : j.val < 64 := by omega
  pointwise [table]
  unfold same
  by_cases h8 : r < 8192
  · rw [if_pos h8] at hr
    have hR : R.val < 2048 := by omega
    refine Eq.trans ((dif_pos hR).trans (dif_pos hj)) (Eq.trans ?_ (if_pos h8).symm)
    by_cases h2 : j.val / 16 % 2 < 1
    · exact (dif_pos h2).trans (entry_eq cos r k _ _ _ hr (by dsimp only; omega) (by dsimp only; omega))
    · exact (dif_neg h2).trans (entry_eq cos r k _ _ _ hr (by dsimp only; omega) (by dsimp only; omega))
  · rw [if_neg h8] at hr
    have hR : ¬ R.val < 2048 := by omega
    exact Eq.trans ((dif_neg hR).trans (dif_pos hj)) (if_neg h8).symm

theorem table_sin (cos sin : FVec Ideal S2048x2x16 .f32) (R : Fin 2560) (j : Fin 128) (k : Fin 64) (h : j.val = 64 + k.val) (r : ℕ)
    (hr : R.val = if r < 8192 then r % 2048 else 2048 + r % 512) : table cos sin (ix2 R j) = other sin r k := by
  have hj : ¬ j.val < 64 := by omega
  pointwise [table]
  unfold other
  by_cases h8 : r < 8192
  · rw [if_pos h8] at hr
    have hR : R.val < 2048 := by omega
    refine Eq.trans ((dif_pos hR).trans (dif_neg hj)) (Eq.trans ?_ (if_pos h8).symm)
    by_cases h2 : (j.val - 64) / 16 % 2 < 1
    · exact ((dif_pos h2).trans (congrArg Neg.neg (entry_eq sin r k _ _ _ hr (by dsimp only; omega) (by dsimp only; omega)))).trans
        (if_pos (by omega)).symm
    · exact ((dif_neg h2).trans (entry_eq sin r k _ _ _ hr (by dsimp only; omega) (by dsimp only; omega))).trans
        (if_neg (by omega)).symm
  · rw [if_neg h8] at hr
    have hR : ¬ R.val < 2048 := by omega
    exact Eq.trans ((dif_neg hR).trans (dif_neg hj)) (if_neg h8).symm

end Cert.QProjIdeal.Final

end
-- ==== Proof.QValue.lean ====
/- What the kernel of the queries' projection leaves in its result. -/
module

public import proofs.«01_k».proof.Proof.QHost
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QProjIdeal.Final

open Cert.QProjIdeal Cert.QProjIdeal.Gen Cert.Rotary Cert.QProjRefIdeal.Read

variable (m : (ℓ : Loc nD τ sig) → Buf (Elt Ideal) ℓ)

theorem block0 (c : Dev nD) (t : Fin cfg0.N) (ht : t.val < 72) (a : Fin 512) (z : Fin 1024) : iblk m c 0 t (ix2 a z)
    = row (m ((c : Thread nD τ).loc main_arg0)) (⟨t.val / 4 * 512 + a.val, by omega⟩ : Fin 9216) z := by
  unfold row
  blk_point [iblk, V, idx t]

theorem block1 (c : Dev nD) (t : Fin cfg0.N) (z : Fin 1024) : iblk m c 1 t (ix3 (0 : Fin 1) (0 : Fin 1) z)
    = m ((c : Thread nD τ).loc main_arg3) (ix2 (0 : Fin 4) z) := by
  blk_point [iblk, V, idx t]

theorem block2 (c : Dev nD) (t : Fin cfg0.N) (ht : t.val < 72) (a : Fin 512) (k : Fin 128) : iblk m c 2 t (ix2 a k)
    = V m c main_v27 (ix2 (⟨(if t.val / 4 < 16 then t.val / 4 % 4 else 4) * 512 + a.val, by split_ifs <;> omega⟩ : Fin 2560) k) := by
  blk_point [iblk, idx t]

theorem emb3 (t : Fin cfg0.N) (z n : Fin 1024) : ((cfg0.win 3).blk t).view.emb (ix3 (0 : Fin 1) z n)
    = ix3 (0 : Fin 4) z (⟨t.val % 4 * 1024 + n.val, by omega⟩ : Fin 4096) := by
  funext a
  fin_cases a <;> (apply Fin.ext; blk_simp [idx t]; rfl)

/-- The weight's block of any array of its shape. -/
theorem read3 (t : Fin cfg0.N) (z n : Fin 1024) (x : FVec Ideal S4x1024x4096 .bf16) :
    View.read (Elt Ideal) ((cfg0.win 3).blk t).view x (ix3 (0 : Fin 1) z n)
      = x (ix3 (0 : Fin 4) z (⟨t.val % 4 * 1024 + n.val, by omega⟩ : Fin 4096)) :=
  congrArg x (emb3 t z n)

theorem block3 (c : Dev nD) (t : Fin cfg0.N) (z n : Fin 1024) : iblk m c 3 t (ix3 (0 : Fin 1) z n)
    = V m c main_v12 (ix3 (0 : Fin 4) z (⟨t.val % 4 * 1024 + n.val, by omega⟩ : Fin 4096)) := by
  unfold iblk
  exact read3 t z n (V m c main_v12)

/-- The normed rows of a block of rows. -/
def held (c : Dev nD) (t : Fin cfg0.N) : FVec Ideal S512x1024 .bf16 := k0_pay4 (iblk m c 0 t) (iblk m c 1 t)

theorem held_at (c : Dev nD) (t : Fin cfg0.N) (ht : t.val < 72) (a : Fin 512) (z : Fin 1024) : held m c t (ix2 a z)
    = row (m ((c : Thread nD τ).loc main_arg0)) (⟨t.val / 4 * 512 + a.val, by omega⟩ : Fin 9216) z
      * invRms (row (m ((c : Thread nD τ).loc main_arg0)) (⟨t.val / 4 * 512 + a.val, by omega⟩ : Fin 9216))
      * m ((c : Thread nD τ).loc main_arg3) (ix2 (0 : Fin 4) z) := by
  unfold held
  have e : (fun z => iblk m c 0 t (ix2 a z)) = row (m ((c : Thread nD τ).loc main_arg0)) (⟨t.val / 4 * 512 + a.val, by omega⟩ : Fin 9216) :=
    funext fun z => block0 m c t ht a z
  rw [pay4_at, e, block0 m c t ht, block1]

/-- Two points of the same block of rows hold the same normed rows. -/
theorem held_eq (c : Dev nD) (s t : Fin cfg0.N) (hs : s.val < 72) (ht : t.val < 72) (h : s.val / 4 = t.val / 4) : held m c s = held m c t := by
  funext y
  have ey : y = ix2 (y 0) (y 1) := by funext a; fin_cases a <;> rfl
  have er : (⟨s.val / 4 * 512 + (y 0).val, by have h : (y 0).val < 512 := (y 0).isLt; omega⟩ : Fin 9216)
      = ⟨t.val / 4 * 512 + (y 0).val, by have h : (y 0).val < 512 := (y 0).isLt; omega⟩ := Fin.ext (by dsimp only; rw [h])
  rw [ey]
  refine (held_at m c s hs (y 0) (y 1)).trans (Eq.trans ?_ (held_at m c t ht (y 0) (y 1)).symm)
  exact congrArg (fun r => row (m ((c : Thread nD τ).loc main_arg0)) r (y 1) * invRms (row (m ((c : Thread nD τ).loc main_arg0)) r)
    * m ((c : Thread nD τ).loc main_arg3) (ix2 (0 : Fin 4) (y 1))) er

/-- After every point the scratch holds the normed rows of the point's block. -/
theorem scratch (c : Dev nD) : ∀ (n : ℕ) (hn : n < cfg0.N), (outsAt0 m c n hn).2 = held m c ⟨n, hn⟩ := by
  intro n
  induction n with
  | zero =>
    intro hn
    refine (congrArg Prod.snd (outsAt0_A m c ⟨0, hn⟩ (by rfl))).trans ?_
    frame_out
    rfl
  | succ n ih =>
    intro hn
    have hN : n + 1 < 72 := lt_of_lt_of_eq hn (by decide)
    by_cases h : (n + 1) % 4 = 0
    · refine (congrArg Prod.snd (outsAt0_A m c ⟨n + 1, hn⟩ h)).trans ?_
      frame_out
      rfl
    · refine (congrArg Prod.snd (outsAt0_B m c ⟨n + 1, hn⟩ h)).trans ?_
      frame_out
      refine Eq.trans ?_ ((ih (by omega)).trans (held_eq m c ⟨n, by omega⟩ ⟨n + 1, hn⟩ (by dsimp only; omega) hN (by dsimp only; omega)))
      rfl

/-- Before a point that is not its block's first, the scratch holds the normed rows of the point's block. -/
theorem before (c : Dev nD) (t : Fin cfg0.N) (ht : t.val < 72) (h : ¬ t.val % 4 = 0) :
    (outsAt0 m c (t.val - 1) (Nat.lt_of_le_of_lt (Nat.sub_le _ _) t.isLt)).2 = held m c t :=
  (scratch m c _ _).trans (held_eq m c _ t (by dsimp only; omega) ht (by dsimp only; omega))

/-- The scale as a real number. -/
theorem scale_nonneg : 0 ≤ Ideal.ofBits .f32 0x3DD53B95#32 := by
  simp [Ideal.ofBits, Ideal.ieee, -EReal.coe_mul]
  try positivity

theorem scale_ne_top : Ideal.ofBits .f32 0x3DD53B95#32 ≠ ⊤ := by
  simp [Ideal.ofBits, Ideal.ieee, -EReal.coe_mul]

/-- A scale moved from two products over their sum. -/
theorem scaled (p q C S s : EReal) (h0 : 0 ≤ s) (h1 : s ≠ ⊤) : p * s * C + q * s * S = (p * C + q * S) * s := by
  rw [EReal.right_distrib_of_nonneg_of_ne_top h0 h1, mul_right_comm p, mul_right_comm q]

/-- The scaled product at a column that column `j` of the plain product is laid out at. -/
theorem core (c : Dev nD) (t : Fin cfg0.N) (ht : t.val < 72) (a : Fin 512) (n : Fin 1024) (j : Fin 3072)
    (hj : ∀ z : Fin 1024, weight (m ((c : Thread nD τ).loc main_arg4)) (ix3 0 z (⟨t.val % 4 * 1024 + n.val, by omega⟩ : Fin 4096))
      = m ((c : Thread nD τ).loc main_arg4) (ix3 0 z j)) :
    k0_pay5 (F := Ideal) (held m c t) (iblk m c 3 t) (ix2 a n)
      = product (m ((c : Thread nD τ).loc main_arg0)) (m ((c : Thread nD τ).loc main_arg3)) (m ((c : Thread nD τ).loc main_arg4))
        (ix2 (⟨t.val / 4 * 512 + a.val, by omega⟩ : Fin 9216) j) * Ideal.ofBits .f32 0x3DD53B95#32 := by
  rw [pay5_at, product_at]
  refine congrArg (· * _) (Finset.sum_congr rfl fun z _ => ?_)
  rw [held_at m c t ht, block3, V_v12, hj]

/-- The rotated columns of a block, from the scaled product at two columns. -/
theorem rotating (c : Dev nD) (t : Fin cfg0.N) (ht : t.val < 72) (a : Fin 512) (n n' : Fin 1024) (h : Fin 16) (k : Fin 64)
    (i i' : Fin 128) (hn : t.val % 4 * 1024 + n.val = h.val * 256 + 128 + k.val)
    (hn' : t.val % 4 * 1024 + n'.val = h.val * 256 + 192 + k.val) (hi : i.val = k.val) (hi' : i'.val = 64 + k.val) :
    k0_pay5 (F := Ideal) (held m c t) (iblk m c 3 t) (ix2 a n) * k0_pay6 (F := Ideal) (iblk m c 2 t) (ix2 a i)
      + k0_pay5 (F := Ideal) (held m c t) (iblk m c 3 t) (ix2 a n') * k0_pay6 (F := Ideal) (iblk m c 2 t) (ix2 a i')
      = turned (m ((c : Thread nD τ).loc main_arg0)) (m ((c : Thread nD τ).loc main_arg1)) (m ((c : Thread nD τ).loc main_arg2))
          (m ((c : Thread nD τ).loc main_arg3)) (m ((c : Thread nD τ).loc main_arg4))
          (⟨t.val / 4 * 512 + a.val, by omega⟩ : Fin 9216) h k * Ideal.ofBits .f32 0x3DD53B95#32 := by
  have hr : ((if t.val / 4 < 16 then t.val / 4 % 4 else 4) * 512 + a.val)
      = if t.val / 4 * 512 + a.val < 8192 then (t.val / 4 * 512 + a.val) % 2048 else 2048 + (t.val / 4 * 512 + a.val) % 512 := by
    split_ifs <;> omega
  rw [core m c t ht a n (⟨h.val * 192 + 128 + k.val, by omega⟩ : Fin 3072) (fun z => weight_same _ z _ h k hn), core m c t ht a n' (⟨h.val * 192 + 128 + (source k).val, by omega⟩ : Fin 3072) (fun z => weight_partner _ z _ h k hn'),
    pay6_at, pay6_at, block2 m c t ht, block2 m c t ht, V_v27, table_cos _ _ _ _ k hi _ hr, table_sin _ _ _ _ k hi' _ hr,
    scaled _ _ _ _ _ scale_nonneg scale_ne_top]
  rfl

theorem emb (t : Fin cfg0.N) (ht : t.val < 72) (y : S512x1024.Idx) : ((cfg0.win 4).blk t).view.emb y
    = ix2 (⟨t.val / 4 * 512 + (y 0).val, by have h : (y 0).val < 512 := (y 0).isLt; omega⟩ : Fin 9216)
        (⟨t.val % 4 * 1024 + (y 1).val, by have h : (y 1).val < 1024 := (y 1).isLt; omega⟩ : Fin 4096) := by
  funext a
  fin_cases a <;> (apply Fin.ext; blk_simp [idx t]; rfl)

/-- The slots of a block are the reference's there. -/
theorem point (c : Dev nD) (t : Fin cfg0.N) (ht : t.val < 72) (y : S512x1024.Idx) :
    slot (k0_pay5 (held m c t) (iblk m c 3 t)) (k0_pay6 (iblk m c 2 t)) y
      = queries (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 4).blk t).view.emb y) := by
  have hy : (y 1).val < 1024 := (y 1).isLt
  have ey : y = ix2 (y 0) (y 1) := by funext a; fin_cases a <;> rfl
  rw [emb t ht]
  refine Eq.trans ?_ (queries_at _ _ _ _ _ _ _).symm
  unfold slot
  by_cases h : (y 1).val % 256 < 128
  · rw [dif_pos h, dif_pos (by dsimp only; omega)]
    refine (congrArg _ ey).trans ((core m c t ht (y 0) (y 1) (⟨(t.val % 4 * 1024 + (y 1).val) / 256 * 192 + (t.val % 4 * 1024 + (y 1).val) % 256, by omega⟩ : Fin 3072)
      fun z => weight_plain _ z _ _ (by dsimp only; omega) rfl).trans ?_)
    rfl
  · rw [dif_neg h, dif_neg (by dsimp only; omega)]
    by_cases h' : (y 1).val % 256 < 192
    · have el : (⟨(y 1).val / 256 * 256 + 128 + ((y 1).val % 256 - 64) % 128, by omega⟩ : Fin 1024)
          = ⟨(y 1).val + 64, by omega⟩ := Fin.ext (by dsimp only; omega)
      refine (congrArg₂ (· + ·) (congrArg (· * _) (congrArg _ ey)) rfl).trans ?_
      exact rotating m c t ht (y 0) (y 1) _ _ _ _ _ (by dsimp only; omega) (by dsimp only; omega) (by dsimp only; omega) (by dsimp only; omega)
    · refine (add_comm _ _).trans ?_
      refine (congrArg₂ (· + ·) rfl (congrArg (· * _) (congrArg _ ey))).trans ?_
      exact rotating m c t ht (y 0) _ (y 1) _ _ _ _ (by dsimp only; omega) (by dsimp only; omega) (by dsimp only; omega) (by dsimp only; omega)

/-- The result after the run is the reference's. -/
theorem final (c : Dev nD) : (dats m 0 c).arrAt 4 cfg0.N = queries (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 4 _ (by decide +kernel) fun t _ y => ?_
  have ht : t.val < 72 := lt_of_lt_of_eq t.isLt (by decide)
  blk_simp
  rw [after0_4]
  refine Eq.trans ?_ (point m c t ht y)
  by_cases h : t.val % 4 = 0
  · rw [outsAt0_A m c t h]
    frame_out
    canon_tiles x h
    case piece0 => exact high (k0_pay5 (held m c t) (iblk m c 3 t)) (k0_pay6 (iblk m c 2 t)) 896 3 _ x y (by omega) (by omega) (by omega)
    case piece1 => exact low (k0_pay5 (held m c t) (iblk m c 3 t)) (k0_pay6 (iblk m c 2 t)) 768 3 _ x y (by omega) (by omega) (by omega)
    case piece2 => exact high (k0_pay5 (held m c t) (iblk m c 3 t)) (k0_pay6 (iblk m c 2 t)) 640 2 _ x y (by omega) (by omega) (by omega)
    case piece3 => exact low (k0_pay5 (held m c t) (iblk m c 3 t)) (k0_pay6 (iblk m c 2 t)) 512 2 _ x y (by omega) (by omega) (by omega)
    case piece4 => exact high (k0_pay5 (held m c t) (iblk m c 3 t)) (k0_pay6 (iblk m c 2 t)) 384 1 _ x y (by omega) (by omega) (by omega)
    case piece5 => exact low (k0_pay5 (held m c t) (iblk m c 3 t)) (k0_pay6 (iblk m c 2 t)) 256 1 _ x y (by omega) (by omega) (by omega)
    case piece6 => exact high (k0_pay5 (held m c t) (iblk m c 3 t)) (k0_pay6 (iblk m c 2 t)) 128 0 _ x y (by omega) (by omega) (by omega)
    case piece7 => exact low (k0_pay5 (held m c t) (iblk m c 3 t)) (k0_pay6 (iblk m c 2 t)) 0 0 _ x y (by omega) (by omega) (by omega)
  · rw [outsAt0_B m c t h]
    frame_out
    rw [Idealize.ShloMosaic.read_unread_whole, before m c t ht h]
    canon_tiles x h
    case piece0 => exact high (k0_pay5 (held m c t) (iblk m c 3 t)) (k0_pay6 (iblk m c 2 t)) 896 3 _ x y (by omega) (by omega) (by omega)
    case piece1 => exact low (k0_pay5 (held m c t) (iblk m c 3 t)) (k0_pay6 (iblk m c 2 t)) 768 3 _ x y (by omega) (by omega) (by omega)
    case piece2 => exact high (k0_pay5 (held m c t) (iblk m c 3 t)) (k0_pay6 (iblk m c 2 t)) 640 2 _ x y (by omega) (by omega) (by omega)
    case piece3 => exact low (k0_pay5 (held m c t) (iblk m c 3 t)) (k0_pay6 (iblk m c 2 t)) 512 2 _ x y (by omega) (by omega) (by omega)
    case piece4 => exact high (k0_pay5 (held m c t) (iblk m c 3 t)) (k0_pay6 (iblk m c 2 t)) 384 1 _ x y (by omega) (by omega) (by omega)
    case piece5 => exact low (k0_pay5 (held m c t) (iblk m c 3 t)) (k0_pay6 (iblk m c 2 t)) 256 1 _ x y (by omega) (by omega) (by omega)
    case piece6 => exact high (k0_pay5 (held m c t) (iblk m c 3 t)) (k0_pay6 (iblk m c 2 t)) 128 0 _ x y (by omega) (by omega) (by omega)
    case piece7 => exact low (k0_pay5 (held m c t) (iblk m c 3 t)) (k0_pay6 (iblk m c 2 t)) 0 0 _ x y (by omega) (by omega) (by omega)

end Cert.QProjIdeal.Final

end
-- ==== Proof.AdalnValue.lean ====
/- What the modulation's kernel leaves in its result. -/
module

public import proofs.«01_k».proof.Proof.Gen.AdalnIdeal.Value
public import proofs.«01_k».proof.Proof.Gen.AdalnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdalnIdeal.Final

open Cert.AdalnIdeal Cert.AdalnIdeal.Gen

variable (m : (ℓ : Loc nD τ sig) → Buf (Elt Ideal) ℓ)

/-- The conditions: the samples', the context's, and rows of zeros. -/
def cond (x : FVec Ideal S4x4096 .f32) (z : FVec Ideal S4096 .f32) : FVec Ideal S8x4096 .f32 :=
  concatenate S8x4096 0 [⟨S4x4096, x⟩, ⟨S1x4096, broadcastInDim S1x4096 ![1] bcast_S4096_S1x4096_1 z⟩,
    ⟨S3x4096, broadcastInDim S3x4096 ![] bcast_S_S3x4096 (constant S_ .f32 0x00000000#32)⟩] concatenates_S4x4096_S1x4096_S3x4096_S8x4096_d0

/-- The condition times its logistic. -/
def silu (x : FVec Ideal S8x4096 .f32) : FVec Ideal S8x4096 .f32 :=
  mulf x (Host.divf (broadcastInDim S8x4096 ![] Cert.AdalnRefIdeal.Gen.bcast_S_S8x4096 (constant S_ .f32 0x3F800000#32))
    (addf (broadcastInDim S8x4096 ![] Cert.AdalnRefIdeal.Gen.bcast_S_S8x4096 (constant S_ .f32 0x3F800000#32)) (Host.exp (Host.negf x))))

/-- Both products and the bias. -/
def vectors (x : FVec Ideal S8x4096 .f32) (a : FVec Ideal S4x4096x256 .f32) (w : FVec Ideal S4x256x24576 .f32)
    (b : FVec Ideal S4x24576 .f32) : FVec Ideal S4x8x24576 .f32 :=
  addf (Host.dotGeneral Cert.AdalnRefIdeal.dot_S4x8x256_S4x256x24576_S4x8x24576_2_1_1_2_0_0 none
    (extf .f32 (truncf .bf16 (transpose Cert.AdalnRefIdeal.S4x8x256 [0, 2, 1] (Host.dotGeneral Cert.AdalnRefIdeal.dot_S4x4096x256_S8x4096_S4x256x8_1_1_02_0_n_n none
      (extf .f32 (truncf .bf16 a Cert.AdalnRefIdeal.Gen.bitsLt_bf16_f32) Cert.AdalnRefIdeal.Gen.bitsLt_bf16_f32)
      (extf .f32 (truncf .bf16 (silu x) Cert.AdalnRefIdeal.Gen.bitsLt_bf16_f32) Cert.AdalnRefIdeal.Gen.bitsLt_bf16_f32))
      Cert.AdalnRefIdeal.Gen.transposes_S4x256x8_S4x8x256_0_2_1) Cert.AdalnRefIdeal.Gen.bitsLt_bf16_f32) Cert.AdalnRefIdeal.Gen.bitsLt_bf16_f32)
    (extf .f32 (truncf .bf16 w Cert.AdalnRefIdeal.Gen.bitsLt_bf16_f32) Cert.AdalnRefIdeal.Gen.bitsLt_bf16_f32))
    (broadcastInDim S4x8x24576 ![0, 1, 2] Cert.AdalnRefIdeal.Gen.bcast_S4x1x24576_S4x8x24576_0_1_2
      (broadcastInDim S4x1x24576 ![0, 2] Cert.AdalnRefIdeal.Gen.bcast_S4x24576_S4x1x24576_0_2 b))

theorem vectors_at (x a w b) (l : Fin 4) (r : Fin 8) (n : Fin 24576) : vectors x a w b (ix3 l r n)
    = (∑ k : Fin 256, (∑ z : Fin 4096, a (ix3 l z k) * silu x (ix2 r z)) * w (ix3 l k n)) + b (ix2 l n) := by
  pointwise [vectors]

theorem idx : ∀ t : Fin cfg0.N, win0_0.index t = ![0, 0]
    ∧ win0_1.index t = ![t.val / 6, 0, 0]
    ∧ win0_2.index t = ![t.val / 6, 0, t.val % 6]
    ∧ win0_3.index t = ![t.val / 6, 0, t.val % 6]
    ∧ win0_4.index t = ![t.val / 6, 0, t.val % 6] :=
  (by decide +kernel : ∀ t : Fin grid0.N, win0_0.index t = ![0, 0]
    ∧ win0_1.index t = ![t.val / 6, 0, 0]
    ∧ win0_2.index t = ![t.val / 6, 0, t.val % 6]
    ∧ win0_3.index t = ![t.val / 6, 0, t.val % 6]
    ∧ win0_4.index t = ![t.val / 6, 0, t.val % 6])

set_option maxHeartbeats 2000000 in
theorem V_v2 (c : Dev nD) : V m c main_v2 = cond (m ((c : Thread nD τ).loc main_arg0)) (m ((c : Thread nD τ).loc main_arg1)) := by
  unfold V
  after_results
  try rfl

def lowA (a : FVec Ideal S4x4096x256 .f32) : FVec Ideal S4x4096x256 .bf16 := truncf .bf16 a bitsLt_bf16_f32

def lowB (a : FVec Ideal S4x256x24576 .f32) : FVec Ideal S4x256x24576 .bf16 := truncf .bf16 a bitsLt_bf16_f32

def row (a : FVec Ideal S4x24576 .f32) : FVec Ideal S4x1x24576 .f32 := broadcastInDim S4x1x24576 ![0, 2] bcast_S4x24576_S4x1x24576_0_2 a

set_option maxHeartbeats 2000000 in
theorem V_v3 (c : Dev nD) : V m c main_v3 = lowA (m ((c : Thread nD τ).loc main_arg2)) := by
  unfold V
  after_results
  try rfl

set_option maxHeartbeats 2000000 in
theorem V_v4 (c : Dev nD) : V m c main_v4 = lowB (m ((c : Thread nD τ).loc main_arg3)) := by
  unfold V
  after_results
  try rfl

set_option maxHeartbeats 2000000 in
theorem V_v5 (c : Dev nD) : V m c main_v5 = row (m ((c : Thread nD τ).loc main_arg4)) := by
  unfold V
  after_results
  try rfl

theorem pay1_at (x a w b) (u : Fin 1) (r : Fin 8) (n : Fin 4096) : k0_pay1 (F := Ideal) x a w b (ix3 u r n)
    = (∑ k : Fin 256, (∑ z : Fin 4096, silu x (ix2 r z) * a (ix3 0 z k)) * w (ix3 0 k n)) + b (ix3 0 0 n) := by
  pointwise [k0_pay1, silu]
  rfl

theorem count (t : Fin cfg0.N) : t.val < 24 := lt_of_lt_of_eq t.isLt (show cfg0.N = 24 from N_0)

/-- The layer of a step. -/
def layer (t : Fin cfg0.N) : Fin 4 := ⟨t.val / 6, by have := count t; omega⟩

/-- The column of the array that a step's column is. -/
def col (t : Fin cfg0.N) (n : Fin 4096) : Fin 24576 := ⟨t.val % 6 * 4096 + n.val, by omega⟩

theorem blk0 (c : Dev nD) (t : Fin cfg0.N) : iblk m c 0 t = cond (m ((c : Thread nD τ).loc main_arg0)) (m ((c : Thread nD τ).loc main_arg1)) := by
  funext y
  unfold iblk
  show V m c main_v2 _ = _
  rw [V_v2]
  generalize cond (m ((c : Thread nD τ).loc main_arg0)) (m ((c : Thread nD τ).loc main_arg1)) = X
  blk_point [idx t]

theorem blk1 (c : Dev nD) (t : Fin cfg0.N) (z : Fin 4096) (k : Fin 256) : iblk m c 1 t (ix3 0 z k) = (m ((c : Thread nD τ).loc main_arg2)) (ix3 (layer t) z k) := by
  unfold iblk
  show V m c main_v3 _ = _
  rw [V_v3]
  show (m ((c : Thread nD τ).loc main_arg2)) _ = _
  unfold layer
  blk_point [idx t]

theorem blk2 (c : Dev nD) (t : Fin cfg0.N) (k : Fin 256) (n : Fin 4096) : iblk m c 2 t (ix3 0 k n) = (m ((c : Thread nD τ).loc main_arg3)) (ix3 (layer t) k (col t n)) := by
  unfold iblk
  show V m c main_v4 _ = _
  rw [V_v4]
  show (m ((c : Thread nD τ).loc main_arg3)) _ = _
  unfold layer col
  blk_point [idx t]

theorem blk3 (c : Dev nD) (t : Fin cfg0.N) (n : Fin 4096) : iblk m c 3 t (ix3 0 0 n) = (m ((c : Thread nD τ).loc main_arg4)) (ix2 (layer t) (col t n)) := by
  unfold iblk
  show V m c main_v5 _ = _
  rw [V_v5]
  unfold layer col
  pointwise [row]
  blk_point [idx t]

theorem point (c : Dev nD) (t : Fin cfg0.N) (u : Fin 1) (r : Fin 8) (n : Fin 4096) : k0_pay1 (iblk m c 0 t) (iblk m c 1 t) (iblk m c 2 t) (iblk m c 3 t) (ix3 u r n)
    = vectors (cond (m ((c : Thread nD τ).loc main_arg0)) (m ((c : Thread nD τ).loc main_arg1))) (m ((c : Thread nD τ).loc main_arg2)) (m ((c : Thread nD τ).loc main_arg3)) (m ((c : Thread nD τ).loc main_arg4)) (ix3 (layer t) r (col t n)) := by
  refine (pay1_at _ _ _ _ u r n).trans (Eq.trans ?_ (vectors_at _ _ _ _ _ r _).symm)
  simp only [blk1, blk2, blk3]
  rw [blk0]
  refine congrArg₂ (· + ·) (Finset.sum_congr rfl fun k _ => congrArg₂ (· * ·) ?_ rfl) rfl
  exact Finset.sum_congr rfl fun z _ => mul_comm _ _

theorem place (c : Dev nD) (t : Fin cfg0.N) (y : S1x8x4096.Idx) : k0_pay1 (iblk m c 0 t) (iblk m c 1 t) (iblk m c 2 t) (iblk m c 3 t) y = vectors (cond (m ((c : Thread nD τ).loc main_arg0)) (m ((c : Thread nD τ).loc main_arg1))) (m ((c : Thread nD τ).loc main_arg2)) (m ((c : Thread nD τ).loc main_arg3)) (m ((c : Thread nD τ).loc main_arg4)) (((cfg0.win 4).blk t).view.emb y) := by
  obtain ⟨u, r, n, rfl⟩ : ∃ (u : Fin 1) (r : Fin 8) (n : Fin 4096), y = ix3 u r n := ⟨y 0, y 1, y 2, by funext a; fin_cases a <;> rfl⟩
  rw [point]
  generalize vectors (cond (m ((c : Thread nD τ).loc main_arg0)) (m ((c : Thread nD τ).loc main_arg1))) (m ((c : Thread nD τ).loc main_arg2)) (m ((c : Thread nD τ).loc main_arg3)) (m ((c : Thread nD τ).loc main_arg4)) = X
  unfold layer col
  blk_point [idx t]

/-- The result after the run is the modulation vectors. -/
theorem final (c : Dev nD) : (dats m 0 c).arrAt 4 cfg0.N = vectors (cond (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  frame_out
  exact place m c t y

end Cert.AdalnIdeal.Final

end
-- ==== Proof.ModulateValue.lean ====
/- What the first modulated norm leaves in its result: the norm, scaled and shifted, of each row. -/
module

public import proofs.«01_k».proof.Proof.Gen.ModulateIdeal.Value
public import proofs.«01_k».proof.Proof.Gen.ModulateRefIdeal.Run
public import proofs.«01_k».proof.Proof.Ff1RefRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModulateIdeal.Final

open Cert.ModulateIdeal Cert.ModulateIdeal.Gen
open Cert.Ff1RefIdeal (S8x4096 S1x1x8x1x4096 S_ S9216x1)
open Cert.Ff1RefIdeal.Read (spread spread_at normed normed_at invRms group)

variable (m : (ℓ : Loc nD τ sig) → Buf (Elt Ideal) ℓ)

def shiftRows (a : FVec Ideal S4x6x8x1x4096 .f32) : FVec Ideal S8x4096 .f32 :=
  shapeCast _ (extractStridedSlice S1x1x8x1x4096 ![0, 0, 0, 0, 0] a Cert.ModulateRefIdeal.Gen.slices_S4x6x8x1x4096_S1x1x8x1x4096_0_0_0_0_0)
    Cert.ModulateRefIdeal.Gen.shapeCasts_S1x1x8x1x4096_S8x4096

theorem shiftRows_at (a) (r : Fin 8) (k : Fin 4096) : shiftRows a (ix2 r k) = a (ix5 0 0 r 0 k) := by
  pointwise [shiftRows]

def scaleRows (a : FVec Ideal S4x6x8x1x4096 .f32) : FVec Ideal S8x4096 .f32 :=
  shapeCast _ (extractStridedSlice S1x1x8x1x4096 ![0, 1, 0, 0, 0] a Cert.ModulateRefIdeal.Gen.slices_S4x6x8x1x4096_S1x1x8x1x4096_0_1_0_0_0)
    Cert.ModulateRefIdeal.Gen.shapeCasts_S1x1x8x1x4096_S8x4096

theorem scaleRows_at (a) (r : Fin 8) (k : Fin 4096) : scaleRows a (ix2 r k) = a (ix5 0 1 r 0 k) := by
  pointwise [scaleRows]

/-- A row's norm, scaled and shifted by the row's vectors. -/
def modulated (x : FVec Ideal S9216x4096 .f32) (g : FVec Ideal S4x4096 .f32) (a : FVec Ideal S4x6x8x1x4096 .f32) :
    FVec Ideal S9216x4096 .bf16 :=
  truncf .bf16 (addf (mulf (normed x g) (addf (broadcastInDim S9216x4096 ![] Cert.ModulateRefIdeal.Gen.bcast_S_S9216x4096
    (constant S_ .f32 0x3F800000#32)) (spread (scaleRows a)))) (spread (shiftRows a))) bitsLt_bf16_f32

theorem modulated_at (x g a) (r : Fin 9216) (k : Fin 4096) :
    modulated x g a (ix2 r k) = x (ix2 r k) * invRms (fun k => x (ix2 r k)) * g (ix2 0 k)
        * (Ideal.ofBits .f32 0x3F800000#32 + a (ix5 0 1 (group r.val) 0 k)) + a (ix5 0 0 (group r.val) 0 k) := by
  unfold modulated
  show normed x g _ * (Ideal.ofBits .f32 0x3F800000#32 + spread (scaleRows a) _) + spread (shiftRows a) _ = _
  rw [spread_at, spread_at, scaleRows_at, shiftRows_at, normed_at]

theorem idx : ∀ t : Fin cfg0.N, win0_0.index t = ![t.val, 0]
    ∧ win0_1.index t = ![0, 0, 0]
    ∧ win0_2.index t = ![0, 0, min (t.val / 8) 4, 0, 0]
    ∧ win0_3.index t = ![0, 1, min (t.val / 8) 4, 0, 0]
    ∧ win0_4.index t = ![t.val, 0] :=
  (by decide +kernel : ∀ t : Fin grid0.N, win0_0.index t = ![t.val, 0]
    ∧ win0_1.index t = ![0, 0, 0]
    ∧ win0_2.index t = ![0, 0, min (t.val / 8) 4, 0, 0]
    ∧ win0_3.index t = ![0, 1, min (t.val / 8) 4, 0, 0]
    ∧ win0_4.index t = ![t.val, 0])

theorem pay1_at (x) (g) (sc) (sh) (r : Fin 256) (k : Fin 4096) : k0_pay1 (F := Ideal) x g sc sh (ix2 r k)
    = x (ix2 r k) * invRms (fun k => x (ix2 r k)) * g (ix3 0 0 k)
        * (Ideal.ofBits .f32 0x3F800000#32 + sc (ix5 0 0 0 0 k)) + sh (ix5 0 0 0 0 k) := by
  pointwise [k0_pay1]
  unfold invRms
  rfl

set_option maxHeartbeats 2000000 in
theorem V_v0 (c : Dev nD) : V m c main_v0 = broadcastInDim S4x1x4096 ![0, 2] bcast_S4x4096_S4x1x4096_0_2 (m ((c : Thread nD τ).loc main_arg1)) := by
  unfold V
  after_results
  try rfl

/-- The row of the array that row `r` of step `t`'s tile is. -/
def rowOf (t : Fin cfg0.N) (r : Fin 256) : Fin 9216 := ⟨t.val * 256 + r.val, by
  have : t.val < 36 := lt_of_lt_of_eq t.isLt (show cfg0.N = 36 from N_0)
  omega⟩

theorem blk_x (c : Dev nD) (t : Fin cfg0.N) (r : Fin 256) (k : Fin 4096) :
    iblk m c 0 t (ix2 r k) = m ((c : Thread nD τ).loc main_arg0) (ix2 (rowOf t r) k) := by
  unfold rowOf
  blk_point [iblk, V, idx t]

theorem blk_g (c : Dev nD) (t : Fin cfg0.N) (k : Fin 4096) :
    iblk m c 1 t (ix3 0 0 k) = m ((c : Thread nD τ).loc main_arg1) (ix2 0 k) := by
  unfold iblk
  show V m c main_v0 _ = _
  rw [V_v0]
  pointwise
  blk_point [idx t]

theorem blk_shift (c : Dev nD) (t : Fin cfg0.N) (r : Fin 256) (k : Fin 4096) :
    iblk m c 2 t (ix5 0 0 0 0 k) = m ((c : Thread nD τ).loc main_arg2) (ix5 0 0 (group (rowOf t r).val) 0 k) := by
  unfold rowOf group
  blk_point [iblk, V, idx t]

theorem blk_scale (c : Dev nD) (t : Fin cfg0.N) (r : Fin 256) (k : Fin 4096) :
    iblk m c 3 t (ix5 0 0 0 0 k) = m ((c : Thread nD τ).loc main_arg2) (ix5 0 1 (group (rowOf t r).val) 0 k) := by
  unfold rowOf group
  blk_point [iblk, V, idx t]

theorem point (c : Dev nD) (t : Fin cfg0.N) (r : Fin 256) (k : Fin 4096) :
    k0_pay1 (iblk m c 0 t) (iblk m c 1 t) (iblk m c 3 t) (iblk m c 2 t) (ix2 r k) = modulated (m ((c : Thread nD τ).loc main_arg0)) (m ((c : Thread nD τ).loc main_arg1)) (m ((c : Thread nD τ).loc main_arg2)) (ix2 (rowOf t r) k) := by
  refine (pay1_at _ _ _ _ r k).trans (Eq.trans ?_ (modulated_at _ _ _ (rowOf t r) k).symm)
  simp only [blk_x, blk_g, blk_shift m c t r, blk_scale m c t r]

theorem place (c : Dev nD) (t : Fin cfg0.N) (y : S256x4096.Idx) :
    k0_pay1 (iblk m c 0 t) (iblk m c 1 t) (iblk m c 3 t) (iblk m c 2 t) y = modulated (m ((c : Thread nD τ).loc main_arg0)) (m ((c : Thread nD τ).loc main_arg1)) (m ((c : Thread nD τ).loc main_arg2)) (((cfg0.win 4).blk t).view.emb y) := by
  obtain ⟨r, k, rfl⟩ : ∃ (r : Fin 256) (k : Fin 4096), y = ix2 r k := ⟨y 0, y 1, by funext a; fin_cases a <;> rfl⟩
  rw [point]
  generalize modulated (m ((c : Thread nD τ).loc main_arg0)) (m ((c : Thread nD τ).loc main_arg1)) (m ((c : Thread nD τ).loc main_arg2)) = X
  unfold rowOf
  blk_point [idx t]

/-- The result after the run is the modulated norm. -/
theorem final (c : Dev nD) : (dats m 0 c).arrAt 4 cfg0.N = modulated (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact place m c t y

end Cert.ModulateIdeal.Final

end
-- ==== Proof.ResidualValue.lean ====
/- What the last residual leaves in its result. -/
module

public import proofs.«01_k».proof.Proof.Gen.ResidualIdeal.Value
public import proofs.«01_k».proof.Proof.Gen.ResidualRefIdeal.Run
public import proofs.«01_k».proof.Proof.Ff1RefRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidualIdeal.Final

open Cert.ResidualIdeal Cert.ResidualIdeal.Gen
open Cert.Ff1RefIdeal (S8x4096 S1x1x8x1x4096)
open Cert.Ff1RefIdeal.Read (invRms)

variable (m : (ℓ : Loc nD τ sig) → Buf (Elt Ideal) ℓ)

def gateRows (a : FVec Ideal S4x6x8x1x4096 .f32) : FVec Ideal S8x4096 .f32 :=
  shapeCast _ (extractStridedSlice S1x1x8x1x4096 ![3, 5, 0, 0, 0] a Cert.ResidualRefIdeal.Gen.slices_S4x6x8x1x4096_S1x1x8x1x4096_3_5_0_0_0)
    Cert.ResidualRefIdeal.Gen.shapeCasts_S1x1x8x1x4096_S8x4096

theorem gateRows_at (a) (r : Fin 8) (k : Fin 4096) : gateRows a (ix2 r k) = a (ix5 3 5 r 0 k) := by
  pointwise [gateRows]

/-- The latent tokens' residual after the last feed-forward. -/
def resid (t : FVec Ideal S9216x4096 .f32) (y : FVec Ideal S8192x4096 .bf16) (g : FVec Ideal S4x4096 .f32)
    (a : FVec Ideal S4x6x8x1x4096 .f32) : FVec Ideal S8192x4096 .f32 :=
  addf (extractStridedSlice S8192x4096 ![0, 0] t Cert.ResidualRefIdeal.Gen.slices_S9216x4096_S8192x4096_0_0)
    (mulf (shapeCast _ (broadcastInDim Cert.ResidualRefIdeal.S4x2048x4096 ![0, 1, 2] Cert.ResidualRefIdeal.Gen.bcast_S4x1x4096_S4x2048x4096_0_1_2
      (broadcastInDim S4x1x4096 ![0, 2] Cert.ResidualRefIdeal.Gen.bcast_S4x4096_S4x1x4096_0_2 (extractStridedSlice S4x4096 ![0, 0] (gateRows a)
        Cert.ResidualRefIdeal.Gen.slices_S8x4096_S4x4096_0_0))) Cert.ResidualRefIdeal.Gen.shapeCasts_S4x2048x4096_S8192x4096)
    (mulf (mulf (extf .f32 y bitsLt_bf16_f32) (broadcastInDim S8192x4096 ![0, 1] Cert.ResidualRefIdeal.Gen.bcast_S8192x1_S8192x4096_0_1 (Host.rsqrt (addf (Host.divf
      (broadcastInDim Cert.ResidualRefIdeal.S8192x1 ![0] Cert.ResidualRefIdeal.Gen.bcast_S8192_S8192x1_0 (Host.reduceAdd (mulf (extf .f32 y bitsLt_bf16_f32)
        (extf .f32 y bitsLt_bf16_f32)) (constant Cert.ResidualRefIdeal.S_ .f32 0x00000000#32) Cert.ResidualRefIdeal.Gen.reducesTo_S8192x4096_S8192_d1 Cert.ResidualRefIdeal.Gen.h_S_))
      (broadcastInDim Cert.ResidualRefIdeal.S8192x1 ![] Cert.ResidualRefIdeal.Gen.bcast_S_S8192x1 (constant Cert.ResidualRefIdeal.S_ .f32 0x45800000#32)))
      (broadcastInDim Cert.ResidualRefIdeal.S8192x1 ![] Cert.ResidualRefIdeal.Gen.bcast_S_S8192x1 (constant Cert.ResidualRefIdeal.S_ .f32 0x358637BD#32))))))
    (broadcastInDim S8192x4096 ![0, 1] Cert.ResidualRefIdeal.Gen.bcast_S1x4096_S8192x4096_0_1 (broadcastInDim S1x4096 ![1] Cert.ResidualRefIdeal.Gen.bcast_S4096_S1x4096_1
      (shapeCast _ (extractStridedSlice S1x4096 ![3, 0] g Cert.ResidualRefIdeal.Gen.slices_S4x4096_S1x4096_3_0) Cert.ResidualRefIdeal.Gen.shapeCasts_S1x4096_S4096)))))

/-- The sample of a row. -/
def sample (r : Fin 8192) : Fin 8 := ⟨r.val / 2048, by omega⟩

theorem resid_at (t y g a) (r : Fin 8192) (k : Fin 4096) :
    resid t y g a (ix2 r k) = t (ix2 ⟨r.val, by omega⟩ k)
      + a (ix5 3 5 (sample r) 0 k) * (y (ix2 r k) * invRms (fun k => y (ix2 r k)) * g (ix2 3 k)) := by
  pointwise [resid, gateRows, sample]
  unfold invRms
  rfl

theorem idx : ∀ t : Fin cfg0.N, win0_0.index t = ![t.val, 0]
    ∧ win0_1.index t = ![t.val, 0]
    ∧ win0_2.index t = ![3, 0, 0]
    ∧ win0_3.index t = ![3, 5, t.val / 8, 0, 0]
    ∧ win0_4.index t = ![t.val, 0] :=
  (by decide +kernel : ∀ t : Fin grid0.N, win0_0.index t = ![t.val, 0]
    ∧ win0_1.index t = ![t.val, 0]
    ∧ win0_2.index t = ![3, 0, 0]
    ∧ win0_3.index t = ![3, 5, t.val / 8, 0, 0]
    ∧ win0_4.index t = ![t.val, 0])

theorem pay1_at (x) (a) (y) (g) (r : Fin 256) (k : Fin 4096) : k0_pay1 (F := Ideal) x a y g (ix2 r k)
    = x (ix2 r k) + a (ix5 0 0 0 0 k) * (y (ix2 r k) * invRms (fun k => y (ix2 r k)) * g (ix3 0 0 k)) := by
  pointwise [k0_pay1]
  unfold invRms
  rfl

set_option maxHeartbeats 2000000 in
theorem V_v0 (c : Dev nD) : V m c main_v0 = broadcastInDim S4x1x4096 ![0, 2] bcast_S4x4096_S4x1x4096_0_2 (m ((c : Thread nD τ).loc main_arg2)) := by
  unfold V
  after_results
  try rfl

/-- The row of the array that row `r` of step `t`'s tile is. -/
def rowOf (t : Fin cfg0.N) (r : Fin 256) : Fin 8192 := ⟨t.val * 256 + r.val, by
  have : t.val < 32 := lt_of_lt_of_eq t.isLt (show cfg0.N = 32 from N_0)
  omega⟩

theorem blk_x (c : Dev nD) (t : Fin cfg0.N) (r : Fin 256) (k : Fin 4096) :
    iblk m c 0 t (ix2 r k) = m ((c : Thread nD τ).loc main_arg0) (ix2 ⟨(rowOf t r).val, by omega⟩ k) := by
  unfold rowOf
  blk_point [iblk, V, idx t]

theorem blk_y (c : Dev nD) (t : Fin cfg0.N) (r : Fin 256) (k : Fin 4096) :
    iblk m c 1 t (ix2 r k) = m ((c : Thread nD τ).loc main_arg1) (ix2 (rowOf t r) k) := by
  unfold rowOf
  blk_point [iblk, V, idx t]

theorem blk_g (c : Dev nD) (t : Fin cfg0.N) (k : Fin 4096) :
    iblk m c 2 t (ix3 0 0 k) = m ((c : Thread nD τ).loc main_arg2) (ix2 3 k) := by
  unfold iblk
  show V m c main_v0 _ = _
  rw [V_v0]
  pointwise
  blk_point [idx t]

theorem blk_gate (c : Dev nD) (t : Fin cfg0.N) (r : Fin 256) (k : Fin 4096) :
    iblk m c 3 t (ix5 0 0 0 0 k) = m ((c : Thread nD τ).loc main_arg3) (ix5 3 5 (sample (rowOf t r)) 0 k) := by
  unfold rowOf sample
  blk_point [iblk, V, idx t]

theorem point (c : Dev nD) (t : Fin cfg0.N) (r : Fin 256) (k : Fin 4096) :
    k0_pay1 (iblk m c 0 t) (iblk m c 3 t) (iblk m c 1 t) (iblk m c 2 t) (ix2 r k) = resid (m ((c : Thread nD τ).loc main_arg0)) (m ((c : Thread nD τ).loc main_arg1)) (m ((c : Thread nD τ).loc main_arg2)) (m ((c : Thread nD τ).loc main_arg3)) (ix2 (rowOf t r) k) := by
  refine (pay1_at _ _ _ _ r k).trans (Eq.trans ?_ (resid_at _ _ _ _ (rowOf t r) k).symm)
  simp only [blk_x, blk_y, blk_g, blk_gate m c t r]

theorem place (c : Dev nD) (t : Fin cfg0.N) (y : S256x4096.Idx) :
    k0_pay1 (iblk m c 0 t) (iblk m c 3 t) (iblk m c 1 t) (iblk m c 2 t) y = resid (m ((c : Thread nD τ).loc main_arg0)) (m ((c : Thread nD τ).loc main_arg1)) (m ((c : Thread nD τ).loc main_arg2)) (m ((c : Thread nD τ).loc main_arg3)) (((cfg0.win 4).blk t).view.emb y) := by
  obtain ⟨r, k, rfl⟩ : ∃ (r : Fin 256) (k : Fin 4096), y = ix2 r k := ⟨y 0, y 1, by funext a; fin_cases a <;> rfl⟩
  rw [point]
  generalize resid (m ((c : Thread nD τ).loc main_arg0)) (m ((c : Thread nD τ).loc main_arg1)) (m ((c : Thread nD τ).loc main_arg2)) (m ((c : Thread nD τ).loc main_arg3)) = X
  unfold rowOf
  blk_point [idx t]

/-- The result after the run is the residual. -/
theorem final (c : Dev nD) : (dats m 0 c).arrAt 4 cfg0.N = resid (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact place m c t y

end Cert.ResidualIdeal.Final

end
-- ==== Proof.ResModValue.lean ====
/- What the residual with the next modulated norm leaves in its two results. -/
module

public import proofs.«01_k».proof.Proof.Gen.ResModIdeal.Value
public import proofs.«01_k».proof.Proof.Gen.ResModRefIdeal.Run
public import proofs.«01_k».proof.Proof.Ff1RefRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResModIdeal.Final

open Cert.ResModIdeal Cert.ResModIdeal.Gen
open Cert.Ff1RefIdeal (S8x4096 S1x1x8x1x4096 S_ S9216x1)
open Cert.Ff1RefIdeal.Read (spread spread_at normed normed_at invRms group)

variable (m : (ℓ : Loc nD τ sig) → Buf (Elt Ideal) ℓ)

def gateRows (a : FVec Ideal S4x6x8x1x4096 .f32) : FVec Ideal S8x4096 .f32 :=
  shapeCast _ (extractStridedSlice S1x1x8x1x4096 ![0, 5, 0, 0, 0] a Cert.ResModRefIdeal.Gen.slices_S4x6x8x1x4096_S1x1x8x1x4096_0_5_0_0_0)
    Cert.ResModRefIdeal.Gen.shapeCasts_S1x1x8x1x4096_S8x4096

theorem gateRows_at (a) (r : Fin 8) (k : Fin 4096) : gateRows a (ix2 r k) = a (ix5 0 5 r 0 k) := by
  pointwise [gateRows]

def shiftRows (a : FVec Ideal S4x6x8x1x4096 .f32) : FVec Ideal S8x4096 .f32 :=
  shapeCast _ (extractStridedSlice S1x1x8x1x4096 ![1, 0, 0, 0, 0] a Cert.ResModRefIdeal.Gen.slices_S4x6x8x1x4096_S1x1x8x1x4096_1_0_0_0_0)
    Cert.ResModRefIdeal.Gen.shapeCasts_S1x1x8x1x4096_S8x4096

theorem shiftRows_at (a) (r : Fin 8) (k : Fin 4096) : shiftRows a (ix2 r k) = a (ix5 1 0 r 0 k) := by
  pointwise [shiftRows]

def scaleRows (a : FVec Ideal S4x6x8x1x4096 .f32) : FVec Ideal S8x4096 .f32 :=
  shapeCast _ (extractStridedSlice S1x1x8x1x4096 ![1, 1, 0, 0, 0] a Cert.ResModRefIdeal.Gen.slices_S4x6x8x1x4096_S1x1x8x1x4096_1_1_0_0_0)
    Cert.ResModRefIdeal.Gen.shapeCasts_S1x1x8x1x4096_S8x4096

theorem scaleRows_at (a) (r : Fin 8) (k : Fin 4096) : scaleRows a (ix2 r k) = a (ix5 1 1 r 0 k) := by
  pointwise [scaleRows]

/-- The residual after the feed-forward. -/
def resid (t : FVec Ideal S9216x4096 .f32) (y : FVec Ideal S9216x4096 .bf16) (g : FVec Ideal S4x4096 .f32)
    (a : FVec Ideal S4x6x8x1x4096 .f32) : FVec Ideal S9216x4096 .f32 :=
  addf t (mulf (spread (gateRows a)) (normed (extf .f32 y bitsLt_bf16_f32) g))

/-- A row over the root of its mean square, times the next layer's weight. -/
def normedNext (x : FVec Ideal S9216x4096 .f32) (g : FVec Ideal S4x4096 .f32) : FVec Ideal S9216x4096 .f32 :=
  mulf (mulf x (broadcastInDim S9216x4096 ![0, 1] Cert.ResModRefIdeal.Gen.bcast_S9216x1_S9216x4096_0_1 (Host.rsqrt (addf (Host.divf
      (broadcastInDim S9216x1 ![0] Cert.ResModRefIdeal.Gen.bcast_S9216_S9216x1_0 (Host.reduceAdd (mulf x x) (constant S_ .f32 0x00000000#32)
        Cert.ResModRefIdeal.Gen.reducesTo_S9216x4096_S9216_d1 Cert.ResModRefIdeal.Gen.h_S_))
      (broadcastInDim S9216x1 ![] Cert.ResModRefIdeal.Gen.bcast_S_S9216x1 (constant S_ .f32 0x45800000#32)))
      (broadcastInDim S9216x1 ![] Cert.ResModRefIdeal.Gen.bcast_S_S9216x1 (constant S_ .f32 0x358637BD#32))))))
    (broadcastInDim S9216x4096 ![0, 1] Cert.ResModRefIdeal.Gen.bcast_S1x4096_S9216x4096_0_1
      (broadcastInDim S1x4096 ![1] Cert.ResModRefIdeal.Gen.bcast_S4096_S1x4096_1
      (shapeCast _ (extractStridedSlice S1x4096 ![1, 0] g Cert.ResModRefIdeal.Gen.slices_S4x4096_S1x4096_1_0)
        Cert.ResModRefIdeal.Gen.shapeCasts_S1x4096_S4096)))

/-- The residual's norm, scaled and shifted. -/
def modulated (x : FVec Ideal S9216x4096 .f32) (g : FVec Ideal S4x4096 .f32) (a : FVec Ideal S4x6x8x1x4096 .f32) :
    FVec Ideal S9216x4096 .bf16 :=
  truncf .bf16 (addf (mulf (normedNext x g) (addf (broadcastInDim S9216x4096 ![] Cert.ResModRefIdeal.Gen.bcast_S_S9216x4096
    (constant S_ .f32 0x3F800000#32)) (spread (scaleRows a)))) (spread (shiftRows a))) bitsLt_bf16_f32

theorem res_eq (m : (ℓ : Loc Cert.ResModRefIdeal.nD Cert.ResModRefIdeal.τ Cert.ResModRefIdeal.sig) → Buf (Elt Ideal) ℓ)
    (c : Dev Cert.ResModRefIdeal.nD) : Cert.ResModRefIdeal.Value.res_main_v64 (F := Ideal) m c
    = modulated (resid (m ((c.tc : Thread _ _).loc Cert.ResModRefIdeal.main_arg0)) (m ((c.tc : Thread _ _).loc Cert.ResModRefIdeal.main_arg1))
        (m ((c.tc : Thread _ _).loc Cert.ResModRefIdeal.main_arg2)) (m ((c.tc : Thread _ _).loc Cert.ResModRefIdeal.main_arg3)))
        (m ((c.tc : Thread _ _).loc Cert.ResModRefIdeal.main_arg4)) (m ((c.tc : Thread _ _).loc Cert.ResModRefIdeal.main_arg3)) := by
  unfold Cert.ResModRefIdeal.Value.res_main_v64 modulated resid normedNext normed spread gateRows shiftRows scaleRows
  rfl

theorem resid_at (t y g a) (r : Fin 9216) (k : Fin 4096) :
    resid t y g a (ix2 r k) = t (ix2 r k) + a (ix5 0 5 (group r.val) 0 k) * (y (ix2 r k) * invRms (fun k => y (ix2 r k)) * g (ix2 0 k)) := by
  unfold resid
  show t _ + spread (gateRows a) _ * normed (extf .f32 y bitsLt_bf16_f32) g _ = _
  rw [spread_at, gateRows_at, normed_at]
  rfl

theorem normedNext_at (x) (g) (r : Fin 9216) (k : Fin 4096) :
    normedNext x g (ix2 r k) = x (ix2 r k) * invRms (fun k => x (ix2 r k)) * g (ix2 1 k) := by
  pointwise [normedNext]
  unfold invRms
  rfl

theorem modulated_at (x g a) (r : Fin 9216) (k : Fin 4096) :
    modulated x g a (ix2 r k) = x (ix2 r k) * invRms (fun k => x (ix2 r k)) * g (ix2 1 k)
        * (Ideal.ofBits .f32 0x3F800000#32 + a (ix5 1 1 (group r.val) 0 k)) + a (ix5 1 0 (group r.val) 0 k) := by
  unfold modulated
  show normedNext x g _ * (Ideal.ofBits .f32 0x3F800000#32 + spread (scaleRows a) _) + spread (shiftRows a) _ = _
  rw [spread_at, spread_at, scaleRows_at, shiftRows_at, normedNext_at]

theorem idx : ∀ t : Fin cfg0.N, win0_0.index t = ![t.val, 0]
    ∧ win0_1.index t = ![t.val, 0]
    ∧ win0_2.index t = ![0, 0, 0]
    ∧ win0_3.index t = ![0, 5, min (t.val / 8) 4, 0, 0]
    ∧ win0_4.index t = ![1, 0, 0]
    ∧ win0_5.index t = ![1, 0, min (t.val / 8) 4, 0, 0]
    ∧ win0_6.index t = ![1, 1, min (t.val / 8) 4, 0, 0]
    ∧ win0_7.index t = ![t.val, 0]
    ∧ win0_8.index t = ![t.val, 0] :=
  (by decide +kernel : ∀ t : Fin grid0.N, win0_0.index t = ![t.val, 0]
    ∧ win0_1.index t = ![t.val, 0]
    ∧ win0_2.index t = ![0, 0, 0]
    ∧ win0_3.index t = ![0, 5, min (t.val / 8) 4, 0, 0]
    ∧ win0_4.index t = ![1, 0, 0]
    ∧ win0_5.index t = ![1, 0, min (t.val / 8) 4, 0, 0]
    ∧ win0_6.index t = ![1, 1, min (t.val / 8) 4, 0, 0]
    ∧ win0_7.index t = ![t.val, 0]
    ∧ win0_8.index t = ![t.val, 0])

theorem pay2_at (x) (a) (y) (g) (r : Fin 256) (k : Fin 4096) : k0_pay2 (F := Ideal) x a y g (ix2 r k)
    = x (ix2 r k) + a (ix5 0 0 0 0 k) * (y (ix2 r k) * invRms (fun k => y (ix2 r k)) * g (ix3 0 0 k)) := by
  pointwise [k0_pay2]
  unfold invRms
  rfl

theorem pay1_at (x) (a) (y) (gp) (g) (sc) (sh) (r : Fin 256) (k : Fin 4096) :
    k0_pay1 (F := Ideal) (k0_pay3 g) (k0_pay4 x a y gp) sc sh (ix2 r k)
    = k0_pay2 x a y gp (ix2 r k) * invRms (fun k => k0_pay2 x a y gp (ix2 r k)) * g (ix3 0 0 k)
        * (Ideal.ofBits .f32 0x3F800000#32 + sc (ix5 0 0 0 0 k)) + sh (ix5 0 0 0 0 k) := by
  unfold k0_pay4
  generalize k0_pay2 x a y gp = X
  pointwise [k0_pay1, k0_pay3]
  unfold invRms
  rfl

set_option maxHeartbeats 2000000 in
theorem V_v0 (c : Dev nD) : V m c main_v0 = broadcastInDim S4x1x4096 ![0, 2] bcast_S4x4096_S4x1x4096_0_2 (m ((c : Thread nD τ).loc main_arg2)) := by
  unfold V
  after_results
  try rfl

set_option maxHeartbeats 2000000 in
theorem V_v1 (c : Dev nD) : V m c main_v1 = broadcastInDim S4x1x4096 ![0, 2] bcast_S4x4096_S4x1x4096_0_2 (m ((c : Thread nD τ).loc main_arg4)) := by
  unfold V
  after_results
  try rfl

/-- The row of the array that row `r` of step `t`'s tile is. -/
def rowOf (t : Fin cfg0.N) (r : Fin 256) : Fin 9216 := ⟨t.val * 256 + r.val, by
  have : t.val < 36 := lt_of_lt_of_eq t.isLt (show cfg0.N = 36 from N_0)
  omega⟩

theorem blk_x (c : Dev nD) (t : Fin cfg0.N) (r : Fin 256) (k : Fin 4096) :
    iblk m c 0 t (ix2 r k) = m ((c : Thread nD τ).loc main_arg0) (ix2 (rowOf t r) k) := by
  unfold rowOf
  blk_point [iblk, V, idx t]

theorem blk_y (c : Dev nD) (t : Fin cfg0.N) (r : Fin 256) (k : Fin 4096) :
    iblk m c 1 t (ix2 r k) = m ((c : Thread nD τ).loc main_arg1) (ix2 (rowOf t r) k) := by
  unfold rowOf
  blk_point [iblk, V, idx t]

theorem blk_gpost (c : Dev nD) (t : Fin cfg0.N) (k : Fin 4096) :
    iblk m c 2 t (ix3 0 0 k) = m ((c : Thread nD τ).loc main_arg2) (ix2 0 k) := by
  unfold iblk
  show V m c main_v0 _ = _
  rw [V_v0]
  pointwise
  blk_point [idx t]

theorem blk_gpre (c : Dev nD) (t : Fin cfg0.N) (k : Fin 4096) :
    iblk m c 4 t (ix3 0 0 k) = m ((c : Thread nD τ).loc main_arg4) (ix2 1 k) := by
  unfold iblk
  show V m c main_v1 _ = _
  rw [V_v1]
  pointwise
  blk_point [idx t]

theorem blk_gate (c : Dev nD) (t : Fin cfg0.N) (r : Fin 256) (k : Fin 4096) :
    iblk m c 3 t (ix5 0 0 0 0 k) = m ((c : Thread nD τ).loc main_arg3) (ix5 0 5 (group (rowOf t r).val) 0 k) := by
  unfold rowOf group
  blk_point [iblk, V, idx t]

theorem blk_shift (c : Dev nD) (t : Fin cfg0.N) (r : Fin 256) (k : Fin 4096) :
    iblk m c 5 t (ix5 0 0 0 0 k) = m ((c : Thread nD τ).loc main_arg3) (ix5 1 0 (group (rowOf t r).val) 0 k) := by
  unfold rowOf group
  blk_point [iblk, V, idx t]

theorem blk_scale (c : Dev nD) (t : Fin cfg0.N) (r : Fin 256) (k : Fin 4096) :
    iblk m c 6 t (ix5 0 0 0 0 k) = m ((c : Thread nD τ).loc main_arg3) (ix5 1 1 (group (rowOf t r).val) 0 k) := by
  unfold rowOf group
  blk_point [iblk, V, idx t]

/-- The residual of the arguments. -/
abbrev mixed (c : Dev nD) : FVec Ideal S9216x4096 .f32 := resid (m ((c : Thread nD τ).loc main_arg0)) (m ((c : Thread nD τ).loc main_arg1)) (m ((c : Thread nD τ).loc main_arg2)) (m ((c : Thread nD τ).loc main_arg3))

/-- Its modulated norm. -/
abbrev fed (c : Dev nD) : FVec Ideal S9216x4096 .bf16 := modulated (mixed m c) (m ((c : Thread nD τ).loc main_arg4)) (m ((c : Thread nD τ).loc main_arg3))

theorem point_x (c : Dev nD) (t : Fin cfg0.N) (r : Fin 256) (k : Fin 4096) :
    k0_pay2 (iblk m c 0 t) (iblk m c 3 t) (iblk m c 1 t) (iblk m c 2 t) (ix2 r k) = mixed m c (ix2 (rowOf t r) k) := by
  refine (pay2_at _ _ _ _ r k).trans (Eq.trans ?_ (resid_at _ _ _ _ (rowOf t r) k).symm)
  simp only [blk_x, blk_y, blk_gpost, blk_gate m c t r]

theorem point_h (c : Dev nD) (t : Fin cfg0.N) (r : Fin 256) (k : Fin 4096) :
    k0_pay1 (k0_pay3 (iblk m c 4 t)) (k0_pay4 (iblk m c 0 t) (iblk m c 3 t) (iblk m c 1 t) (iblk m c 2 t)) (iblk m c 6 t) (iblk m c 5 t) (ix2 r k) = fed m c (ix2 (rowOf t r) k) := by
  refine (pay1_at _ _ _ _ _ _ _ r k).trans (Eq.trans ?_ (modulated_at _ _ _ (rowOf t r) k).symm)
  simp only [point_x, blk_gpre, blk_shift m c t r, blk_scale m c t r]

theorem place_x (c : Dev nD) (t : Fin cfg0.N) (y : S256x4096.Idx) :
    k0_pay2 (iblk m c 0 t) (iblk m c 3 t) (iblk m c 1 t) (iblk m c 2 t) y = mixed m c (((cfg0.win 7).blk t).view.emb y) := by
  obtain ⟨r, k, rfl⟩ : ∃ (r : Fin 256) (k : Fin 4096), y = ix2 r k := ⟨y 0, y 1, by funext a; fin_cases a <;> rfl⟩
  rw [point_x]
  generalize mixed m c = X
  unfold rowOf
  blk_point [idx t]

theorem place_h (c : Dev nD) (t : Fin cfg0.N) (y : S256x4096.Idx) :
    k0_pay1 (k0_pay3 (iblk m c 4 t)) (k0_pay4 (iblk m c 0 t) (iblk m c 3 t) (iblk m c 1 t) (iblk m c 2 t)) (iblk m c 6 t) (iblk m c 5 t) y = fed m c (((cfg0.win 8).blk t).view.emb y) := by
  obtain ⟨r, k, rfl⟩ : ∃ (r : Fin 256) (k : Fin 4096), y = ix2 r k := ⟨y 0, y 1, by funext a; fin_cases a <;> rfl⟩
  rw [point_h]
  generalize fed m c = X
  unfold rowOf
  blk_point [idx t]

/-- The first result after the run is the residual. -/
theorem final (c : Dev nD) : (dats m 0 c).arrAt 7 cfg0.N = mixed m c := by
  refine (dats m 0 c).arrAt_eq_of_covers 7 _ (by decide +kernel) fun t _ y => ?_
  blk_simp
  rw [after0_7]
  frame_out
  exact place_x m c t y

/-- The second result after the run is its modulated norm. -/
theorem final_h (c : Dev nD) : (dats m 0 c).arrAt 8 cfg0.N = fed m c := by
  refine (dats m 0 c).arrAt_eq_of_covers 8 _ (by decide +kernel) fun t _ y => ?_
  blk_simp
  rw [after0_8]
  frame_out
  exact place_h m c t y

end Cert.ResModIdeal.Final

end
-- ==== Proof.ChDftValue.lean ====
/- What the transform along the channels leaves in its result: each group of columns times the cosines, and times the sines. -/
module

public import proofs.«01_k».proof.Proof.Gen.ChDftIdeal.Value
public import proofs.«01_k».proof.Proof.Gen.ChDftRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ChDftIdeal.Final

open Cert.ChDftIdeal Cert.ChDftIdeal.Gen

variable (m : (ℓ : Loc nD τ sig) → Buf (Elt Ideal) ℓ)

/-- A group's columns times a table. -/
def along (u : FVec Ideal S9216x4096 .bf16) (w : FVec Ideal S256x256 .f32) : FVec Ideal Cert.ChDftRefIdeal.S9216x1024 .f32 :=
  shapeCast _ (Host.dotGeneral Cert.ChDftRefIdeal.dot_S9216x4x256_S256x256_S9216x4x256_2_0_01_1_n_n none
    (shapeCast _ (extf .f32 (extractStridedSlice Cert.ChDftRefIdeal.S9216x1024 ![0, 0] u Cert.ChDftRefIdeal.Gen.slices_S9216x4096_S9216x1024_0_0) Cert.ChDftRefIdeal.Gen.bitsLt_bf16_f32)
      Cert.ChDftRefIdeal.Gen.shapeCasts_S9216x1024_S9216x4x256)
    (extf .f32 (truncf .bf16 (mulf w (broadcastInDim S256x256 ![] Cert.ChDftRefIdeal.Gen.bcast_S_S256x256 (constant Cert.ChDftRefIdeal.S_ .f32 0x3D800000#32)))
      Cert.ChDftRefIdeal.Gen.bitsLt_bf16_f32) Cert.ChDftRefIdeal.Gen.bitsLt_bf16_f32)) Cert.ChDftRefIdeal.Gen.shapeCasts_S9216x4x256_S9216x1024

/-- Both products. -/
def both (u : FVec Ideal S9216x4096 .bf16) (cs sn : FVec Ideal S256x256 .f32) : FVec Ideal S9216x2048 .bf16 :=
  truncf .bf16 (concatenate S9216x2048 1 [⟨Cert.ChDftRefIdeal.S9216x1024, along u cs⟩, ⟨Cert.ChDftRefIdeal.S9216x1024, along u sn⟩]
    Cert.ChDftRefIdeal.Gen.concatenates_S9216x1024_S9216x1024_S9216x2048_d1) Cert.ChDftRefIdeal.Gen.bitsLt_bf16_f32

theorem along_at (u w) (r : Fin 9216) (g : Fin 4) (d : Fin 256) :
    along u w (ix2 r (⟨g.val * 256 + d.val, by omega⟩ : Fin 1024))
    = ∑ z : Fin 256, u (ix2 r ⟨g.val * 256 + z.val, by omega⟩) * (w (ix2 z d) * Ideal.ofBits .f32 0x3D800000#32) := by
  pointwise [along]

theorem both_cos (u cs sn) (r : Fin 9216) (g : Fin 4) (d : Fin 256) :
    both u cs sn (ix2 r (⟨g.val * 256 + d.val, by omega⟩ : Fin 2048))
    = ∑ z : Fin 256, u (ix2 r ⟨g.val * 256 + z.val, by omega⟩) * (cs (ix2 z d) * Ideal.ofBits .f32 0x3D800000#32) := by
  refine Eq.trans ?_ (along_at u cs r g d)
  pointwise [both]
  exact dif_pos (by omega)

theorem both_sin (u cs sn) (r : Fin 9216) (g : Fin 4) (d : Fin 256) :
    both u cs sn (ix2 r (⟨1024 + (g.val * 256 + d.val), by omega⟩ : Fin 2048))
    = ∑ z : Fin 256, u (ix2 r ⟨g.val * 256 + z.val, by omega⟩) * (sn (ix2 z d) * Ideal.ofBits .f32 0x3D800000#32) := by
  refine Eq.trans ?_ (along_at u sn r g d)
  pointwise [both]

theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, win0_0.index t = ![t.val, 0]
    ∧ win0_1.index t = ![0, 0]
    ∧ win0_2.index t = ![0, 0]
    ∧ win0_3.index t = ![t.val, 0])

/-- A table scaled, in 16 bits. -/
def scaled (w : FVec Ideal S256x256 .f32) : FVec Ideal S256x256 .bf16 :=
  truncf .bf16 (mulf w (broadcastInDim S256x256 ![] bcast_S_S256x256 (constant S_ .f32 0x3D800000#32))) bitsLt_bf16_f32

set_option maxHeartbeats 2000000 in
theorem V_v2 (c : Dev nD) : V m c main_v2 = scaled (m ((c : Thread nD τ).loc main_arg1)) := by
  unfold V
  after_results
  try rfl

set_option maxHeartbeats 2000000 in
theorem V_v5 (c : Dev nD) : V m c main_v5 = scaled (m ((c : Thread nD τ).loc main_arg2)) := by
  unfold V
  after_results
  try rfl

theorem count (t : Fin cfg0.N) : t.val < 9 := lt_of_lt_of_eq t.isLt (show cfg0.N = 9 from N_0)

theorem pay5_at (u w) (r : Fin 1024) (d : Fin 256) : k0_pay5 (F := Ideal) u w (ix2 r d) = ∑ z : Fin 256, u (ix2 r z) * w (ix2 z d) := by
  pointwise [k0_pay5]

theorem blk0 (c : Dev nD) (t : Fin cfg0.N) (r : Fin 1024) (k : Fin 1024) : iblk m c 0 t (ix2 r k)
    = (m ((c : Thread nD τ).loc main_arg0)) (ix2 ⟨t.val * 1024 + r.val, by have := count t; omega⟩ ⟨k.val, by omega⟩) := by
  blk_point [iblk, V, idx t]

theorem blk1 (c : Dev nD) (t : Fin cfg0.N) (z d : Fin 256) : iblk m c 1 t (ix2 z d)
    = HMul.hMul (α := EReal) (β := EReal) ((m ((c : Thread nD τ).loc main_arg1)) (ix2 z d)) (Ideal.ofBits .f32 0x3D800000#32) := by
  unfold iblk
  show V m c main_v2 _ = _
  rw [V_v2]
  refine congrArg (fun e : EReal => e * Ideal.ofBits .f32 0x3D800000#32) (?_ : (m ((c : Thread nD τ).loc main_arg1)) _ = _)
  blk_point [idx t]

theorem blk2 (c : Dev nD) (t : Fin cfg0.N) (z d : Fin 256) : iblk m c 2 t (ix2 z d)
    = HMul.hMul (α := EReal) (β := EReal) ((m ((c : Thread nD τ).loc main_arg2)) (ix2 z d)) (Ideal.ofBits .f32 0x3D800000#32) := by
  unfold iblk
  show V m c main_v5 _ = _
  rw [V_v5]
  refine congrArg (fun e : EReal => e * Ideal.ofBits .f32 0x3D800000#32) (?_ : (m ((c : Thread nD τ).loc main_arg2)) _ = _)
  blk_point [idx t]

theorem slice_at (X : Vec Ideal S1024x1024 .bf16) (o : ℕ) (inb) (r : Fin 1024) (d : Fin 256) (ho : o + d.val < 1024) :
    View.ld X (Rect.unit ![0, o] ![1024, 256] inb) (ix2 r d) = X (ix2 r ⟨o + d.val, ho⟩) :=
  View.ld_unit_apply_of X _ _ inb _ _ (by
    intro a
    fin_cases a
    · exact (Nat.zero_add _).symm
    · rfl)

theorem place_cos (c : Dev nD) (t : Fin cfg0.N) (g : Fin 4) (inb) (x : S1024x256.Idx) (e : S9216x2048.Idx)
    (h0 : (e 0).val = t.val * 1024 + (x 0).val) (h1 : (e 1).val = g.val * 256 + (x 1).val) :
    k0_pay5 (View.ld (iblk m c 0 t) (Rect.unit ![0, g.val * 256] ![1024, 256] inb)) (iblk m c 1 t) x
    = both (m ((c : Thread nD τ).loc main_arg0)) (m ((c : Thread nD τ).loc main_arg1)) (m ((c : Thread nD τ).loc main_arg2)) e := by
  obtain ⟨r, d, rfl⟩ : ∃ (r : Fin 1024) (d : Fin 256), x = ix2 r d := ⟨x 0, x 1, by funext a; fin_cases a <;> rfl⟩
  have ee : e = ix2 (⟨t.val * 1024 + r.val, by have := count t; omega⟩ : Fin 9216) (⟨g.val * 256 + d.val, by omega⟩ : Fin 2048) := by
    funext a
    fin_cases a
    · exact Fin.ext h0
    · exact Fin.ext h1
  rw [ee]
  refine (pay5_at _ _ r d).trans (Eq.trans ?_ (both_cos _ _ _ _ g d).symm)
  refine Finset.sum_congr rfl fun z _ => congrArg₂ (· * ·) ?_ (blk1 m c t z d)
  exact (slice_at _ _ inb r z (by omega)).trans (blk0 m c t r _)

theorem place_sin (c : Dev nD) (t : Fin cfg0.N) (g : Fin 4) (inb) (x : S1024x256.Idx) (e : S9216x2048.Idx)
    (h0 : (e 0).val = t.val * 1024 + (x 0).val) (h1 : (e 1).val = 1024 + (g.val * 256 + (x 1).val)) :
    k0_pay5 (View.ld (iblk m c 0 t) (Rect.unit ![0, g.val * 256] ![1024, 256] inb)) (iblk m c 2 t) x
    = both (m ((c : Thread nD τ).loc main_arg0)) (m ((c : Thread nD τ).loc main_arg1)) (m ((c : Thread nD τ).loc main_arg2)) e := by
  obtain ⟨r, d, rfl⟩ : ∃ (r : Fin 1024) (d : Fin 256), x = ix2 r d := ⟨x 0, x 1, by funext a; fin_cases a <;> rfl⟩
  have ee : e = ix2 (⟨t.val * 1024 + r.val, by have := count t; omega⟩ : Fin 9216) (⟨1024 + (g.val * 256 + d.val), by omega⟩ : Fin 2048) := by
    funext a
    fin_cases a
    · exact Fin.ext h0
    · exact Fin.ext h1
  rw [ee]
  refine (pay5_at _ _ r d).trans (Eq.trans ?_ (both_sin _ _ _ _ g d).symm)
  refine Finset.sum_congr rfl fun z _ => congrArg₂ (· * ·) ?_ (blk2 m c t z d)
  exact (slice_at _ _ inb r z (by omega)).trans (blk0 m c t r _)

/-- The result after the run is both products. -/
theorem final (c : Dev nD) : (dats m 0 c).arrAt 3 cfg0.N = both (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  canon_tiles x h
  case piece0 =>
    refine place_sin m c t 3 _ x _ ?_ ?_ <;> (blk_simp [idx t]; dsimp only; omega)
  case piece1 =>
    refine place_cos m c t 3 _ x _ ?_ ?_ <;> (blk_simp [idx t]; dsimp only; omega)
  case piece2 =>
    refine place_sin m c t 2 _ x _ ?_ ?_ <;> (blk_simp [idx t]; dsimp only; omega)
  case piece3 =>
    refine place_cos m c t 2 _ x _ ?_ ?_ <;> (blk_simp [idx t]; dsimp only; omega)
  case piece4 =>
    refine place_sin m c t 1 _ x _ ?_ ?_ <;> (blk_simp [idx t]; dsimp only; omega)
  case piece5 =>
    refine place_cos m c t 1 _ x _ ?_ ?_ <;> (blk_simp [idx t]; dsimp only; omega)
  case piece6 =>
    refine place_sin m c t 0 _ x _ ?_ ?_ <;> (blk_simp [idx t]; dsimp only; omega)
  case piece7 =>
    refine place_cos m c t 0 _ x _ ?_ ?_ <;> (blk_simp [idx t]; dsimp only; omega)

end Cert.ChDftIdeal.Final

end
-- ==== Proof.SeqDftValue.lean ====
/- What the transform along the latent tokens leaves in its result. -/
module

public import proofs.«01_k».proof.Proof.Gen.SeqDftIdeal.Value
public import proofs.«01_k».proof.Proof.Gen.SeqDftRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SeqDftIdeal.Final

open Cert.SeqDftIdeal Cert.SeqDftIdeal.Gen

variable (m : (ℓ : Loc nD τ sig) → Buf (Elt Ideal) ℓ)

/-- A sample's rows times the cosines, less the same times the sines, scaled. -/
def mixed (x : FVec Ideal S9216x2048 .bf16) (cs sn : FVec Ideal S2048x2048 .f32) : FVec Ideal S8192x1024 .bf16 :=
  truncf .bf16 (shapeCast _ (mulf (addf
      (transpose Cert.SeqDftRefIdeal.S4x2048x1024 [0, 2, 1] (Host.dotGeneral Cert.SeqDftRefIdeal.dot_S4x2048x1024_S2048x2048_S4x1024x2048_1_1_02_0_n_n none
        (extractStridedSlice Cert.SeqDftRefIdeal.S4x2048x1024 ![0, 0, 0] (shapeCast _ (extf .f32 (extractStridedSlice Cert.SeqDftRefIdeal.S8192x2048 ![0, 0] x
          Cert.SeqDftRefIdeal.Gen.slices_S9216x2048_S8192x2048_0_0) Cert.SeqDftRefIdeal.Gen.bitsLt_bf16_f32) Cert.SeqDftRefIdeal.Gen.shapeCasts_S8192x2048_S4x2048x2048)
          Cert.SeqDftRefIdeal.Gen.slices_S4x2048x2048_S4x2048x1024_0_0_0) (extf .f32 (truncf .bf16 cs Cert.SeqDftRefIdeal.Gen.bitsLt_bf16_f32) Cert.SeqDftRefIdeal.Gen.bitsLt_bf16_f32))
      Cert.SeqDftRefIdeal.Gen.transposes_S4x1024x2048_S4x2048x1024_0_2_1)
      (transpose Cert.SeqDftRefIdeal.S4x2048x1024 [0, 2, 1] (Host.dotGeneral Cert.SeqDftRefIdeal.dot_S4x2048x1024_S2048x2048_S4x1024x2048_1_1_02_0_n_n none
        (extractStridedSlice Cert.SeqDftRefIdeal.S4x2048x1024 ![0, 0, 1024] (shapeCast _ (extf .f32 (extractStridedSlice Cert.SeqDftRefIdeal.S8192x2048 ![0, 0] x
          Cert.SeqDftRefIdeal.Gen.slices_S9216x2048_S8192x2048_0_0) Cert.SeqDftRefIdeal.Gen.bitsLt_bf16_f32) Cert.SeqDftRefIdeal.Gen.shapeCasts_S8192x2048_S4x2048x2048)
          Cert.SeqDftRefIdeal.Gen.slices_S4x2048x2048_S4x2048x1024_0_0_1024) (extf .f32 (truncf .bf16 (Host.negf sn) Cert.SeqDftRefIdeal.Gen.bitsLt_bf16_f32) Cert.SeqDftRefIdeal.Gen.bitsLt_bf16_f32))
      Cert.SeqDftRefIdeal.Gen.transposes_S4x1024x2048_S4x2048x1024_0_2_1))
    (broadcastInDim Cert.SeqDftRefIdeal.S4x2048x1024 ![] Cert.SeqDftRefIdeal.Gen.bcast_S_S4x2048x1024 (constant Cert.SeqDftRefIdeal.S_ .f32 0x3CB504F3#32))) Cert.SeqDftRefIdeal.Gen.shapeCasts_S4x2048x1024_S8192x1024) Cert.SeqDftRefIdeal.Gen.bitsLt_bf16_f32

theorem mixed_at (x cs sn) (b : Fin 4) (l : Fin 2048) (w : Fin 1024) :
    mixed x cs sn (ix2 (⟨b.val * 2048 + l.val, by omega⟩ : Fin 8192) w)
    = ((∑ z : Fin 2048, x (ix2 ⟨0 + (b.val * 2048 + z.val), by omega⟩ ⟨w.val, by omega⟩) * cs (ix2 l z))
      + ∑ z : Fin 2048, x (ix2 ⟨0 + (b.val * 2048 + z.val), by omega⟩ ⟨1024 + w.val, by omega⟩) * -sn (ix2 l z)) * Ideal.ofBits .f32 0x3CB504F3#32 := by
  have e1 : (b.val * 2048 + l.val) / 2048 = b.val := by omega
  have e2 : (b.val * 2048 + l.val) % 2048 = l.val := by omega
  pointwise [mixed]

theorem idx : ∀ t : Fin cfg0.N, win0_0.index t = ![t.val / 4, 0]
    ∧ win0_1.index t = ![t.val / 4, 0]
    ∧ win0_2.index t = ![0 + t.val % 4, 0]
    ∧ win0_3.index t = ![0 + t.val % 4, 1]
    ∧ win0_4.index t = ![t.val % 4 * 2 + t.val / 4, 0] :=
  (by decide +kernel : ∀ t : Fin grid0.N, win0_0.index t = ![t.val / 4, 0]
    ∧ win0_1.index t = ![t.val / 4, 0]
    ∧ win0_2.index t = ![0 + t.val % 4, 0]
    ∧ win0_3.index t = ![0 + t.val % 4, 1]
    ∧ win0_4.index t = ![t.val % 4 * 2 + t.val / 4, 0])

theorem pay1_at (u x v y) (r : Fin 1024) (w : Fin 1024) : k0_pay1 (F := Ideal) u x v y (ix2 r w)
    = ((∑ z : Fin 2048, u (ix2 r z) * x (ix2 z w)) + ∑ z : Fin 2048, v (ix2 r z) * y (ix2 z w)) * Ideal.ofBits .f32 0x3CB504F3#32 := by
  pointwise [k0_pay1]

/-- The cosines in 16 bits. -/
def lowered (x : FVec Ideal S2048x2048 .f32) : FVec Ideal S2048x2048 .bf16 := truncf .bf16 x bitsLt_bf16_f32

/-- The sines' negatives in 16 bits. -/
def negated (x : FVec Ideal S2048x2048 .f32) : FVec Ideal S2048x2048 .bf16 := truncf .bf16 (Host.negf x) bitsLt_bf16_f32

set_option maxHeartbeats 2000000 in
theorem V_v0 (c : Dev nD) : V m c main_v0 = lowered (m ((c : Thread nD τ).loc main_arg1)) := by
  unfold V
  after_results
  try rfl

set_option maxHeartbeats 2000000 in
theorem V_v2 (c : Dev nD) : V m c main_v2 = negated (m ((c : Thread nD τ).loc main_arg2)) := by
  unfold V
  after_results
  try rfl

theorem count (t : Fin cfg0.N) : t.val < 8 := lt_of_lt_of_eq t.isLt (show cfg0.N = 8 from N_0)

/-- The row of a sample's that row `r` of step `t`'s tile is. -/
def rowOf (t : Fin cfg0.N) (r : Fin 1024) : Fin 2048 := ⟨t.val / 4 * 1024 + r.val, by have := count t; omega⟩

/-- The sample of step `t`. -/
def sample (t : Fin cfg0.N) : Fin 4 := ⟨t.val % 4, by omega⟩

theorem blk0 (c : Dev nD) (t : Fin cfg0.N) (r : Fin 1024) (z : Fin 2048) :
    iblk m c 0 t (ix2 r z) = (m ((c : Thread nD τ).loc main_arg1)) (ix2 (rowOf t r) z) := by
  unfold iblk
  show V m c main_v0 _ = _
  rw [V_v0]
  show (m ((c : Thread nD τ).loc main_arg1)) _ = _
  unfold rowOf
  blk_point [idx t]

theorem blk1 (c : Dev nD) (t : Fin cfg0.N) (r : Fin 1024) (z : Fin 2048) :
    iblk m c 1 t (ix2 r z) = Neg.neg (α := EReal) ((m ((c : Thread nD τ).loc main_arg2)) (ix2 (rowOf t r) z)) := by
  unfold iblk
  show V m c main_v2 _ = _
  rw [V_v2]
  refine congrArg (fun e : EReal => -e) (?_ : (m ((c : Thread nD τ).loc main_arg2)) _ = _)
  unfold rowOf
  blk_point [idx t]

theorem blk2 (c : Dev nD) (t : Fin cfg0.N) (z : Fin 2048) (w : Fin 1024) :
    X0_2 m c t (ix2 z w) = (m ((c : Thread nD τ).loc main_arg0)) (ix2 ⟨0 + ((sample t).val * 2048 + z.val), by omega⟩ ⟨w.val, by omega⟩) := by
  unfold X0_2 Pipeline.Window.fill
  rw [dif_pos (moved0_2 t _)]
  unfold sample
  blk_point [iblk, V, idx t]

theorem blk3 (c : Dev nD) (t : Fin cfg0.N) (z : Fin 2048) (w : Fin 1024) :
    X0_3 m c t (ix2 z w) = (m ((c : Thread nD τ).loc main_arg0)) (ix2 ⟨0 + ((sample t).val * 2048 + z.val), by omega⟩ ⟨1024 + w.val, by omega⟩) := by
  unfold X0_3 Pipeline.Window.fill
  rw [dif_pos (moved0_3 t _)]
  unfold sample
  blk_point [iblk, V, idx t]

theorem point (c : Dev nD) (t : Fin cfg0.N) (r : Fin 1024) (w : Fin 1024) : k0_pay1 (iblk m c 0 t) (X0_2 m c t) (iblk m c 1 t) (X0_3 m c t) (ix2 r w)
    = mixed (m ((c : Thread nD τ).loc main_arg0)) (m ((c : Thread nD τ).loc main_arg1)) (m ((c : Thread nD τ).loc main_arg2)) (ix2 (⟨(sample t).val * 2048 + (rowOf t r).val, by omega⟩ : Fin 8192) w) := by
  refine (pay1_at _ _ _ _ r w).trans (Eq.trans ?_ (mixed_at _ _ _ (sample t) (rowOf t r) w).symm)
  simp only [blk0, blk1, blk2, blk3]
  refine congrArg₂ (· * ·) (congrArg₂ (· + ·) ?_ ?_) rfl <;> exact Finset.sum_congr rfl fun z _ => mul_comm _ _

theorem place (c : Dev nD) (t : Fin cfg0.N) (y : S1024x1024.Idx) : k0_pay1 (iblk m c 0 t) (X0_2 m c t) (iblk m c 1 t) (X0_3 m c t) y
    = mixed (m ((c : Thread nD τ).loc main_arg0)) (m ((c : Thread nD τ).loc main_arg1)) (m ((c : Thread nD τ).loc main_arg2)) (((cfg0.win 4).blk t).view.emb y) := by
  obtain ⟨r, w, rfl⟩ : ∃ (r : Fin 1024) (w : Fin 1024), y = ix2 r w := ⟨y 0, y 1, by funext a; fin_cases a <;> rfl⟩
  rw [point]
  generalize mixed (m ((c : Thread nD τ).loc main_arg0)) (m ((c : Thread nD τ).loc main_arg1)) (m ((c : Thread nD τ).loc main_arg2)) = X
  unfold rowOf sample
  blk_point [idx t]

/-- The result after the run is the reference's. -/
theorem final (c : Dev nD) : (dats m 0 c).arrAt 4 cfg0.N = mixed (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  exact place m c t y

end Cert.SeqDftIdeal.Final

end
-- ==== Proof.CtxDftValue.lean ====
/- What the transform along the context tokens leaves in its result. -/
module

public import proofs.«01_k».proof.Proof.Gen.CtxDftIdeal.Value
public import proofs.«01_k».proof.Proof.Gen.CtxDftRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxDftIdeal.Final

open Cert.CtxDftIdeal Cert.CtxDftIdeal.Gen

variable (m : (ℓ : Loc nD τ sig) → Buf (Elt Ideal) ℓ)

/-- A sample's rows times the cosines, less the same times the sines, scaled. -/
def mixed (x : FVec Ideal S9216x2048 .bf16) (cs sn : FVec Ideal S256x256 .f32) : FVec Ideal S1024x1024 .bf16 :=
  truncf .bf16 (shapeCast _ (mulf (addf
      (transpose Cert.CtxDftRefIdeal.S4x256x1024 [0, 2, 1] (Host.dotGeneral Cert.CtxDftRefIdeal.dot_S4x256x1024_S256x256_S4x1024x256_1_1_02_0_n_n none
        (extractStridedSlice Cert.CtxDftRefIdeal.S4x256x1024 ![0, 0, 0] (shapeCast _ (extf .f32 (extractStridedSlice Cert.CtxDftRefIdeal.S1024x2048 ![8192, 0] x
          Cert.CtxDftRefIdeal.Gen.slices_S9216x2048_S1024x2048_8192_0) Cert.CtxDftRefIdeal.Gen.bitsLt_bf16_f32) Cert.CtxDftRefIdeal.Gen.shapeCasts_S1024x2048_S4x256x2048)
          Cert.CtxDftRefIdeal.Gen.slices_S4x256x2048_S4x256x1024_0_0_0) (extf .f32 (truncf .bf16 cs Cert.CtxDftRefIdeal.Gen.bitsLt_bf16_f32) Cert.CtxDftRefIdeal.Gen.bitsLt_bf16_f32))
      Cert.CtxDftRefIdeal.Gen.transposes_S4x1024x256_S4x256x1024_0_2_1)
      (transpose Cert.CtxDftRefIdeal.S4x256x1024 [0, 2, 1] (Host.dotGeneral Cert.CtxDftRefIdeal.dot_S4x256x1024_S256x256_S4x1024x256_1_1_02_0_n_n none
        (extractStridedSlice Cert.CtxDftRefIdeal.S4x256x1024 ![0, 0, 1024] (shapeCast _ (extf .f32 (extractStridedSlice Cert.CtxDftRefIdeal.S1024x2048 ![8192, 0] x
          Cert.CtxDftRefIdeal.Gen.slices_S9216x2048_S1024x2048_8192_0) Cert.CtxDftRefIdeal.Gen.bitsLt_bf16_f32) Cert.CtxDftRefIdeal.Gen.shapeCasts_S1024x2048_S4x256x2048)
          Cert.CtxDftRefIdeal.Gen.slices_S4x256x2048_S4x256x1024_0_0_1024) (extf .f32 (truncf .bf16 (Host.negf sn) Cert.CtxDftRefIdeal.Gen.bitsLt_bf16_f32) Cert.CtxDftRefIdeal.Gen.bitsLt_bf16_f32))
      Cert.CtxDftRefIdeal.Gen.transposes_S4x1024x256_S4x256x1024_0_2_1))
    (broadcastInDim Cert.CtxDftRefIdeal.S4x256x1024 ![] Cert.CtxDftRefIdeal.Gen.bcast_S_S4x256x1024 (constant Cert.CtxDftRefIdeal.S_ .f32 0x3D800000#32))) Cert.CtxDftRefIdeal.Gen.shapeCasts_S4x256x1024_S1024x1024) Cert.CtxDftRefIdeal.Gen.bitsLt_bf16_f32

theorem mixed_at (x cs sn) (b : Fin 4) (l : Fin 256) (w : Fin 1024) :
    mixed x cs sn (ix2 (⟨b.val * 256 + l.val, by omega⟩ : Fin 1024) w)
    = ((∑ z : Fin 256, x (ix2 ⟨8192 + (b.val * 256 + z.val), by omega⟩ ⟨w.val, by omega⟩) * cs (ix2 l z))
      + ∑ z : Fin 256, x (ix2 ⟨8192 + (b.val * 256 + z.val), by omega⟩ ⟨1024 + w.val, by omega⟩) * -sn (ix2 l z)) * Ideal.ofBits .f32 0x3D800000#32 := by
  have e1 : (b.val * 256 + l.val) / 256 = b.val := by omega
  have e2 : (b.val * 256 + l.val) % 256 = l.val := by omega
  pointwise [mixed]

theorem idx : ∀ t : Fin cfg0.N, win0_0.index t = ![t.val / 4, 0]
    ∧ win0_1.index t = ![t.val / 4, 0]
    ∧ win0_2.index t = ![32 + t.val % 4, 0]
    ∧ win0_3.index t = ![32 + t.val % 4, 1]
    ∧ win0_4.index t = ![t.val % 4 * 1 + t.val / 4, 0] :=
  (by decide +kernel : ∀ t : Fin grid0.N, win0_0.index t = ![t.val / 4, 0]
    ∧ win0_1.index t = ![t.val / 4, 0]
    ∧ win0_2.index t = ![32 + t.val % 4, 0]
    ∧ win0_3.index t = ![32 + t.val % 4, 1]
    ∧ win0_4.index t = ![t.val % 4 * 1 + t.val / 4, 0])

theorem pay1_at (u x v y) (r : Fin 256) (w : Fin 1024) : k0_pay1 (F := Ideal) u x v y (ix2 r w)
    = ((∑ z : Fin 256, u (ix2 r z) * x (ix2 z w)) + ∑ z : Fin 256, v (ix2 r z) * y (ix2 z w)) * Ideal.ofBits .f32 0x3D800000#32 := by
  pointwise [k0_pay1]

/-- The cosines in 16 bits. -/
def lowered (x : FVec Ideal S256x256 .f32) : FVec Ideal S256x256 .bf16 := truncf .bf16 x bitsLt_bf16_f32

/-- The sines' negatives in 16 bits. -/
def negated (x : FVec Ideal S256x256 .f32) : FVec Ideal S256x256 .bf16 := truncf .bf16 (Host.negf x) bitsLt_bf16_f32

set_option maxHeartbeats 2000000 in
theorem V_v0 (c : Dev nD) : V m c main_v0 = lowered (m ((c : Thread nD τ).loc main_arg1)) := by
  unfold V
  after_results
  try rfl

set_option maxHeartbeats 2000000 in
theorem V_v2 (c : Dev nD) : V m c main_v2 = negated (m ((c : Thread nD τ).loc main_arg2)) := by
  unfold V
  after_results
  try rfl

theorem count (t : Fin cfg0.N) : t.val < 4 := lt_of_lt_of_eq t.isLt (show cfg0.N = 4 from N_0)

/-- The row of a sample's that row `r` of step `t`'s tile is. -/
def rowOf (t : Fin cfg0.N) (r : Fin 256) : Fin 256 := ⟨t.val / 4 * 256 + r.val, by have := count t; omega⟩

/-- The sample of step `t`. -/
def sample (t : Fin cfg0.N) : Fin 4 := ⟨t.val % 4, by omega⟩

theorem blk0 (c : Dev nD) (t : Fin cfg0.N) (r : Fin 256) (z : Fin 256) :
    iblk m c 0 t (ix2 r z) = (m ((c : Thread nD τ).loc main_arg1)) (ix2 (rowOf t r) z) := by
  unfold iblk
  show V m c main_v0 _ = _
  rw [V_v0]
  show (m ((c : Thread nD τ).loc main_arg1)) _ = _
  unfold rowOf
  blk_point [idx t]

theorem blk1 (c : Dev nD) (t : Fin cfg0.N) (r : Fin 256) (z : Fin 256) :
    iblk m c 1 t (ix2 r z) = Neg.neg (α := EReal) ((m ((c : Thread nD τ).loc main_arg2)) (ix2 (rowOf t r) z)) := by
  unfold iblk
  show V m c main_v2 _ = _
  rw [V_v2]
  refine congrArg (fun e : EReal => -e) (?_ : (m ((c : Thread nD τ).loc main_arg2)) _ = _)
  unfold rowOf
  blk_point [idx t]

theorem blk2 (c : Dev nD) (t : Fin cfg0.N) (z : Fin 256) (w : Fin 1024) :
    iblk m c 2 t (ix2 z w) = (m ((c : Thread nD τ).loc main_arg0)) (ix2 ⟨8192 + ((sample t).val * 256 + z.val), by omega⟩ ⟨w.val, by omega⟩) := by
  unfold sample
  blk_point [iblk, V, idx t]

theorem blk3 (c : Dev nD) (t : Fin cfg0.N) (z : Fin 256) (w : Fin 1024) :
    iblk m c 3 t (ix2 z w) = (m ((c : Thread nD τ).loc main_arg0)) (ix2 ⟨8192 + ((sample t).val * 256 + z.val), by omega⟩ ⟨1024 + w.val, by omega⟩) := by
  unfold sample
  blk_point [iblk, V, idx t]

theorem point (c : Dev nD) (t : Fin cfg0.N) (r : Fin 256) (w : Fin 1024) : k0_pay1 (iblk m c 0 t) (iblk m c 2 t) (iblk m c 1 t) (iblk m c 3 t) (ix2 r w)
    = mixed (m ((c : Thread nD τ).loc main_arg0)) (m ((c : Thread nD τ).loc main_arg1)) (m ((c : Thread nD τ).loc main_arg2)) (ix2 (⟨(sample t).val * 256 + (rowOf t r).val, by omega⟩ : Fin 1024) w) := by
  refine (pay1_at _ _ _ _ r w).trans (Eq.trans ?_ (mixed_at _ _ _ (sample t) (rowOf t r) w).symm)
  simp only [blk0, blk1, blk2, blk3]
  refine congrArg₂ (· * ·) (congrArg₂ (· + ·) ?_ ?_) rfl <;> exact Finset.sum_congr rfl fun z _ => mul_comm _ _

theorem place (c : Dev nD) (t : Fin cfg0.N) (y : S256x1024.Idx) : k0_pay1 (iblk m c 0 t) (iblk m c 2 t) (iblk m c 1 t) (iblk m c 3 t) y
    = mixed (m ((c : Thread nD τ).loc main_arg0)) (m ((c : Thread nD τ).loc main_arg1)) (m ((c : Thread nD τ).loc main_arg2)) (((cfg0.win 4).blk t).view.emb y) := by
  obtain ⟨r, w, rfl⟩ : ∃ (r : Fin 256) (w : Fin 1024), y = ix2 r w := ⟨y 0, y 1, by funext a; fin_cases a <;> rfl⟩
  rw [point]
  generalize mixed (m ((c : Thread nD τ).loc main_arg0)) (m ((c : Thread nD τ).loc main_arg1)) (m ((c : Thread nD τ).loc main_arg2)) = X
  unfold rowOf sample
  blk_point [idx t]

/-- The result after the run is the reference's. -/
theorem final (c : Dev nD) : (dats m 0 c).arrAt 4 cfg0.N = mixed (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact place m c t y

end Cert.CtxDftIdeal.Final

end
-- ==== Proof.AttnCtxRefRead.lean ====
/- The context's attention: its reference read at one place, and a softmax row over one block of keys. -/
module

public import proofs.«01_k».proof.Proof.Gen.AttnCtxRefIdeal.Run
public import proofs.«01_k».proof.Proof.AttnScore
public import proofs.«01_k».proof.Proof.AttnFinite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnCtxRefIdeal.Read

open Cert.AttnCtxRefIdeal Cert.AttnCtxRefIdeal.Gen

/-- A row over one block of keys: the softmax in powers of e at the shift `ν`, times the values. -/
def row {n : ℕ} (a : Fin n → ℝ) (ν : ℝ) (v : Fin n → EReal) : EReal :=
  ∑ i, v i * Ideal.div (Ideal.exp ((a i : EReal) - ν)) (∑ i, Ideal.exp ((a i : EReal) - ν))

/-- The kernel's attended value of a row over one block is `row`. -/
theorem kernel_row {n : ℕ} [Nonempty (Fin n)] (a : Fin n → ℝ) (ν : ℝ) (v : Fin n → EReal) (A : Fin n → EReal)
    (hA : ∀ i, A i = ((a i / Real.log 2 : ℝ) : EReal)) (μ : EReal) (hμ : μ = Finset.univ.fold max ⊥ A) :
    Ideal.div (∑ i, Ideal.exp2 (A i - μ) * v i) (∑ i, Ideal.exp2 (A i - μ)) = row a ν v := by
  obtain rfl : A = fun i => ((a i / Real.log 2 : ℝ) : EReal) := funext hA
  obtain ⟨x, ex⟩ := AttnMath.max_real Finset.univ (fun i => a i / Real.log 2) Finset.univ_nonempty
  obtain rfl : μ = (x : EReal) := hμ.trans ex
  have e := AttnMath.attend_scores a (fun _ : Fin 0 => (0 : ℝ)) x ν v (fun _ => (0 : EReal))
  rw [Finset.univ_eq_empty (α := Fin 0)] at e
  simp only [Finset.sum_empty, add_zero] at e
  exact e

/-- The scores over sqrt(192). -/
def scores (qn : FVec Ideal S4x256x16x128 .f32) (qr : FVec Ideal S4x256x16x64 .f32) (kn : FVec Ideal S4x256x16x128 .f32)
    (kr : FVec Ideal S4x256x64 .f32) : FVec Ideal S4x16x256x256 .f32 :=
  Host.divf (addf (Host.dotGeneral dot_S4x256x16x128_S4x256x16x128_S4x16x256x256_3_3_1_1_02_02 none qn kn)
    (transpose S4x16x256x256 [0, 3, 2, 1] (Host.dotGeneral dot_S4x256x64_S4x256x16x64_S4x256x256x16_2_3_1_12_0_0 none kr qr)
      transposes_S4x256x256x16_S4x16x256x256_0_3_2_1))
    (broadcastInDim S4x16x256x256 ![] bcast_S_S4x16x256x256 (Host.sqrt (constant S_ .f32 0x43400000#32)))

/-- A row's greatest score. -/
def greatest (S : FVec Ideal S4x16x256x256 .f32) : FVec Ideal S4x16x256 .f32 :=
  maximumf (broadcastInDim S4x16x256 ![] bcast_S_S4x16x256 (constant S_ .f32 0xFF800000#32))
    (Host.reduce FloatOps.maximumf S (constant S_ .f32 0xFF800000#32) reducesTo_S4x16x256x256_S4x16x256_d3 h_S_)

/-- The powers of e of the scores less the numbers `M` of their rows. -/
def powers (S : FVec Ideal S4x16x256x256 .f32) (M : FVec Ideal S4x16x256 .f32) : FVec Ideal S4x16x256x256 .f32 :=
  Host.exp (subf S (broadcastInDim S4x16x256x256 ![0, 1, 2, 3] bcast_S4x16x256x1_S4x16x256x256_0_1_2_3
    (broadcastInDim S4x16x256x1 ![0, 1, 2] bcast_S4x16x256_S4x16x256x1_0_1_2 M)))

/-- The weights: the powers over their row's sum. -/
def weights (E : FVec Ideal S4x16x256x256 .f32) : FVec Ideal S4x16x256x256 .f32 :=
  Host.divf E (broadcastInDim S4x16x256x256 ![0, 1, 2, 3] bcast_S4x16x256x1_S4x16x256x256_0_1_2_3
    (broadcastInDim S4x16x256x1 ![0, 1, 2] bcast_S4x16x256_S4x16x256x1_0_1_2
      (Host.reduceAdd E (constant S_ .f32 0x00000000#32) reducesTo_S4x16x256x256_S4x16x256_d3 h_S_)))

/-- The attended values, a row per query and the heads side by side. -/
def attended (W : FVec Ideal S4x16x256x256 .f32) (v : FVec Ideal S4x256x16x128 .f32) : FVec Ideal S1024x2048 .bf16 :=
  truncf .bf16 (shapeCast _ (transpose S4x256x16x128 [0, 3, 1, 2]
    (Host.dotGeneral dot_S4x256x16x128_S4x16x256x256_S4x16x128x256_1_3_3_2_02_01 none v W)
    transposes_S4x16x128x256_S4x256x16x128_0_3_1_2) shapeCasts_S4x256x16x128_S1024x2048) bitsLt_bf16_f32

/-- The whole reference. -/
def result (qn : FVec Ideal S4x256x16x128 .f32) (qr : FVec Ideal S4x256x16x64 .f32) (kn : FVec Ideal S4x256x16x128 .f32)
    (kr : FVec Ideal S4x256x64 .f32) (v : FVec Ideal S4x256x16x128 .f32) : FVec Ideal S1024x2048 .bf16 :=
  attended (weights (powers (scores qn qr kn kr) (greatest (scores qn qr kn kr)))) v

theorem scores_at (qn qr kn kr) (b : Fin 4) (h : Fin 16) (q k : Fin 256) :
    scores qn qr kn kr (ix4 b h q k)
      = Ideal.div ((∑ x : Fin 128, qn (ix4 b q h x) * kn (ix4 b k h x)) + ∑ x : Fin 64, kr (ix3 b k x) * qr (ix4 b q h x))
        (Ideal.sqrt (Ideal.ofBits FTy.f32 1128267776#32)) := by
  pointwise [scores]

theorem powers_at (S M) (b : Fin 4) (h : Fin 16) (q k : Fin 256) :
    powers S M (ix4 b h q k) = Ideal.exp (S (ix4 b h q k) - M (ix3 b h q)) := by
  pointwise [powers]

theorem weights_at (S) (b : Fin 4) (h : Fin 16) (q k : Fin 256) :
    weights S (ix4 b h q k) = Ideal.div (S (ix4 b h q k)) (∑ x : Fin 256, S (ix4 b h q x)) := by
  pointwise [weights]

/-- A row's greatest is a real where the scores are. -/
theorem greatest_real (S : FVec Ideal S4x16x256x256 .f32) (hS : AttnMath.Reals S) (b : Fin 4) (h : Fin 16) (q : Fin 256) :
    ∃ ν : ℝ, greatest S (ix3 b h q) = ν := by
  exact AttnMath.greatest_real S _ _ reducesTo_S4x16x256x256_S4x16x256_d3 h_S_ (fun _ => AttnFinite.low_bits)
    (fun _ => AttnFinite.low_bits) (ix3 b h q) hS (ix4 b h q ⟨0, by decide⟩)
    ((reducesTo_S4x16x256x256_S4x16x256_d3.fiber_r4_a3 (ix3 b h q) _).mpr ⟨⟨0, by decide⟩, rfl⟩)

theorem attended_at (W v) (b : Fin 4) (h : Fin 16) (q : Fin 256) (l : Fin 128) (j : S1024x2048.Idx)
    (h0 : (j 0).val = 256 * b.val + q.val) (h1 : (j 1).val = 128 * h.val + l.val) :
    attended W v j = ∑ x : Fin 256, v (ix4 b x h l) * W (ix4 b h q x) := by
  pointwise [attended]
  exact Finset.sum_congr rfl fun x _ => congrArg₂ (· * ·)
      (congrArg v (AttnMath.ix4_congr (by dsimp only; omega) rfl (by dsimp only; omega) (by dsimp only; omega)))
      (congrArg W (AttnMath.ix4_congr (by dsimp only; omega) (by dsimp only; omega) (by dsimp only; omega) rfl))

variable (qn : FVec Ideal S4x256x16x128 .f32) (qr : FVec Ideal S4x256x16x64 .f32) (kn : FVec Ideal S4x256x16x128 .f32)
  (kr : FVec Ideal S4x256x64 .f32) (v : FVec Ideal S4x256x16x128 .f32)

/-- The score of a query against a key. -/
def one (b : Fin 4) (h : Fin 16) (q k : Fin 256) : ℝ :=
  AttnMath.score (fun x => qn (ix4 b q h x)) (fun x => qr (ix4 b q h x)) (fun x => kn (ix4 b k h x)) (fun x => kr (ix3 b k x))

section
variable (r0 : AttnMath.Reals qn) (r1 : AttnMath.Reals qr) (r2 : AttnMath.Reals kn) (r3 : AttnMath.Reals kr)
include r0 r1 r2 r3

theorem scores_one (b : Fin 4) (h : Fin 16) (q k : Fin 256) : scores qn qr kn kr (ix4 b h q k) = (one qn qr kn kr b h q k : EReal) := by
  rw [scores_at]
  exact AttnMath.reference_score (fun _ => r0 _) (fun _ => r1 _) (fun _ => r2 _) (fun _ => r3 _)

theorem scores_real : AttnMath.Reals (scores qn qr kn kr) := fun i => by
  obtain ⟨b, h, q, k, rfl⟩ : ∃ b h q k, i = ix4 b h q k := ⟨i 0, i 1, i 2, i 3, by funext a; fin_cases a <;> rfl⟩
  exact ⟨_, scores_one qn qr kn kr r0 r1 r2 r3 b h q k⟩

/-- The reference's result at one place, its row's softmax at some real shift. -/
theorem reference_at (b : Fin 4) (h : Fin 16) (q : Fin 256) (l : Fin 128) (j : S1024x2048.Idx)
    (h0 : (j 0).val = 256 * b.val + q.val) (h1 : (j 1).val = 128 * h.val + l.val) :
    ∃ ν : ℝ, result qn qr kn kr v j = row (one qn qr kn kr b h q) ν (fun k => v (ix4 b k h l)) := by
  obtain ⟨ν, hν⟩ := greatest_real _ (scores_real qn qr kn kr r0 r1 r2 r3) b h q
  refine ⟨ν, ?_⟩
  have eS := scores_one qn qr kn kr r0 r1 r2 r3 b h q
  unfold result
  rw [attended_at _ _ b h q l j h0 h1]
  simp only [weights_at, powers_at, hν, eS]
  rfl

end

end Cert.AttnCtxRefIdeal.Read

end
-- ==== Proof.AttnCtxValue.lean ====
/- The context's attention: what its kernel's result array holds is its reference, where the scores are real. -/
module

public import proofs.«01_k».proof.Proof.Gen.AttnCtxIdeal.Value
public import proofs.«01_k».proof.Proof.AttnCtxRefRead
public import Idealize.ShloMosaic.Lib.Pipeline.ValueKit

@[expose] public section

set_option maxRecDepth 200000

noncomputable section

open Idealize.ShloMosaic Idealize.ShloMosaic.TcCoe Idealize.SL.Sem
open Idealize.ShloMosaic.Pipeline (Dat)

namespace Cert.AttnCtxIdeal.Final

open Cert.AttnCtxIdeal Cert.AttnCtxIdeal.Gen

variable (m : (ℓ : Loc nD τ sig) → Buf (Elt Ideal) ℓ)

/-- Rows of zeros where the latent tokens' stand, then the context's. -/
def below (C : FVec Ideal S1024x4096 .bf16) : FVec Ideal S9216x4096 .bf16 :=
  concatenate S9216x4096 0 [⟨S8192x4096, broadcastInDim S8192x4096 ![] bcast_S_S8192x4096 (constant S_ .bf16 0x0000#16)⟩, ⟨S1024x4096, C⟩]
    concatenates_S8192x4096_S1024x4096_S9216x4096_d0

/-- The queries' lanes, scaled. -/
def packQ (qn : FVec Ideal S4x256x16x128 .f32) (qr : FVec Ideal S4x256x16x64 .f32) : FVec Ideal S1024x4096 .bf16 :=
  shapeCast S1024x4096 (truncf .bf16 (Host.divf (concatenate S4x256x16x256 3 [⟨S4x256x16x128, qn⟩, ⟨S4x256x16x64, qr⟩, ⟨S4x256x16x64, qr⟩]
    concatenates_S4x256x16x128_S4x256x16x64_S4x256x16x64_S4x256x16x256_d3)
    (broadcastInDim S4x256x16x256 ![] bcast_S_S4x256x16x256 (mulf (Host.sqrt (constant S_ .f32 0x43400000#32)) (Host.log (constant S_ .f32 0x40000000#32)))))
    bitsLt_bf16_f32) shapeCasts_S4x256x16x256_S1024x4096

/-- The keys' lanes: the 128 without position, the 64 with, and 64 of zeros. -/
def packK (kn : FVec Ideal S4x256x16x128 .f32) (kr : FVec Ideal S4x256x64 .f32) : FVec Ideal S1024x4096 .bf16 :=
  shapeCast S1024x4096 (truncf .bf16 (concatenate S4x256x16x256 3 [⟨S4x256x16x128, kn⟩,
    ⟨S4x256x16x64, broadcastInDim S4x256x16x64 ![0, 1, 2, 3] bcast_S4x256x1x64_S4x256x16x64_0_1_2_3
      (broadcastInDim S4x256x1x64 ![0, 1, 3] bcast_S4x256x64_S4x256x1x64_0_1_3 kr)⟩,
    ⟨S4x256x16x64, broadcastInDim S4x256x16x64 ![] bcast_S_S4x256x16x64 (constant S_ .f32 0x00000000#32)⟩]
    concatenates_S4x256x16x128_S4x256x16x64_S4x256x16x64_S4x256x16x256_d3) bitsLt_bf16_f32) shapeCasts_S4x256x16x256_S1024x4096

/-- The values' lanes: the 128 of the value and 128 of ones. -/
def packV (v : FVec Ideal S4x256x16x128 .f32) : FVec Ideal S1024x4096 .bf16 :=
  shapeCast S1024x4096 (truncf .bf16 (concatenate S4x256x16x256 3 [⟨S4x256x16x128, v⟩,
    ⟨S4x256x16x128, broadcastInDim S4x256x16x128 ![] bcast_S_S4x256x16x128 (constant S_ .f32 0x3F800000#32)⟩]
    concatenates_S4x256x16x128_S4x256x16x128_S4x256x16x256_d3) bitsLt_bf16_f32) shapeCasts_S4x256x16x256_S1024x4096

theorem below_at (C : FVec Ideal S1024x4096 .bf16) (i : S9216x4096.Idx) (h0 : ¬ (i 0).val < 8192) (h1 : (i 0).val - 8192 < 1024) :
    below C i = C (ix2 ⟨(i 0).val - 8192, h1⟩ ⟨(i 1).val, (i 1).isLt⟩) := by
  pointwise [below]
  rw [dif_neg h0]

theorem below_row (C : FVec Ideal S1024x4096 .bf16) (r : Fin 1024) (l : Fin 4096) :
    below C (ix2 (⟨8192 + r.val, by omega⟩ : Fin 9216) l) = C (ix2 r l) := by
  refine (below_at C _ (fun h => ?_) ?_).trans (congrArg C ?_)
  · have h2 : 8192 + r.val < 8192 := h
    omega
  · show 8192 + r.val - 8192 < 1024
    omega
  · funext a
    fin_cases a
    · exact Fin.ext (Nat.add_sub_cancel_left _ _)
    · rfl

theorem packQ_plain (qn qr) (i : S1024x4096.Idx) (b : Fin 4) (h : Fin 16) (k : Fin 256) (x : Fin 128) (h0 : (i 0).val = 256 * b.val + k.val)
    (h1 : (i 1).val = 256 * h.val + (x.val)) : packQ qn qr i = Ideal.div (qn (ix4 b k h x)) (Ideal.sqrt (Ideal.ofBits FTy.f32 1128267776#32) * Ideal.log (Ideal.ofBits FTy.f32 1073741824#32)) := by
  pointwise [packQ]
  rw [dif_pos (show (i 1).val % 256 < 128 by omega)]
  exact congrArg (fun z => Ideal.div (qn z) _) (AttnMath.ix4_congr (by dsimp only; omega) (by dsimp only; omega) (by dsimp only; omega) (by dsimp only; omega))

theorem packQ_rotated (qn qr) (i : S1024x4096.Idx) (b : Fin 4) (h : Fin 16) (k : Fin 256) (x : Fin 64) (h0 : (i 0).val = 256 * b.val + k.val)
    (h1 : (i 1).val = 256 * h.val + (128 + x.val)) : packQ qn qr i = Ideal.div (qr (ix4 b k h x)) (Ideal.sqrt (Ideal.ofBits FTy.f32 1128267776#32) * Ideal.log (Ideal.ofBits FTy.f32 1073741824#32)) := by
  pointwise [packQ]
  rw [dif_neg (show ¬ (i 1).val % 256 < 128 by omega)]
  rw [dif_pos (show (i 1).val % 256 - 128 < 64 by omega)]
  exact congrArg (fun z => Ideal.div (qr z) _) (AttnMath.ix4_congr (by dsimp only; omega) (by dsimp only; omega) (by dsimp only; omega) (by dsimp only; omega))

theorem packK_plain (kn kr) (i : S1024x4096.Idx) (b : Fin 4) (h : Fin 16) (k : Fin 256) (x : Fin 128) (h0 : (i 0).val = 256 * b.val + k.val)
    (h1 : (i 1).val = 256 * h.val + (x.val)) : packK kn kr i = kn (ix4 b k h x) := by
  pointwise [packK]
  rw [dif_pos (show (i 1).val % 256 < 128 by omega)]
  exact congrArg kn (AttnMath.ix4_congr (by dsimp only; omega) (by dsimp only; omega) (by dsimp only; omega) (by dsimp only; omega))

theorem packK_rotated (kn kr) (i : S1024x4096.Idx) (b : Fin 4) (h : Fin 16) (k : Fin 256) (x : Fin 64) (h0 : (i 0).val = 256 * b.val + k.val)
    (h1 : (i 1).val = 256 * h.val + (128 + x.val)) : packK kn kr i = kr (ix3 b k x) := by
  pointwise [packK]
  rw [dif_neg (show ¬ (i 1).val % 256 < 128 by omega)]
  rw [dif_pos (show (i 1).val % 256 - 128 < 64 by omega)]
  exact congrArg kr (AttnMath.ix3_congr (by dsimp only; omega) (by dsimp only; omega) (by dsimp only; omega))

theorem packK_zero (kn kr) (i : S1024x4096.Idx) (b : Fin 4) (h : Fin 16) (k : Fin 256) (x : Fin 64) (h0 : (i 0).val = 256 * b.val + k.val)
    (h1 : (i 1).val = 256 * h.val + (192 + x.val)) : packK kn kr i = 0 := by
  pointwise [packK]
  rw [dif_neg (show ¬ (i 1).val % 256 < 128 by omega)]
  rw [dif_neg (show ¬ (i 1).val % 256 - 128 < 64 by omega)]

theorem packV_plain (v) (i : S1024x4096.Idx) (b : Fin 4) (h : Fin 16) (k : Fin 256) (x : Fin 128) (h0 : (i 0).val = 256 * b.val + k.val)
    (h1 : (i 1).val = 256 * h.val + (x.val)) : packV v i = v (ix4 b k h x) := by
  pointwise [packV]
  rw [dif_pos (show (i 1).val % 256 < 128 by omega)]
  exact congrArg v (AttnMath.ix4_congr (by dsimp only; omega) (by dsimp only; omega) (by dsimp only; omega) (by dsimp only; omega))

theorem packV_one (v) (i : S1024x4096.Idx) (b : Fin 4) (h : Fin 16) (k : Fin 256) (x : Fin 128) (h0 : (i 0).val = 256 * b.val + k.val)
    (h1 : (i 1).val = 256 * h.val + (128 + x.val)) : packV v i = 1 := by
  pointwise [packV]
  rw [dif_neg (show ¬ (i 1).val % 256 < 128 by omega)]

set_option maxHeartbeats 2000000 in
theorem V_v9 (c : Dev nD) : V m c main_v9 = below (packQ (m ((c.tc : Thread nD τ).loc main_arg0)) (m ((c.tc : Thread nD τ).loc main_arg1))) := by
  unfold V below packQ
  after_results
  try rfl

set_option maxHeartbeats 2000000 in
theorem V_v17 (c : Dev nD) : V m c main_v17 = below (packK (m ((c.tc : Thread nD τ).loc main_arg2)) (m ((c.tc : Thread nD τ).loc main_arg3))) := by
  unfold V below packK
  after_results
  try rfl

set_option maxHeartbeats 2000000 in
theorem V_v23 (c : Dev nD) : V m c main_v23 = below (packV (m ((c.tc : Thread nD τ).loc main_arg4))) := by
  unfold V below packV
  after_results
  try rfl

/-- Every window's block index: the batch turns slowest, the head fastest, the context's rows after every latent token's. -/
theorem idx : ∀ t : Fin cfg0.N, win0_0.index t = ![32 + t.val / 16, t.val % 16] ∧ win0_1.index t = ![32 + t.val / 16, t.val % 16]
    ∧ win0_2.index t = ![32 + t.val / 16, t.val % 16] ∧ win0_3.index t = ![t.val / 16, t.val % 16] :=
  (by decide +kernel : ∀ t : Fin grid0.N, win0_0.index t = ![32 + t.val / 16, t.val % 16] ∧ win0_1.index t = ![32 + t.val / 16, t.val % 16]
    ∧ win0_2.index t = ![32 + t.val / 16, t.val % 16] ∧ win0_3.index t = ![t.val / 16, t.val % 16])

theorem count (t : Fin cfg0.N) : t.val < 64 := lt_of_lt_of_eq t.isLt (show cfg0.N = 64 from N_0)

/-- The sample of a step. -/
def sample (t : Fin cfg0.N) : Fin 4 := ⟨t.val / 16, by have := count t; omega⟩

/-- The head of a step. -/
def head (t : Fin cfg0.N) : Fin 16 := ⟨t.val % 16, by omega⟩

theorem block0 (c : Dev nD) (t : Fin cfg0.N) (r d : Fin 256) : iblk m c 0 t (ix2 r d)
    = packQ (m ((c.tc : Thread nD τ).loc main_arg0)) (m ((c.tc : Thread nD τ).loc main_arg1)) (ix2 ⟨256 * (sample t).val + r.val, by omega⟩ ⟨256 * (head t).val + d.val, by omega⟩) := by
  refine Eq.trans ?_ (below_row (packQ (m ((c.tc : Thread nD τ).loc main_arg0)) (m ((c.tc : Thread nD τ).loc main_arg1))) _ _)
  rw [← V_v9 m c]
  unfold sample head
  blk_point [iblk, idx t]

theorem block1 (c : Dev nD) (t : Fin cfg0.N) (r d : Fin 256) : iblk m c 1 t (ix2 r d)
    = packK (m ((c.tc : Thread nD τ).loc main_arg2)) (m ((c.tc : Thread nD τ).loc main_arg3)) (ix2 ⟨256 * (sample t).val + r.val, by omega⟩ ⟨256 * (head t).val + d.val, by omega⟩) := by
  refine Eq.trans ?_ (below_row (packK (m ((c.tc : Thread nD τ).loc main_arg2)) (m ((c.tc : Thread nD τ).loc main_arg3))) _ _)
  rw [← V_v17 m c]
  unfold sample head
  blk_point [iblk, idx t]

theorem block2 (c : Dev nD) (t : Fin cfg0.N) (r d : Fin 256) : iblk m c 2 t (ix2 r d)
    = packV (m ((c.tc : Thread nD τ).loc main_arg4)) (ix2 ⟨256 * (sample t).val + r.val, by omega⟩ ⟨256 * (head t).val + d.val, by omega⟩) := by
  refine Eq.trans ?_ (below_row (packV (m ((c.tc : Thread nD τ).loc main_arg4))) _ _)
  rw [← V_v23 m c]
  unfold sample head
  blk_point [iblk, idx t]

/-- One attended value, from the products of its query row with the keys. -/
theorem tile (q k v : Vec Ideal S256x256 .bf16) (x : S256x128.Idx) (a : Fin 256 → ℝ) (ν : ℝ) (w : Fin 256 → EReal)
    (hA : ∀ z : Fin 256, ∑ d : Fin 256, q (ix2 (x 0) d) * k (ix2 z d) = ((a z / Real.log 2 : ℝ) : EReal))
    (hw : ∀ z : Fin 256, v (ix2 z ⟨(x 1).val, lt_trans (x 1).isLt (by decide)⟩) = w z)
    (ow : ∀ z : Fin 256, v (ix2 z ⟨128 + (x 1).val, Nat.add_lt_add_left (x 1).isLt 128⟩) = (1 : EReal)) :
    k0_pay1 q k v x = Cert.AttnCtxRefIdeal.Read.row a ν w := by
  pointwise [k0_pay1]
  simp only [hw, ow, mul_one]
  exact Cert.AttnCtxRefIdeal.Read.kernel_row a ν w _ hA _ (by rw [AttnFinite.low_bits])

/-- The queries and the keys are real. -/
structure Real (c : Dev nD) : Prop where
  r0 : AttnMath.Reals (ι := S4x256x16x128.Idx) (m ((c.tc : Thread nD τ).loc main_arg0))
  r1 : AttnMath.Reals (ι := S4x256x16x64.Idx) (m ((c.tc : Thread nD τ).loc main_arg1))
  r2 : AttnMath.Reals (ι := S4x256x16x128.Idx) (m ((c.tc : Thread nD τ).loc main_arg2))
  r3 : AttnMath.Reals (ι := S4x256x64.Idx) (m ((c.tc : Thread nD τ).loc main_arg3))

theorem place (c : Dev nD) (R : Real m c) (t : Fin cfg0.N) (x : S256x128.Idx) (j : S1024x2048.Idx)
    (h0 : (j 0).val = 256 * (sample t).val + (x 0).val) (h1 : (j 1).val = 128 * (head t).val + (x 1).val) :
    k0_pay1 (iblk m c 0 t) (iblk m c 1 t) (iblk m c 2 t) x = Cert.AttnCtxRefIdeal.Read.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j := by
  obtain ⟨ν, e⟩ := Cert.AttnCtxRefIdeal.Read.reference_at _ _ _ _ (m ((c.tc : Thread nD τ).loc main_arg4)) R.r0 R.r1 R.r2 R.r3 (sample t) (head t) (x 0) (x 1) j h0 h1
  refine Eq.trans ?_ e.symm
  refine tile _ _ _ x _ ν _ (fun k => ?_) (fun k => ?_) fun k => ?_
  · refine AttnMath.lanes (fun _ => R.r0 _) (fun _ => R.r1 _) (fun _ => R.r2 _) (fun _ => R.r3 _) _ _
      (fun y => ?_) (fun y => ?_) (fun y => ?_) (fun y => ?_) fun y => ?_
    · exact (block0 m c t _ _).trans (packQ_plain _ _ _ (sample t) (head t) _ y rfl rfl)
    · exact (block0 m c t _ _).trans (packQ_rotated _ _ _ (sample t) (head t) _ y rfl rfl)
    · exact (block1 m c t _ _).trans (packK_plain _ _ _ (sample t) (head t) _ y rfl rfl)
    · exact (block1 m c t _ _).trans (packK_rotated _ _ _ (sample t) (head t) _ y rfl rfl)
    · exact (block1 m c t _ _).trans (packK_zero _ _ _ (sample t) (head t) _ y rfl rfl)
  · exact (block2 m c t _ _).trans (packV_plain _ _ (sample t) (head t) k (x 1) rfl rfl)
  · exact (block2 m c t _ _).trans (packV_one _ _ (sample t) (head t) k (x 1) rfl rfl)

/-- The result array after the run is the reference's. -/
theorem final (c : Dev nD) (R : Real m c) : (dats m 0 c).arrAt 3 cfg0.N = Cert.AttnCtxRefIdeal.Read.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 3 _ (by decide +kernel) fun t _ y => ?_
  blk_simp
  rw [after0_3]
  frame_out
  refine place m c R t y _ ?_ ?_ <;> (simp only [sample, head]; blk_simp [idx t]; dsimp only; omega)

end Cert.AttnCtxIdeal.Final

end
-- ==== Proof.AttnCtxFinite.lean ====
/- The context's precondition read: every number of its queries and of its keys is a real. -/
module

public import proofs.«01_k».proof.Pre_attn_ctx_finite
public import proofs.«01_k».proof.Proof.AttnFinite
public import Idealize.ShloMosaic.Lib.Pipeline.ValueKit

@[expose] public section

set_option maxRecDepth 16384

noncomputable section

namespace Cert.AttnCtxFinite

open Idealize.ShloMosaic
open Cert.Pre_attn_ctx_finite
open Cert.AttnFinite (both real_at high_bits)

/-- The precondition function's side conditions. -/
instance facts : Cert.Pre_attn_ctx_finite.Facts where
  bcast_S_S4x256x16x128 := by decide
  reducesTo_S4x256x16x128_S_d0_1_2_3 := by decide
  h_S_ := by decide
  bcast_S_S4x256x16x64 := by decide
  reducesTo_S4x256x16x64_S_d0_1_2_3 := by decide
  bcast_S_S4x256x64 := by decide
  reducesTo_S4x256x64_S_d0_1_2 := by decide

/-- Where the precondition holds the queries and the keys are real throughout. -/
theorem reals (qn : FVec Ideal S4x256x16x128 .f32) (qr : FVec Ideal S4x256x16x64 .f32) (kn : FVec Ideal S4x256x16x128 .f32)
    (kr : FVec Ideal S4x256x64 .f32) (v : FVec Ideal S4x256x16x128 .f32) (j : S_.Idx)
    (e : Cert.Pre_attn_ctx_finite.fn (F := Ideal) qn qr kn kr v j = 1#1) :
    (∀ i, ∃ r : ℝ, qn i = r) ∧ (∀ i, ∃ r : ℝ, qr i = r) ∧ (∀ i, ∃ r : ℝ, kn i = r) ∧ ∀ i, ∃ r : ℝ, kr i = r := by
  obtain ⟨e, e3⟩ := both _ _ e
  obtain ⟨e, e2⟩ := both _ _ e
  obtain ⟨e0, e1⟩ := both _ _ e
  refine ⟨real_at _ _ (fun _ => high_bits) _ _ _ j (fun _ => funext fun a => a.elim0) e0,
    real_at _ _ (fun _ => high_bits) _ _ _ j (fun _ => funext fun a => a.elim0) e1,
    real_at _ _ (fun _ => high_bits) _ _ _ j (fun _ => funext fun a => a.elim0) e2,
    real_at _ _ (fun _ => high_bits) _ _ _ j (fun _ => funext fun a => a.elim0) e3⟩

end Cert.AttnCtxFinite

end
-- ==== Proof.lean ====
/-
  The proof of `Cert.Claim` (proof/Defs.lean): the frames, and for each call that its result is its reference's result. What each
  kernel's result array is, as one expression over its argument arrays, is in the modules Proof/…Value.lean.
-/
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Gen.Ff2.Frame
public import proofs.«01_k».proof.Proof.Gen.Ff2Ideal.Value
public import proofs.«01_k».proof.Proof.Gen.Ff2RefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.Ff1.Frame
public import proofs.«01_k».proof.Proof.Gen.Ff1Ideal.Frame
public import proofs.«01_k».proof.Proof.Gen.Ff1RefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.InTail.Frame
public import proofs.«01_k».proof.Proof.Gen.InTailIdeal.Value
public import proofs.«01_k».proof.Proof.Gen.InTailRefIdeal.Run
public import proofs.«01_k».proof.Proof.Gen.KvProj.Frame
public import proofs.«01_k».proof.Proof.Gen.KvProjIdeal.Value
public import proofs.«01_k».proof.Proof.Gen.KvProjRefIdeal.Run
public import proofs.«01_k».proof.Proof.Gen.QProj.Frame
public import proofs.«01_k».proof.Proof.Gen.QProjIdeal.Value
public import proofs.«01_k».proof.Proof.Gen.QProjRefIdeal.Run
public import proofs.«01_k».proof.Proof.Gen.Adaln.Frame
public import proofs.«01_k».proof.Proof.Gen.AdalnIdeal.Value
public import proofs.«01_k».proof.Proof.Gen.AdalnRefIdeal.Run
public import proofs.«01_k».proof.Proof.Gen.Modulate.Frame
public import proofs.«01_k».proof.Proof.Gen.ModulateIdeal.Value
public import proofs.«01_k».proof.Proof.Gen.ModulateRefIdeal.Run
public import proofs.«01_k».proof.Proof.Gen.Residual.Frame
public import proofs.«01_k».proof.Proof.Gen.ResidualIdeal.Value
public import proofs.«01_k».proof.Proof.Gen.ResidualRefIdeal.Run
public import proofs.«01_k».proof.Proof.Gen.ResMod.Frame
public import proofs.«01_k».proof.Proof.Gen.ResModIdeal.Value
public import proofs.«01_k».proof.Proof.Gen.ResModRefIdeal.Run
public import proofs.«01_k».proof.Proof.Gen.ChDft.Frame
public import proofs.«01_k».proof.Proof.Gen.ChDftIdeal.Value
public import proofs.«01_k».proof.Proof.Gen.ChDftRefIdeal.Run
public import proofs.«01_k».proof.Proof.Gen.SeqDft.Frame
public import proofs.«01_k».proof.Proof.Gen.SeqDftIdeal.Value
public import proofs.«01_k».proof.Proof.Gen.SeqDftRefIdeal.Run
public import proofs.«01_k».proof.Proof.Gen.CtxDft.Frame
public import proofs.«01_k».proof.Proof.Gen.CtxDftIdeal.Value
public import proofs.«01_k».proof.Proof.Gen.CtxDftRefIdeal.Run
public import proofs.«01_k».proof.Proof.Gen.AttnCtx.Frame
public import proofs.«01_k».proof.Proof.Gen.AttnCtxIdeal.Value
public import proofs.«01_k».proof.Proof.Gen.AttnCtxRefIdeal.Run
public import proofs.«01_k».proof.Proof.AttnValue
public import proofs.«01_k».proof.Proof.Ff2Value
public import proofs.«01_k».proof.Proof.OutProjValue
public import proofs.«01_k».proof.Proof.InProjValue
public import proofs.«01_k».proof.Proof.Ff1Value
public import proofs.«01_k».proof.Proof.MergeValue
public import proofs.«01_k».proof.Proof.InTailValue
public import proofs.«01_k».proof.Proof.KvValue
public import proofs.«01_k».proof.Proof.QValue
public import proofs.«01_k».proof.Proof.AdalnValue
public import proofs.«01_k».proof.Proof.ModulateValue
public import proofs.«01_k».proof.Proof.ResidualValue
public import proofs.«01_k».proof.Proof.ResModValue
public import proofs.«01_k».proof.Proof.ChDftValue
public import proofs.«01_k».proof.Proof.SeqDftValue
public import proofs.«01_k».proof.Proof.CtxDftValue
public import proofs.«01_k».proof.Proof.AttnCtxValue
public import proofs.«01_k».proof.Proof.Ff1FrameBits
public import proofs.«01_k».proof.Proof.AttnCtxFinite

@[expose] public section

noncomputable section

namespace Cert.Proof

open Idealize.ShloMosaic Idealize.ShloMosaic.TcCoe Idealize.SL.Sem

/-- The reference `AttnRefIdeal` runs, keeps its arguments, and has no semaphore to leave raised. -/
theorem frame_AttnRefIdeal : Cert.quiescent_AttnRefIdeal := fun m g _ =>
  (θ_run _ _ _).mono (fun r h => ⟨fun c => (h c).2, sem_eq_zero_of_no_sems rfl r.2⟩) (Cert.AttnRefIdeal.Value.run m g)

/-- The reference `Ff2RefIdeal` runs, keeps its arguments, and has no semaphore to leave raised. -/
theorem frame_Ff2RefIdeal : Cert.quiescent_Ff2RefIdeal := fun m g _ =>
  (θ_run _ _ _).mono (fun r h => ⟨fun c => (h c).2.2, sem_eq_zero_of_no_sems rfl r.2⟩) (Cert.Ff2RefIdeal.Value.run m g)

/-- The reference `OutProjRefIdeal` runs, keeps its arguments, and has no semaphore to leave raised. -/
theorem frame_OutProjRefIdeal : Cert.quiescent_OutProjRefIdeal := fun m g _ =>
  (θ_run _ _ _).mono (fun r h => ⟨fun c => (h c).2, sem_eq_zero_of_no_sems rfl r.2⟩) (Cert.OutProjRefIdeal.Value.run m g)

/-- The reference `InProjRefIdeal` runs, keeps its arguments, and has no semaphore to leave raised. -/
theorem frame_InProjRefIdeal : Cert.quiescent_InProjRefIdeal := fun m g _ =>
  (θ_run _ _ _).mono (fun r h => ⟨fun c => (h c).2.2, sem_eq_zero_of_no_sems rfl r.2⟩) (Cert.InProjRefIdeal.Value.run m g)

/-- The reference `Ff1RefIdeal` runs, keeps its arguments, and has no semaphore to leave raised. -/
theorem frame_Ff1RefIdeal : Cert.quiescent_Ff1RefIdeal := fun m g _ =>
  (θ_run _ _ _).mono (fun r h => ⟨fun c => (h c).2.2.2, sem_eq_zero_of_no_sems rfl r.2⟩) (Cert.Ff1RefIdeal.Value.run m g)

/-- The reference `MergeRefIdeal` runs, keeps its arguments, and has no semaphore to leave raised. -/
theorem frame_MergeRefIdeal : Cert.quiescent_MergeRefIdeal := fun m g _ =>
  (θ_run _ _ _).mono (fun r h => ⟨fun c => (h c).2, sem_eq_zero_of_no_sems rfl r.2⟩) (Cert.MergeRefIdeal.Value.run m g)

/-- The reference `InTailRefIdeal` runs, keeps its arguments, and has no semaphore to leave raised. -/
theorem frame_InTailRefIdeal : Cert.quiescent_InTailRefIdeal := fun m g _ =>
  (θ_run _ _ _).mono (fun r h => ⟨fun c => (h c).2, sem_eq_zero_of_no_sems rfl r.2⟩) (Cert.InTailRefIdeal.Value.run m g)

/-- The reference `KvProjRefIdeal` runs, keeps its arguments, and has no semaphore to leave raised. -/
theorem frame_KvProjRefIdeal : Cert.quiescent_KvProjRefIdeal := fun m g _ =>
  (θ_run _ _ _).mono (fun r h => ⟨fun c => (h c).2.2, sem_eq_zero_of_no_sems rfl r.2⟩) (Cert.KvProjRefIdeal.Value.run m g)

/-- The reference `QProjRefIdeal` runs, keeps its arguments, and has no semaphore to leave raised. -/
theorem frame_QProjRefIdeal : Cert.quiescent_QProjRefIdeal := fun m g _ =>
  (θ_run _ _ _).mono (fun r h => ⟨fun c => (h c).2, sem_eq_zero_of_no_sems rfl r.2⟩) (Cert.QProjRefIdeal.Value.run m g)

/-- The reference `AdalnRefIdeal` runs, keeps its arguments, and has no semaphore to leave raised. -/
theorem frame_AdalnRefIdeal : Cert.quiescent_AdalnRefIdeal := fun m g _ =>
  (θ_run _ _ _).mono (fun r h => ⟨fun c => (h c).2, sem_eq_zero_of_no_sems rfl r.2⟩) (Cert.AdalnRefIdeal.Value.run m g)

/-- The reference `ModulateRefIdeal` runs, keeps its arguments, and has no semaphore to leave raised. -/
theorem frame_ModulateRefIdeal : Cert.quiescent_ModulateRefIdeal := fun m g _ =>
  (θ_run _ _ _).mono (fun r h => ⟨fun c => (h c).2, sem_eq_zero_of_no_sems rfl r.2⟩) (Cert.ModulateRefIdeal.Value.run m g)

/-- The reference `ResidualRefIdeal` runs, keeps its arguments, and has no semaphore to leave raised. -/
theorem frame_ResidualRefIdeal : Cert.quiescent_ResidualRefIdeal := fun m g _ =>
  (θ_run _ _ _).mono (fun r h => ⟨fun c => (h c).2, sem_eq_zero_of_no_sems rfl r.2⟩) (Cert.ResidualRefIdeal.Value.run m g)

/-- The reference `ResModRefIdeal` runs, keeps its arguments, and has no semaphore to leave raised. -/
theorem frame_ResModRefIdeal : Cert.quiescent_ResModRefIdeal := fun m g _ =>
  (θ_run _ _ _).mono (fun r h => ⟨fun c => (h c).2.2, sem_eq_zero_of_no_sems rfl r.2⟩) (Cert.ResModRefIdeal.Value.run m g)

/-- The reference `ChDftRefIdeal` runs, keeps its arguments, and has no semaphore to leave raised. -/
theorem frame_ChDftRefIdeal : Cert.quiescent_ChDftRefIdeal := fun m g _ =>
  (θ_run _ _ _).mono (fun r h => ⟨fun c => (h c).2, sem_eq_zero_of_no_sems rfl r.2⟩) (Cert.ChDftRefIdeal.Value.run m g)

/-- The reference `SeqDftRefIdeal` runs, keeps its arguments, and has no semaphore to leave raised. -/
theorem frame_SeqDftRefIdeal : Cert.quiescent_SeqDftRefIdeal := fun m g _ =>
  (θ_run _ _ _).mono (fun r h => ⟨fun c => (h c).2, sem_eq_zero_of_no_sems rfl r.2⟩) (Cert.SeqDftRefIdeal.Value.run m g)

/-- The reference `CtxDftRefIdeal` runs, keeps its arguments, and has no semaphore to leave raised. -/
theorem frame_CtxDftRefIdeal : Cert.quiescent_CtxDftRefIdeal := fun m g _ =>
  (θ_run _ _ _).mono (fun r h => ⟨fun c => (h c).2, sem_eq_zero_of_no_sems rfl r.2⟩) (Cert.CtxDftRefIdeal.Value.run m g)

/-- The reference `AttnCtxRefIdeal` runs, keeps its arguments, and has no semaphore to leave raised. -/
theorem frame_AttnCtxRefIdeal : Cert.quiescent_AttnCtxRefIdeal := fun m g _ =>
  (θ_run _ _ _).mono (fun r h => ⟨fun c => (h c).2, sem_eq_zero_of_no_sems rfl r.2⟩) (Cert.AttnCtxRefIdeal.Value.run m g)

/-- `Ff2`: both run, and from equal arguments the results are equal. -/
theorem algebraic_Ff2 : Cert.algebraic_Ff2Ideal_Ff2RefIdeal := by
  intro m g m' g' _ hargs
  refine ⟨fun c => Cert.Ff2Ideal.Final.product (m ((c.tc : Thread _ _).loc Cert.Ff2Ideal.main_arg0)) (m ((c.tc : Thread _ _).loc Cert.Ff2Ideal.main_arg1)), fun c => Cert.Ff2Ideal.Final.rounded (m ((c.tc : Thread _ _).loc Cert.Ff2Ideal.main_arg2)), ?_, ?_⟩
  · exact (θ_run _ _ _).mono (fun r h c => ⟨(h c).1.trans (Cert.Ff2Ideal.Final.final m c), (h c).2.1.trans (Cert.Ff2Ideal.Final.final_cast m c), (h c).2.2⟩) (Cert.Ff2Ideal.Value.run_blocks m g)
  · refine (θ_run _ _ _).mono (fun r h c => ?_) (Cert.Ff2RefIdeal.Value.run m' g')
    obtain ⟨h0, h1, h2⟩ := hargs c
    refine ⟨(h c).1.trans ?_, (h c).2.1.trans ?_, (h c).2.2⟩
    · rw [h0, h1]
    · rw [h2]

/-- `OutProj`: both run, and from equal arguments the results are equal. -/
theorem algebraic_OutProj : Cert.algebraic_OutProjIdeal_OutProjRefIdeal := by
  intro m g m' g' _ hargs
  refine ⟨fun c => Cert.OutProjIdeal.Final.product (m ((c.tc : Thread _ _).loc Cert.OutProjIdeal.main_arg0)) (m ((c.tc : Thread _ _).loc Cert.OutProjIdeal.main_arg1)), ?_, ?_⟩
  · exact (θ_run _ _ _).mono (fun r h c => ⟨(h c).1.trans (Cert.OutProjIdeal.Final.final m c), (h c).2⟩) (Cert.OutProjIdeal.Value.run_blocks m g)
  · refine (θ_run _ _ _).mono (fun r h c => ?_) (Cert.OutProjRefIdeal.Value.run m' g')
    obtain ⟨h0, h1⟩ := hargs c
    refine ⟨(h c).1.trans ?_, (h c).2⟩
    · rw [h0, h1]

/-- `InProj`: both run, and from equal arguments the results are equal. -/
theorem algebraic_InProj : Cert.algebraic_InProjIdeal_InProjRefIdeal := by
  intro m g m' g' _ hargs
  refine ⟨fun c => Cert.InProjIdeal.Final.product (m ((c.tc : Thread _ _).loc Cert.InProjIdeal.main_arg0)) (m ((c.tc : Thread _ _).loc Cert.InProjIdeal.main_arg1)), fun c => Cert.InProjIdeal.Final.rounded (m ((c.tc : Thread _ _).loc Cert.InProjIdeal.main_arg2)), ?_, ?_⟩
  · exact (θ_run _ _ _).mono (fun r h c => ⟨(h c).1.trans (Cert.InProjIdeal.Final.final m c), (h c).2.1.trans (Cert.InProjIdeal.Final.final_cast m c), (h c).2.2⟩) (Cert.InProjIdeal.Value.run_blocks m g)
  · refine (θ_run _ _ _).mono (fun r h c => ?_) (Cert.InProjRefIdeal.Value.run m' g')
    obtain ⟨h0, h1, h2⟩ := hargs c
    refine ⟨(h c).1.trans ?_, (h c).2.1.trans ?_, (h c).2.2⟩
    · rw [h0, h1]
    · rw [h2]

/-- `Merge`: both run, and from equal arguments the results are equal. -/
theorem algebraic_Merge : Cert.algebraic_MergeIdeal_MergeRefIdeal := by
  intro m g m' g' _ hargs
  refine ⟨fun c => Cert.MergeIdeal.Final.merged (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)) (m ((c.tc : Thread _ _).loc Cert.MergeIdeal.main_arg7)) (m ((c.tc : Thread _ _).loc Cert.MergeIdeal.main_arg8)) (m ((c.tc : Thread _ _).loc Cert.MergeIdeal.main_arg9)) (m ((c.tc : Thread _ _).loc Cert.MergeIdeal.main_arg10)) (m ((c.tc : Thread _ _).loc Cert.MergeIdeal.main_arg11)), ?_, ?_⟩
  · exact (θ_run _ _ _).mono (fun r h c => ⟨(h c).1.trans (Cert.MergeIdeal.Final.final m c), (h c).2⟩) (Cert.MergeIdeal.Value.run_blocks m g)
  · refine (θ_run _ _ _).mono (fun r h c => ?_) (Cert.MergeRefIdeal.Value.run m' g')
    obtain ⟨h0, h1, h2, h3, h4, h5, h6, h7, h8, h9, h10, h11⟩ := hargs c
    refine ⟨(h c).1.trans ?_, (h c).2⟩
    · unfold Cert.MergeRefIdeal.Value.res_main_v46; rw [h0, h1, h2, h3, h4, h5, h6, h7, h8, h9, h10, h11]; rfl

/-- `InTail`: both run, and from equal arguments the results are equal. -/
theorem algebraic_InTail : Cert.algebraic_InTailIdeal_InTailRefIdeal := by
  intro m g m' g' _ hargs
  refine ⟨fun c => Cert.InTailIdeal.Final.tail (m ((c.tc : Thread _ _).loc Cert.InTailIdeal.main_arg0)) (m ((c.tc : Thread _ _).loc Cert.InTailIdeal.main_arg1)) (m ((c.tc : Thread _ _).loc Cert.InTailIdeal.main_arg2)), ?_, ?_⟩
  · exact (θ_run _ _ _).mono (fun r h c => ⟨(h c).1.trans (Cert.InTailIdeal.Final.final m c), (h c).2⟩) (Cert.InTailIdeal.Value.run_blocks m g)
  · refine (θ_run _ _ _).mono (fun r h c => ?_) (Cert.InTailRefIdeal.Value.run m' g')
    obtain ⟨h0, h1, h2⟩ := hargs c
    refine ⟨(h c).1.trans ?_, (h c).2⟩
    · rw [h0, h1, h2] <;> rfl

/-- `KvProj`: both run, and from equal arguments the results are equal. -/
theorem algebraic_KvProj : Cert.algebraic_KvProjIdeal_KvProjRefIdeal := by
  intro m g m' g' _ hargs
  refine ⟨fun c => Cert.KvProjRefIdeal.Read.keys (m ((c.tc : Thread _ _).loc Cert.KvProjIdeal.main_arg0)) (m ((c.tc : Thread _ _).loc Cert.KvProjIdeal.main_arg1)) (m ((c.tc : Thread _ _).loc Cert.KvProjIdeal.main_arg2)) (m ((c.tc : Thread _ _).loc Cert.KvProjIdeal.main_arg3)) (m ((c.tc : Thread _ _).loc Cert.KvProjIdeal.main_arg4)) (m ((c.tc : Thread _ _).loc Cert.KvProjIdeal.main_arg5)), fun c => Cert.KvProjRefIdeal.Read.values (m ((c.tc : Thread _ _).loc Cert.KvProjIdeal.main_arg0)) (m ((c.tc : Thread _ _).loc Cert.KvProjIdeal.main_arg4)) (m ((c.tc : Thread _ _).loc Cert.KvProjIdeal.main_arg5)), ?_, ?_⟩
  · exact (θ_run _ _ _).mono (fun r h c => ⟨(h c).1.trans (Cert.KvProjIdeal.Final.final m c), (h c).2.1.trans (Cert.KvProjIdeal.Final.final_v m c), (h c).2.2⟩) (Cert.KvProjIdeal.Value.run_blocks m g)
  · refine (θ_run _ _ _).mono (fun r h c => ?_) (Cert.KvProjRefIdeal.Value.run m' g')
    obtain ⟨h0, h1, h2, h3, h4, h5⟩ := hargs c
    refine ⟨(h c).1.trans ?_, (h c).2.1.trans ?_, (h c).2.2⟩
    · refine (Cert.KvProjRefIdeal.Read.res_eq m' c).trans ?_; rw [h0, h1, h2, h3, h4, h5] <;> rfl
    · rw [h0, h4, h5] <;> rfl

/-- `QProj`: both run, and from equal arguments the results are equal. -/
theorem algebraic_QProj : Cert.algebraic_QProjIdeal_QProjRefIdeal := by
  intro m g m' g' _ hargs
  refine ⟨fun c => Cert.QProjRefIdeal.Read.queries (m ((c.tc : Thread _ _).loc Cert.QProjIdeal.main_arg0)) (m ((c.tc : Thread _ _).loc Cert.QProjIdeal.main_arg1)) (m ((c.tc : Thread _ _).loc Cert.QProjIdeal.main_arg2)) (m ((c.tc : Thread _ _).loc Cert.QProjIdeal.main_arg3)) (m ((c.tc : Thread _ _).loc Cert.QProjIdeal.main_arg4)), ?_, ?_⟩
  · exact (θ_run _ _ _).mono (fun r h c => ⟨(h c).1.trans (Cert.QProjIdeal.Final.final m c), (h c).2⟩) (Cert.QProjIdeal.Value.run_blocks m g)
  · refine (θ_run _ _ _).mono (fun r h c => ?_) (Cert.QProjRefIdeal.Value.run m' g')
    obtain ⟨h0, h1, h2, h3, h4⟩ := hargs c
    refine ⟨(h c).1.trans ?_, (h c).2⟩
    · refine (Cert.QProjRefIdeal.Read.res_eq m' c).trans ?_; rw [h0, h1, h2, h3, h4] <;> rfl

/-- `Adaln`: both run, and from equal arguments the results are equal. -/
theorem algebraic_Adaln : Cert.algebraic_AdalnIdeal_AdalnRefIdeal := by
  intro m g m' g' _ hargs
  refine ⟨fun c => Cert.AdalnIdeal.Final.vectors (Cert.AdalnIdeal.Final.cond (m ((c.tc : Thread _ _).loc Cert.AdalnIdeal.main_arg0)) (m ((c.tc : Thread _ _).loc Cert.AdalnIdeal.main_arg1))) (m ((c.tc : Thread _ _).loc Cert.AdalnIdeal.main_arg2)) (m ((c.tc : Thread _ _).loc Cert.AdalnIdeal.main_arg3)) (m ((c.tc : Thread _ _).loc Cert.AdalnIdeal.main_arg4)), ?_, ?_⟩
  · exact (θ_run _ _ _).mono (fun r h c => ⟨(h c).1.trans (Cert.AdalnIdeal.Final.final m c), (h c).2⟩) (Cert.AdalnIdeal.Value.run_blocks m g)
  · refine (θ_run _ _ _).mono (fun r h c => ?_) (Cert.AdalnRefIdeal.Value.run m' g')
    obtain ⟨h0, h1, h2, h3, h4⟩ := hargs c
    refine ⟨(h c).1.trans ?_, (h c).2⟩
    · rw [h0, h1, h2, h3, h4] <;> rfl

/-- `Modulate`: both run, and from equal arguments the results are equal. -/
theorem algebraic_Modulate : Cert.algebraic_ModulateIdeal_ModulateRefIdeal := by
  intro m g m' g' _ hargs
  refine ⟨fun c => Cert.ModulateIdeal.Final.modulated (m ((c.tc : Thread _ _).loc Cert.ModulateIdeal.main_arg0)) (m ((c.tc : Thread _ _).loc Cert.ModulateIdeal.main_arg1)) (m ((c.tc : Thread _ _).loc Cert.ModulateIdeal.main_arg2)), ?_, ?_⟩
  · exact (θ_run _ _ _).mono (fun r h c => ⟨(h c).1.trans (Cert.ModulateIdeal.Final.final m c), (h c).2⟩) (Cert.ModulateIdeal.Value.run_blocks m g)
  · refine (θ_run _ _ _).mono (fun r h c => ?_) (Cert.ModulateRefIdeal.Value.run m' g')
    obtain ⟨h0, h1, h2⟩ := hargs c
    refine ⟨(h c).1.trans ?_, (h c).2⟩
    · rw [h0, h1, h2] <;> rfl

/-- `Residual`: both run, and from equal arguments the results are equal. -/
theorem algebraic_Residual : Cert.algebraic_ResidualIdeal_ResidualRefIdeal := by
  intro m g m' g' _ hargs
  refine ⟨fun c => Cert.ResidualIdeal.Final.resid (m ((c.tc : Thread _ _).loc Cert.ResidualIdeal.main_arg0)) (m ((c.tc : Thread _ _).loc Cert.ResidualIdeal.main_arg1)) (m ((c.tc : Thread _ _).loc Cert.ResidualIdeal.main_arg2)) (m ((c.tc : Thread _ _).loc Cert.ResidualIdeal.main_arg3)), ?_, ?_⟩
  · exact (θ_run _ _ _).mono (fun r h c => ⟨(h c).1.trans (Cert.ResidualIdeal.Final.final m c), (h c).2⟩) (Cert.ResidualIdeal.Value.run_blocks m g)
  · refine (θ_run _ _ _).mono (fun r h c => ?_) (Cert.ResidualRefIdeal.Value.run m' g')
    obtain ⟨h0, h1, h2, h3⟩ := hargs c
    refine ⟨(h c).1.trans ?_, (h c).2⟩
    · rw [h0, h1, h2, h3] <;> rfl

/-- `ResMod`: both run, and from equal arguments the results are equal. -/
theorem algebraic_ResMod : Cert.algebraic_ResModIdeal_ResModRefIdeal := by
  intro m g m' g' _ hargs
  refine ⟨fun c => Cert.ResModIdeal.Final.resid (m ((c.tc : Thread _ _).loc Cert.ResModIdeal.main_arg0)) (m ((c.tc : Thread _ _).loc Cert.ResModIdeal.main_arg1)) (m ((c.tc : Thread _ _).loc Cert.ResModIdeal.main_arg2)) (m ((c.tc : Thread _ _).loc Cert.ResModIdeal.main_arg3)), fun c => Cert.ResModIdeal.Final.fed m c, ?_, ?_⟩
  · exact (θ_run _ _ _).mono (fun r h c => ⟨(h c).1.trans (Cert.ResModIdeal.Final.final m c), (h c).2.1.trans (Cert.ResModIdeal.Final.final_h m c), (h c).2.2⟩) (Cert.ResModIdeal.Value.run_blocks m g)
  · refine (θ_run _ _ _).mono (fun r h c => ?_) (Cert.ResModRefIdeal.Value.run m' g')
    obtain ⟨h0, h1, h2, h3, h4⟩ := hargs c
    refine ⟨(h c).1.trans ?_, (h c).2.1.trans ?_, (h c).2.2⟩
    · rw [h0, h1, h2, h3] <;> rfl
    · refine (Cert.ResModIdeal.Final.res_eq m' c).trans ?_; rw [h0, h1, h2, h3, h4] <;> rfl

/-- `ChDft`: both run, and from equal arguments the results are equal. -/
theorem algebraic_ChDft : Cert.algebraic_ChDftIdeal_ChDftRefIdeal := by
  intro m g m' g' _ hargs
  refine ⟨fun c => Cert.ChDftIdeal.Final.both (m ((c.tc : Thread _ _).loc Cert.ChDftIdeal.main_arg0)) (m ((c.tc : Thread _ _).loc Cert.ChDftIdeal.main_arg1)) (m ((c.tc : Thread _ _).loc Cert.ChDftIdeal.main_arg2)), ?_, ?_⟩
  · exact (θ_run _ _ _).mono (fun r h c => ⟨(h c).1.trans (Cert.ChDftIdeal.Final.final m c), (h c).2⟩) (Cert.ChDftIdeal.Value.run_blocks m g)
  · refine (θ_run _ _ _).mono (fun r h c => ?_) (Cert.ChDftRefIdeal.Value.run m' g')
    obtain ⟨h0, h1, h2⟩ := hargs c
    refine ⟨(h c).1.trans ?_, (h c).2⟩
    · rw [h0, h1, h2] <;> rfl

/-- `SeqDft`: both run, and from equal arguments the results are equal. -/
theorem algebraic_SeqDft : Cert.algebraic_SeqDftIdeal_SeqDftRefIdeal := by
  intro m g m' g' _ hargs
  refine ⟨fun c => Cert.SeqDftIdeal.Final.mixed (m ((c.tc : Thread _ _).loc Cert.SeqDftIdeal.main_arg0)) (m ((c.tc : Thread _ _).loc Cert.SeqDftIdeal.main_arg1)) (m ((c.tc : Thread _ _).loc Cert.SeqDftIdeal.main_arg2)), ?_, ?_⟩
  · exact (θ_run _ _ _).mono (fun r h c => ⟨(h c).1.trans (Cert.SeqDftIdeal.Final.final m c), (h c).2⟩) (Cert.SeqDftIdeal.Value.run_blocks m g)
  · refine (θ_run _ _ _).mono (fun r h c => ?_) (Cert.SeqDftRefIdeal.Value.run m' g')
    obtain ⟨h0, h1, h2⟩ := hargs c
    refine ⟨(h c).1.trans ?_, (h c).2⟩
    · rw [h0, h1, h2] <;> rfl

/-- `CtxDft`: both run, and from equal arguments the results are equal. -/
theorem algebraic_CtxDft : Cert.algebraic_CtxDftIdeal_CtxDftRefIdeal := by
  intro m g m' g' _ hargs
  refine ⟨fun c => Cert.CtxDftIdeal.Final.mixed (m ((c.tc : Thread _ _).loc Cert.CtxDftIdeal.main_arg0)) (m ((c.tc : Thread _ _).loc Cert.CtxDftIdeal.main_arg1)) (m ((c.tc : Thread _ _).loc Cert.CtxDftIdeal.main_arg2)), ?_, ?_⟩
  · exact (θ_run _ _ _).mono (fun r h c => ⟨(h c).1.trans (Cert.CtxDftIdeal.Final.final m c), (h c).2⟩) (Cert.CtxDftIdeal.Value.run_blocks m g)
  · refine (θ_run _ _ _).mono (fun r h c => ?_) (Cert.CtxDftRefIdeal.Value.run m' g')
    obtain ⟨h0, h1, h2⟩ := hargs c
    refine ⟨(h c).1.trans ?_, (h c).2⟩
    · rw [h0, h1, h2] <;> rfl

/-- The precondition says that the queries and the keys are real. -/
theorem real_of_pre (m : (ℓ : Loc Cert.AttnIdeal.nD Cert.AttnIdeal.τ Cert.AttnIdeal.sig) → Buf (Elt Ideal) ℓ)
    (h : Cert.Pre_AttnIdeal_attn_finite m) (c : Dev Cert.AttnIdeal.nD) : Cert.AttnIdeal.Final.Real m c := by
  obtain ⟨r0, r1, r2, r3, r5, r6⟩ := Cert.AttnFinite.reals _ _ _ _ _ _ _ _ (fun a => a.elim0) (congrFun (h c) _)
  exact ⟨r0, r1, r2, r3, r5, r6⟩

/-- `Attn`: both run, and from equal arguments that are real where the scores are taken the results are equal. -/
theorem algebraic_Attn : Cert.algebraic_AttnIdeal_AttnRefIdeal_pre_attn_finite := by
  intro m g m' g' hpre hargs
  refine ⟨fun c => Cert.AttnIdeal.Final.result m c, ?_, ?_⟩
  · exact (θ_run _ _ _).mono (fun r h c => ⟨(h c).1.trans (Cert.AttnIdeal.Final.final m c (real_of_pre m hpre c)), (h c).2⟩)
      (Cert.AttnIdeal.Value.run_blocks m g)
  · refine (θ_run _ _ _).mono (fun r h c => ?_) (Cert.AttnRefIdeal.Value.run m' g')
    obtain ⟨h0, h1, h2, h3, h4, h5, h6, h7⟩ := hargs c
    refine ⟨(h c).1.trans ((Cert.AttnRefIdeal.Read.res_eq m' c).trans ?_), (h c).2⟩
    rw [h0, h1, h2, h3, h4, h5, h6, h7]
    rfl

/-- The context's precondition says that its queries and keys are real. -/
theorem real_of_ctx_pre (m : (ℓ : Loc Cert.AttnCtxIdeal.nD Cert.AttnCtxIdeal.τ Cert.AttnCtxIdeal.sig) → Buf (Elt Ideal) ℓ)
    (h : Cert.Pre_AttnCtxIdeal_attn_ctx_finite m) (c : Dev Cert.AttnCtxIdeal.nD) : Cert.AttnCtxIdeal.Final.Real m c := by
  obtain ⟨r0, r1, r2, r3⟩ := Cert.AttnCtxFinite.reals _ _ _ _ _ (fun a => a.elim0) (congrFun (h c) _)
  exact ⟨r0, r1, r2, r3⟩

/-- `AttnCtx`: both run, and from equal arguments that are real where the scores are taken the results are equal. -/
theorem algebraic_AttnCtx : Cert.algebraic_AttnCtxIdeal_AttnCtxRefIdeal_pre_attn_ctx_finite := by
  intro m g m' g' hpre hargs
  refine ⟨fun c => Cert.AttnCtxRefIdeal.Read.result (m ((c.tc : Thread _ _).loc Cert.AttnCtxIdeal.main_arg0))
    (m ((c.tc : Thread _ _).loc Cert.AttnCtxIdeal.main_arg1)) (m ((c.tc : Thread _ _).loc Cert.AttnCtxIdeal.main_arg2))
    (m ((c.tc : Thread _ _).loc Cert.AttnCtxIdeal.main_arg3)) (m ((c.tc : Thread _ _).loc Cert.AttnCtxIdeal.main_arg4)), ?_, ?_⟩
  · exact (θ_run _ _ _).mono (fun r h c => ⟨(h c).1.trans (Cert.AttnCtxIdeal.Final.final m c (real_of_ctx_pre m hpre c)), (h c).2⟩)
      (Cert.AttnCtxIdeal.Value.run_blocks m g)
  · refine (θ_run _ _ _).mono (fun r h c => ?_) (Cert.AttnCtxRefIdeal.Value.run m' g')
    obtain ⟨h0, h1, h2, h3, h4⟩ := hargs c
    refine ⟨(h c).1.trans ?_, (h c).2⟩
    rw [h0, h1, h2, h3, h4]
    rfl

/-- `Ff1`: both run, and from equal arguments the three results are equal. -/
theorem algebraic_Ff1 : Cert.algebraic_Ff1Ideal_Ff1RefIdeal := by
  intro m g m' g' _ hargs
  refine ⟨fun c => Cert.Ff1Ideal.Final.mixed m c,
    fun c => Cert.Ff1RefIdeal.Read.hidden (Cert.Ff1Ideal.Final.fed m c) (m ((c.tc : Thread _ _).loc Cert.Ff1Ideal.main_arg5)),
    fun c => Cert.Ff1RefIdeal.Read.rounded (m ((c.tc : Thread _ _).loc Cert.Ff1Ideal.main_arg6)), Cert.Ff1Ideal.Final.run_results m g, ?_⟩
  refine (θ_run _ _ _).mono (fun r h c => ?_) (Cert.Ff1RefIdeal.Value.run m' g')
  obtain ⟨h0, h1, h2, h3, h4, h5, h6⟩ := hargs c
  refine ⟨(h c).1.trans ?_, (h c).2.1.trans ((Cert.Ff1RefIdeal.Read.res_eq m' c).trans ?_), (h c).2.2.1.trans ?_, (h c).2.2.2⟩
  · rw [h0, h1, h2, h3]; rfl
  · rw [h0, h1, h2, h3, h4, h5]
  · rw [h6]; rfl

theorem claim : Cert.Claim :=
  ⟨Cert.Attn.Gen.facts,
   Cert.AttnIdeal.Gen.facts,
   Cert.AttnRefIdeal.Gen.facts,
   Cert.AttnCtx.Gen.facts,
   Cert.AttnCtxIdeal.Gen.facts,
   Cert.AttnCtxRefIdeal.Gen.facts,
   Cert.Ff2.Gen.facts,
   Cert.Ff2Ideal.Gen.facts,
   Cert.Ff2RefIdeal.Gen.facts,
   Cert.OutProj.Gen.facts,
   Cert.OutProjIdeal.Gen.facts,
   Cert.OutProjRefIdeal.Gen.facts,
   Cert.InProj.Gen.facts,
   Cert.InProjIdeal.Gen.facts,
   Cert.InProjRefIdeal.Gen.facts,
   Cert.Ff1.Gen.facts,
   Cert.Ff1Ideal.Gen.facts,
   Cert.Ff1RefIdeal.Gen.facts,
   Cert.Merge.Gen.facts,
   Cert.MergeIdeal.Gen.facts,
   Cert.MergeRefIdeal.Gen.facts,
   Cert.InTail.Gen.facts,
   Cert.InTailIdeal.Gen.facts,
   Cert.InTailRefIdeal.Gen.facts,
   Cert.KvProj.Gen.facts,
   Cert.KvProjIdeal.Gen.facts,
   Cert.KvProjRefIdeal.Gen.facts,
   Cert.QProj.Gen.facts,
   Cert.QProjIdeal.Gen.facts,
   Cert.QProjRefIdeal.Gen.facts,
   Cert.Adaln.Gen.facts,
   Cert.AdalnIdeal.Gen.facts,
   Cert.AdalnRefIdeal.Gen.facts,
   Cert.Modulate.Gen.facts,
   Cert.ModulateIdeal.Gen.facts,
   Cert.ModulateRefIdeal.Gen.facts,
   Cert.Residual.Gen.facts,
   Cert.ResidualIdeal.Gen.facts,
   Cert.ResidualRefIdeal.Gen.facts,
   Cert.ResMod.Gen.facts,
   Cert.ResModIdeal.Gen.facts,
   Cert.ResModRefIdeal.Gen.facts,
   Cert.ChDft.Gen.facts,
   Cert.ChDftIdeal.Gen.facts,
   Cert.ChDftRefIdeal.Gen.facts,
   Cert.SeqDft.Gen.facts,
   Cert.SeqDftIdeal.Gen.facts,
   Cert.SeqDftRefIdeal.Gen.facts,
   Cert.CtxDft.Gen.facts,
   Cert.CtxDftIdeal.Gen.facts,
   Cert.CtxDftRefIdeal.Gen.facts,
   Cert.AttnFinite.facts,
   Cert.AttnCtxFinite.facts,
   fun m g _ => Cert.Attn.Gen.frame m g,
   fun m g _ => Cert.AttnIdeal.Gen.frame m g,
   fun m g _ => Cert.AttnIdeal.Gen.frame m g,
   frame_AttnRefIdeal,
   fun m g _ => frame_AttnRefIdeal m g trivial,
   fun m g _ => Cert.AttnCtx.Gen.frame m g,
   fun m g _ => Cert.AttnCtxIdeal.Gen.frame m g,
   fun m g _ => Cert.AttnCtxIdeal.Gen.frame m g,
   frame_AttnCtxRefIdeal,
   fun m g _ => frame_AttnCtxRefIdeal m g trivial,
   fun m g _ => Cert.Ff2.Gen.frame m g,
   fun m g _ => Cert.Ff2Ideal.Gen.frame m g,
   frame_Ff2RefIdeal,
   fun m g _ => Cert.OutProj.Gen.frame m g,
   fun m g _ => Cert.OutProjIdeal.Gen.frame m g,
   frame_OutProjRefIdeal,
   fun m g _ => Cert.InProj.Gen.frame m g,
   fun m g _ => Cert.InProjIdeal.Gen.frame m g,
   frame_InProjRefIdeal,
   fun m g _ => Cert.Ff1.Ride.frame m g,
   fun m g _ => Cert.Ff1Ideal.Ride.frame m g,
   frame_Ff1RefIdeal,
   fun m g _ => Cert.Merge.Gen.frame m g,
   fun m g _ => Cert.MergeIdeal.Gen.frame m g,
   frame_MergeRefIdeal,
   fun m g _ => Cert.InTail.Gen.frame m g,
   fun m g _ => Cert.InTailIdeal.Gen.frame m g,
   frame_InTailRefIdeal,
   fun m g _ => Cert.KvProj.Gen.frame m g,
   fun m g _ => Cert.KvProjIdeal.Gen.frame m g,
   frame_KvProjRefIdeal,
   fun m g _ => Cert.QProj.Gen.frame m g,
   fun m g _ => Cert.QProjIdeal.Gen.frame m g,
   frame_QProjRefIdeal,
   fun m g _ => Cert.Adaln.Gen.frame m g,
   fun m g _ => Cert.AdalnIdeal.Gen.frame m g,
   frame_AdalnRefIdeal,
   fun m g _ => Cert.Modulate.Gen.frame m g,
   fun m g _ => Cert.ModulateIdeal.Gen.frame m g,
   frame_ModulateRefIdeal,
   fun m g _ => Cert.Residual.Gen.frame m g,
   fun m g _ => Cert.ResidualIdeal.Gen.frame m g,
   frame_ResidualRefIdeal,
   fun m g _ => Cert.ResMod.Gen.frame m g,
   fun m g _ => Cert.ResModIdeal.Gen.frame m g,
   frame_ResModRefIdeal,
   fun m g _ => Cert.ChDft.Gen.frame m g,
   fun m g _ => Cert.ChDftIdeal.Gen.frame m g,
   frame_ChDftRefIdeal,
   fun m g _ => Cert.SeqDft.Gen.frame m g,
   fun m g _ => Cert.SeqDftIdeal.Gen.frame m g,
   frame_SeqDftRefIdeal,
   fun m g _ => Cert.CtxDft.Gen.frame m g,
   fun m g _ => Cert.CtxDftIdeal.Gen.frame m g,
   frame_CtxDftRefIdeal,
   trivial,
   algebraic_Attn,
   trivial,
   algebraic_AttnCtx,
   trivial,
   algebraic_Ff2,
   trivial,
   algebraic_OutProj,
   trivial,
   algebraic_InProj,
   trivial,
   algebraic_Ff1,
   trivial,
   algebraic_Merge,
   trivial,
   algebraic_InTail,
   trivial,
   algebraic_KvProj,
   trivial,
   algebraic_QProj,
   trivial,
   algebraic_Adaln,
   trivial,
   algebraic_Modulate,
   trivial,
   algebraic_Residual,
   trivial,
   algebraic_ResMod,
   trivial,
   algebraic_ChDft,
   trivial,
   algebraic_SeqDft,
   trivial,
   algebraic_CtxDft⟩

end Cert.Proof

end
